-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def preserves_Kernel_KernelIdeal : Prop :=
  IdealRules.named_const.Statement Cert.KernelIdeal.κ "q_scale" .f32 0x3E0293EE#32 ((((Real.log 2) * (Real.sqrt 128))⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "x_scale" .f32 0x3DB504F3#32 (((Real.sqrt 128)⁻¹ : ℝ) : EReal)

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)) →
    ∃ (v0 : (c : Dev Cert.Kernel5Ideal.nD) → Buf (Elt Ideal) ((c.tc : Thread Cert.Kernel5Ideal.nD Cert.Kernel5Ideal.τ).loc Cert.Kernel5Ideal.main_v32)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v32) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v156) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17))

def preserves_Kernel6_Kernel6Ideal : Prop :=
  IdealRules.named_const.Statement Cert.Kernel6Ideal.κ "qk_scale" .f32 0x3DD53B95#32 ((((Real.log 2) * (Real.sqrt 192))⁻¹ : ℝ) : EReal)

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v31_0)) (v1 : (c : Dev Cert.Kernel6Ideal.nD) → Buf (Elt Ideal) ((c.tc : Thread Cert.Kernel6Ideal.nD Cert.Kernel6Ideal.τ).loc Cert.Kernel6Ideal.main_v41)) (v2 : (c : Dev Cert.Kernel6Ideal.nD) → Buf (Elt Ideal) ((c.tc : Thread Cert.Kernel6Ideal.nD Cert.Kernel6Ideal.τ).loc Cert.Kernel6Ideal.main_v45_0)) (v3 : (c : Dev Cert.Kernel6Ideal.nD) → Buf (Elt Ideal) ((c.tc : Thread Cert.Kernel6Ideal.nD Cert.Kernel6Ideal.τ).loc Cert.Kernel6Ideal.main_v45_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31_0) = v0 c
          ∧ r.2.mem ((c.tc : Thread Cert.Kernel6Ideal.nD Cert.Kernel6Ideal.τ).loc Cert.Kernel6Ideal.main_v41) = v1 c
          ∧ r.2.mem ((c.tc : Thread Cert.Kernel6Ideal.nD Cert.Kernel6Ideal.τ).loc Cert.Kernel6Ideal.main_v45_0) = v2 c
          ∧ r.2.mem ((c.tc : Thread Cert.Kernel6Ideal.nD Cert.Kernel6Ideal.τ).loc Cert.Kernel6Ideal.main_v45_1) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v186) = v0 c
          ∧ r.2.mem ((c.tc : Thread Cert.Reference6Ideal.nD Cert.Reference6Ideal.τ).loc Cert.Reference6Ideal.main_v188) = v1 c
          ∧ r.2.mem ((c.tc : Thread Cert.Reference6Ideal.nD Cert.Reference6Ideal.τ).loc Cert.Reference6Ideal.main_v190) = v2 c
          ∧ r.2.mem ((c.tc : Thread Cert.Reference6Ideal.nD Cert.Reference6Ideal.τ).loc Cert.Reference6Ideal.main_v192) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_v35) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  IdealRules.named_const.Statement Cert.Kernel8Ideal.κ "log2_e" .f32 0x3FB8AA3B#32 (((Real.log 2)⁻¹ : ℝ) : EReal)

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v30) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite5 : Cert.Pre_finite5.Facts) (hPre_finite6 : Cert.Pre_finite6.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite5.lean ====
abbrev S8192x2048 : Shape := ⟨2, ![8192, 2048]⟩
abbrev S4x2048x4096 : Shape := ⟨3, ![4, 2048, 4096]⟩
abbrev S4x256x4096 : Shape := ⟨3, ![4, 256, 4096]⟩
abbrev S2x2048 : Shape := ⟨2, ![2, 2048]⟩
abbrev S2x4096x4096 : Shape := ⟨3, ![2, 4096, 4096]⟩
abbrev S2x4096 : Shape := ⟨2, ![2, 4096]⟩
abbrev S2x4096x512 : Shape := ⟨3, ![2, 4096, 512]⟩
abbrev S2x4096x1024 : Shape := ⟨3, ![2, 4096, 1024]⟩
abbrev S2x128 : Shape := ⟨2, ![2, 128]⟩
abbrev S2x512x4096 : Shape := ⟨3, ![2, 512, 4096]⟩
abbrev S2x4096x11008 : Shape := ⟨3, ![2, 4096, 11008]⟩
abbrev S1x11008x4096 : Shape := ⟨3, ![1, 11008, 4096]⟩
abbrev S_ : Shape := ⟨0, ![]⟩

class Facts : Prop where
  bcast_S_S8192x2048 : S_.BroadcastsInDim S8192x2048 (![] : Fin 0 → Fin S8192x2048.rank)
  bcast_S_S4x2048x4096 : S_.BroadcastsInDim S4x2048x4096 (![] : Fin 0 → Fin S4x2048x4096.rank)
  bcast_S_S4x256x4096 : S_.BroadcastsInDim S4x256x4096 (![] : Fin 0 → Fin S4x256x4096.rank)
  bcast_S_S2x2048 : S_.BroadcastsInDim S2x2048 (![] : Fin 0 → Fin S2x2048.rank)
  bcast_S_S2x4096x4096 : S_.BroadcastsInDim S2x4096x4096 (![] : Fin 0 → Fin S2x4096x4096.rank)
  bcast_S_S2x4096 : S_.BroadcastsInDim S2x4096 (![] : Fin 0 → Fin S2x4096.rank)
  bcast_S_S2x4096x512 : S_.BroadcastsInDim S2x4096x512 (![] : Fin 0 → Fin S2x4096x512.rank)
  bcast_S_S2x4096x1024 : S_.BroadcastsInDim S2x4096x1024 (![] : Fin 0 → Fin S2x4096x1024.rank)
  bcast_S_S2x128 : S_.BroadcastsInDim S2x128 (![] : Fin 0 → Fin S2x128.rank)

variable [Facts]

def fn_part2 {F : FTy → Type} [FloatOps F] (main_arg12 : FVec F S2x128 .f32) (main_v2 : IVec S8192x2048 1) (main_v5 : IVec S8192x2048 1) (main_v8 : IVec S4x2048x4096 1) (main_v11 : IVec S4x256x4096 1) (main_v14 : IVec S2x2048 1) (main_v17 : IVec S2x2048 1) (main_v20 : IVec S2x4096x4096 1) (main_v23 : IVec S2x4096 1) (main_v26 : IVec S2x4096 1) (main_v29 : IVec S2x4096x512 1) (main_v32 : IVec S2x4096x1024 1) (main_v35 : IVec S2x128 1) : IVec S8192x2048 1 × IVec S8192x2048 1 × IVec S4x2048x4096 1 × IVec S4x256x4096 1 × IVec S2x2048 1 × IVec S2x2048 1 × IVec S2x4096x4096 1 × IVec S2x4096 1 × IVec S2x4096 1 × IVec S2x4096x512 1 × IVec S2x4096x1024 1 × IVec S2x128 1 × IVec S2x128 1 :=
  let main_v36 : FVec F S2x128 .f32 := Host.absf main_arg12
  let main_cst_11 : FVec F S_ .f32 := constant S_ .f32 0x7F800000#32
  let main_v37 : FVec F S2x128 .f32 := broadcastInDim S2x128 ![] bcast_S_S2x128 main_cst_11
  let main_v38 : IVec S2x128 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S2x4096x4096 .f32) (main_arg7 : FVec F S2x4096 .f32) (main_arg8 : FVec F S2x4096 .f32) (main_arg9 : FVec F S2x4096x512 .f32) (main_arg10 : FVec F S2x4096x1024 .f32) (main_arg11 : FVec F S2x128 .f32) (main_arg12 : FVec F S2x128 .f32) (main_v2 : IVec S8192x2048 1) (main_v5 : IVec S8192x2048 1) (main_v8 : IVec S4x2048x4096 1) (main_v11 : IVec S4x256x4096 1) (main_v14 : IVec S2x2048 1) (main_v17 : IVec S2x2048 1) : IVec S8192x2048 1 × IVec S8192x2048 1 × IVec S4x2048x4096 1 × IVec S4x256x4096 1 × IVec S2x2048 1 × IVec S2x2048 1 × IVec S2x4096x4096 1 × IVec S2x4096 1 × IVec S2x4096 1 × IVec S2x4096x512 1 × IVec S2x4096x1024 1 × IVec S2x128 1 × IVec S2x128 1 :=
  let main_v18 : FVec F S2x4096x4096 .f32 := Host.absf main_arg6
  let main_cst_5 : FVec F S_ .f32 := constant S_ .f32 0x7F800000#32
  let main_v19 : FVec F S2x4096x4096 .f32 := broadcastInDim S2x4096x4096 ![] bcast_S_S2x4096x4096 main_cst_5
  let main_v20 : IVec S2x4096x4096 1 := cmpf .olt main_v18 main_v19
  let main_v21 : FVec F S2x4096 .f32 := Host.absf main_arg7
  let main_cst_6 : FVec F S_ .f32 := constant S_ .f32 0x7F800000#32
  let main_v22 : FVec F S2x4096 .f32 := broadcastInDim S2x4096 ![] bcast_S_S2x4096 main_cst_6
  let main_v23 : IVec S2x4096 1 := cmpf .olt main_v21 main_v22
  let main_v24 : FVec F S2x4096 .f32 := Host.absf main_arg8
  let main_cst_7 : FVec F S_ .f32 := constant S_ .f32 0x7F800000#32
  let main_v25 : FVec F S2x4096 .f32 := broadcastInDim S2x4096 ![] bcast_S_S2x4096 main_cst_7
  let main_v26 : IVec S2x4096 1 := cmpf .olt main_v24 main_v25
  let main_v27 : FVec F S2x4096x512 .f32 := Host.absf main_arg9
  let main_cst_8 : FVec F S_ .f32 := constant S_ .f32 0x7F800000#32
  let main_v28 : FVec F S2x4096x512 .f32 := broadcastInDim S2x4096x512 ![] bcast_S_S2x4096x512 main_cst_8
  let main_v29 : IVec S2x4096x512 1 := cmpf .olt main_v27 main_v28
  let main_v30 : FVec F S2x4096x1024 .f32 := Host.absf main_arg10
  let main_cst_9 : FVec F S_ .f32 := constant S_ .f32 0x7F800000#32
  let main_v31 : FVec F S2x4096x1024 .f32 := broadcastInDim S2x4096x1024 ![] bcast_S_S2x4096x1024 main_cst_9
  let main_v32 : IVec S2x4096x1024 1 := cmpf .olt main_v30 main_v31
  let main_v33 : FVec F S2x128 .f32 := Host.absf main_arg11
  let main_cst_10 : FVec F S_ .f32 := constant S_ .f32 0x7F800000#32
  let main_v34 : FVec F S2x128 .f32 := broadcastInDim S2x128 ![] bcast_S_S2x128 main_cst_10
  let main_v35 : IVec S2x128 1 := cmpf .olt main_v33 main_v34
  fn_part2 (F := F) main_arg12 main_v2 main_v5 main_v8 main_v11 main_v14 main_v17 main_v20 main_v23 main_v26 main_v29 main_v32 main_v35

def fn {F : FTy → Type} [FloatOps F] (main_arg0 : FVec F S8192x2048 .f32) (main_arg1 : FVec F S8192x2048 .f32) (main_arg2 : FVec F S4x2048x4096 .f32) (main_arg3 : FVec F S4x256x4096 .f32) (main_arg4 : FVec F S2x2048 .f32) (main_arg5 : FVec F S2x2048 .f32) (main_arg6 : FVec F S2x4096x4096 .f32) (main_arg7 : FVec F S2x4096 .f32) (main_arg8 : FVec F S2x4096 .f32) (main_arg9 : FVec F S2x4096x512 .f32) (main_arg10 : FVec F S2x4096x1024 .f32) (main_arg11 : FVec F S2x128 .f32) (main_arg12 : FVec F S2x128 .f32) (main_arg13 : FVec F S2x512x4096 .f32) (main_arg14 : FVec F S2x4096 .f32) (main_arg15 : FVec F S2x4096x11008 .f32) (main_arg16 : FVec F S2x4096x11008 .f32) (main_arg17 : FVec F S1x11008x4096 .bf16) : IVec S8192x2048 1 × IVec S8192x2048 1 × IVec S4x2048x4096 1 × IVec S4x256x4096 1 × IVec S2x2048 1 × IVec S2x2048 1 × IVec S2x4096x4096 1 × IVec S2x4096 1 × IVec S2x4096 1 × IVec S2x4096x512 1 × IVec S2x4096x1024 1 × IVec S2x128 1 × IVec S2x128 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S4x2048x4096 .f32 := Host.absf main_arg2
  let main_cst_1 : FVec F S_ .f32 := constant S_ .f32 0x7F800000#32
  let main_v7 : FVec F S4x2048x4096 .f32 := broadcastInDim S4x2048x4096 ![] bcast_S_S4x2048x4096 main_cst_1
  let main_v8 : IVec S4x2048x4096 1 := cmpf .olt main_v6 main_v7
  let main_v9 : FVec F S4x256x4096 .f32 := Host.absf main_arg3
  let main_cst_2 : FVec F S_ .f32 := constant S_ .f32 0x7F800000#32
  let main_v10 : FVec F S4x256x4096 .f32 := broadcastInDim S4x256x4096 ![] bcast_S_S4x256x4096 main_cst_2
  let main_v11 : IVec S4x256x4096 1 := cmpf .olt main_v9 main_v10
  let main_v12 : FVec F S2x2048 .f32 := Host.absf main_arg4
  let main_cst_3 : FVec F S_ .f32 := constant S_ .f32 0x7F800000#32
  let main_v13 : FVec F S2x2048 .f32 := broadcastInDim S2x2048 ![] bcast_S_S2x2048 main_cst_3
  let main_v14 : IVec S2x2048 1 := cmpf .olt main_v12 main_v13
  let main_v15 : FVec F S2x2048 .f32 := Host.absf main_arg5
  let main_cst_4 : FVec F S_ .f32 := constant S_ .f32 0x7F800000#32
  let main_v16 : FVec F S2x2048 .f32 := broadcastInDim S2x2048 ![] bcast_S_S2x2048 main_cst_4
  let main_v17 : IVec S2x2048 1 := cmpf .olt main_v15 main_v16
  fn_part1 (F := F) main_arg6 main_arg7 main_arg8 main_arg9 main_arg10 main_arg11 main_arg12 main_v2 main_v5 main_v8 main_v11 main_v14 main_v17
-- ==== Pre_finite6.lean ====
abbrev S4x2048x4096 : Shape := ⟨3, ![4, 2048, 4096]⟩
abbrev S4x2048 : Shape := ⟨2, ![4, 2048]⟩
abbrev S2x4096 : Shape := ⟨2, ![2, 4096]⟩
abbrev S2x4096x7744 : Shape := ⟨3, ![2, 4096, 7744]⟩
abbrev S2x1024 : Shape := ⟨2, ![2, 1024]⟩
abbrev S2x512 : Shape := ⟨2, ![2, 512]⟩
abbrev S2x1024x3072 : Shape := ⟨3, ![2, 1024, 3072]⟩
abbrev S2x512x4096 : Shape := ⟨3, ![2, 512, 4096]⟩
abbrev S2x192 : Shape := ⟨2, ![2, 192]⟩
abbrev S_ : Shape := ⟨0, ![]⟩

class Facts : Prop where
  bcast_S_S4x2048x4096 : S_.BroadcastsInDim S4x2048x4096 (![] : Fin 0 → Fin S4x2048x4096.rank)
  bcast_S_S2x4096 : S_.BroadcastsInDim S2x4096 (![] : Fin 0 → Fin S2x4096.rank)
  bcast_S_S2x4096x7744 : S_.BroadcastsInDim S2x4096x7744 (![] : Fin 0 → Fin S2x4096x7744.rank)
  bcast_S_S2x1024 : S_.BroadcastsInDim S2x1024 (![] : Fin 0 → Fin S2x1024.rank)
  bcast_S_S2x1024x3072 : S_.BroadcastsInDim S2x1024x3072 (![] : Fin 0 → Fin S2x1024x3072.rank)

variable [Facts]

def fn {F : FTy → Type} [FloatOps F] (main_arg0 : FVec F S4x2048x4096 .f32) (main_arg1 : IVec S4x2048 32) (main_arg2 : FVec F S2x4096 .f32) (main_arg3 : FVec F S2x4096x7744 .f32) (main_arg4 : FVec F S2x1024 .f32) (main_arg5 : FVec F S2x512 .f32) (main_arg6 : FVec F S2x1024x3072 .f32) (main_arg7 : FVec F S2x512x4096 .f32) (main_arg8 : FVec F S2x192 .f32) (main_arg9 : FVec F S2x192 .f32) : IVec S4x2048x4096 1 × IVec S2x4096 1 × IVec S2x4096x7744 1 × IVec S2x1024 1 × IVec S2x1024x3072 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_v3 : FVec F S2x4096 .f32 := Host.absf main_arg2
  let main_cst_0 : FVec F S_ .f32 := constant S_ .f32 0x7F800000#32
  let main_v4 : FVec F S2x4096 .f32 := broadcastInDim S2x4096 ![] bcast_S_S2x4096 main_cst_0
  let main_v5 : IVec S2x4096 1 := cmpf .olt main_v3 main_v4
  let main_v6 : FVec F S2x4096x7744 .f32 := Host.absf main_arg3
  let main_cst_1 : FVec F S_ .f32 := constant S_ .f32 0x7F800000#32
  let main_v7 : FVec F S2x4096x7744 .f32 := broadcastInDim S2x4096x7744 ![] bcast_S_S2x4096x7744 main_cst_1
  let main_v8 : IVec S2x4096x7744 1 := cmpf .olt main_v6 main_v7
  let main_v9 : FVec F S2x1024 .f32 := Host.absf main_arg4
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_v12 : FVec F S2x1024x3072 .f32 := Host.absf main_arg6
  let main_cst_3 : FVec F S_ .f32 := constant S_ .f32 0x7F800000#32
  let main_v13 : FVec F S2x1024x3072 .f32 := broadcastInDim S2x1024x3072 ![] bcast_S_S2x1024x3072 main_cst_3
  let main_v14 : IVec S2x1024x3072 1 := cmpf .olt main_v12 main_v13
  (main_v2, main_v5, main_v8, main_v11, main_v14)
-- ==== Pre_finite7.lean ====
abbrev S8192x4096 : Shape := ⟨2, ![8192, 4096]⟩
abbrev S8192x2048 : Shape := ⟨2, ![8192, 2048]⟩
abbrev S2x11008x4096 : Shape := ⟨3, ![2, 11008, 4096]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)

variable [Facts]

def fn {F : FTy → Type} [FloatOps F] (main_arg0 : FVec F S8192x4096 .bf16) (main_arg1 : FVec F S8192x4096 .bf16) (main_arg2 : FVec F S8192x2048 .bf16) (main_arg3 : FVec F S2x11008x4096 .f32) : IVec S8192x4096 1 × IVec S8192x4096 1 :=
  let main_v0 : FVec F S8192x4096 .f32 := (extf .f32 · bitsLt_bf16_f32) main_arg0
  let main_v1 : FVec F S8192x4096 .f32 := (extf .f32 · bitsLt_bf16_f32) main_arg1
  let main_v2 : FVec F S8192x4096 .f32 := Host.absf main_v0
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_v5 : FVec F S8192x4096 .f32 := Host.absf main_v1
  let main_cst_0 : FVec F S_ .f32 := constant S_ .f32 0x7F800000#32
  let main_v6 : FVec F S8192x4096 .f32 := broadcastInDim S8192x4096 ![] bcast_S_S8192x4096 main_cst_0
  let main_v7 : IVec S8192x4096 1 := cmpf .olt main_v5 main_v6
  (main_v4, main_v7)
-- ==== Pre_finite8.lean ====
abbrev S8192x6144 : Shape := ⟨2, ![8192, 6144]⟩
abbrev S8192x4096 : Shape := ⟨2, ![8192, 4096]⟩
abbrev S_ : Shape := ⟨0, ![]⟩

class Facts : Prop where
  slices_S8192x6144_S8192x4096_0_0 : S8192x6144.Slices ![0, 0] S8192x4096
  bitsLt_bf16_f32 : FTy.bits .bf16 < FTy.bits .f32
  bcast_S_S8192x4096 : S_.BroadcastsInDim S8192x4096 (![] : Fin 0 → Fin S8192x4096.rank)

variable [Facts]

def fn {F : FTy → Type} [FloatOps F] (main_arg0 : FVec F S8192x6144 .bf16) : IVec S8192x4096 1 :=
  let main_v0 : FVec F S8192x4096 .bf16 := (extractStridedSlice S8192x4096 ![0, 0] · slices_S8192x6144_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  main_v4
-- ==== Kernel.lean ====
abbrev S8192x4096 : Shape := ⟨2, ![8192, 4096]⟩
abbrev S2x4096x7744 : Shape := ⟨3, ![2, 4096, 7744]⟩
abbrev S2x7744x4096 : Shape := ⟨3, ![2, 7744, 4096]⟩
abbrev S8192x6144 : Shape := ⟨2, ![8192, 6144]⟩
abbrev S2048x4096 : Shape := ⟨2, ![2048, 4096]⟩
abbrev S1x512x4096 : Shape := ⟨3, ![1, 512, 4096]⟩
abbrev S2048x512 : Shape := ⟨2, ![2048, 512]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S2x4096x7744, .f32⟩
  | .hbm, ⟨2, _⟩ => ⟨S2x7744x4096, .f32⟩
  | .hbm, ⟨3, _⟩ => ⟨S8192x6144, .bf16⟩
  | .local _ .vmem, ⟨0, _⟩ => ⟨S2048x4096, .bf16⟩
  | .local _ .vmem, ⟨1, _⟩ => ⟨S1x512x4096, .f32⟩
  | .local _ .vmem, ⟨2, _⟩ => ⟨S1x512x4096, .f32⟩
  | .local _ .vmem, ⟨3, _⟩ => ⟨S2048x512, .bf16⟩
  | .local _ .vmem, ⟨4, _⟩ => ⟨S2048x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 12], ![false, false]⟩

def k0_mult1 (i : grid0.Coords) : BitVec 32 :=
  let c1600_i32 : BitVec 32 := 1600#32
  let arg1 : BitVec 32 := BitVec.ofNat 32 (i 1).val
  let c512_i32 : BitVec 32 := 512#32
  let v0 : BitVec 32 := Scalar.muli arg1 c512_i32
  let v1 : BitVec 32 := Scalar.addi c1600_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c1600_i32 : BitVec 32 := 1600#32
  let v1 : BitVec 32 := Scalar.addi c1600_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "q_scale" => some ((((Real.log 2) * (Real.sqrt 128))⁻¹ : ℝ) : EReal)
  | _ => none
-- ==== ReferenceIdeal.lean ====
abbrev S8192x4096 : Shape := ⟨2, ![8192, 4096]⟩
abbrev S2x4096x7744 : Shape := ⟨3, ![2, 4096, 7744]⟩
abbrev S1x4096x7744 : Shape := ⟨3, ![1, 4096, 7744]⟩
abbrev S4096x7744 : Shape := ⟨2, ![4096, 7744]⟩
abbrev S8192x7744 : Shape := ⟨2, ![8192, 7744]⟩
abbrev S8192x2048 : Shape := ⟨2, ![8192, 2048]⟩
abbrev S_ : Shape := ⟨0, ![]⟩
abbrev S8192x6144 : Shape := ⟨2, ![8192, 6144]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x7744, .f32⟩
  | .hbm, ⟨2, _⟩ => ⟨S8192x4096, .f32⟩
  | .hbm, ⟨3, _⟩ => ⟨S1x4096x7744, .f32⟩
  | .hbm, ⟨4, _⟩ => ⟨S4096x7744, .f32⟩
  | .hbm, ⟨5, _⟩ => ⟨S8192x7744, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x6144, .f32⟩
  | .hbm, ⟨17, _⟩ => ⟨S8192x6144, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel2.lean ====
abbrev S8192x4096 : Shape := ⟨2, ![8192, 4096]⟩
abbrev S2x4096x11008 : Shape := ⟨3, ![2, 4096, 11008]⟩
abbrev S8192x11008 : Shape := ⟨2, ![8192, 11008]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x4096x11008, .f32⟩
  | .hbm, ⟨2, _⟩ => ⟨S2x4096x11008, .f32⟩
  | .hbm, ⟨3, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .bf16⟩
  | .local _ .vmem, ⟨7, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x4096 : Shape := ⟨2, ![8192, 4096]⟩
abbrev S2x4096x11008 : Shape := ⟨3, ![2, 4096, 11008]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x11008, .f32⟩
  | .hbm, ⟨2, _⟩ => ⟨S2x4096x11008, .f32⟩
  | .hbm, ⟨3, _⟩ => ⟨S8192x4096, .f32⟩
  | .hbm, ⟨4, _⟩ => ⟨S1x4096x11008, .f32⟩
  | .hbm, ⟨5, _⟩ => ⟨S4096x11008, .f32⟩
  | .hbm, ⟨6, _⟩ => ⟨S8192x11008, .f32⟩
  | .hbm, ⟨7, _⟩ => ⟨S8192x11008, .f32⟩
  | .hbm, ⟨8, _⟩ => ⟨S8192x11008, .f32⟩
  | .hbm, ⟨9, _⟩ => ⟨S_, .f32⟩
  | .hbm, ⟨10, _⟩ => ⟨S8192x11008, .f32⟩
  | .hbm, ⟨11, _⟩ => ⟨S8192x11008, .f32⟩
  | .hbm, ⟨12, _⟩ => ⟨S_, .f32⟩
  | .hbm, ⟨13, _⟩ => ⟨S8192x11008, .f32⟩
  | .hbm, ⟨14, _⟩ => ⟨S8192x11008, .f32⟩
  | .hbm, ⟨15, _⟩ => ⟨S8192x11008, .f32⟩
  | .hbm, ⟨16, _⟩ => ⟨S1x4096x11008, .f32⟩
  | .hbm, ⟨17, _⟩ => ⟨S4096x11008, .f32⟩
  | .hbm, ⟨18, _⟩ => ⟨S8192x11008, .f32⟩
  | .hbm, ⟨19, _⟩ => ⟨S8192x11008, .f32⟩
  | .hbm, ⟨20, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel3.lean ====
abbrev S8192x11008 : Shape := ⟨2, ![8192, 11008]⟩
abbrev S1x11008x4096 : Shape := ⟨3, ![1, 11008, 4096]⟩
abbrev S8192x4096 : Shape := ⟨2, ![8192, 4096]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x11008, .bf16⟩
  | .hbm, ⟨1, _⟩ => ⟨S1x11008x4096, .bf16⟩
  | .hbm, ⟨2, _⟩ => ⟨S8192x4096, .f32⟩
  | .hbm, ⟨3, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x11008 : Shape := ⟨2, ![8192, 11008]⟩
abbrev S1x11008x4096 : Shape := ⟨3, ![1, 11008, 4096]⟩
abbrev S8192x4096 : Shape := ⟨2, ![8192, 4096]⟩
abbrev S11008x4096 : Shape := ⟨2, ![11008, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S1x11008x4096, .bf16⟩
  | .hbm, ⟨2, _⟩ => ⟨S8192x4096, .f32⟩
  | .hbm, ⟨3, _⟩ => ⟨S8192x11008, .f32⟩
  | .hbm, ⟨4, _⟩ => ⟨S11008x4096, .bf16⟩
  | .hbm, ⟨5, _⟩ => ⟨S11008x4096, .f32⟩
  | .hbm, ⟨6, _⟩ => ⟨S8192x4096, .f32⟩
  | .hbm, ⟨7, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x4096 : Shape := ⟨2, ![8192, 4096]⟩
abbrev S2x4096x4096 : Shape := ⟨3, ![2, 4096, 4096]⟩
abbrev S2048x4096 : Shape := ⟨2, ![2048, 4096]⟩
abbrev S1x4096x512 : Shape := ⟨3, ![1, 4096, 512]⟩
abbrev S2048x512 : Shape := ⟨2, ![2048, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S8192x4096, .f32⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S8192x4096, .f32⟩
  | .hbm, ⟨4, _⟩ => ⟨S1x4096x4096, .f32⟩
  | .hbm, ⟨5, _⟩ => ⟨S4096x4096, .f32⟩
  | .hbm, ⟨6, _⟩ => ⟨S8192x4096, .f32⟩
  | .hbm, ⟨7, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x2048 : Shape := ⟨2, ![8192, 2048]⟩
abbrev S4x2048x4096 : Shape := ⟨3, ![4, 2048, 4096]⟩
abbrev S4x256x4096 : Shape := ⟨3, ![4, 256, 4096]⟩
abbrev S2x2048 : Shape := ⟨2, ![2, 2048]⟩
abbrev S2x4096x4096 : Shape := ⟨3, ![2, 4096, 4096]⟩
abbrev S2x4096 : Shape := ⟨2, ![2, 4096]⟩
abbrev S2x4096x512 : Shape := ⟨3, ![2, 4096, 512]⟩
abbrev S2x4096x1024 : Shape := ⟨3, ![2, 4096, 1024]⟩
abbrev S2x128 : Shape := ⟨2, ![2, 128]⟩
abbrev S2x512x4096 : Shape := ⟨3, ![2, 512, 4096]⟩
abbrev S2x4096x11008 : Shape := ⟨3, ![2, 4096, 11008]⟩
abbrev S1x11008x4096 : Shape := ⟨3, ![1, 11008, 4096]⟩
abbrev S8192x4096 : Shape := ⟨2, ![8192, 4096]⟩
abbrev S1024x4096 : Shape := ⟨2, ![1024, 4096]⟩
abbrev S1x2048 : Shape := ⟨2, ![1, 2048]⟩
abbrev S2048 : Shape := ⟨1, ![2048]⟩
abbrev S256x2048 : Shape := ⟨2, ![256, 2048]⟩
abbrev S256x4096 : Shape := ⟨2, ![256, 4096]⟩
abbrev S256 : Shape := ⟨1, ![256]⟩
abbrev S256x1 : Shape := ⟨2, ![256, 1]⟩
abbrev S2048x4096 : Shape := ⟨2, ![2048, 4096]⟩
abbrev S1x4096x512 : Shape := ⟨3, ![1, 4096, 512]⟩
abbrev S2048x512 : Shape := ⟨2, ![2048, 512]⟩
abbrev S4096x512 : Shape := ⟨2, ![4096, 512]⟩
abbrev S1x4096 : Shape := ⟨2, ![1, 4096]⟩
abbrev S4096 : Shape := ⟨1, ![4096]⟩
abbrev S1x128 : Shape := ⟨2, ![1, 128]⟩
abbrev S128 : Shape := ⟨1, ![128]⟩
abbrev S8192x512 : Shape := ⟨2, ![8192, 512]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S1024x512 : Shape := ⟨2, ![1024, 512]⟩
abbrev S1x4096x1024 : Shape := ⟨3, ![1, 4096, 1024]⟩
abbrev S4096x1024 : Shape := ⟨2, ![4096, 1024]⟩
abbrev S512x1024 : Shape := ⟨2, ![512, 1024]⟩
abbrev S256x512 : Shape := ⟨2, ![256, 512]⟩
abbrev S256x128 : Shape := ⟨2, ![256, 128]⟩
abbrev S512x256 : Shape := ⟨2, ![512, 256]⟩
abbrev S1x512x4096 : Shape := ⟨3, ![1, 512, 4096]⟩
abbrev S8192x11008 : Shape := ⟨2, ![8192, 11008]⟩
abbrev S1x4096x256 : Shape := ⟨3, ![1, 4096, 256]⟩
abbrev S1024x256 : Shape := ⟨2, ![1024, 256]⟩
abbrev S4096x256 : Shape := ⟨2, ![4096, 256]⟩
abbrev S512x11008 : Shape := ⟨2, ![512, 11008]⟩
abbrev S1x11008x512 : Shape := ⟨3, ![1, 11008, 512]⟩
abbrev S11008x512 : Shape := ⟨2, ![11008, 512]⟩

abbrev nBuf : Space → Nat
  | .hbm => 53
  | .vmem => 69
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4x2048x4096, .f32⟩
  | .hbm, ⟨3, _⟩ => ⟨S4x256x4096, .f32⟩
  | .hbm, ⟨4, _⟩ => ⟨S2x2048, .f32⟩
  | .hbm, ⟨5, _⟩ => ⟨S2x2048, .f32⟩
  | .hbm, ⟨6, _⟩ => ⟨S2x4096x4096, .f32⟩
  | .hbm, ⟨7, _⟩ => ⟨S2x4096, .f32⟩
  | .hbm, ⟨8, _⟩ => ⟨S2x4096, .f32⟩
  | .hbm, ⟨9, _⟩ => ⟨S2x4096x512, .f32⟩
  | .hbm, ⟨10, _⟩ => ⟨S2x4096x1024, .f32⟩
  | .hbm, ⟨11, _⟩ => ⟨S2x128, .f32⟩
  | .hbm, ⟨12, _⟩ => ⟨S2x128, .f32⟩
  | .hbm, ⟨13, _⟩ => ⟨S2x512x4096, .f32⟩
  | .hbm, ⟨14, _⟩ => ⟨S2x4096, .f32⟩
  | .hbm, ⟨15, _⟩ => ⟨S2x4096x11008, .f32⟩
  | .hbm, ⟨16, _⟩ => ⟨S2x4096x11008, .f32⟩
  | .hbm, ⟨17, _⟩ => ⟨S1x11008x4096, .bf16⟩
  | .hbm, ⟨18, _⟩ => ⟨S8192x4096, .f32⟩
  | .hbm, ⟨19, _⟩ => ⟨S1024x4096, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S1x2048, .f32⟩
  | .hbm, ⟨26, _⟩ => ⟨S8192x4096, .bf16⟩
  | .hbm, ⟨27, _⟩ => ⟨S8192x4096, .f32⟩
  | .hbm, ⟨28, _⟩ => ⟨S1x4096, .f32⟩
  | .hbm, ⟨29, _⟩ => ⟨S4096, .f32⟩
  | .hbm, ⟨30, _⟩ => ⟨S1x128, .f32⟩
  | .hbm, ⟨31, _⟩ => ⟨S128, .f32⟩
  | .hbm, ⟨32, _⟩ => ⟨S1x4096, .f32⟩
  | .hbm, ⟨33, _⟩ => ⟨S1x128, .f32⟩
  | .hbm, ⟨34, _⟩ => ⟨S8192x512, .bf16⟩
  | .hbm, ⟨35, _⟩ => ⟨S1x4096, .f32⟩
  | .hbm, ⟨36, _⟩ => ⟨S4096, .f32⟩
  | .hbm, ⟨37, _⟩ => ⟨S1x4096, .f32⟩
  | .hbm, ⟨38, _⟩ => ⟨S1024x4096, .bf16⟩
  | .hbm, ⟨39, _⟩ => ⟨S1x128, .f32⟩
  | .hbm, ⟨40, _⟩ => ⟨S128, .f32⟩
  | .hbm, ⟨41, _⟩ => ⟨S1x128, .f32⟩
  | .hbm, ⟨42, _⟩ => ⟨S1024x512, .bf16⟩
  | .hbm, ⟨43, _⟩ => ⟨S1024x512, .bf16⟩
  | .hbm, ⟨44, _⟩ => ⟨S8192x512, .bf16⟩
  | .hbm, ⟨45, _⟩ => ⟨S1x4096, .f32⟩
  | .hbm, ⟨46, _⟩ => ⟨S4096, .f32⟩
  | .hbm, ⟨47, _⟩ => ⟨S1x4096, .f32⟩
  | .hbm, ⟨48, _⟩ => ⟨S8192x4096, .f32⟩
  | .hbm, ⟨49, _⟩ => ⟨S8192x4096, .bf16⟩
  | .hbm, ⟨50, _⟩ => ⟨S8192x11008, .bf16⟩
  | .hbm, ⟨51, _⟩ => ⟨S8192x4096, .f32⟩
  | .hbm, ⟨52, _⟩ => ⟨S4x2048x4096, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x4096, .bf16⟩
  | .local _ .vmem, ⟨7, _⟩ => ⟨S256x4096, .bf16⟩
  | .local _ .vmem, ⟨8, _⟩ => ⟨S2048x4096, .bf16⟩
  | .local _ .vmem, ⟨9, _⟩ => ⟨S1x4096x512, .f32⟩
  | .local _ .vmem, ⟨10, _⟩ => ⟨S1x4096x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | .local _ .vmem, ⟨15, _⟩ => ⟨S512x4096, .f32⟩
  | .local _ .vmem, ⟨16, _⟩ => ⟨S512x4096, .f32⟩
  | .local _ .vmem, ⟨17, _⟩ => ⟨S1x4096, .f32⟩
  | .local _ .vmem, ⟨18, _⟩ => ⟨S1x4096x512, .f32⟩
  | .local _ .vmem, ⟨19, _⟩ => ⟨S1x128, .f32⟩
  | .local _ .vmem, ⟨20, _⟩ => ⟨S512x512, .bf16⟩
  | .local _ .vmem, ⟨21, _⟩ => ⟨S512x512, .bf16⟩
  | .local _ .vmem, ⟨22, _⟩ => ⟨S256x4096, .f32⟩
  | .local _ .vmem, ⟨23, _⟩ => ⟨S256x4096, .f32⟩
  | .local _ .vmem, ⟨24, _⟩ => ⟨S1x4096, .f32⟩
  | .local _ .vmem, ⟨25, _⟩ => ⟨S256x4096, .bf16⟩
  | .local _ .vmem, ⟨26, _⟩ => ⟨S256x4096, .bf16⟩
  | .local _ .vmem, ⟨27, _⟩ => ⟨S512x4096, .bf16⟩
  | .local _ .vmem, ⟨28, _⟩ => ⟨S512x4096, .bf16⟩
  | .local _ .vmem, ⟨29, _⟩ => ⟨S1x4096x1024, .f32⟩
  | .local _ .vmem, ⟨30, _⟩ => ⟨S1x128, .f32⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S256x512, .bf16⟩
  | .local _ .vmem, ⟨38, _⟩ => ⟨S256x512, .bf16⟩
  | .local _ .vmem, ⟨39, _⟩ => ⟨S256x512, .bf16⟩
  | .local _ .vmem, ⟨40, _⟩ => ⟨S256x512, .bf16⟩
  | .local _ .vmem, ⟨41, _⟩ => ⟨S512x512, .bf16⟩
  | .local _ .vmem, ⟨42, _⟩ => ⟨S512x512, .bf16⟩
  | .local _ .vmem, ⟨43, _⟩ => ⟨S256x512, .bf16⟩
  | .local _ .vmem, ⟨44, _⟩ => ⟨S256x512, .bf16⟩
  | .local _ .vmem, ⟨45, _⟩ => ⟨S1x512x4096, .f32⟩
  | .local _ .vmem, ⟨46, _⟩ => ⟨S256x4096, .f32⟩
  | .local _ .vmem, ⟨47, _⟩ => ⟨S256x4096, .f32⟩
  | .local _ .vmem, ⟨48, _⟩ => ⟨S1x4096, .f32⟩
  | .local _ .vmem, ⟨49, _⟩ => ⟨S256x4096, .f32⟩
  | .local _ .vmem, ⟨50, _⟩ => ⟨S256x4096, .f32⟩
  | .local _ .vmem, ⟨51, _⟩ => ⟨S256x4096, .bf16⟩
  | .local _ .vmem, ⟨52, _⟩ => ⟨S256x4096, .bf16⟩
  | .local _ .vmem, ⟨53, _⟩ => ⟨S1024x4096, .bf16⟩
  | .local _ .vmem, ⟨54, _⟩ => ⟨S1024x4096, .bf16⟩
  | .local _ .vmem, ⟨55, _⟩ => ⟨S1x4096x256, .f32⟩
  | .local _ .vmem, ⟨56, _⟩ => ⟨S1x4096x256, .f32⟩
  | .local _ .vmem, ⟨57, _⟩ => ⟨S1x4096x256, .f32⟩
  | .local _ .vmem, ⟨58, _⟩ => ⟨S1x4096x256, .f32⟩
  | .local _ .vmem, ⟨59, _⟩ => ⟨S1024x256, .bf16⟩
  | .local _ .vmem, ⟨60, _⟩ => ⟨S1024x256, .bf16⟩
  | .local _ .vmem, ⟨61, _⟩ => ⟨S512x11008, .bf16⟩
  | .local _ .vmem, ⟨62, _⟩ => ⟨S512x11008, .bf16⟩
  | .local _ .vmem, ⟨63, _⟩ => ⟨S1x11008x512, .bf16⟩
  | .local _ .vmem, ⟨64, _⟩ => ⟨S1x11008x512, .bf16⟩
  | .local _ .vmem, ⟨65, _⟩ => ⟨S512x512, .f32⟩
  | .local _ .vmem, ⟨66, _⟩ => ⟨S512x512, .f32⟩
  | .local _ .vmem, ⟨67, _⟩ => ⟨S512x512, .f32⟩
  | .local _ .vmem, ⟨68, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29_0 : Ref sig .tc := ⟨.hbm, 48, rfl⟩
abbrev main_v29_1 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc4_stg4_0 : Ref sig .tc := ⟨.vmem, 33, rfl⟩
abbrev cc4_stg4_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg3_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg4_1 : Ref sig .tc := ⟨.vmem, 50, rfl⟩
abbrev cc6_stg5_0 : Ref sig .tc := ⟨.vmem, 51, rfl⟩
abbrev cc6_stg5_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg3_1 : Ref sig .tc := ⟨.vmem, 60, rfl⟩
abbrev cc8_stg0_0 : Ref sig .tc := ⟨.vmem, 61, rfl⟩
abbrev cc8_stg0_1 : Ref sig .tc := ⟨.vmem, 62, rfl⟩
abbrev cc8_stg1_0 : Ref sig .tc := ⟨.vmem, 63, rfl⟩
abbrev cc8_stg1_1 : Ref sig .tc := ⟨.vmem, 64, rfl⟩
abbrev cc8_stg2_0 : Ref sig .tc := ⟨.vmem, 65, rfl⟩
abbrev cc8_stg2_1 : Ref sig .tc := ⟨.vmem, 66, rfl⟩
abbrev cc8_stg3_0 : Ref sig .tc := ⟨.vmem, 67, rfl⟩
abbrev cc8_stg3_1 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem3_1 : DmaSem sig := 32
abbrev cc4_sem4_0 : DmaSem sig := 33
abbrev cc4_sem4_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem3_1 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem2_1 : DmaSem sig := 47
abbrev cc6_sem3_0 : DmaSem sig := 48
abbrev cc6_sem4_0 : DmaSem sig := 49
abbrev cc6_sem4_1 : DmaSem sig := 50
abbrev cc6_sem5_0 : DmaSem sig := 51
abbrev cc6_sem5_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem3_1 : DmaSem sig := 60
abbrev cc8_sem0_0 : DmaSem sig := 61
abbrev cc8_sem0_1 : DmaSem sig := 62
abbrev cc8_sem1_0 : DmaSem sig := 63
abbrev cc8_sem1_1 : DmaSem sig := 64
abbrev cc8_sem2_0 : DmaSem sig := 65
abbrev cc8_sem2_1 : DmaSem sig := 66
abbrev cc8_sem3_0 : DmaSem sig := 67
abbrev cc8_sem3_1 : DmaSem sig := 68

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1x4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x4096 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![2, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S1x4096x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S512x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S512x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![4, 4], ![false, false]⟩

def cc5_transform_0 (i : grid5.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage5_0 : Fin 2 → Memref sig .tc .vmem S512x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S256x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S256x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S512x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x512x4096 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S256x4096 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x4096 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S256x4096 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S256x4096 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨2, ![8, 43], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc7_transform_2 (i : grid7.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1x4096x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1x4096x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S1024x256 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev grid8 : Pipeline.Grid := ⟨2, ![16, 8], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S512x11008 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S1x11008x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S512x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev stage8_3 : Fin 2 → Memref sig .tc .vmem S512x512 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]
-- ==== Kernel5Ideal.lean ====
variable {F : FTy → Type} [FloatOps F] [Named F]
def κ : String → Option EReal := fun
  | "x_scale" => some (((Real.sqrt 128)⁻¹ : ℝ) : EReal)
  | _ => none
-- ==== Reference5Ideal.lean ====
abbrev S8192x2048 : Shape := ⟨2, ![8192, 2048]⟩
abbrev S4x2048x4096 : Shape := ⟨3, ![4, 2048, 4096]⟩
abbrev S4x256x4096 : Shape := ⟨3, ![4, 256, 4096]⟩
abbrev S2x2048 : Shape := ⟨2, ![2, 2048]⟩
abbrev S2x4096x4096 : Shape := ⟨3, ![2, 4096, 4096]⟩
abbrev S2x4096 : Shape := ⟨2, ![2, 4096]⟩
abbrev S2x4096x512 : Shape := ⟨3, ![2, 4096, 512]⟩
abbrev S2x4096x1024 : Shape := ⟨3, ![2, 4096, 1024]⟩
abbrev S2x128 : Shape := ⟨2, ![2, 128]⟩
abbrev S2x512x4096 : Shape := ⟨3, ![2, 512, 4096]⟩
abbrev S2x4096x11008 : Shape := ⟨3, ![2, 4096, 11008]⟩
abbrev S1x11008x4096 : Shape := ⟨3, ![1, 11008, 4096]⟩
abbrev S8192x4096 : Shape := ⟨2, ![8192, 4096]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x4096x4096 : Shape := ⟨3, ![1, 4096, 4096]⟩
abbrev S4096x4096 : Shape := ⟨2, ![4096, 4096]⟩
abbrev S1x4096 : Shape := ⟨2, ![1, 4096]⟩
abbrev S4096 : Shape := ⟨1, ![4096]⟩
abbrev S1x4096x512 : Shape := ⟨3, ![1, 4096, 512]⟩
abbrev S4096x512 : Shape := ⟨2, ![4096, 512]⟩
abbrev S1x4096x1024 : Shape := ⟨3, ![1, 4096, 1024]⟩
abbrev S4096x1024 : Shape := ⟨2, ![4096, 1024]⟩
abbrev S1x128 : Shape := ⟨2, ![1, 128]⟩
abbrev S128 : Shape := ⟨1, ![128]⟩
abbrev S1x512x4096 : Shape := ⟨3, ![1, 512, 4096]⟩
abbrev S512x4096 : Shape := ⟨2, ![512, 4096]⟩
abbrev S8192x512 : Shape := ⟨2, ![8192, 512]⟩
abbrev S4x2048x4x128 : Shape := ⟨4, ![4, 2048, 4, 128]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S1024x4096 : Shape := ⟨2, ![1024, 4096]⟩
abbrev S1024 : Shape := ⟨1, ![1024]⟩
abbrev S1024x1 : Shape := ⟨2, ![1024, 1]⟩
abbrev S1024x1024 : Shape := ⟨2, ![1024, 1024]⟩
abbrev S4x256x4x256 : Shape := ⟨4, ![4, 256, 4, 256]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S1x4096x11008 : Shape := ⟨3, ![1, 4096, 11008]⟩
abbrev S4096x11008 : Shape := ⟨2, ![4096, 11008]⟩
abbrev S8192x11008 : Shape := ⟨2, ![8192, 11008]⟩
abbrev S11008x4096 : Shape := ⟨2, ![11008, 4096]⟩

abbrev nBuf : Space → Nat
  | .hbm => 208
  | .vmem => 0
  | .smem => 0
  | _ => 0

abbrev hbmTy0_0 (i : Nat) : BufTy := match i % 128 with
  | 0 => ⟨S8192x2048, .f32⟩
  | 1 => ⟨S8192x2048, .f32⟩
  | 2 => ⟨S4x2048x4096, .f32⟩
  | 3 => ⟨S4x256x4096, .f32⟩
  | 4 => ⟨S2x2048, .f32⟩
  | 5 => ⟨S2x2048, .f32⟩
  | 6 => ⟨S2x4096x4096, .f32⟩
  | 7 => ⟨S2x4096, .f32⟩
  | 8 => ⟨S2x4096, .f32⟩
  | 9 => ⟨S2x4096x512, .f32⟩
  | 10 => ⟨S2x4096x1024, .f32⟩
  | 11 => ⟨S2x128, .f32⟩
  | 12 => ⟨S2x128, .f32⟩
  | 13 => ⟨S2x512x4096, .f32⟩
  | 14 => ⟨S2x4096, .f32⟩
  | 15 => ⟨S2x4096x11008, .f32⟩
  | 16 => ⟨S2x4096x11008, .f32⟩
  | 17 => ⟨S1x11008x4096, .bf16⟩
  | 18 => ⟨S8192x4096, .f32⟩
  | 19 => ⟨S1x2048, .f32⟩
  | 20 => ⟨S2048, .f32⟩
  | 21 => ⟨S8192x2048, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1, .f32⟩
  | 32 => ⟨S8192x2048, .f32⟩
  | 33 => ⟨S8192x2048, .f32⟩
  | 34 => ⟨S1x2048, .f32⟩
  | 35 => ⟨S8192x2048, .f32⟩
  | 36 => ⟨S8192x2048, .f32⟩
  | 37 => ⟨S1x2048, .f32⟩
  | 38 => ⟨S2048, .f32⟩
  | 39 => ⟨S8192x2048, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x1, .f32⟩
  | 50 => ⟨S8192x2048, .f32⟩
  | 51 => ⟨S8192x2048, .f32⟩
  | 52 => ⟨S1x2048, .f32⟩
  | 53 => ⟨S8192x2048, .f32⟩
  | 54 => ⟨S8192x2048, .f32⟩
  | 55 => ⟨S8192x4096, .f32⟩
  | 56 => ⟨S1x4096x4096, .f32⟩
  | 57 => ⟨S4096x4096, .f32⟩
  | 58 => ⟨S8192x4096, .f32⟩
  | 59 => ⟨S8192x4096, .f32⟩
  | 60 => ⟨S1x4096, .f32⟩
  | 61 => ⟨S4096, .f32⟩
  | 62 => ⟨S8192x4096, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1, .f32⟩
  | 73 => ⟨S8192x4096, .f32⟩
  | 74 => ⟨S8192x4096, .f32⟩
  | 75 => ⟨S1x4096, .f32⟩
  | 76 => ⟨S8192x4096, .f32⟩
  | 77 => ⟨S8192x4096, .f32⟩
  | 78 => ⟨S1x4096x512, .f32⟩
  | 79 => ⟨S4096x512, .f32⟩
  | 80 => ⟨S1x4096x1024, .f32⟩
  | 81 => ⟨S4096x1024, .f32⟩
  | 82 => ⟨S1x4096, .f32⟩
  | 83 => ⟨S4096, .f32⟩
  | 84 => ⟨S1x128, .f32⟩
  | 85 => ⟨S128, .f32⟩
  | 86 => ⟨S1x128, .f32⟩
  | 87 => ⟨S128, .f32⟩
  | 88 => ⟨S1x512x4096, .f32⟩
  | 89 => ⟨S512x4096, .f32⟩
  | 90 => ⟨S8192x512, .f32⟩
  | 91 => ⟨S4x2048x4x128, .f32⟩
  | 92 => ⟨S4x2048x4x128, .f32⟩
  | 93 => ⟨S_, .f32⟩
  | 94 => ⟨S4x2048x4, .f32⟩
  | 95 => ⟨S4x2048x4x1, .f32⟩
  | 96 => ⟨S_, .f32⟩
  | 97 => ⟨S4x2048x4x1, .f32⟩
  | 98 => ⟨S4x2048x4x1, .f32⟩
  | 99 => ⟨S_, .f32⟩
  | 100 => ⟨S4x2048x4x1, .f32⟩
  | 101 => ⟨S4x2048x4x1, .f32⟩
  | 102 => ⟨S4x2048x4x1, .f32⟩
  | 103 => ⟨S4x2048x4x128, .f32⟩
  | 104 => ⟨S4x2048x4x128, .f32⟩
  | 105 => ⟨S1x1x1x128, .f32⟩
  | 106 => ⟨S4x2048x4x128, .f32⟩
  | 107 => ⟨S4x2048x4x128, .f32⟩
  | 108 => ⟨S1024x4096, .f32⟩
  | 109 => ⟨S1024x4096, .f32⟩
  | 110 => ⟨S_, .f32⟩
  | 111 => ⟨S1024, .f32⟩
  | 112 => ⟨S1024x1, .f32⟩
  | 113 => ⟨S_, .f32⟩
  | 114 => ⟨S1024x1, .f32⟩
  | 115 => ⟨S1024x1, .f32⟩
  | 116 => ⟨S_, .f32⟩
  | 117 => ⟨S1024x1, .f32⟩
  | 118 => ⟨S1024x1, .f32⟩
  | 119 => ⟨S1024x1, .f32⟩
  | 120 => ⟨S1024x4096, .f32⟩
  | 121 => ⟨S1024x4096, .f32⟩
  | 122 => ⟨S1x4096, .f32⟩
  | 123 => ⟨S1024x4096, .f32⟩
  | 124 => ⟨S1024x4096, .f32⟩
  | 125 => ⟨S1024x1024, .f32⟩
  | 126 => ⟨S4x256x4x256, .f32⟩
  | 127 => ⟨S4x256x4x128, .f32⟩
  | _ => ⟨S8192x2048, .f32⟩

abbrev hbmTy0_1 (i : Nat) : BufTy := match i % 128 with
  | 0 => ⟨S4x256x4x128, .f32⟩
  | 1 => ⟨S_, .f32⟩
  | 2 => ⟨S4x256x4, .f32⟩
  | 3 => ⟨S4x256x4x1, .f32⟩
  | 4 => ⟨S_, .f32⟩
  | 5 => ⟨S4x256x4x1, .f32⟩
  | 6 => ⟨S4x256x4x1, .f32⟩
  | 7 => ⟨S_, .f32⟩
  | 8 => ⟨S4x256x4x1, .f32⟩
  | 9 => ⟨S4x256x4x1, .f32⟩
  | 10 => ⟨S4x256x4x1, .f32⟩
  | 11 => ⟨S4x256x4x128, .f32⟩
  | 12 => ⟨S4x256x4x128, .f32⟩
  | 13 => ⟨S1x1x1x128, .f32⟩
  | 14 => ⟨S4x256x4x128, .f32⟩
  | 15 => ⟨S4x256x4x128, .f32⟩
  | 16 => ⟨S4x256x4x128, .f32⟩
  | 17 => ⟨S4x4x2048x256, .f32⟩
  | 18 => ⟨S_, .f32⟩
  | 19 => ⟨S_, .f32⟩
  | 20 => ⟨S4x4x2048x256, .f32⟩
  | 21 => ⟨S4x4x2048x256, .f32⟩
  | 22 => ⟨S_, .f32⟩
  | 23 => ⟨S4x4x2048, .f32⟩
  | 24 => ⟨S_, .f32⟩
  | 25 => ⟨S4x4x2048, .f32⟩
  | 26 => ⟨S4x4x2048, .f32⟩
  | 27 => ⟨S4x4x2048x1, .f32⟩
  | 28 => ⟨S4x4x2048x256, .f32⟩
  | 29 => ⟨S4x4x2048x256, .f32⟩
  | 30 => ⟨S4x4x2048x256, .f32⟩
  | 31 => ⟨S_, .f32⟩
  | 32 => ⟨S4x4x2048, .f32⟩
  | 33 => ⟨S4x4x2048x1, .f32⟩
  | 34 => ⟨S4x4x2048x256, .f32⟩
  | 35 => ⟨S4x4x2048x256, .f32⟩
  | 36 => ⟨S4x4x128x2048, .f32⟩
  | 37 => ⟨S4x2048x4x128, .f32⟩
  | 38 => ⟨S8192x512, .f32⟩
  | 39 => ⟨S8192x4096, .f32⟩
  | 40 => ⟨S8192x4096, .f32⟩
  | 41 => ⟨S1x4096, .f32⟩
  | 42 => ⟨S4096, .f32⟩
  | 43 => ⟨S8192x4096, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x1, .f32⟩
  | 54 => ⟨S8192x4096, .f32⟩
  | 55 => ⟨S8192x4096, .f32⟩
  | 56 => ⟨S1x4096, .f32⟩
  | 57 => ⟨S8192x4096, .f32⟩
  | 58 => ⟨S8192x4096, .f32⟩
  | 59 => ⟨S1x4096x11008, .f32⟩
  | 60 => ⟨S4096x11008, .f32⟩
  | 61 => ⟨S8192x11008, .f32⟩
  | 62 => ⟨S8192x11008, .f32⟩
  | 63 => ⟨S8192x11008, .f32⟩
  | 64 => ⟨S_, .f32⟩
  | 65 => ⟨S8192x11008, .f32⟩
  | 66 => ⟨S8192x11008, .f32⟩
  | 67 => ⟨S_, .f32⟩
  | 68 => ⟨S8192x11008, .f32⟩
  | 69 => ⟨S8192x11008, .f32⟩
  | 70 => ⟨S8192x11008, .f32⟩
  | 71 => ⟨S1x4096x11008, .f32⟩
  | 72 => ⟨S4096x11008, .f32⟩
  | 73 => ⟨S8192x11008, .f32⟩
  | 74 => ⟨S8192x11008, .f32⟩
  | 75 => ⟨S11008x4096, .bf16⟩
  | 76 => ⟨S11008x4096, .f32⟩
  | 77 => ⟨S8192x4096, .f32⟩
  | 78 => ⟨S8192x4096, .f32⟩
  | 79 => ⟨S4x2048x4096, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_8 : Ref sig .tc := ⟨.hbm, 93, rfl⟩
abbrev main_v66 : Ref sig .tc := ⟨.hbm, 94, rfl⟩
abbrev main_v67 : Ref sig .tc := ⟨.hbm, 95, rfl⟩
abbrev main_cst_9 : Ref sig .tc := ⟨.hbm, 96, rfl⟩
abbrev main_v68 : Ref sig .tc := ⟨.hbm, 97, rfl⟩
abbrev main_v69 : Ref sig .tc := ⟨.hbm, 98, rfl⟩
abbrev main_cst_10 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_11 : Ref sig .tc := ⟨.hbm, 110, rfl⟩
abbrev main_v80 : Ref sig .tc := ⟨.hbm, 111, rfl⟩
abbrev main_v81 : Ref sig .tc := ⟨.hbm, 112, rfl⟩
abbrev main_cst_12 : Ref sig .tc := ⟨.hbm, 113, rfl⟩
abbrev main_v82 : Ref sig .tc := ⟨.hbm, 114, rfl⟩
abbrev main_v83 : Ref sig .tc := ⟨.hbm, 115, rfl⟩
abbrev main_cst_13 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_14 : Ref sig .tc := ⟨.hbm, 129, rfl⟩
abbrev main_v96 : Ref sig .tc := ⟨.hbm, 130, rfl⟩
abbrev main_v97 : Ref sig .tc := ⟨.hbm, 131, rfl⟩
abbrev main_cst_15 : Ref sig .tc := ⟨.hbm, 132, rfl⟩
abbrev main_v98 : Ref sig .tc := ⟨.hbm, 133, rfl⟩
abbrev main_v99 : Ref sig .tc := ⟨.hbm, 134, rfl⟩
abbrev main_cst_16 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_17 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_18 : Ref sig .tc := ⟨.hbm, 150, rfl⟩
abbrev main_v113 : Ref sig .tc := ⟨.hbm, 151, rfl⟩
abbrev main_cst_19 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_20 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_21 : Ref sig .tc := ⟨.hbm, 172, rfl⟩
abbrev main_v132 : Ref sig .tc := ⟨.hbm, 173, rfl⟩
abbrev main_v133 : Ref sig .tc := ⟨.hbm, 174, rfl⟩
abbrev main_cst_22 : Ref sig .tc := ⟨.hbm, 175, rfl⟩
abbrev main_v134 : Ref sig .tc := ⟨.hbm, 176, rfl⟩
abbrev main_v135 : Ref sig .tc := ⟨.hbm, 177, rfl⟩
abbrev main_cst_23 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_call0_v0 : Ref sig .tc := ⟨.hbm, 190, rfl⟩
abbrev main_call0_v1 : Ref sig .tc := ⟨.hbm, 191, rfl⟩
abbrev main_call0_cst : Ref sig .tc := ⟨.hbm, 192, rfl⟩
abbrev main_call0_v2 : Ref sig .tc := ⟨.hbm, 193, rfl⟩
abbrev main_call0_v3 : Ref sig .tc := ⟨.hbm, 194, rfl⟩
abbrev main_call0_cst_0 : Ref sig .tc := ⟨.hbm, 195, rfl⟩
abbrev main_call0_v4 : Ref sig .tc := ⟨.hbm, 196, rfl⟩
abbrev main_call0_v5 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩

abbrev nD : Nat := 1
abbrev τ : Topo := Topo.v7x

variable {F : FTy → Type} [FloatOps F]
-- ==== Kernel6.lean ====
abbrev S4x2048x4096 : Shape := ⟨3, ![4, 2048, 4096]⟩
abbrev S4x2048 : Shape := ⟨2, ![4, 2048]⟩
abbrev S2x4096 : Shape := ⟨2, ![2, 4096]⟩
abbrev S2x4096x7744 : Shape := ⟨3, ![2, 4096, 7744]⟩
abbrev S2x1024 : Shape := ⟨2, ![2, 1024]⟩
abbrev S2x512 : Shape := ⟨2, ![2, 512]⟩
abbrev S2x1024x3072 : Shape := ⟨3, ![2, 1024, 3072]⟩
abbrev S2x512x4096 : Shape := ⟨3, ![2, 512, 4096]⟩
abbrev S2x192 : Shape := ⟨2, ![2, 192]⟩
abbrev S8192x4096 : Shape := ⟨2, ![8192, 4096]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S512x1 : Shape := ⟨2, ![512, 1]⟩
abbrev S512x128 : Shape := ⟨2, ![512, 128]⟩
abbrev S2x7744x4096 : Shape := ⟨3, ![2, 7744, 4096]⟩
abbrev S2x1664x4096 : Shape := ⟨3, ![2, 1664, 4096]⟩
abbrev S1x4096 : Shape := ⟨2, ![1, 4096]⟩
abbrev S4096 : Shape := ⟨1, ![4096]⟩
abbrev S1x1024 : Shape := ⟨2, ![1, 1024]⟩
abbrev S1024 : Shape := ⟨1, ![1024]⟩
abbrev S1x512 : Shape := ⟨2, ![1, 512]⟩
abbrev S512 : Shape := ⟨1, ![512]⟩
abbrev S1x64 : Shape := ⟨2, ![1, 64]⟩
abbrev S2x64 : Shape := ⟨2, ![2, 64]⟩
abbrev S8192x1024 : Shape := ⟨2, ![8192, 1024]⟩
abbrev S8192x512 : Shape := ⟨2, ![8192, 512]⟩
abbrev S512x4096 : Shape := ⟨2, ![512, 4096]⟩
abbrev S1x1664x4096 : Shape := ⟨3, ![1, 1664, 4096]⟩
abbrev S512x1024 : Shape := ⟨2, ![512, 1024]⟩
abbrev S512x512 : Shape := ⟨2, ![512, 512]⟩
abbrev S256x4096 : Shape := ⟨2, ![256, 4096]⟩
abbrev S256 : Shape := ⟨1, ![256]⟩
abbrev S256x1 : Shape := ⟨2, ![256, 1]⟩
abbrev S1664x4096 : Shape := ⟨2, ![1664, 4096]⟩
abbrev S256x1664 : Shape := ⟨2, ![256, 1664]⟩
abbrev S256x1024 : Shape := ⟨2, ![256, 1024]⟩
abbrev S256x512 : Shape := ⟨2, ![256, 512]⟩
abbrev S256x128 : Shape := ⟨2, ![256, 128]⟩
abbrev S1024x1024 : Shape := ⟨2, ![1024, 1024]⟩
abbrev S1x1024x768 : Shape := ⟨3, ![1, 1024, 768]⟩
abbrev S1024x128 : Shape := ⟨2, ![1024, 128]⟩
abbrev S512x256 : Shape := ⟨2, ![512, 256]⟩
abbrev S1024x768 : Shape := ⟨2, ![1024, 768]⟩
abbrev S1024x256 : Shape := ⟨2, ![1024, 256]⟩
abbrev S1024x512 : Shape := ⟨2, ![1024, 512]⟩
abbrev S8192x2048 : Shape := ⟨2, ![8192, 2048]⟩
abbrev S1x512x1024 : Shape := ⟨3, ![1, 512, 1024]⟩
abbrev S1024x1 : Shape := ⟨2, ![1024, 1]⟩

abbrev nBuf : Space → Nat
  | .hbm => 64
  | .vmem => 49
  | .smem => 0
  | _ => 0

abbrev bufTy : (tb : Table) → Fin (tcTables nBuf tb) → BufTy
  | .hbm, ⟨0, _⟩ => ⟨S4x2048x4096, .f32⟩
  | .hbm, ⟨1, _⟩ => ⟨S4x2048, .i32⟩
  | .hbm, ⟨2, _⟩ => ⟨S2x4096, .f32⟩
  | .hbm, ⟨3, _⟩ => ⟨S2x4096x7744, .f32⟩
  | .hbm, ⟨4, _⟩ => ⟨S2x1024, .f32⟩
  | .hbm, ⟨5, _⟩ => ⟨S2x512, .f32⟩
  | .hbm, ⟨6, _⟩ => ⟨S2x1024x3072, .f32⟩
  | .hbm, ⟨7, _⟩ => ⟨S2x512x4096, .f32⟩
  | .hbm, ⟨8, _⟩ => ⟨S2x192, .f32⟩
  | .hbm, ⟨9, _⟩ => ⟨S2x192, .f32⟩
  | .hbm, ⟨10, _⟩ => ⟨S8192x4096, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S64, .f32⟩
  | .hbm, ⟨21, _⟩ => ⟨S128, .f32⟩
  | .hbm, ⟨22, _⟩ => ⟨S1x128, .f32⟩
  | .hbm, ⟨23, _⟩ => ⟨S4x2048, .f32⟩
  | .hbm, ⟨24, _⟩ => ⟨S8192x1, .f32⟩
  | .hbm, ⟨25, _⟩ => ⟨S8192x128, .f32⟩
  | .hbm, ⟨26, _⟩ => ⟨S8192x128, .f32⟩
  | .hbm, ⟨27, _⟩ => ⟨S2x7744x4096, .f32⟩
  | .hbm, ⟨28, _⟩ => ⟨S2x1664x4096, .f32⟩
  | .hbm, ⟨29, _⟩ => ⟨S2x1664x4096, .bf16⟩
  | .hbm, ⟨30, _⟩ => ⟨S1x4096, .f32⟩
  | .hbm, ⟨31, _⟩ => ⟨S4096, .f32⟩
  | .hbm, ⟨32, _⟩ => ⟨S1x1024, .f32⟩
  | .hbm, ⟨33, _⟩ => ⟨S1024, .f32⟩
  | .hbm, ⟨34, _⟩ => ⟨S1x512, .f32⟩
  | .hbm, ⟨35, _⟩ => ⟨S512, .f32⟩
  | .hbm, ⟨36, _⟩ => ⟨S1x64, .f32⟩
  | .hbm, ⟨37, _⟩ => ⟨S64, .f32⟩
  | .hbm, ⟨38, _⟩ => ⟨S1x64, .f32⟩
  | .hbm, ⟨39, _⟩ => ⟨S2x64, .f32⟩
  | .hbm, ⟨40, _⟩ => ⟨S128, .f32⟩
  | .hbm, ⟨41, _⟩ => ⟨S1x128, .f32⟩
  | .hbm, ⟨42, _⟩ => ⟨S1x4096, .f32⟩
  | .hbm, ⟨43, _⟩ => ⟨S1x1024, .f32⟩
  | .hbm, ⟨44, _⟩ => ⟨S1x512, .f32⟩
  | .hbm, ⟨45, _⟩ => ⟨S8192x4096, .bf16⟩
  | .hbm, ⟨46, _⟩ => ⟨S8192x1024, .bf16⟩
  | .hbm, ⟨47, _⟩ => ⟨S8192x512, .bf16⟩
  | .hbm, ⟨48, _⟩ => ⟨S8192x128, .bf16⟩
  | .hbm, ⟨49, _⟩ => ⟨S1x128, .f32⟩
  | .hbm, ⟨50, _⟩ => ⟨S128, .f32⟩
  | .hbm, ⟨51, _⟩ => ⟨S1x128, .f32⟩
  | .hbm, ⟨52, _⟩ => ⟨S1x64, .f32⟩
  | .hbm, ⟨53, _⟩ => ⟨S64, .f32⟩
  | .hbm, ⟨54, _⟩ => ⟨S1x64, .f32⟩
  | .hbm, ⟨55, _⟩ => ⟨S2x64, .f32⟩
  | .hbm, ⟨56, _⟩ => ⟨S128, .f32⟩
  | .hbm, ⟨57, _⟩ => ⟨S1x128, .f32⟩
  | .hbm, ⟨58, _⟩ => ⟨S8192x4096, .bf16⟩
  | .hbm, ⟨59, _⟩ => ⟨S1x128, .f32⟩
  | .hbm, ⟨60, _⟩ => ⟨S128, .f32⟩
  | .hbm, ⟨61, _⟩ => ⟨S1x128, .f32⟩
  | .hbm, ⟨62, _⟩ => ⟨S8192x4096, .bf16⟩
  | .hbm, ⟨63, _⟩ => ⟨S8192x2048, .bf16⟩
  | .local _ .vmem, ⟨0, _⟩ => ⟨S512x1, .f32⟩
  | .local _ .vmem, ⟨1, _⟩ => ⟨S512x1, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x4096, .f32⟩
  | .local _ .vmem, ⟨8, _⟩ => ⟨S512x4096, .f32⟩
  | .local _ .vmem, ⟨9, _⟩ => ⟨S1x4096, .f32⟩
  | .local _ .vmem, ⟨10, _⟩ => ⟨S1x1664x4096, .bf16⟩
  | .local _ .vmem, ⟨11, _⟩ => ⟨S1x1024, .f32⟩
  | .local _ .vmem, ⟨12, _⟩ => ⟨S1x512, .f32⟩
  | .local _ .vmem, ⟨13, _⟩ => ⟨S1x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x4096, .bf16⟩
  | .local _ .vmem, ⟨19, _⟩ => ⟨S512x4096, .bf16⟩
  | .local _ .vmem, ⟨20, _⟩ => ⟨S512x1024, .bf16⟩
  | .local _ .vmem, ⟨21, _⟩ => ⟨S512x1024, .bf16⟩
  | .local _ .vmem, ⟨22, _⟩ => ⟨S512x512, .bf16⟩
  | .local _ .vmem, ⟨23, _⟩ => ⟨S512x512, .bf16⟩
  | .local _ .vmem, ⟨24, _⟩ => ⟨S512x128, .bf16⟩
  | .local _ .vmem, ⟨25, _⟩ => ⟨S512x128, .bf16⟩
  | .local _ .vmem, ⟨26, _⟩ => ⟨S1024x1024, .bf16⟩
  | .local _ .vmem, ⟨27, _⟩ => ⟨S1024x1024, .bf16⟩
  | .local _ .vmem, ⟨28, _⟩ => ⟨S1x1024x768, .f32⟩
  | .local _ .vmem, ⟨29, _⟩ => ⟨S1x1024x768, .f32⟩
  | .local _ .vmem, ⟨30, _⟩ => ⟨S1x128, .f32⟩
  | .local _ .vmem, ⟨31, _⟩ => ⟨S1x128, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S1024x1024, .bf16⟩
  | .local _ .vmem, ⟨37, _⟩ => ⟨S1024x1024, .bf16⟩
  | .local _ .vmem, ⟨38, _⟩ => ⟨S1024x512, .bf16⟩
  | .local _ .vmem, ⟨39, _⟩ => ⟨S1024x512, .bf16⟩
  | .local _ .vmem, ⟨40, _⟩ => ⟨S1x512x1024, .f32⟩
  | .local _ .vmem, ⟨41, _⟩ => ⟨S1x512x1024, .f32⟩
  | .local _ .vmem, ⟨42, _⟩ => ⟨S1x128, .f32⟩
  | .local _ .vmem, ⟨43, _⟩ => ⟨S1024x128, .bf16⟩
  | .local _ .vmem, ⟨44, _⟩ => ⟨S1024x128, .bf16⟩
  | .local _ .vmem, ⟨45, _⟩ => ⟨S1024x1024, .bf16⟩
  | .local _ .vmem, ⟨46, _⟩ => ⟨S1024x1024, .bf16⟩
  | .local _ .vmem, ⟨47, _⟩ => ⟨S1024x512, .bf16⟩
  | .local _ .vmem, ⟨48, _⟩ => ⟨S1024x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31_0 : Ref sig .tc := ⟨.hbm, 45, rfl⟩
abbrev main_v31_1 : Ref sig .tc := ⟨.hbm, 46, rfl⟩
abbrev main_v31_2 : Ref sig .tc := ⟨.hbm, 47, rfl⟩
abbrev main_v31_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45_0 : Ref sig .tc := ⟨.hbm, 62, rfl⟩
abbrev main_v45_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg3_1 : Ref sig .tc := ⟨.vmem, 44, rfl⟩
abbrev cc3_stg4_0 : Ref sig .tc := ⟨.vmem, 45, rfl⟩
abbrev cc3_stg4_1 : Ref sig .tc := ⟨.vmem, 46, rfl⟩
abbrev cc3_stg5_0 : Ref sig .tc := ⟨.vmem, 47, rfl⟩
abbrev cc3_stg5_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21
abbrev cc1_sem10_0 : DmaSem sig := 22
abbrev cc1_sem10_1 : DmaSem sig := 23
abbrev cc1_sem11_0 : DmaSem sig := 24
abbrev cc1_sem11_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem3_0 : DmaSem sig := 43
abbrev cc3_sem3_1 : DmaSem sig := 44
abbrev cc3_sem4_0 : DmaSem sig := 45
abbrev cc3_sem4_1 : DmaSem sig := 46
abbrev cc3_sem5_0 : DmaSem sig := 47
abbrev cc3_sem5_1 : DmaSem sig := 48

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1664x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x4096 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1024x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1024x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1024x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1024x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]
-- ==== Kernel6Ideal.lean ====
variable {F : FTy → Type} [FloatOps F] [Named F]
def κ : String → Option EReal := fun
  | "qk_scale" => some ((((Real.log 2) * (Real.sqrt 192))⁻¹ : ℝ) : EReal)
  | _ => none
-- ==== Reference6Ideal.lean ====
abbrev S4x2048x4096 : Shape := ⟨3, ![4, 2048, 4096]⟩
abbrev S4x2048 : Shape := ⟨2, ![4, 2048]⟩
abbrev S2x4096 : Shape := ⟨2, ![2, 4096]⟩
abbrev S2x4096x7744 : Shape := ⟨3, ![2, 4096, 7744]⟩
abbrev S2x1024 : Shape := ⟨2, ![2, 1024]⟩
abbrev S2x512 : Shape := ⟨2, ![2, 512]⟩
abbrev S2x1024x3072 : Shape := ⟨3, ![2, 1024, 3072]⟩
abbrev S2x512x4096 : Shape := ⟨3, ![2, 512, 4096]⟩
abbrev S2x192 : Shape := ⟨2, ![2, 192]⟩
abbrev S8192 : Shape := ⟨1, ![8192]⟩
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S8192x1 : Shape := ⟨2, ![8192, 1]⟩
abbrev S1x4096x7744 : Shape := ⟨3, ![1, 4096, 7744]⟩
abbrev S4096x7744 : Shape := ⟨2, ![4096, 7744]⟩
abbrev S8192x7744 : Shape := ⟨2, ![8192, 7744]⟩
abbrev S8192x1024 : Shape := ⟨2, ![8192, 1024]⟩
abbrev S8192x512 : Shape := ⟨2, ![8192, 512]⟩
abbrev S8192x64 : Shape := ⟨2, ![8192, 64]⟩
abbrev S1x192 : Shape := ⟨2, ![1, 192]⟩
abbrev S192 : Shape := ⟨1, ![192]⟩
abbrev S1x1024 : Shape := ⟨2, ![1, 1024]⟩
abbrev S1024 : Shape := ⟨1, ![1024]⟩
abbrev S1x1024x3072 : Shape := ⟨3, ![1, 1024, 3072]⟩
abbrev S1024x3072 : Shape := ⟨2, ![1024, 3072]⟩
abbrev S8192x3072 : Shape := ⟨2, ![8192, 3072]⟩
abbrev S8192x16x192 : Shape := ⟨3, ![8192, 16, 192]⟩
abbrev S1x512 : Shape := ⟨2, ![1, 512]⟩
abbrev S512 : Shape := ⟨1, ![512]⟩
abbrev S1x512x4096 : Shape := ⟨3, ![1, 512, 4096]⟩
abbrev S512x4096 : Shape := ⟨2, ![512, 4096]⟩
abbrev S8192x16x256 : Shape := ⟨3, ![8192, 16, 256]⟩
abbrev S8192x16x128 : Shape := ⟨3, ![8192, 16, 128]⟩
abbrev S128 : Shape := ⟨1, ![128]⟩
abbrev S8192x16 : Shape := ⟨2, ![8192, 16]⟩
abbrev S8192x16x1 : Shape := ⟨3, ![8192, 16, 1]⟩
abbrev S1x1x128 : Shape := ⟨3, ![1, 1, 128]⟩
abbrev S8192x16x64 : Shape := ⟨3, ![8192, 16, 64]⟩
abbrev S64 : Shape := ⟨1, ![64]⟩
abbrev S1x1x64 : Shape := ⟨3, ![1, 1, 64]⟩
abbrev S32 : Shape := ⟨1, ![32]⟩
abbrev S1x32 : Shape := ⟨2, ![1, 32]⟩
abbrev S8192x32 : Shape := ⟨2, ![8192, 32]⟩
abbrev S8192x1x32 : Shape := ⟨3, ![8192, 1, 32]⟩
abbrev S8192x16x32 : Shape := ⟨3, ![8192, 16, 32]⟩
abbrev S1x64 : Shape := ⟨2, ![1, 64]⟩
abbrev S8192x1x64 : Shape := ⟨3, ![8192, 1, 64]⟩
abbrev S8192x2048 : Shape := ⟨2, ![8192, 2048]⟩

abbrev nBuf : Space → Nat
  | .hbm => 231
  | .vmem => 0
  | .smem => 0
  | _ => 0

abbrev hbmTy0_0 (i : Nat) : BufTy := match i % 128 with
  | 0 => ⟨S4x2048x4096, .f32⟩
  | 1 => ⟨S4x2048, .i32⟩
  | 2 => ⟨S2x4096, .f32⟩
  | 3 => ⟨S2x4096x7744, .f32⟩
  | 4 => ⟨S2x1024, .f32⟩
  | 5 => ⟨S2x512, .f32⟩
  | 6 => ⟨S2x1024x3072, .f32⟩
  | 7 => ⟨S2x512x4096, .f32⟩
  | 8 => ⟨S2x192, .f32⟩
  | 9 => ⟨S2x192, .f32⟩
  | 10 => ⟨S8192, .i32⟩
  | 11 => ⟨S8192x4096, .f32⟩
  | 12 => ⟨S1x4096, .f32⟩
  | 13 => ⟨S4096, .f32⟩
  | 14 => ⟨S8192x4096, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1, .f32⟩
  | 25 => ⟨S8192x4096, .f32⟩
  | 26 => ⟨S8192x4096, .f32⟩
  | 27 => ⟨S1x4096, .f32⟩
  | 28 => ⟨S8192x4096, .f32⟩
  | 29 => ⟨S8192x4096, .f32⟩
  | 30 => ⟨S1x4096x7744, .f32⟩
  | 31 => ⟨S4096x7744, .f32⟩
  | 32 => ⟨S8192x7744, .f32⟩
  | 33 => ⟨S8192x1024, .f32⟩
  | 34 => ⟨S8192x512, .f32⟩
  | 35 => ⟨S8192x64, .f32⟩
  | 36 => ⟨S1x192, .f32⟩
  | 37 => ⟨S192, .f32⟩
  | 38 => ⟨S1x192, .f32⟩
  | 39 => ⟨S192, .f32⟩
  | 40 => ⟨S1x1024, .f32⟩
  | 41 => ⟨S1024, .f32⟩
  | 42 => ⟨S8192x1024, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S_, .f32⟩
  | 50 => ⟨S8192x1, .f32⟩
  | 51 => ⟨S8192x1, .f32⟩
  | 52 => ⟨S8192x1, .f32⟩
  | 53 => ⟨S8192x1024, .f32⟩
  | 54 => ⟨S8192x1024, .f32⟩
  | 55 => ⟨S1x1024, .f32⟩
  | 56 => ⟨S8192x1024, .f32⟩
  | 57 => ⟨S8192x1024, .f32⟩
  | 58 => ⟨S1x1024x3072, .f32⟩
  | 59 => ⟨S1024x3072, .f32⟩
  | 60 => ⟨S8192x3072, .f32⟩
  | 61 => ⟨S8192x16x192, .f32⟩
  | 62 => ⟨S1x512, .f32⟩
  | 63 => ⟨S512, .f32⟩
  | 64 => ⟨S8192x512, .f32⟩
  | 65 => ⟨S_, .f32⟩
  | 66 => ⟨S8192, .f32⟩
  | 67 => ⟨S8192x1, .f32⟩
  | 68 => ⟨S_, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x1, .f32⟩
  | 75 => ⟨S8192x512, .f32⟩
  | 76 => ⟨S8192x512, .f32⟩
  | 77 => ⟨S1x512, .f32⟩
  | 78 => ⟨S8192x512, .f32⟩
  | 79 => ⟨S8192x512, .f32⟩
  | 80 => ⟨S1x512x4096, .f32⟩
  | 81 => ⟨S512x4096, .f32⟩
  | 82 => ⟨S8192x4096, .f32⟩
  | 83 => ⟨S8192x16x256, .f32⟩
  | 84 => ⟨S8192x16x128, .f32⟩
  | 85 => ⟨S8192x16x128, .f32⟩
  | 86 => ⟨S8192x16x128, .f32⟩
  | 87 => ⟨S128, .f32⟩
  | 88 => ⟨S8192x16x128, .f32⟩
  | 89 => ⟨S_, .f32⟩
  | 90 => ⟨S8192x16, .f32⟩
  | 91 => ⟨S8192x16x1, .f32⟩
  | 92 => ⟨S_, .f32⟩
  | 93 => ⟨S8192x16x1, .f32⟩
  | 94 => ⟨S8192x16x1, .f32⟩
  | 95 => ⟨S_, .f32⟩
  | 96 => ⟨S8192x16x1, .f32⟩
  | 97 => ⟨S8192x16x1, .f32⟩
  | 98 => ⟨S8192x16x1, .f32⟩
  | 99 => ⟨S8192x16x128, .f32⟩
  | 100 => ⟨S8192x16x128, .f32⟩
  | 101 => ⟨S1x1x128, .f32⟩
  | 102 => ⟨S8192x16x128, .f32⟩
  | 103 => ⟨S8192x16x128, .f32⟩
  | 104 => ⟨S8192x16x64, .f32⟩
  | 105 => ⟨S64, .f32⟩
  | 106 => ⟨S8192x16x64, .f32⟩
  | 107 => ⟨S_, .f32⟩
  | 108 => ⟨S8192x16, .f32⟩
  | 109 => ⟨S8192x16x1, .f32⟩
  | 110 => ⟨S_, .f32⟩
  | 111 => ⟨S8192x16x1, .f32⟩
  | 112 => ⟨S8192x16x1, .f32⟩
  | 113 => ⟨S_, .f32⟩
  | 114 => ⟨S8192x16x1, .f32⟩
  | 115 => ⟨S8192x16x1, .f32⟩
  | 116 => ⟨S8192x16x1, .f32⟩
  | 117 => ⟨S8192x16x64, .f32⟩
  | 118 => ⟨S8192x16x64, .f32⟩
  | 119 => ⟨S1x1x64, .f32⟩
  | 120 => ⟨S8192x16x64, .f32⟩
  | 121 => ⟨S8192x16x64, .f32⟩
  | 122 => ⟨S32, .f32⟩
  | 123 => ⟨S32, .f32⟩
  | 124 => ⟨S_, .f32⟩
  | 125 => ⟨S32, .f32⟩
  | 126 => ⟨S32, .f32⟩
  | 127 => ⟨S_, .f32⟩
  | _ => ⟨S4x2048x4096, .f32⟩

abbrev hbmTy0_1 (i : Nat) : BufTy := match i % 128 with
  | 0 => ⟨S32, .f32⟩
  | 1 => ⟨S32, .f32⟩
  | 2 => ⟨S8192, .f32⟩
  | 3 => ⟨S8192x1, .f32⟩
  | 4 => ⟨S1x32, .f32⟩
  | 5 => ⟨S8192x32, .f32⟩
  | 6 => ⟨S8192x32, .f32⟩
  | 7 => ⟨S8192x32, .f32⟩
  | 8 => ⟨S8192x1x32, .f32⟩
  | 9 => ⟨S8192x1x32, .f32⟩
  | 10 => ⟨S8192x1x32, .f32⟩
  | 11 => ⟨S8192x16x32, .f32⟩
  | 12 => ⟨S8192x16x32, .f32⟩
  | 13 => ⟨S8192x16x32, .f32⟩
  | 14 => ⟨S8192x16x32, .f32⟩
  | 15 => ⟨S8192x16x32, .f32⟩
  | 16 => ⟨S8192x16x32, .f32⟩
  | 17 => ⟨S8192x16x32, .f32⟩
  | 18 => ⟨S8192x16x32, .f32⟩
  | 19 => ⟨S8192x16x32, .f32⟩
  | 20 => ⟨S8192x16x32, .f32⟩
  | 21 => ⟨S8192x16x32, .f32⟩
  | 22 => ⟨S8192x16x32, .f32⟩
  | 23 => ⟨S8192x16x64, .f32⟩
  | 24 => ⟨S128, .f32⟩
  | 25 => ⟨S8192x16x128, .f32⟩
  | 26 => ⟨S_, .f32⟩
  | 27 => ⟨S8192x16, .f32⟩
  | 28 => ⟨S8192x16x1, .f32⟩
  | 29 => ⟨S_, .f32⟩
  | 30 => ⟨S8192x16x1, .f32⟩
  | 31 => ⟨S8192x16x1, .f32⟩
  | 32 => ⟨S_, .f32⟩
  | 33 => ⟨S8192x16x1, .f32⟩
  | 34 => ⟨S8192x16x1, .f32⟩
  | 35 => ⟨S8192x16x1, .f32⟩
  | 36 => ⟨S8192x16x128, .f32⟩
  | 37 => ⟨S8192x16x128, .f32⟩
  | 38 => ⟨S1x1x128, .f32⟩
  | 39 => ⟨S8192x16x128, .f32⟩
  | 40 => ⟨S8192x16x128, .f32⟩
  | 41 => ⟨S64, .f32⟩
  | 42 => ⟨S8192x64, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S_, .f32⟩
  | 50 => ⟨S8192x1, .f32⟩
  | 51 => ⟨S8192x1, .f32⟩
  | 52 => ⟨S8192x1, .f32⟩
  | 53 => ⟨S8192x64, .f32⟩
  | 54 => ⟨S8192x64, .f32⟩
  | 55 => ⟨S1x64, .f32⟩
  | 56 => ⟨S8192x64, .f32⟩
  | 57 => ⟨S8192x64, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S8192, .f32⟩
  | 67 => ⟨S8192x1, .f32⟩
  | 68 => ⟨S1x32, .f32⟩
  | 69 => ⟨S8192x32, .f32⟩
  | 70 => ⟨S8192x32, .f32⟩
  | 71 => ⟨S8192x32, .f32⟩
  | 72 => ⟨S8192x32, .f32⟩
  | 73 => ⟨S8192x32, .f32⟩
  | 74 => ⟨S8192x32, .f32⟩
  | 75 => ⟨S8192x32, .f32⟩
  | 76 => ⟨S8192x32, .f32⟩
  | 77 => ⟨S8192x32, .f32⟩
  | 78 => ⟨S8192x32, .f32⟩
  | 79 => ⟨S8192x32, .f32⟩
  | 80 => ⟨S8192x32, .f32⟩
  | 81 => ⟨S8192x32, .f32⟩
  | 82 => ⟨S8192x64, .f32⟩
  | 83 => ⟨S_, .f32⟩
  | 84 => ⟨S8192x16x64, .f32⟩
  | 85 => ⟨S8192x1x64, .f32⟩
  | 86 => ⟨S8192x16x64, .f32⟩
  | 87 => ⟨S8192x16x256, .f32⟩
  | 88 => ⟨S_, .f32⟩
  | 89 => ⟨S_, .f32⟩
  | 90 => ⟨S_, .f32⟩
  | 91 => ⟨S_, .f32⟩
  | 92 => ⟨S_, .f32⟩
  | 93 => ⟨S8192x16x256, .f32⟩
  | 94 => ⟨S8192x16x256, .f32⟩
  | 95 => ⟨S8192x16x256, .f32⟩
  | 96 => ⟨S8192x4096, .bf16⟩
  | 97 => ⟨S8192x4096, .f32⟩
  | 98 => ⟨S8192x4096, .bf16⟩
  | 99 => ⟨S8192x4096, .f32⟩
  | 100 => ⟨S8192x4096, .bf16⟩
  | 101 => ⟨S8192x2048, .f32⟩
  | 102 => ⟨S8192x2048, .bf16⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_8 : Ref sig .tc := ⟨.hbm, 89, rfl⟩
abbrev main_v70 : Ref sig .tc := ⟨.hbm, 90, rfl⟩
abbrev main_v71 : Ref sig .tc := ⟨.hbm, 91, rfl⟩
abbrev main_cst_9 : Ref sig .tc := ⟨.hbm, 92, rfl⟩
abbrev main_v72 : Ref sig .tc := ⟨.hbm, 93, rfl⟩
abbrev main_v73 : Ref sig .tc := ⟨.hbm, 94, rfl⟩
abbrev main_cst_10 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_11 : Ref sig .tc := ⟨.hbm, 107, rfl⟩
abbrev main_v85 : Ref sig .tc := ⟨.hbm, 108, rfl⟩
abbrev main_v86 : Ref sig .tc := ⟨.hbm, 109, rfl⟩
abbrev main_cst_12 : Ref sig .tc := ⟨.hbm, 110, rfl⟩
abbrev main_v87 : Ref sig .tc := ⟨.hbm, 111, rfl⟩
abbrev main_v88 : Ref sig .tc := ⟨.hbm, 112, rfl⟩
abbrev main_cst_13 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_14 : Ref sig .tc := ⟨.hbm, 124, rfl⟩
abbrev main_v99 : Ref sig .tc := ⟨.hbm, 125, rfl⟩
abbrev main_v100 : Ref sig .tc := ⟨.hbm, 126, rfl⟩
abbrev main_cst_15 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_cst_16 : Ref sig .tc := ⟨.hbm, 154, rfl⟩
abbrev main_v127 : Ref sig .tc := ⟨.hbm, 155, rfl⟩
abbrev main_v128 : Ref sig .tc := ⟨.hbm, 156, rfl⟩
abbrev main_cst_17 : Ref sig .tc := ⟨.hbm, 157, rfl⟩
abbrev main_v129 : Ref sig .tc := ⟨.hbm, 158, rfl⟩
abbrev main_v130 : Ref sig .tc := ⟨.hbm, 159, rfl⟩
abbrev main_cst_18 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_19 : Ref sig .tc := ⟨.hbm, 171, rfl⟩
abbrev main_v141 : Ref sig .tc := ⟨.hbm, 172, rfl⟩
abbrev main_v142 : Ref sig .tc := ⟨.hbm, 173, rfl⟩
abbrev main_cst_20 : Ref sig .tc := ⟨.hbm, 174, rfl⟩
abbrev main_v143 : Ref sig .tc := ⟨.hbm, 175, rfl⟩
abbrev main_v144 : Ref sig .tc := ⟨.hbm, 176, rfl⟩
abbrev main_cst_21 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_cst_22 : Ref sig .tc := ⟨.hbm, 188, rfl⟩
abbrev main_v155 : Ref sig .tc := ⟨.hbm, 189, rfl⟩
abbrev main_v156 : Ref sig .tc := ⟨.hbm, 190, rfl⟩
abbrev main_cst_23 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_cst_24 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_cst_25 : Ref sig .tc := ⟨.hbm, 216, rfl⟩
abbrev main_v180 : Ref sig .tc := ⟨.hbm, 217, rfl⟩
abbrev main_cst_26 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩

abbrev nD : Nat := 1
abbrev τ : Topo := Topo.v7x

variable {F : FTy → Type} [FloatOps F]
-- ==== Kernel7.lean ====
abbrev S8192x4096 : Shape := ⟨2, ![8192, 4096]⟩
abbrev S8192x2048 : Shape := ⟨2, ![8192, 2048]⟩
abbrev S2x11008x4096 : Shape := ⟨3, ![2, 11008, 4096]⟩
abbrev S1x11008x4096 : Shape := ⟨3, ![1, 11008, 4096]⟩
abbrev S2048x256 : Shape := ⟨2, ![2048, 256]⟩
abbrev S2048x128 : Shape := ⟨2, ![2048, 128]⟩
abbrev S1x256x4096 : Shape := ⟨3, ![1, 256, 4096]⟩
abbrev S256x4096 : Shape := ⟨2, ![256, 4096]⟩
abbrev S256x256 : Shape := ⟨2, ![256, 256]⟩
abbrev S512x256 : Shape := ⟨2, ![512, 256]⟩
abbrev S256x512 : Shape := ⟨2, ![256, 512]⟩
abbrev S256 : Shape := ⟨1, ![256]⟩
abbrev S256x1 : Shape := ⟨2, ![256, 1]⟩
abbrev S768x256 : Shape := ⟨2, ![768, 256]⟩
abbrev S256x768 : Shape := ⟨2, ![256, 768]⟩
abbrev S256x128 : Shape := ⟨2, ![256, 128]⟩
abbrev S1024x256 : Shape := ⟨2, ![1024, 256]⟩
abbrev S256x1024 : Shape := ⟨2, ![256, 1024]⟩
abbrev S512x128 : Shape := ⟨2, ![512, 128]⟩
abbrev S1280x256 : Shape := ⟨2, ![1280, 256]⟩
abbrev S256x1280 : Shape := ⟨2, ![256, 1280]⟩
abbrev S768x128 : Shape := ⟨2, ![768, 128]⟩
abbrev S1536x256 : Shape := ⟨2, ![1536, 256]⟩
abbrev S256x1536 : Shape := ⟨2, ![256, 1536]⟩
abbrev S1024x128 : Shape := ⟨2, ![1024, 128]⟩
abbrev S1792x256 : Shape := ⟨2, ![1792, 256]⟩
abbrev S256x1792 : Shape := ⟨2, ![256, 1792]⟩
abbrev S1280x128 : Shape := ⟨2, ![1280, 128]⟩
abbrev S256x2048 : Shape := ⟨2, ![256, 2048]⟩
abbrev S1536x128 : Shape := ⟨2, ![1536, 128]⟩
abbrev S1792x128 : Shape := ⟨2, ![1792, 128]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x2048, .bf16⟩
  | .hbm, ⟨3, _⟩ => ⟨S2x11008x4096, .f32⟩
  | .hbm, ⟨4, _⟩ => ⟨S8192x2048, .f32⟩
  | .hbm, ⟨5, _⟩ => ⟨S1x11008x4096, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S1x256x4096, .f32⟩
  | .local _ .vmem, ⟨7, _⟩ => ⟨S1x256x4096, .f32⟩
  | .local _ .vmem, ⟨8, _⟩ => ⟨S2048x128, .f32⟩
  | .local _ .vmem, ⟨9, _⟩ => ⟨S2048x128, .f32⟩
  | .local _ .vmem, ⟨10, _⟩ => ⟨S1x256x4096, .bf16⟩
  | .local _ .vmem, ⟨11, _⟩ => ⟨S1x256x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c43_i32 : BitVec 32 := 43#32
  let v2 : BitVec 1 := Scalar.cmpi .slt v1 c43_i32
  let v3 : BitVec 32 := Scalar.extui v2
  let c0_i32 : BitVec 32 := 0#32
  let v4 : BitVec 1 := Scalar.cmpi .ne v3 c0_i32
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c42_i32 : BitVec 32 := 42#32
  let v2 : BitVec 32 := Scalar.minsi v1 c42_i32
  let c1_i32 : BitVec 32 := 1#32
  let c0_i32 : BitVec 32 := 0#32
  let c0_i32_0 : BitVec 32 := 0#32
  ![c1_i32.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c42_i32 : BitVec 32 := 42#32
  let v2 : BitVec 32 := Scalar.minsi v1 c42_i32
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x4096 : Shape := ⟨2, ![8192, 4096]⟩
abbrev S8192x2048 : Shape := ⟨2, ![8192, 2048]⟩
abbrev S2x11008x4096 : Shape := ⟨3, ![2, 11008, 4096]⟩
abbrev S4x2048x16x256 : Shape := ⟨4, ![4, 2048, 16, 256]⟩
abbrev S4x2048x16x128 : Shape := ⟨4, ![4, 2048, 16, 128]⟩
abbrev S4x16x2048x2048 : Shape := ⟨4, ![4, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩
abbrev S1x11008x4096 : Shape := ⟨3, ![1, 11008, 4096]⟩
abbrev S11008x4096 : Shape := ⟨2, ![11008, 4096]⟩

abbrev nBuf : Space → Nat
  | .hbm => 48
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x2048, .bf16⟩
  | .hbm, ⟨3, _⟩ => ⟨S2x11008x4096, .f32⟩
  | .hbm, ⟨4, _⟩ => ⟨S8192x4096, .f32⟩
  | .hbm, ⟨5, _⟩ => ⟨S4x2048x16x256, .f32⟩
  | .hbm, ⟨6, _⟩ => ⟨S8192x4096, .f32⟩
  | .hbm, ⟨7, _⟩ => ⟨S4x2048x16x256, .f32⟩
  | .hbm, ⟨8, _⟩ => ⟨S8192x2048, .f32⟩
  | .hbm, ⟨9, _⟩ => ⟨S4x2048x16x128, .f32⟩
  | .hbm, ⟨10, _⟩ => ⟨S4x16x2048x2048, .f32⟩
  | .hbm, ⟨11, _⟩ => ⟨S_, .f32⟩
  | .hbm, ⟨12, _⟩ => ⟨S_, .f32⟩
  | .hbm, ⟨13, _⟩ => ⟨S4x16x2048x2048, .f32⟩
  | .hbm, ⟨14, _⟩ => ⟨S4x16x2048x2048, .f32⟩
  | .hbm, ⟨15, _⟩ => ⟨S2048, .i32⟩
  | .hbm, ⟨16, _⟩ => ⟨S1x2048, .i32⟩
  | .hbm, ⟨17, _⟩ => ⟨S2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S4x16x2048x2048, .i1⟩
  | .hbm, ⟨25, _⟩ => ⟨S4x16x2048x2048, .f32⟩
  | .hbm, ⟨26, _⟩ => ⟨S4x16x2048x2048, .f32⟩
  | .hbm, ⟨27, _⟩ => ⟨S_, .f32⟩
  | .hbm, ⟨28, _⟩ => ⟨S4x16x2048, .f32⟩
  | .hbm, ⟨29, _⟩ => ⟨S_, .f32⟩
  | .hbm, ⟨30, _⟩ => ⟨S4x16x2048, .f32⟩
  | .hbm, ⟨31, _⟩ => ⟨S4x16x2048, .f32⟩
  | .hbm, ⟨32, _⟩ => ⟨S4x16x2048x1, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S_, .f32⟩
  | .hbm, ⟨37, _⟩ => ⟨S4x16x2048, .f32⟩
  | .hbm, ⟨38, _⟩ => ⟨S4x16x2048x1, .f32⟩
  | .hbm, ⟨39, _⟩ => ⟨S4x16x2048x2048, .f32⟩
  | .hbm, ⟨40, _⟩ => ⟨S4x16x2048x2048, .f32⟩
  | .hbm, ⟨41, _⟩ => ⟨S4x16x128x2048, .f32⟩
  | .hbm, ⟨42, _⟩ => ⟨S4x2048x16x128, .f32⟩
  | .hbm, ⟨43, _⟩ => ⟨S8192x2048, .f32⟩
  | .hbm, ⟨44, _⟩ => ⟨S1x11008x4096, .f32⟩
  | .hbm, ⟨45, _⟩ => ⟨S11008x4096, .f32⟩
  | .hbm, ⟨46, _⟩ => ⟨S1x11008x4096, .f32⟩
  | .hbm, ⟨47, _⟩ => ⟨S1x11008x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel8.lean ====
abbrev S8192x6144 : Shape := ⟨2, ![8192, 6144]⟩
abbrev S8192x2048 : Shape := ⟨2, ![8192, 2048]⟩
abbrev S2048x128 : Shape := ⟨2, ![2048, 128]⟩
abbrev S256x256 : Shape := ⟨2, ![256, 256]⟩
abbrev S256x128 : Shape := ⟨2, ![256, 128]⟩
abbrev S512x256 : Shape := ⟨2, ![512, 256]⟩
abbrev S256x1 : Shape := ⟨2, ![256, 1]⟩
abbrev S768x256 : Shape := ⟨2, ![768, 256]⟩
abbrev S512 : Shape := ⟨1, ![512]⟩
abbrev S512x1 : Shape := ⟨2, ![512, 1]⟩
abbrev S256x512 : Shape := ⟨2, ![256, 512]⟩
abbrev S512x128 : Shape := ⟨2, ![512, 128]⟩
abbrev S1024x256 : Shape := ⟨2, ![1024, 256]⟩
abbrev S768 : Shape := ⟨1, ![768]⟩
abbrev S768x1 : Shape := ⟨2, ![768, 1]⟩
abbrev S256x768 : Shape := ⟨2, ![256, 768]⟩
abbrev S768x128 : Shape := ⟨2, ![768, 128]⟩
abbrev S1280x256 : Shape := ⟨2, ![1280, 256]⟩
abbrev S1024 : Shape := ⟨1, ![1024]⟩
abbrev S1024x1 : Shape := ⟨2, ![1024, 1]⟩
abbrev S256x1024 : Shape := ⟨2, ![256, 1024]⟩
abbrev S1024x128 : Shape := ⟨2, ![1024, 128]⟩
abbrev S1536x256 : Shape := ⟨2, ![1536, 256]⟩
abbrev S1280 : Shape := ⟨1, ![1280]⟩
abbrev S1280x1 : Shape := ⟨2, ![1280, 1]⟩
abbrev S256x1280 : Shape := ⟨2, ![256, 1280]⟩
abbrev S1280x128 : Shape := ⟨2, ![1280, 128]⟩
abbrev S1792x256 : Shape := ⟨2, ![1792, 256]⟩
abbrev S1536 : Shape := ⟨1, ![1536]⟩
abbrev S1536x1 : Shape := ⟨2, ![1536, 1]⟩
abbrev S256x1536 : Shape := ⟨2, ![256, 1536]⟩
abbrev S1536x128 : Shape := ⟨2, ![1536, 128]⟩
abbrev S2048x256 : Shape := ⟨2, ![2048, 256]⟩
abbrev S1792 : Shape := ⟨1, ![1792]⟩
abbrev S1792x1 : Shape := ⟨2, ![1792, 1]⟩
abbrev S256x1792 : Shape := ⟨2, ![256, 1792]⟩
abbrev S1792x128 : Shape := ⟨2, ![1792, 128]⟩
abbrev S2048 : Shape := ⟨1, ![2048]⟩
abbrev S2048x1 : Shape := ⟨2, ![2048, 1]⟩
abbrev S256x2048 : Shape := ⟨2, ![256, 2048]⟩

abbrev nBuf : Space → Nat
  | .hbm => 2
  | .vmem => 8
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel8Ideal.lean ====
variable {F : FTy → Type} [FloatOps F] [Named F]
def κ : String → Option EReal := fun
  | "log2_e" => some (((Real.log 2)⁻¹ : ℝ) : EReal)
  | _ => none
-- ==== Reference8Ideal.lean ====
abbrev S8192x6144 : Shape := ⟨2, ![8192, 6144]⟩
abbrev S4x2048x3x16x128 : Shape := ⟨5, ![4, 2048, 3, 16, 128]⟩
abbrev S4x2048x1x16x128 : Shape := ⟨5, ![4, 2048, 1, 16, 128]⟩
abbrev S4x2048x16x128 : Shape := ⟨4, ![4, 2048, 16, 128]⟩
abbrev S4x16x2048x2048 : Shape := ⟨4, ![4, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x128x2048 : Shape := ⟨4, ![4, 16, 128, 2048]⟩
abbrev S8192x2048 : Shape := ⟨2, ![8192, 2048]⟩

abbrev nBuf : Space → Nat
  | .hbm => 73
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x6144, .f32⟩
  | .hbm, ⟨2, _⟩ => ⟨S4x2048x3x16x128, .f32⟩
  | .hbm, ⟨3, _⟩ => ⟨S4x2048x1x16x128, .f32⟩
  | .hbm, ⟨4, _⟩ => ⟨S4x2048x16x128, .f32⟩
  | .hbm, ⟨5, _⟩ => ⟨S4x2048x1x16x128, .f32⟩
  | .hbm, ⟨6, _⟩ => ⟨S4x2048x16x128, .f32⟩
  | .hbm, ⟨7, _⟩ => ⟨S4x2048x1x16x128, .f32⟩
  | .hbm, ⟨8, _⟩ => ⟨S4x2048x16x128, .f32⟩
  | .hbm, ⟨9, _⟩ => ⟨S4x16x2048x2048, .f32⟩
  | .hbm, ⟨10, _⟩ => ⟨S_, .f32⟩
  | .hbm, ⟨11, _⟩ => ⟨S_, .f32⟩
  | .hbm, ⟨12, _⟩ => ⟨S4x16x2048x2048, .f32⟩
  | .hbm, ⟨13, _⟩ => ⟨S4x16x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S4x16x2048x2048, .f32⟩
  | .hbm, ⟨22, _⟩ => ⟨S_, .f32⟩
  | .hbm, ⟨23, _⟩ => ⟨S4x16x2048x2048, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .i1⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S4x16x2048x2048, .f32⟩
  | .hbm, ⟨37, _⟩ => ⟨S4x16x2048x2048, .f32⟩
  | .hbm, ⟨38, _⟩ => ⟨S4x16x2048x2048, .f32⟩
  | .hbm, ⟨39, _⟩ => ⟨S_, .f32⟩
  | .hbm, ⟨40, _⟩ => ⟨S4x16x2048x2048, .f32⟩
  | .hbm, ⟨41, _⟩ => ⟨S4x16x2048x2048, .f32⟩
  | .hbm, ⟨42, _⟩ => ⟨S4x16x2048x2048, .f32⟩
  | .hbm, ⟨43, _⟩ => ⟨S4x16x2048x2048, .f32⟩
  | .hbm, ⟨44, _⟩ => ⟨S4x16x2048x2048, .i1⟩
  | .hbm, ⟨45, _⟩ => ⟨S4x16x2048x2048, .f32⟩
  | .hbm, ⟨46, _⟩ => ⟨S4x16x2048x2048, .f32⟩
  | .hbm, ⟨47, _⟩ => ⟨S4x16x2048x2048, .f32⟩
  | .hbm, ⟨48, _⟩ => ⟨S4x16x2048x2048, .f32⟩
  | .hbm, ⟨49, _⟩ => ⟨S4x16x2048x2048, .f32⟩
  | .hbm, ⟨50, _⟩ => ⟨S4x16x2048x2048, .f32⟩
  | .hbm, ⟨51, _⟩ => ⟨S4x16x2048x2048, .f32⟩
  | .hbm, ⟨52, _⟩ => ⟨S4x16x2048x2048, .f32⟩
  | .hbm, ⟨53, _⟩ => ⟨S4x16x2048x2048, .f32⟩
  | .hbm, ⟨54, _⟩ => ⟨S_, .f32⟩
  | .hbm, ⟨55, _⟩ => ⟨S_, .f32⟩
  | .hbm, ⟨56, _⟩ => ⟨S4x16x2048x2048, .i1⟩
  | .hbm, ⟨57, _⟩ => ⟨S4x16x2048x2048, .f32⟩
  | .hbm, ⟨58, _⟩ => ⟨S4x16x2048x2048, .f32⟩
  | .hbm, ⟨59, _⟩ => ⟨S_, .f32⟩
  | .hbm, ⟨60, _⟩ => ⟨S_, .f32⟩
  | .hbm, ⟨61, _⟩ => ⟨S4x16x2048x2048, .f32⟩
  | .hbm, ⟨62, _⟩ => ⟨S4x16x2048x2048, .f32⟩
  | .hbm, ⟨63, _⟩ => ⟨S4x16x2048x2048, .f32⟩
  | .hbm, ⟨64, _⟩ => ⟨S4x16x2048x2048, .f32⟩
  | .hbm, ⟨65, _⟩ => ⟨S_, .f32⟩
  | .hbm, ⟨66, _⟩ => ⟨S_, .f32⟩
  | .hbm, ⟨67, _⟩ => ⟨S4x16x2048x2048, .i1⟩
  | .hbm, ⟨68, _⟩ => ⟨S4x16x2048x2048, .f32⟩
  | .hbm, ⟨69, _⟩ => ⟨S4x16x2048x2048, .f32⟩
  | .hbm, ⟨70, _⟩ => ⟨S4x16x128x2048, .f32⟩
  | .hbm, ⟨71, _⟩ => ⟨S4x2048x16x128, .f32⟩
  | .hbm, ⟨72, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_call0_cst : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_v1 : Ref sig .tc := ⟨.hbm, 52, rfl⟩
abbrev main_v21 : Ref sig .tc := ⟨.hbm, 53, rfl⟩
abbrev main_cst_0 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v22 : Ref sig .tc := ⟨.hbm, 58, rfl⟩
abbrev main_call3_cst : Ref sig .tc := ⟨.hbm, 59, rfl⟩
abbrev main_call3_v0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩

abbrev nD : Nat := 1
abbrev τ : Topo := Topo.v7x

variable {F : FTy → Type} [FloatOps F]
-- ==== Proof.SbProj.lean ====
/- The stick-breaking heads' projection: the array that the call leaves is the product of the normed activations with the
   last columns of the layer's input weights, the queries divided by `log 2 · √128`. -/
module

public import proofs.«01_k».proof.Proof.Gen.KernelIdeal.Frame
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

/-- The product of the activations `A` with the second layer's input weights. -/
abbrev PROJ (A : FVec Ideal S8192x4096 .bf16) (W : FVec Ideal S2x4096x7744 .f32) : FVec Ideal S8192x7744 .f32 :=
  Host.dotGeneral (F := Ideal) dot_S8192x4096_S4096x7744_S8192x7744_1_0_0_1_n_n none (extf .f32 A bitsLt_bf16_f32)
    (shapeCast _ (extractStridedSlice S1x4096x7744 ![1, 0, 0] W slices_S2x4096x7744_S1x4096x7744_1_0_0) shapeCasts_S1x4096x7744_S4096x7744)

/-- What the reference computes: the scaled queries, the keys and the values, side by side. -/
abbrev REF (A : FVec Ideal S8192x4096 .bf16) (W : FVec Ideal S2x4096x7744 .f32) : FVec Ideal S8192x6144 .bf16 :=
  truncf .bf16 (concatenate S8192x6144 1
    [⟨S8192x2048, Host.divf (extractStridedSlice S8192x2048 ![0, 1600] (PROJ A W) slices_S8192x7744_S8192x2048_0_1600)
        (broadcastInDim S8192x2048 ![] bcast_S_S8192x2048
          (mulf (Host.log (constant S_ .f32 0x40000000#32)) (Host.sqrt (constant S_ .f32 0x43000000#32))))⟩,
     ⟨S8192x2048, extractStridedSlice S8192x2048 ![0, 3648] (PROJ A W) slices_S8192x7744_S8192x2048_0_3648⟩,
     ⟨S8192x2048, extractStridedSlice S8192x2048 ![0, 5696] (PROJ A W) slices_S8192x7744_S8192x2048_0_5696⟩]
    concatenates_S8192x2048_S8192x2048_S8192x2048_S8192x6144_d1) bitsLt_bf16_f32

end Cert.ReferenceIdeal.Value

namespace Cert.KernelIdeal.Value

open Cert.KernelIdeal Cert.KernelIdeal.Gen
open Cert.ReferenceIdeal.Value (PROJ REF)

variable (m : (ℓ : Loc nD τ sig) → Buf (Elt Ideal) ℓ)

/-- Each window's block at a grid point. -/
theorem idx : ∀ t : Fin cfg0.N, win0_0.index t = ![t.val / 12, 0] ∧ win0_1.index t = ![1, 1600 + t.val % 12 * 512, 0]
    ∧ win0_2.index t = ![t.val / 12, t.val % 12] :=
  (by decide +kernel : ∀ t : Fin grid0.N, _)

/-- The second grid coordinate chooses the scale: the first four column tiles are the queries'. -/
theorem sel : ∀ t : Fin cfg0.N, Scalar.cmpi .slt (BitVec.ofNat 32 ((grid0.coords t) 1).val) 4#32 = BitVec.ofBool (t.val % 12 < 4) :=
  (by decide +kernel : ∀ t : Fin grid0.N, _)

/-- The named scale. -/
theorem scale_eq : Named.named (F := Ideal) κ "q_scale" (φ := .f32) 0x3E0293EE#32 = (((Real.log 2 * Real.sqrt 128)⁻¹ : ℝ) : EReal) :=
  IdealRules.named_const.ideal_named_scalar _ _ _ _ rfl

theorem two_eq : Ideal.ofBits .f32 0x40000000#32 = ((2 : ℝ) : EReal) := by
  simp [Ideal.ofBits, Ideal.ieee, -EReal.coe_mul]; norm_num

theorem dim_eq : Ideal.ofBits .f32 0x43000000#32 = ((128 : ℝ) : EReal) := by
  simp [Ideal.ofBits, Ideal.ieee, -EReal.coe_mul]; norm_num

/-- The reference's divisor is the inverse of the named scale. -/
theorem div_eq (x : EReal) : Ideal.div x (Ideal.log (Ideal.ofBits .f32 0x40000000#32) * Ideal.sqrt (Ideal.ofBits .f32 0x43000000#32))
    = x * (((Real.log 2 * Real.sqrt 128)⁻¹ : ℝ) : EReal) := by
  have h2 : 0 < Real.log 2 := Real.log_pos (by norm_num)
  have h128 : 0 < Real.sqrt 128 := Real.sqrt_pos.2 (by norm_num)
  rw [two_eq, dim_eq, Ideal.log_coe, Ideal.sqrt_coe, if_neg (by norm_num), if_neg (by norm_num), ← EReal.coe_mul,
    Ideal.div_coe (mul_pos h2 h128).ne', one_div]

/-- Where an element of the weights' window lies in the transposed array. -/
theorem emb1 (t : Fin cfg0.N) (y) (a : Fin 3) : ((((View.whole main_v0).slice (win0_1.rect t)).emb y a : Fin _) : ℕ)
    = win0_1.index t a + (y a).val := win0_1.rect_emb_val_off t y a

/-- What a grid point stores at an element of its block is the reference at the element's place in the array. -/
theorem point (c : Dev nD) (t : Fin cfg0.N) (y) : k0_pay1 (grid0.coords t) (iblk m c 0 t) (iblk m c 1 t) y
    = REF (m ((c : Thread nD τ).loc main_arg0)) (m ((c : Thread nD τ).loc main_arg1))
        (((cfg0.win 2).blk t).view.emb y) := by
  have h1 : (((((cfg0.win 2).blk t).view.emb y) 1 : Fin _) : ℕ) = t.val % 12 * 512 + (y 1).val := by blk_simp [idx t]
  have hy : (y 1).val < 512 := (y 1).isLt
  pointwise [k0_pay1, REF, PROJ]
  rw [sel t, scale_eq]
  by_cases hq : t.val % 12 < 4
  · rw [dif_pos (show _ < 2048 by rw [h1]; omega), decide_eq_true hq, div_eq]
    show _ * (((Real.log 2 * Real.sqrt 128)⁻¹ : ℝ) : EReal) = _
    blk_point [iblk, V, idx t] <;> (refine (emb1 t _ _).trans ?_; rw [(idx t).2.1]; simp <;> omega)
  · rw [dif_neg (show ¬ _ < 2048 by rw [h1]; omega), decide_eq_false hq]
    show _ * (1 : EReal) = _
    rw [mul_one]
    by_cases hk : t.val % 12 < 8
    · rw [dif_pos (show _ - 2048 < 2048 by rw [h1]; omega)]
      blk_point [iblk, V, idx t] <;> (refine (emb1 t _ _).trans ?_; rw [(idx t).2.1]; simp <;> omega)
    · rw [dif_neg (show ¬ _ - 2048 < 2048 by rw [h1]; omega)]
      blk_point [iblk, V, idx t] <;> (refine (emb1 t _ _).trans ?_; rw [(idx t).2.1]; simp <;> omega)

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelIdeal.Value

end
-- ==== Proof.SwiGlu.lean ====
/- The feed-forward block's gated hidden activations: the array that the call leaves is silu of the gate's product times
   the up projection's product. -/
module

public import proofs.«01_k».proof.Proof.Gen.Kernel2Ideal.Frame
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ)

/-- The layer's projection of the activations `H` by the two layers' weights `W`. -/
abbrev PROJ (H : FVec Ideal Cert.Reference2Ideal.S8192x4096 .bf16) (W : FVec Ideal Cert.Reference2Ideal.S2x4096x11008 .f32) :
    FVec Ideal Cert.Reference2Ideal.S8192x11008 .f32 :=
  Host.dotGeneral (F := Ideal) Cert.Reference2Ideal.dot_S8192x4096_S4096x11008_S8192x11008_1_0_0_1_n_n none
    (extf .f32 H Cert.Reference2Ideal.Gen.bitsLt_bf16_f32)
    (shapeCast _ (extractStridedSlice Cert.Reference2Ideal.S1x4096x11008 ![1, 0, 0] W Cert.Reference2Ideal.Gen.slices_S2x4096x11008_S1x4096x11008_1_0_0)
      Cert.Reference2Ideal.Gen.shapeCasts_S1x4096x11008_S4096x11008)

/-- What the reference computes of the activations `H` and the two layers' gate and up weights. -/
abbrev REF (H : FVec Ideal Cert.Reference2Ideal.S8192x4096 .bf16) (G U : FVec Ideal Cert.Reference2Ideal.S2x4096x11008 .f32) :
    FVec Ideal Cert.Reference2Ideal.S8192x11008 .bf16 :=
  truncf .bf16 (mulf (mulf (PROJ H G)
    (Host.divf (broadcastInDim Cert.Reference2Ideal.S8192x11008 ![] Cert.Reference2Ideal.Gen.bcast_S_S8192x11008 (constant (F := Ideal) Cert.Reference2Ideal.S_ .f32 0x3F800000#32))
      (addf (broadcastInDim Cert.Reference2Ideal.S8192x11008 ![] Cert.Reference2Ideal.Gen.bcast_S_S8192x11008 (constant (F := Ideal) Cert.Reference2Ideal.S_ .f32 0x3F800000#32))
        (Host.exp (Host.negf (PROJ H G))))))
    (PROJ H U)) Cert.Reference2Ideal.Gen.bitsLt_bf16_f32

/-- Each window's block at a grid point. -/
theorem idx : ∀ t : Fin cfg0.N, win0_0.index t = ![t.val / 43, 0] ∧ win0_1.index t = ![1, 0, t.val % 43]
    ∧ win0_2.index t = ![1, 0, t.val % 43] ∧ win0_3.index t = ![t.val / 43, t.val % 43] :=
  (by decide +kernel : ∀ t : Fin grid0.N, _)

/-- The exponential is never negative. -/
theorem exp_nonneg (x : EReal) : 0 ≤ Ideal.exp x := by
  induction x with
  | bot => exact le_rfl
  | coe r => exact EReal.coe_nonneg.2 (Real.exp_pos r).le
  | top => exact le_top

/-- Dividing by `1 + e^(0 - x)` is multiplying by the logistic function. -/
theorem silu_eq (x : EReal) : Ideal.div x (1 + Ideal.exp (0 - x)) = x * Ideal.div 1 (1 + Ideal.exp (-x)) := by
  have h : (1 + Ideal.exp (-x)) ≠ 0 := by
    have h1 : (0 : EReal) < 1 + Ideal.exp (-x) := lt_of_lt_of_le zero_lt_one (le_add_of_nonneg_right (exp_nonneg _))
    exact h1.ne'
  rw [zero_sub, Ideal.div, Ideal.div, if_neg h, if_neg h, one_mul]

/-- What a grid point stores at an element of its block is the reference at the element's place in the array. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  pointwise [k0_pay1, REF, PROJ]
  simp only [silu_eq]
  blk_point [iblk, V, idx t]

/-- The array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel2Ideal.Value

end
-- ==== Proof.FfnDown.lean ====
/- The feed-forward block's second product with the residual: the array that the call leaves is the residual plus the
   product of the hidden activations with the down projection. -/
module

public import proofs.«01_k».proof.Proof.Gen.Kernel3Ideal.Frame
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

variable (m : (ℓ : Loc nD τ sig) → Buf (Elt Ideal) ℓ)

/-- What the reference computes of the hidden activations `A`, the weights `W` and the residual `X`. -/
abbrev REF (A : FVec Ideal Cert.Reference3Ideal.S8192x11008 .bf16) (W : FVec Ideal Cert.Reference3Ideal.S1x11008x4096 .bf16)
    (X : FVec Ideal Cert.Reference3Ideal.S8192x4096 .f32) : FVec Ideal Cert.Reference3Ideal.S8192x4096 .f32 :=
  addf X (Host.dotGeneral (F := Ideal) Cert.Reference3Ideal.dot_S8192x11008_S11008x4096_S8192x4096_1_0_0_1_n_n none
    (extf .f32 A Cert.Reference3Ideal.Gen.bitsLt_bf16_f32)
    (extf .f32 (shapeCast _ W Cert.Reference3Ideal.Gen.shapeCasts_S1x11008x4096_S11008x4096) Cert.Reference3Ideal.Gen.bitsLt_bf16_f32))

/-- Each window's block at a grid point. -/
theorem idx : ∀ t : Fin cfg0.N, win0_0.index t = ![t.val / 8, 0] ∧ win0_1.index t = ![0, 0, t.val % 8]
    ∧ win0_2.index t = ![t.val / 8, t.val % 8] ∧ win0_3.index t = ![t.val / 8, t.val % 8] :=
  (by decide +kernel : ∀ t : Fin grid0.N, _)

/-- What a grid point stores at an element of its block is the reference at the element's place in the array. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  pointwise [k0_pay1, REF]
  blk_point [iblk, V, idx t]

/-- The array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel3Ideal.Value

end
-- ==== Proof.OutProj.lean ====
/- The output projection with the residual: the array that the call leaves is the residual plus the product of the
   mixed head groups with the layer's output weights. -/
module

public import proofs.«01_k».proof.Proof.Gen.Kernel4Ideal.Frame
public import proofs.«01_k».proof.Proof.Gen.Reference4Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

variable (m : (ℓ : Loc nD τ sig) → Buf (Elt Ideal) ℓ)

/-- What the reference computes of the mixed heads `A`, the two layers' weights `W` and the residual `X`. -/
abbrev REF (A : FVec Ideal Cert.Reference4Ideal.S8192x4096 .bf16) (W : FVec Ideal Cert.Reference4Ideal.S2x4096x4096 .f32)
    (X : FVec Ideal Cert.Reference4Ideal.S8192x4096 .f32) : FVec Ideal Cert.Reference4Ideal.S8192x4096 .f32 :=
  addf X (Host.dotGeneral (F := Ideal) Cert.Reference4Ideal.dot_S8192x4096_S4096x4096_S8192x4096_1_0_0_1_n_n none
    (extf .f32 A Cert.Reference4Ideal.Gen.bitsLt_bf16_f32)
    (shapeCast _ (extractStridedSlice Cert.Reference4Ideal.S1x4096x4096 ![1, 0, 0] W Cert.Reference4Ideal.Gen.slices_S2x4096x4096_S1x4096x4096_1_0_0)
      Cert.Reference4Ideal.Gen.shapeCasts_S1x4096x4096_S4096x4096))

/-- Each window's block at a grid point. -/
theorem idx : ∀ t : Fin cfg0.N, win0_0.index t = ![t.val / 8, 0] ∧ win0_1.index t = ![1, 0, t.val % 8]
    ∧ win0_2.index t = ![t.val / 8, t.val % 8] ∧ win0_3.index t = ![t.val / 8, t.val % 8] :=
  (by decide +kernel : ∀ t : Fin grid0.N, _)

/-- What a grid point stores at an element of its block is the reference at the element's place in the array. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  pointwise [k0_pay1, REF]
  blk_point [iblk, V, idx t]

/-- The array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel4Ideal.Value

end
-- ==== Proof.Layer.Terms.lean ====
/- The steps of the reference, from the two head groups' outputs to the layer's result, as functions of the arrays that
   each step reads. -/
module

public import proofs.«01_k».proof.Proof.Gen.Reference5Ideal.Run
public import Idealize.ShloMosaic.Lib.Pipeline.ValueKit

@[expose] public section

set_option maxRecDepth 16384

noncomputable section

open Idealize.ShloMosaic Idealize.ShloMosaic.TcCoe Idealize.SL.Sem

namespace Cert.Reference5Ideal.Value

open Cert.Reference5Ideal Cert.Reference5Ideal.Gen

/-- A row of length 2048 divided by its root mean square, times the gain. -/
abbrev NORM2048 (A : FVec Ideal S8192x2048 .f32) (G : FVec Ideal S1x2048 .f32) : FVec Ideal S8192x2048 .f32 :=
  mulf (mulf A (broadcastInDim S8192x2048 ![0, 1] bcast_S8192x1_S8192x2048_0_1 (Host.rsqrt (addf
      (Host.divf (broadcastInDim S8192x1 ![0] bcast_S8192_S8192x1_0
          (Host.reduceAdd (mulf A A) (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 G)

/-- A row of length 4096 divided by its root mean square, times the gain. -/
abbrev NORM4096 (A : FVec Ideal S8192x4096 .f32) (G : FVec Ideal S1x4096 .f32) : FVec Ideal S8192x4096 .f32 :=
  mulf (mulf A (broadcastInDim S8192x4096 ![0, 1] bcast_S8192x1_S8192x4096_0_1 (Host.rsqrt (addf
      (Host.divf (broadcastInDim S8192x1 ![0] bcast_S8192_S8192x1_0
          (Host.reduceAdd (mulf A A) (constant S_ .f32 0x00000000#32) reducesTo_S8192x4096_S8192_d1 h_S_))
        (broadcastInDim S8192x1 ![] bcast_S_S8192x1 (constant S_ .f32 0x45800000#32)))
      (broadcastInDim S8192x1 ![] bcast_S_S8192x1 (constant S_ .f32 0x358637BD#32))))))
    (broadcastInDim S8192x4096 ![0, 1] bcast_S1x4096_S8192x4096_0_1 G)

/-- The same of the memory's rows. -/
abbrev NORMMEM (A : FVec Ideal S1024x4096 .f32) (G : FVec Ideal S1x4096 .f32) : FVec Ideal S1024x4096 .f32 :=
  mulf (mulf A (broadcastInDim S1024x4096 ![0, 1] bcast_S1024x1_S1024x4096_0_1 (Host.rsqrt (addf
      (Host.divf (broadcastInDim S1024x1 ![0] bcast_S1024_S1024x1_0
          (Host.reduceAdd (mulf A A) (constant S_ .f32 0x00000000#32) reducesTo_S1024x4096_S1024_d1 h_S_))
        (broadcastInDim S1024x1 ![] bcast_S_S1024x1 (constant S_ .f32 0x45800000#32)))
      (broadcastInDim S1024x1 ![] bcast_S_S1024x1 (constant S_ .f32 0x358637BD#32))))))
    (broadcastInDim S1024x4096 ![0, 1] bcast_S1x4096_S1024x4096_0_1 G)

/-- The two head groups' outputs, each normed, side by side. -/
abbrev MIXED (A B : FVec Ideal S8192x2048 .f32) (GA GB : FVec Ideal S1x2048 .f32) : FVec Ideal S8192x4096 .f32 :=
  concatenate S8192x4096 1 [⟨S8192x2048, NORM2048 A GA⟩, ⟨S8192x2048, NORM2048 B GB⟩] concatenates_S8192x2048_S8192x2048_S8192x4096_d1

/-- The residual stream after the output projection. -/
abbrev OUT (X : FVec Ideal S8192x4096 .f32) (M : FVec Ideal S8192x4096 .f32) (W : FVec Ideal S2x4096x4096 .f32) : FVec Ideal S8192x4096 .f32 :=
  addf X (Host.dotGeneral (F := Ideal) dot_S8192x4096_S4096x4096_S8192x4096_1_0_0_1_n_n none M
    (shapeCast _ (extractStridedSlice S1x4096x4096 ![1, 0, 0] W slices_S2x4096x4096_S1x4096x4096_1_0_0) shapeCasts_S1x4096x4096_S4096x4096))

/-- The residual stream after the cross-attention's projection. -/
abbrev XOUT (X : FVec Ideal S8192x4096 .f32) (O : FVec Ideal S8192x512 .f32) (W : FVec Ideal S2x512x4096 .f32) : FVec Ideal S8192x4096 .f32 :=
  addf X (Host.dotGeneral (F := Ideal) dot_S8192x512_S512x4096_S8192x4096_1_0_0_1_n_n none O
    (shapeCast _ (extractStridedSlice S1x512x4096 ![1, 0, 0] W slices_S2x512x4096_S1x512x4096_1_0_0) shapeCasts_S1x512x4096_S512x4096))

/-- The queries of the cross-attention, before their norm. -/
abbrev XQ (H : FVec Ideal S8192x4096 .f32) (W : FVec Ideal S2x4096x512 .f32) : FVec Ideal S8192x512 .f32 :=
  Host.dotGeneral (F := Ideal) dot_S8192x4096_S4096x512_S8192x512_1_0_0_1_n_n none H
    (shapeCast _ (extractStridedSlice S1x4096x512 ![1, 0, 0] W slices_S2x4096x512_S1x4096x512_1_0_0) shapeCasts_S1x4096x512_S4096x512)

/-- The keys and values of the cross-attention, before the keys' norm. -/
abbrev XKV (H : FVec Ideal S1024x4096 .f32) (W : FVec Ideal S2x4096x1024 .f32) : FVec Ideal S1024x1024 .f32 :=
  Host.dotGeneral (F := Ideal) dot_S1024x4096_S4096x1024_S1024x1024_1_0_0_1_n_n none H
    (shapeCast _ (extractStridedSlice S1x4096x1024 ![1, 0, 0] W slices_S2x4096x1024_S1x4096x1024_1_0_0) shapeCasts_S1x4096x1024_S4096x1024)

/-- A head's queries divided by their root mean square, times the gain. -/
abbrev QNORM (Q : FVec Ideal S4x2048x4x128 .f32) (G : FVec Ideal S128 .f32) : FVec Ideal S4x2048x4x128 .f32 :=
  mulf (mulf Q (broadcastInDim S4x2048x4x128 ![0, 1, 2, 3] bcast_S4x2048x4x1_S4x2048x4x128_0_1_2_3 (Host.rsqrt (addf
      (Host.divf (broadcastInDim S4x2048x4x1 ![0, 1, 2] bcast_S4x2048x4_S4x2048x4x1_0_1_2
          (Host.reduceAdd (mulf Q Q) (constant S_ .f32 0x00000000#32) reducesTo_S4x2048x4x128_S4x2048x4_d3 h_S_))
        (broadcastInDim S4x2048x4x1 ![] bcast_S_S4x2048x4x1 (constant S_ .f32 0x43000000#32)))
      (broadcastInDim S4x2048x4x1 ![] bcast_S_S4x2048x4x1 (constant S_ .f32 0x358637BD#32))))))
    (broadcastInDim S4x2048x4x128 ![0, 1, 2, 3] bcast_S1x1x1x128_S4x2048x4x128_0_1_2_3 (broadcastInDim S1x1x1x128 ![3] bcast_S128_S1x1x1x128_3 G))

/-- A head's keys divided by their root mean square, times the gain. -/
abbrev KNORM (K : FVec Ideal S4x256x4x128 .f32) (G : FVec Ideal S128 .f32) : FVec Ideal S4x256x4x128 .f32 :=
  mulf (mulf K (broadcastInDim S4x256x4x128 ![0, 1, 2, 3] bcast_S4x256x4x1_S4x256x4x128_0_1_2_3 (Host.rsqrt (addf
      (Host.divf (broadcastInDim S4x256x4x1 ![0, 1, 2] bcast_S4x256x4_S4x256x4x1_0_1_2
          (Host.reduceAdd (mulf K K) (constant S_ .f32 0x00000000#32) reducesTo_S4x256x4x128_S4x256x4_d3 h_S_))
        (broadcastInDim S4x256x4x1 ![] bcast_S_S4x256x4x1 (constant S_ .f32 0x43000000#32)))
      (broadcastInDim S4x256x4x1 ![] bcast_S_S4x256x4x1 (constant S_ .f32 0x358637BD#32))))))
    (broadcastInDim S4x256x4x128 ![0, 1, 2, 3] bcast_S1x1x1x128_S4x256x4x128_0_1_2_3 (broadcastInDim S1x1x1x128 ![3] bcast_S128_S1x1x1x128_3 G))

/-- The scores of the normed queries against the normed keys. -/
abbrev SCORES (Q : FVec Ideal S4x2048x4x128 .f32) (K : FVec Ideal S4x256x4x128 .f32) : FVec Ideal S4x4x2048x256 .f32 :=
  Host.divf (Host.dotGeneral (F := Ideal) dot_S4x2048x4x128_S4x256x4x128_S4x4x2048x256_3_3_1_1_02_02 none Q K)
    (broadcastInDim S4x4x2048x256 ![] bcast_S_S4x4x2048x256 (Host.sqrt (constant S_ .f32 0x43000000#32)))

/-- The scores' exponentials, each row's maximum subtracted. -/
abbrev EXPS (Z : FVec Ideal S4x4x2048x256 .f32) : FVec Ideal S4x4x2048x256 .f32 :=
  Host.exp (subf Z (broadcastInDim S4x4x2048x256 ![0, 1, 2, 3] bcast_S4x4x2048x1_S4x4x2048x256_0_1_2_3
    (broadcastInDim S4x4x2048x1 ![0, 1, 2] bcast_S4x4x2048_S4x4x2048x1_0_1_2
      (maximumf (broadcastInDim S4x4x2048 ![] bcast_S_S4x4x2048 (constant S_ .f32 0xFF800000#32))
        (Host.reduce FloatOps.maximumf Z (constant S_ .f32 0xFF800000#32) reducesTo_S4x4x2048x256_S4x4x2048_d3 h_S_)))))

/-- The attention's output: the values' average by the exponentials `E`, the heads side by side. -/
abbrev ATTN (E : FVec Ideal S4x4x2048x256 .f32) (V : FVec Ideal S4x256x4x128 .f32) : FVec Ideal S8192x512 .f32 :=
  shapeCast _ (transpose S4x2048x4x128 [0, 3, 1, 2] (Host.dotGeneral (F := Ideal) dot_S4x256x4x128_S4x4x2048x256_S4x4x128x2048_1_3_3_2_02_01 none V
    (Host.divf E (broadcastInDim S4x4x2048x256 ![0, 1, 2, 3] bcast_S4x4x2048x1_S4x4x2048x256_0_1_2_3
      (broadcastInDim S4x4x2048x1 ![0, 1, 2] bcast_S4x4x2048_S4x4x2048x1_0_1_2
        (Host.reduceAdd E (constant S_ .f32 0x00000000#32) reducesTo_S4x4x2048x256_S4x4x2048_d3 h_S_)))))
    transposes_S4x4x128x2048_S4x2048x4x128_0_3_1_2) shapeCasts_S4x2048x4x128_S8192x512

/-- A projection of the feed-forward network. -/
abbrev FFN (H : FVec Ideal S8192x4096 .f32) (W : FVec Ideal S2x4096x11008 .f32) : FVec Ideal S8192x11008 .f32 :=
  Host.dotGeneral (F := Ideal) dot_S8192x4096_S4096x11008_S8192x11008_1_0_0_1_n_n none H
    (shapeCast _ (extractStridedSlice S1x4096x11008 ![1, 0, 0] W slices_S2x4096x11008_S1x4096x11008_1_0_0) shapeCasts_S1x4096x11008_S4096x11008)

/-- The gated product of the two projections. -/
abbrev SWIGLU (A U : FVec Ideal S8192x11008 .f32) : FVec Ideal S8192x11008 .f32 :=
  mulf (mulf A (Host.divf (broadcastInDim S8192x11008 ![] bcast_S_S8192x11008 (constant S_ .f32 0x3F800000#32))
    (addf (broadcastInDim S8192x11008 ![] bcast_S_S8192x11008 (constant S_ .f32 0x3F800000#32)) (Host.exp (Host.negf A))))) U

/-- The residual stream after the feed-forward network. -/
abbrev DOWN (X : FVec Ideal S8192x4096 .f32) (P : FVec Ideal S8192x11008 .f32) (W : FVec Ideal S1x11008x4096 .bf16) : FVec Ideal S8192x4096 .f32 :=
  addf X (Host.dotGeneral (F := Ideal) dot_S8192x11008_S11008x4096_S8192x4096_1_0_0_1_n_n none P
    (extf .f32 (shapeCast _ W shapeCasts_S1x11008x4096_S11008x4096) bitsLt_bf16_f32))

end Cert.Reference5Ideal.Value

end
-- ==== Proof.Layer.Norm.lean ====
/- The calls that norm a row: the two head groups' outputs, the memory, and the residual stream after the cross-attention. -/
module

public import proofs.«01_k».proof.Proof.Gen.Kernel5Ideal.Frame.Region0
public import proofs.«01_k».proof.Proof.Gen.Kernel5Ideal.Frame.Region3
public import proofs.«01_k».proof.Proof.Gen.Kernel5Ideal.Frame.Region6
public import proofs.«01_k».proof.Proof.Layer.Terms
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen
open Cert.Reference5Ideal.Value (NORM2048 NORM4096 NORMMEM MIXED XOUT)

variable (V : (c : Dev nD) → (b : Ref sig .tc) → Buf (Elt Ideal) ((c : Thread nD τ).loc b))

/-- Dividing by 2048 is multiplying by its inverse. -/
theorem div_2048 (x : EReal) : Ideal.div x (Ideal.ofBits .f32 0x45000000#32) = x * Ideal.ofBits .f32 0x3A000000#32 := by
  rw [show Ideal.ofBits .f32 0x45000000#32 = ((2048 : ℝ) : EReal) by simp [Ideal.ofBits, Ideal.ieee, -EReal.coe_mul]; norm_num,
    show Ideal.ofBits .f32 0x3A000000#32 = ((1 / 2048 : ℝ) : EReal) by simp [Ideal.ofBits, Ideal.ieee, -EReal.coe_mul]; norm_num,
    Ideal.div_coe (by norm_num)]

/-- Dividing by 4096 is multiplying by its inverse. -/
theorem div_4096 (x : EReal) : Ideal.div x (Ideal.ofBits .f32 0x45800000#32) = x * Ideal.ofBits .f32 0x39800000#32 := by
  rw [show Ideal.ofBits .f32 0x45800000#32 = ((4096 : ℝ) : EReal) by simp [Ideal.ofBits, Ideal.ieee, -EReal.coe_mul]; norm_num,
    show Ideal.ofBits .f32 0x39800000#32 = ((1 / 4096 : ℝ) : EReal) by simp [Ideal.ofBits, Ideal.ieee, -EReal.coe_mul]; norm_num,
    Ideal.div_coe (by norm_num)]

/-- The blocks of the group norms. -/
theorem idx0 : ∀ t : Fin cfg0.N, win0_0.index t = ![t.val, 0] ∧ win0_1.index t = ![t.val, 0]
    ∧ win0_2.index t = ![0, 0] ∧ win0_3.index t = ![0, 0] ∧ win0_4.index t = ![t.val, 0] :=
  (by decide +kernel : ∀ t : Fin grid0.N, _)

/-- The first group's half of the row. -/
theorem left0 (c : Dev nD) (t : Fin cfg0.N) (i : S256x2048.Idx) (j : Cert.Reference5Ideal.S8192x4096.Idx)
    (h0 : (j 0 : ℕ) = t.val * 256 + i 0) (h1 : (j 1 : ℕ) = i 1) :
    k0_pay1 (F := Ideal) (iblk0 V c 0 t) (iblk0 V c 2 t) i
      = MIXED (V c main_arg0) (V c main_arg1) (V c main_v6) (V c main_v7) j := by
  have hi : (i 1).val < 2048 := (i 1).isLt
  pointwise [k0_pay1, MIXED, NORM2048]
  rw [dif_pos (show _ < 2048 by rw [h1]; exact hi)]
  simp only [div_2048, zero_add]
  blk_point [iblk0, idx0 t, h0, h1]

/-- The second group's half of the row. -/
theorem right0 (c : Dev nD) (t : Fin cfg0.N) (i : S256x2048.Idx) (j : Cert.Reference5Ideal.S8192x4096.Idx)
    (h0 : (j 0 : ℕ) = t.val * 256 + i 0) (h1 : (j 1 : ℕ) = 2048 + i 1) :
    k0_pay2 (F := Ideal) (iblk0 V c 1 t) (iblk0 V c 3 t) i
      = MIXED (V c main_arg0) (V c main_arg1) (V c main_v6) (V c main_v7) j := by
  have hi : (i 1).val < 2048 := (i 1).isLt
  pointwise [k0_pay2, MIXED, NORM2048]
  rw [dif_neg (show ¬ _ < 2048 by rw [h1]; omega)]
  simp only [div_2048, zero_add]
  blk_point [iblk0, idx0 t, h0, h1]

theorem point0 (c : Dev nD) (t : Fin cfg0.N) (y) : out0_4 (iblk0 V c 0 t) (iblk0 V c 1 t) (iblk0 V c 2 t) (iblk0 V c 3 t) y
    = MIXED (V c main_arg0) (V c main_arg1) (V c main_v6) (V c main_v7) (((cfg0.win 4).blk t).view.emb y) := by
  unfold out0_4
  canon_tiles x h
  · refine Eq.trans ?_ (right0 V c t x _ ?_ ?_)
    · pointwise [k0_pay2]
      blk_ext
    all_goals (blk_simp [idx0 t] <;> try omega)
  · refine Eq.trans ?_ (left0 V c t x _ ?_ ?_)
    · pointwise [k0_pay1]
      blk_ext
    all_goals (blk_simp [idx0 t] <;> try omega)

/-- The array that the group norms leave. -/
theorem final0 (c : Dev nD) : (dat0 V c).arrAt 4 cfg0.N
    = truncf .bf16 (MIXED (V c main_arg0) (V c main_arg1) (V c main_v6) (V c main_v7)) bitsLt_bf16_f32 := by
  refine (dat0 V c).arrAt_eq_of_covers 4 _ (by decide +kernel) fun t _ y => ?_
  blk_simp
  rw [after0_4]
  exact point0 V c t y

/-- The blocks of the memory's norm. -/
theorem idx3 : ∀ t : Fin cfg3.N, win3_0.index t = ![t.val, 0] ∧ win3_1.index t = ![0, 0] ∧ win3_2.index t = ![t.val, 0] :=
  (by decide +kernel : ∀ t : Fin grid3.N, _)

theorem point3 (c : Dev nD) (t : Fin cfg3.N) (y) : k3_pay1 (iblk3 V c 0 t) (iblk3 V c 1 t) y
    = truncf .bf16 (NORMMEM (V c main_v1) (V c main_v19)) bitsLt_bf16_f32 (((cfg3.win 2).blk t).view.emb y) := by
  pointwise [k3_pay1, NORMMEM]
  simp only [div_4096, zero_add]
  blk_point [iblk3, idx3 t]

/-- The array that the memory's norm leaves. -/
theorem final3 (c : Dev nD) : (dat3 V c).arrAt 2 cfg3.N
    = truncf .bf16 (NORMMEM (V c main_v1) (V c main_v19)) bitsLt_bf16_f32 := by
  refine (dat3 V c).arrAt_eq_of_covers 2 _ (by decide +kernel) fun t _ y => ?_
  blk_simp
  rw [after3_2]; frame_out
  exact point3 V c t y

/-- The blocks of the cross-attention's projection. -/
theorem idx6 : ∀ t : Fin cfg6.N, win6_0.index t = ![t.val, 0] ∧ win6_1.index t = ![1, 0, 0]
    ∧ win6_2.index t = ![t.val, 0] ∧ win6_3.index t = ![0, 0] ∧ win6_4.index t = ![t.val, 0] ∧ win6_5.index t = ![t.val, 0] :=
  (by decide +kernel : ∀ t : Fin grid6.N, _)

theorem point6x (c : Dev nD) (t : Fin cfg6.N) (y) : k6_pay1 (iblk6 V c 2 t) (iblk6 V c 0 t) (iblk6 V c 1 t) y
    = XOUT (V c main_v9) (extf .f32 (V c main_v25 : FVec Ideal S8192x512 .bf16) bitsLt_bf16_f32) (V c main_arg13)
        (((cfg6.win 4).blk t).view.emb y) := by
  pointwise [k6_pay1, XOUT]
  blk_point [iblk6, idx6 t]

/-- The residual stream that the cross-attention's projection leaves. -/
theorem final6x (c : Dev nD) : (dat6 V c).arrAt 4 cfg6.N
    = XOUT (V c main_v9) (extf .f32 (V c main_v25 : FVec Ideal S8192x512 .bf16) bitsLt_bf16_f32) (V c main_arg13) := by
  refine (dat6 V c).arrAt_eq_of_covers 4 _ (by decide +kernel) fun t _ y => ?_
  blk_simp
  rw [after6_4]; frame_out
  exact point6x V c t y

theorem point6h (c : Dev nD) (t : Fin cfg6.N) (y) : k6_pay2 (iblk6 V c 2 t) (iblk6 V c 0 t) (iblk6 V c 1 t) (iblk6 V c 3 t) y
    = truncf .bf16 (NORM4096 (XOUT (V c main_v9) (extf .f32 (V c main_v25 : FVec Ideal S8192x512 .bf16) bitsLt_bf16_f32) (V c main_arg13))
        (V c main_v28)) bitsLt_bf16_f32 (((cfg6.win 5).blk t).view.emb y) := by
  pointwise [k6_pay2, k6_pay1, XOUT, NORM4096]
  simp only [div_4096, zero_add]
  blk_point [iblk6, idx6 t]

/-- Its norm, which the same call leaves. -/
theorem final6h (c : Dev nD) : (dat6 V c).arrAt 5 cfg6.N
    = truncf .bf16 (NORM4096 (XOUT (V c main_v9) (extf .f32 (V c main_v25 : FVec Ideal S8192x512 .bf16) bitsLt_bf16_f32) (V c main_arg13))
        (V c main_v28)) bitsLt_bf16_f32 := by
  refine (dat6 V c).arrAt_eq_of_covers 5 _ (by decide +kernel) fun t _ y => ?_
  blk_simp
  rw [after6_5]; frame_out
  exact point6h V c t y

end Cert.Kernel5Ideal.Value

end
-- ==== Proof.Layer.XQ.lean ====
/- The call that norms the residual stream and projects the queries of the cross-attention, each head normed and scaled. -/
module

public import proofs.«01_k».proof.Proof.Gen.Kernel5Ideal.Frame.Region2
public import proofs.«01_k».proof.Proof.Layer.Norm

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen
open Cert.Reference5Ideal.Value (NORM4096 XQ QNORM)

variable (V : (c : Dev nD) → (b : Ref sig .tc) → Buf (Elt Ideal) ((c : Thread nD τ).loc b))

/-- Dividing by 128 is multiplying by its inverse. -/
theorem div_128 (x : EReal) : Ideal.div x (Ideal.ofBits .f32 0x43000000#32) = x * Ideal.ofBits .f32 0x3C000000#32 := by
  rw [show Ideal.ofBits .f32 0x43000000#32 = ((128 : ℝ) : EReal) by simp [Ideal.ofBits, Ideal.ieee, -EReal.coe_mul]; norm_num,
    show Ideal.ofBits .f32 0x3C000000#32 = ((1 / 128 : ℝ) : EReal) by simp [Ideal.ofBits, Ideal.ieee, -EReal.coe_mul]; norm_num,
    Ideal.div_coe (by norm_num)]

/-- Each head's queries normed, and scaled by the constant `s`. -/
abbrev QHEADS (Q : FVec Ideal Cert.Reference5Ideal.S8192x512 .f32) (G : FVec Ideal S1x128 .f32) (s : Ideal .f32) :
    FVec Ideal Cert.Reference5Ideal.S8192x512 .f32 :=
  mulf (shapeCast Cert.Reference5Ideal.S8192x512
      (QNORM (shapeCast _ Q Cert.Reference5Ideal.Gen.shapeCasts_S8192x512_S4x2048x4x128) (shapeCast _ G shapeCasts_S1x128_S128))
      Cert.Reference5Ideal.Gen.shapeCasts_S4x2048x4x128_S8192x512)
    (broadcast _ s)

/-- The constant that the kernel scales the queries by. -/
abbrev xs : Ideal .f32 := Named.named (F := Ideal) κ "x_scale" 0x3DB504F3#32

/-- The blocks of the query projection. -/
theorem idx2 : ∀ t : Fin cfg2.N, win2_0.index t = ![t.val, 0] ∧ win2_1.index t = ![0, 0]
    ∧ win2_2.index t = ![1, 0, 0] ∧ win2_3.index t = ![0, 0] ∧ win2_4.index t = ![t.val, 0] :=
  (by decide +kernel : ∀ t : Fin grid2.N, _)

/-- The projection that the heads are cut from. -/
theorem proj2 (c : Dev nD) (t : Fin cfg2.N) (i : S512x512.Idx) (j : Cert.Reference5Ideal.S8192x512.Idx)
    (h0 : (j 0 : ℕ) = t.val * 512 + i 0) (h1 : (j 1 : ℕ) = i 1) :
    k2_pay2 (F := Ideal) (iblk2 V c 0 t) (iblk2 V c 1 t) (iblk2 V c 2 t) i
      = XQ (NORM4096 (V c main_v9) (V c main_v14)) (V c main_arg9) j := by
  pointwise [k2_pay2, NORM4096, XQ]
  simp only [div_4096, zero_add]
  blk_point [iblk2, idx2 t, h0, h1]

/-- The first head. -/
theorem head2_0 (X0 : Vec Ideal S512x4096 .f32) (X1 : Vec Ideal S1x4096 .f32) (X2 : Vec Ideal S1x4096x512 .f32) (G : FVec Ideal S1x128 .f32)
    (Q : FVec Ideal Cert.Reference5Ideal.S8192x512 .f32) (r : ℕ)
    (hP : ∀ (i : S512x512.Idx) (j : Cert.Reference5Ideal.S8192x512.Idx), (j 0 : ℕ) = r + i 0 → (j 1 : ℕ) = i 1 → k2_pay2 (F := Ideal) X0 X1 X2 i = Q j)
    (i : S512x128.Idx) (j : Cert.Reference5Ideal.S8192x512.Idx) (h0 : (j 0 : ℕ) = r + i 0) (h1 : (j 1 : ℕ) = (i 1 : ℕ)) :
    k2_pay3 (F := Ideal) X0 X1 X2 G i = QHEADS Q G xs j := by
  have hi : (i 1).val < 128 := (i 1).isLt
  have hk : ∀ k : Fin 128, (j 1 : ℕ) / 128 * 128 + (k : ℕ) = (k : ℕ) := fun k => by omega
  pointwise [k2_pay3, QNORM]
  simp only [div_128, zero_add]
  refine Ideal.mul_congr (Ideal.mul_congr (Ideal.mul_congr (hP _ _ h0 h1) (congrArg Ideal.rsqrt (Ideal.add_congr (Ideal.mul_congr
    (Finset.sum_congr rfl fun k _ => Ideal.mul_congr (hP _ _ h0 (hk k)) (hP _ _ h0 (hk k))) rfl) rfl))) ?_) rfl
  blk_ext [h1]

/-- The second head. -/
theorem head2_1 (P : FVec Ideal S512x512 .f32) (G : FVec Ideal S1x128 .f32)
    (Q : FVec Ideal Cert.Reference5Ideal.S8192x512 .f32) (r : ℕ)
    (hP : ∀ (i : S512x512.Idx) (j : Cert.Reference5Ideal.S8192x512.Idx), (j 0 : ℕ) = r + i 0 → (j 1 : ℕ) = i 1 → P i = Q j)
    (i : S512x128.Idx) (j : Cert.Reference5Ideal.S8192x512.Idx) (h0 : (j 0 : ℕ) = r + i 0) (h1 : (j 1 : ℕ) = 128 + i 1) :
    k2_pay4 (F := Ideal) P G i = QHEADS Q G xs j := by
  have hi : (i 1).val < 128 := (i 1).isLt
  have hk : ∀ k : Fin 128, (j 1 : ℕ) / 128 * 128 + (k : ℕ) = 128 + (k : ℕ) := fun k => by omega
  pointwise [k2_pay4, QNORM]
  simp only [div_128, zero_add]
  refine Ideal.mul_congr (Ideal.mul_congr (Ideal.mul_congr (hP _ _ h0 h1) (congrArg Ideal.rsqrt (Ideal.add_congr (Ideal.mul_congr
    (Finset.sum_congr rfl fun k _ => Ideal.mul_congr (hP _ _ h0 (hk k)) (hP _ _ h0 (hk k))) rfl) rfl))) ?_) rfl
  blk_ext [h1]

/-- The third head. -/
theorem head2_2 (P : FVec Ideal S512x512 .f32) (G : FVec Ideal S1x128 .f32)
    (Q : FVec Ideal Cert.Reference5Ideal.S8192x512 .f32) (r : ℕ)
    (hP : ∀ (i : S512x512.Idx) (j : Cert.Reference5Ideal.S8192x512.Idx), (j 0 : ℕ) = r + i 0 → (j 1 : ℕ) = i 1 → P i = Q j)
    (i : S512x128.Idx) (j : Cert.Reference5Ideal.S8192x512.Idx) (h0 : (j 0 : ℕ) = r + i 0) (h1 : (j 1 : ℕ) = 256 + i 1) :
    k2_pay5 (F := Ideal) P G i = QHEADS Q G xs j := by
  have hi : (i 1).val < 128 := (i 1).isLt
  have hk : ∀ k : Fin 128, (j 1 : ℕ) / 128 * 128 + (k : ℕ) = 256 + (k : ℕ) := fun k => by omega
  pointwise [k2_pay5, QNORM]
  simp only [div_128, zero_add]
  refine Ideal.mul_congr (Ideal.mul_congr (Ideal.mul_congr (hP _ _ h0 h1) (congrArg Ideal.rsqrt (Ideal.add_congr (Ideal.mul_congr
    (Finset.sum_congr rfl fun k _ => Ideal.mul_congr (hP _ _ h0 (hk k)) (hP _ _ h0 (hk k))) rfl) rfl))) ?_) rfl
  blk_ext [h1]

/-- The fourth head. -/
theorem head2_3 (P : FVec Ideal S512x512 .f32) (G : FVec Ideal S1x128 .f32)
    (Q : FVec Ideal Cert.Reference5Ideal.S8192x512 .f32) (r : ℕ)
    (hP : ∀ (i : S512x512.Idx) (j : Cert.Reference5Ideal.S8192x512.Idx), (j 0 : ℕ) = r + i 0 → (j 1 : ℕ) = i 1 → P i = Q j)
    (i : S512x128.Idx) (j : Cert.Reference5Ideal.S8192x512.Idx) (h0 : (j 0 : ℕ) = r + i 0) (h1 : (j 1 : ℕ) = 384 + i 1) :
    k2_pay1 (F := Ideal) (k2_pay6 P) (k2_pay7 P) G i = QHEADS Q G xs j := by
  have hi : (i 1).val < 128 := (i 1).isLt
  have hk : ∀ k : Fin 128, (j 1 : ℕ) / 128 * 128 + (k : ℕ) = 384 + (k : ℕ) := fun k => by omega
  pointwise [k2_pay1, k2_pay6, k2_pay7, QNORM]
  simp only [div_128, zero_add]
  refine Ideal.mul_congr (Ideal.mul_congr (Ideal.mul_congr (hP _ _ h0 h1) (congrArg Ideal.rsqrt (Ideal.add_congr (Ideal.mul_congr
    (Finset.sum_congr rfl fun k _ => Ideal.mul_congr (hP _ _ h0 (hk k)) (hP _ _ h0 (hk k))) rfl) rfl))) ?_) rfl
  blk_ext [h1]

theorem point2 (c : Dev nD) (t : Fin cfg2.N) (y) : out2_4 (iblk2 V c 0 t) (iblk2 V c 1 t) (iblk2 V c 2 t) (iblk2 V c 3 t) y
    = QHEADS (XQ (NORM4096 (V c main_v9) (V c main_v14)) (V c main_arg9)) (V c main_v15) xs (((cfg2.win 4).blk t).view.emb y) := by
  have hG : iblk2 V c 3 t = V c main_v15 := by
    funext z; blk_point [iblk2, idx2 t]
  unfold_out out2_4
  canon_tiles x h
  all_goals simp (disch := decide) only [View.ld_unit_lit']
  all_goals rw [hG]
  · exact head2_3 _ _ _ _ (proj2 V c t) x _ (by blk_simp [idx2 t] <;> omega) (by blk_simp [idx2 t] <;> omega)
  · exact head2_2 _ _ _ _ (proj2 V c t) x _ (by blk_simp [idx2 t] <;> omega) (by blk_simp [idx2 t] <;> omega)
  · exact head2_1 _ _ _ _ (proj2 V c t) x _ (by blk_simp [idx2 t] <;> omega) (by blk_simp [idx2 t] <;> omega)
  · exact head2_0 _ _ _ _ _ _ (proj2 V c t) x _ (by blk_simp [idx2 t] <;> omega) (by blk_simp [idx2 t] <;> omega)

/-- The array that the query projection leaves. -/
theorem final2 (c : Dev nD) : (dat2 V c).arrAt 4 cfg2.N
    = truncf .bf16 (QHEADS (XQ (NORM4096 (V c main_v9) (V c main_v14)) (V c main_arg9)) (V c main_v15) xs) bitsLt_bf16_f32 := by
  refine (dat2 V c).arrAt_eq_of_covers 4 _ (by decide +kernel) fun t _ y => ?_
  blk_simp
  rw [after2_4]
  exact point2 V c t y

end Cert.Kernel5Ideal.Value

end
-- ==== Proof.Layer.KV.lean ====
/- The call that projects the memory to the keys and values of the cross-attention, each head's keys normed. -/
module

public import proofs.«01_k».proof.Proof.Gen.Kernel5Ideal.Frame.Region4
public import proofs.«01_k».proof.Proof.Layer.XQ

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen
open Cert.Reference5Ideal.Value (XKV KNORM)

variable (V : (c : Dev nD) → (b : Ref sig .tc) → Buf (Elt Ideal) ((c : Thread nD τ).loc b))

theorem flat_keys : Cert.Reference5Ideal.S4x256x4x128.ShapeCasts S1024x512 := by decide

/-- The keys' part of the projection `Z`, by batch, row and head. -/
abbrev KPART (Z : FVec Ideal Cert.Reference5Ideal.S1024x1024 .f32) : FVec Ideal Cert.Reference5Ideal.S4x256x4x128 .f32 :=
  extractStridedSlice _ ![0, 0, 0, 0] (shapeCast _ Z Cert.Reference5Ideal.Gen.shapeCasts_S1024x1024_S4x256x4x256)
    Cert.Reference5Ideal.Gen.slices_S4x256x4x256_S4x256x4x128_0_0_0_0

/-- The values' part. -/
abbrev VPART (Z : FVec Ideal Cert.Reference5Ideal.S1024x1024 .f32) : FVec Ideal Cert.Reference5Ideal.S4x256x4x128 .f32 :=
  extractStridedSlice _ ![0, 0, 0, 128] (shapeCast _ Z Cert.Reference5Ideal.Gen.shapeCasts_S1024x1024_S4x256x4x256)
    Cert.Reference5Ideal.Gen.slices_S4x256x4x256_S4x256x4x128_0_0_0_128

/-- Each head's keys, normed, the heads side by side. -/
abbrev KHEADS (Z : FVec Ideal Cert.Reference5Ideal.S1024x1024 .f32) (G : FVec Ideal S1x128 .f32) : FVec Ideal S1024x512 .f32 :=
  shapeCast S1024x512 (KNORM (KPART Z) (shapeCast _ G shapeCasts_S1x128_S128)) flat_keys

/-- Each head's values, side by side. -/
abbrev VHEADS (Z : FVec Ideal Cert.Reference5Ideal.S1024x1024 .f32) : FVec Ideal S1024x512 .f32 :=
  shapeCast S1024x512 (VPART Z) flat_keys

/-- The blocks of the memory's projection. -/
theorem idx4 : ∀ t : Fin cfg4.N, win4_0.index t = ![t.val, 0] ∧ win4_1.index t = ![1, 0, 0]
    ∧ win4_2.index t = ![0, 0] ∧ win4_3.index t = ![t.val, 0] ∧ win4_4.index t = ![t.val, 0] :=
  (by decide +kernel : ∀ t : Fin grid4.N, _)

/-- The projection that the heads are cut from. -/
theorem proj4 (c : Dev nD) (t : Fin cfg4.N) (i : S512x1024.Idx) (j : Cert.Reference5Ideal.S1024x1024.Idx)
    (h0 : (j 0 : ℕ) = t.val * 512 + i 0) (h1 : (j 1 : ℕ) = i 1) :
    k4_pay3 (F := Ideal) (iblk4 V c 0 t) (iblk4 V c 1 t) i
      = XKV (extf .f32 (V c main_v20 : FVec Ideal S1024x4096 .bf16) bitsLt_bf16_f32) (V c main_arg10) j := by
  pointwise [k4_pay3, XKV]
  blk_point [iblk4, idx4 t, h0, h1]

/-- The first head's keys. -/
theorem keys4_0 (X0 : Vec Ideal S512x4096 .bf16) (X1 : Vec Ideal S1x4096x1024 .f32) (G : FVec Ideal S1x128 .f32)
    (Z : FVec Ideal Cert.Reference5Ideal.S1024x1024 .f32) (r : ℕ)
    (hP : ∀ (i : S512x1024.Idx) (j : Cert.Reference5Ideal.S1024x1024.Idx), (j 0 : ℕ) = r + i 0 → (j 1 : ℕ) = i 1 → k4_pay3 (F := Ideal) X0 X1 i = Z j)
    (i : S512x128.Idx) (j : S1024x512.Idx) (h0 : (j 0 : ℕ) = r + i 0) (h1 : (j 1 : ℕ) = (i 1 : ℕ)) :
    k4_pay4 (F := Ideal) X0 X1 G i = KHEADS Z G j := by
  have hi : (i 1).val < 128 := (i 1).isLt
  have hk : ∀ k : Fin 128, (j 1 : ℕ) / 128 * 256 + (k : ℕ) = (k : ℕ) := fun k => by omega
  have hx : (j 1 : ℕ) / 128 * 256 + (j 1 : ℕ) % 128 = (i 1 : ℕ) := by omega
  pointwise [k4_pay4, KNORM]
  simp only [div_128, zero_add]
  refine Ideal.mul_congr (Ideal.mul_congr (hP _ _ h0 hx) (congrArg Ideal.rsqrt (Ideal.add_congr (Ideal.mul_congr
    (Finset.sum_congr rfl fun k _ => Ideal.mul_congr (hP _ _ h0 (hk k)) (hP _ _ h0 (hk k))) rfl) rfl))) ?_
  blk_ext [h1]

/-- The second head's keys. -/
theorem keys4_1 (X0 : Vec Ideal S512x4096 .bf16) (X1 : Vec Ideal S1x4096x1024 .f32) (G : FVec Ideal S1x128 .f32)
    (Z : FVec Ideal Cert.Reference5Ideal.S1024x1024 .f32) (r : ℕ)
    (hP : ∀ (i : S512x1024.Idx) (j : Cert.Reference5Ideal.S1024x1024.Idx), (j 0 : ℕ) = r + i 0 → (j 1 : ℕ) = i 1 → k4_pay3 (F := Ideal) X0 X1 i = Z j)
    (i : S512x128.Idx) (j : S1024x512.Idx) (h0 : (j 0 : ℕ) = r + i 0) (h1 : (j 1 : ℕ) = 128 + i 1) :
    k4_pay7 (F := Ideal) (k4_pay6 X0 X1) G i = KHEADS Z G j := by
  have hi : (i 1).val < 128 := (i 1).isLt
  have hk : ∀ k : Fin 128, (j 1 : ℕ) / 128 * 256 + (k : ℕ) = 256 + (k : ℕ) := fun k => by omega
  have hx : (j 1 : ℕ) / 128 * 256 + (j 1 : ℕ) % 128 = 256 + (i 1 : ℕ) := by omega
  pointwise [k4_pay6, k4_pay7, KNORM]
  simp only [div_128, zero_add]
  refine Ideal.mul_congr (Ideal.mul_congr (hP _ _ h0 hx) (congrArg Ideal.rsqrt (Ideal.add_congr (Ideal.mul_congr
    (Finset.sum_congr rfl fun k _ => Ideal.mul_congr (hP _ _ h0 (hk k)) (hP _ _ h0 (hk k))) rfl) rfl))) ?_
  blk_ext [h1]

/-- The third head's keys. -/
theorem keys4_2 (P : FVec Ideal S512x1024 .f32) (G : FVec Ideal S1x128 .f32)
    (Z : FVec Ideal Cert.Reference5Ideal.S1024x1024 .f32) (r : ℕ)
    (hP : ∀ (i : S512x1024.Idx) (j : Cert.Reference5Ideal.S1024x1024.Idx), (j 0 : ℕ) = r + i 0 → (j 1 : ℕ) = i 1 → P i = Z j)
    (i : S512x128.Idx) (j : S1024x512.Idx) (h0 : (j 0 : ℕ) = r + i 0) (h1 : (j 1 : ℕ) = 256 + i 1) :
    k4_pay9 (F := Ideal) P G i = KHEADS Z G j := by
  have hi : (i 1).val < 128 := (i 1).isLt
  have hk : ∀ k : Fin 128, (j 1 : ℕ) / 128 * 256 + (k : ℕ) = 512 + (k : ℕ) := fun k => by omega
  have hx : (j 1 : ℕ) / 128 * 256 + (j 1 : ℕ) % 128 = 512 + (i 1 : ℕ) := by omega
  pointwise [k4_pay9, KNORM]
  simp only [div_128, zero_add]
  refine Ideal.mul_congr (Ideal.mul_congr (hP _ _ h0 hx) (congrArg Ideal.rsqrt (Ideal.add_congr (Ideal.mul_congr
    (Finset.sum_congr rfl fun k _ => Ideal.mul_congr (hP _ _ h0 (hk k)) (hP _ _ h0 (hk k))) rfl) rfl))) ?_
  blk_ext [h1]

/-- The fourth head's keys. -/
theorem keys4_3 (P : FVec Ideal S512x1024 .f32) (G : FVec Ideal S1x128 .f32)
    (Z : FVec Ideal Cert.Reference5Ideal.S1024x1024 .f32) (r : ℕ)
    (hP : ∀ (i : S512x1024.Idx) (j : Cert.Reference5Ideal.S1024x1024.Idx), (j 0 : ℕ) = r + i 0 → (j 1 : ℕ) = i 1 → P i = Z j)
    (i : S512x128.Idx) (j : S1024x512.Idx) (h0 : (j 0 : ℕ) = r + i 0) (h1 : (j 1 : ℕ) = 384 + i 1) :
    k4_pay1 (F := Ideal) (k4_pay11 P) (k4_pay12 P) G i = KHEADS Z G j := by
  have hi : (i 1).val < 128 := (i 1).isLt
  have hk : ∀ k : Fin 128, (j 1 : ℕ) / 128 * 256 + (k : ℕ) = 768 + (k : ℕ) := fun k => by omega
  have hx : (j 1 : ℕ) / 128 * 256 + (j 1 : ℕ) % 128 = 768 + (i 1 : ℕ) := by omega
  pointwise [k4_pay1, k4_pay11, k4_pay12, KNORM]
  simp only [div_128, zero_add]
  refine Ideal.mul_congr (Ideal.mul_congr (hP _ _ h0 hx) (congrArg Ideal.rsqrt (Ideal.add_congr (Ideal.mul_congr
    (Finset.sum_congr rfl fun k _ => Ideal.mul_congr (hP _ _ h0 (hk k)) (hP _ _ h0 (hk k))) rfl) rfl))) ?_
  blk_ext [h1]

/-- The first head's values. -/
theorem values4_0 (X0 : Vec Ideal S512x4096 .bf16) (X1 : Vec Ideal S1x4096x1024 .f32) (Z : FVec Ideal Cert.Reference5Ideal.S1024x1024 .f32) (r : ℕ)
    (hP : ∀ (i : S512x1024.Idx) (j : Cert.Reference5Ideal.S1024x1024.Idx), (j 0 : ℕ) = r + i 0 → (j 1 : ℕ) = i 1 → k4_pay3 (F := Ideal) X0 X1 i = Z j)
    (i : S512x128.Idx) (j : S1024x512.Idx) (h0 : (j 0 : ℕ) = r + i 0) (h1 : (j 1 : ℕ) = (i 1 : ℕ)) :
    k4_pay5 (F := Ideal) X0 X1 i = VHEADS Z j := by
  have hi : (i 1).val < 128 := (i 1).isLt
  have hx : (j 1 : ℕ) / 128 * 256 + (128 + (j 1 : ℕ) % 128) = 128 + (i 1 : ℕ) := by omega
  pointwise [k4_pay5]
  exact hP _ _ h0 hx

/-- The second head's values. -/
theorem values4_1 (P : FVec Ideal S512x1024 .f32) (Z : FVec Ideal Cert.Reference5Ideal.S1024x1024 .f32) (r : ℕ)
    (hP : ∀ (i : S512x1024.Idx) (j : Cert.Reference5Ideal.S1024x1024.Idx), (j 0 : ℕ) = r + i 0 → (j 1 : ℕ) = i 1 → P i = Z j)
    (i : S512x128.Idx) (j : S1024x512.Idx) (h0 : (j 0 : ℕ) = r + i 0) (h1 : (j 1 : ℕ) = 128 + i 1) :
    k4_pay8 (F := Ideal) P i = VHEADS Z j := by
  have hi : (i 1).val < 128 := (i 1).isLt
  have hx : (j 1 : ℕ) / 128 * 256 + (128 + (j 1 : ℕ) % 128) = 384 + (i 1 : ℕ) := by omega
  pointwise [k4_pay8]
  exact hP _ _ h0 hx

/-- The third head's values. -/
theorem values4_2 (P : FVec Ideal S512x1024 .f32) (Z : FVec Ideal Cert.Reference5Ideal.S1024x1024 .f32) (r : ℕ)
    (hP : ∀ (i : S512x1024.Idx) (j : Cert.Reference5Ideal.S1024x1024.Idx), (j 0 : ℕ) = r + i 0 → (j 1 : ℕ) = i 1 → P i = Z j)
    (i : S512x128.Idx) (j : S1024x512.Idx) (h0 : (j 0 : ℕ) = r + i 0) (h1 : (j 1 : ℕ) = 256 + i 1) :
    k4_pay10 (F := Ideal) P i = VHEADS Z j := by
  have hi : (i 1).val < 128 := (i 1).isLt
  have hx : (j 1 : ℕ) / 128 * 256 + (128 + (j 1 : ℕ) % 128) = 640 + (i 1 : ℕ) := by omega
  pointwise [k4_pay10]
  exact hP _ _ h0 hx

/-- The fourth head's values. -/
theorem values4_3 (P : FVec Ideal S512x1024 .f32) (Z : FVec Ideal Cert.Reference5Ideal.S1024x1024 .f32) (r : ℕ)
    (hP : ∀ (i : S512x1024.Idx) (j : Cert.Reference5Ideal.S1024x1024.Idx), (j 0 : ℕ) = r + i 0 → (j 1 : ℕ) = i 1 → P i = Z j)
    (i : S512x128.Idx) (j : S1024x512.Idx) (h0 : (j 0 : ℕ) = r + i 0) (h1 : (j 1 : ℕ) = 384 + i 1) :
    k4_pay2 (F := Ideal) P i = VHEADS Z j := by
  have hi : (i 1).val < 128 := (i 1).isLt
  have hx : (j 1 : ℕ) / 128 * 256 + (128 + (j 1 : ℕ) % 128) = 896 + (i 1 : ℕ) := by omega
  pointwise [k4_pay2]
  exact hP _ _ h0 hx

theorem point4k (c : Dev nD) (t : Fin cfg4.N) (y) : out4_3 (iblk4 V c 0 t) (iblk4 V c 1 t) (iblk4 V c 2 t) y
    = KHEADS (XKV (extf .f32 (V c main_v20 : FVec Ideal S1024x4096 .bf16) bitsLt_bf16_f32) (V c main_arg10)) (V c main_v23)
        (((cfg4.win 3).blk t).view.emb y) := by
  have hG : iblk4 V c 2 t = V c main_v23 := by
    funext z; blk_point [iblk4, idx4 t]
  unfold_out out4_3
  canon_tiles x h
  all_goals simp (disch := decide) only [View.ld_unit_lit']
  all_goals rw [hG]
  · exact keys4_3 _ _ _ _ (proj4 V c t) x _ (by blk_simp [idx4 t] <;> omega) (by blk_simp [idx4 t] <;> omega)
  · exact keys4_2 _ _ _ _ (proj4 V c t) x _ (by blk_simp [idx4 t] <;> omega) (by blk_simp [idx4 t] <;> omega)
  · exact keys4_1 _ _ _ _ _ (proj4 V c t) x _ (by blk_simp [idx4 t] <;> omega) (by blk_simp [idx4 t] <;> omega)
  · exact keys4_0 _ _ _ _ _ (proj4 V c t) x _ (by blk_simp [idx4 t] <;> omega) (by blk_simp [idx4 t] <;> omega)

/-- The keys that the memory's projection leaves. -/
theorem final4k (c : Dev nD) : (dat4 V c).arrAt 3 cfg4.N
    = truncf .bf16 (KHEADS (XKV (extf .f32 (V c main_v20 : FVec Ideal S1024x4096 .bf16) bitsLt_bf16_f32) (V c main_arg10)) (V c main_v23)) bitsLt_bf16_f32 := by
  refine (dat4 V c).arrAt_eq_of_covers 3 _ (by decide +kernel) fun t _ y => ?_
  blk_simp
  rw [after4_3]
  exact point4k V c t y

theorem point4v (c : Dev nD) (t : Fin cfg4.N) (y) : out4_4 (iblk4 V c 0 t) (iblk4 V c 1 t) (iblk4 V c 2 t) y
    = VHEADS (XKV (extf .f32 (V c main_v20 : FVec Ideal S1024x4096 .bf16) bitsLt_bf16_f32) (V c main_arg10))
        (((cfg4.win 4).blk t).view.emb y) := by
  unfold_out out4_4
  canon_tiles x h
  all_goals simp (disch := decide) only [View.ld_unit_lit']
  · exact values4_3 _ _ _ (proj4 V c t) x _ (by blk_simp [idx4 t] <;> omega) (by blk_simp [idx4 t] <;> omega)
  · exact values4_2 _ _ _ (proj4 V c t) x _ (by blk_simp [idx4 t] <;> omega) (by blk_simp [idx4 t] <;> omega)
  · exact values4_1 _ _ _ (proj4 V c t) x _ (by blk_simp [idx4 t] <;> omega) (by blk_simp [idx4 t] <;> omega)
  · exact values4_0 _ _ _ _ (proj4 V c t) x _ (by blk_simp [idx4 t] <;> omega) (by blk_simp [idx4 t] <;> omega)

/-- The values that the memory's projection leaves. -/
theorem final4v (c : Dev nD) : (dat4 V c).arrAt 4 cfg4.N
    = truncf .bf16 (VHEADS (XKV (extf .f32 (V c main_v20 : FVec Ideal S1024x4096 .bf16) bitsLt_bf16_f32) (V c main_arg10))) bitsLt_bf16_f32 := by
  refine (dat4 V c).arrAt_eq_of_covers 4 _ (by decide +kernel) fun t _ y => ?_
  blk_simp
  rw [after4_4]
  exact point4v V c t y

end Cert.Kernel5Ideal.Value

end
-- ==== Proof.Layer.Reals.lean ====
/- Extended reals that are real numbers, and the average by exponentials that a softmax row is. -/
module

public import Idealize.ShloMosaic.Lib.Pipeline.ValueKit

@[expose] public section

noncomputable section

open Idealize.ShloMosaic

namespace Cert.Reals

/-- The extended real is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.sum {ι : Type} (s : Finset ι) {f : ι → EReal} (h : ∀ i, IsReal (f i)) : IsReal (∑ i ∈ s, f i) := by
  classical
  refine Finset.induction_on s ⟨0, by simp⟩ fun a s ha ih => ?_
  rw [Finset.sum_insert ha]
  exact (h a).add ih

theorem ofBits_neg_inf : Ideal.ofBits .f32 0xFF800000#32 = ⊥ := by simp [Ideal.ofBits, Ideal.ieee]

/-- The largest of finitely many numbers is one of them. -/
theorem fold_max_mem {n : ℕ} (hn : 0 < n) (f : Fin n → EReal) : ∃ i, Finset.fold max ⊥ f Finset.univ = f i := by
  obtain ⟨i, -, h⟩ := Finset.exists_mem_eq_sup Finset.univ ⟨(⟨0, hn⟩ : Fin n), Finset.mem_univ _⟩ f
  exact ⟨i, h⟩

/-- A nonnegative real factor goes into a sum. -/
theorem sum_mul_nonneg {ι : Type} (s : Finset ι) (f : ι → EReal) (r : ℝ) (hr : 0 ≤ r) :
    (∑ i ∈ s, f i) * (r : EReal) = ∑ i ∈ s, f i * (r : EReal) := by
  classical
  refine Finset.induction_on s (by simp) fun a s ha ih => ?_
  rw [Finset.sum_insert ha, Finset.sum_insert ha, ← ih,
    EReal.right_distrib_of_nonneg_of_ne_top (by exact_mod_cast hr) (EReal.coe_ne_top r)]

/-- The sum of the exponentials of finitely many real numbers is a positive real number. -/
theorem sum_exp_pos {n : ℕ} (hn : 0 < n) (f : Fin n → EReal) (hf : ∀ i, IsReal (f i)) :
    ∃ r : ℝ, 0 < r ∧ ∑ i, Ideal.exp (f i) = (r : EReal) := by
  choose g hg using hf
  refine ⟨∑ i, Real.exp (g i), Finset.sum_pos (fun i _ => Real.exp_pos _) ⟨⟨0, hn⟩, Finset.mem_univ _⟩, ?_⟩
  simp only [hg, Ideal.exp_coe]
  exact (map_sum (⟨⟨(fun r : ℝ => (r : EReal)), EReal.coe_zero⟩, EReal.coe_add⟩ : ℝ →+ EReal) _ _).symm

/-- Dividing the weighted sum by the weights' sum is weighting by the quotients. -/
theorem average {n : ℕ} (hn : 0 < n) (z v : Fin n → EReal) (hz : ∀ i, IsReal (z i)) (b : EReal) (hb : b = ⊥) :
    Ideal.div (∑ i, Ideal.exp (z i - Finset.fold max b z Finset.univ) * v i) (∑ i, Ideal.exp (z i - Finset.fold max b z Finset.univ))
      = ∑ i, v i * Ideal.div (Ideal.exp (z i - max b (Finset.fold max b z Finset.univ)))
          (∑ k, Ideal.exp (z k - max b (Finset.fold max b z Finset.univ))) := by
  subst hb
  rw [max_eq_right bot_le]
  obtain ⟨i0, h0⟩ := fold_max_mem hn z
  obtain ⟨r, hr, hs⟩ := sum_exp_pos hn (fun i => z i - Finset.fold max ⊥ z Finset.univ) fun i => (hz i).sub (h0 ▸ hz i0)
  rw [hs, Ideal.div_coe hr.ne', sum_mul_nonneg _ _ _ (by positivity)]
  refine Finset.sum_congr rfl fun i _ => ?_
  rw [Ideal.div_coe hr.ne', mul_comm (Ideal.exp _) (v i), mul_assoc]

end Cert.Reals

end
-- ==== Proof.Layer.Cross.lean ====
/- The cross-attention of the normed queries on the memory's keys and values, a block of query rows at a time. -/
module

public import proofs.«01_k».proof.Proof.Gen.Kernel5Ideal.Frame.Region5
public import proofs.«01_k».proof.Proof.Layer.KV
public import proofs.«01_k».proof.Proof.Layer.Reals

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen
open Cert.Reference5Ideal.Value (SCORES EXPS ATTN)
open Cert.Reals

variable (V : (c : Dev nD) → (b : Ref sig .tc) → Buf (Elt Ideal) ((c : Thread nD τ).loc b))

/-- The blocks of the cross-attention. -/
theorem idx5 : ∀ t : Fin cfg5.N, win5_0.index t = ![t.val, 0] ∧ win5_1.index t = ![t.val / 4, 0]
    ∧ win5_2.index t = ![t.val / 4, 0] ∧ win5_3.index t = ![t.val, 0] :=
  (by decide +kernel : ∀ t : Fin grid5.N, _)

theorem scores_at (Qn : FVec Ideal Cert.Reference5Ideal.S4x2048x4x128 .f32) (Kn : FVec Ideal Cert.Reference5Ideal.S4x256x4x128 .f32)
    (b : Fin 4) (h : Fin 4) (s : Fin 2048) (m : Fin 256) : SCORES Qn Kn (ix4 b h s m)
      = Ideal.div (∑ x : Fin 128, Qn (ix4 b s h x) * Kn (ix4 b m h x)) (Ideal.sqrt (Ideal.ofBits .f32 0x43000000#32)) := by
  pointwise [SCORES]

open Cert.Reference5Ideal Cert.Reference5Ideal.Gen in
theorem rowmax_at (Z : FVec Ideal S4x4x2048x256 .f32) (b : Fin 4) (h : Fin 4) (s : Fin 2048) :
    Host.reduce FloatOps.maximumf Z (constant S_ .f32 0xFF800000#32) reducesTo_S4x4x2048x256_S4x4x2048_d3 h_S_ (ix3 b h s)
      = Finset.fold max (Ideal.ofBits .f32 0xFF800000#32) (fun x : Fin 256 => Z (ix4 b h s x)) Finset.univ := by
  pointwise

open Cert.Reference5Ideal Cert.Reference5Ideal.Gen in
theorem shifted_at (Z : FVec Ideal S4x4x2048x256 .f32) (M : FVec Ideal S4x4x2048 .f32) (b : Fin 4) (h : Fin 4) (s : Fin 2048) (m : Fin 256) :
    (Host.exp (F := Ideal) (subf Z (broadcastInDim S4x4x2048x256 ![0, 1, 2, 3] bcast_S4x4x2048x1_S4x4x2048x256_0_1_2_3
      (broadcastInDim S4x4x2048x1 ![0, 1, 2] bcast_S4x4x2048_S4x4x2048x1_0_1_2
        (maximumf (broadcastInDim S4x4x2048 ![] bcast_S_S4x4x2048 (constant S_ .f32 0xFF800000#32)) M)))) : FVec Ideal S4x4x2048x256 .f32) (ix4 b h s m)
      = Ideal.exp (Z (ix4 b h s m) - max (Ideal.ofBits .f32 0xFF800000#32) (M (ix3 b h s))) := by
  pointwise

theorem exps_at (Z : FVec Ideal Cert.Reference5Ideal.S4x4x2048x256 .f32)
    (b : Fin 4) (h : Fin 4) (s : Fin 2048) (m : Fin 256) : EXPS Z (ix4 b h s m)
      = Ideal.exp (Z (ix4 b h s m) - max (Ideal.ofBits .f32 0xFF800000#32)
          (Finset.fold max (Ideal.ofBits .f32 0xFF800000#32) (fun x : Fin 256 => Z (ix4 b h s x)) Finset.univ)) :=
  (shifted_at Z _ b h s m).trans (by rw [rowmax_at])

theorem attn_at (E : FVec Ideal Cert.Reference5Ideal.S4x4x2048x256 .f32) (Vn : FVec Ideal Cert.Reference5Ideal.S4x256x4x128 .f32)
    (j : Cert.Reference5Ideal.S8192x512.Idx) (b : Fin 4) (h : Fin 4) (s : Fin 2048) (d : Fin 128)
    (h0 : (j 0 : ℕ) = b * 2048 + s) (h1 : (j 1 : ℕ) = h * 128 + d) : ATTN E Vn j
      = ∑ x : Fin 256, Vn (ix4 b x h d) * Ideal.div (E (ix4 b h s x)) (∑ y : Fin 256, E (ix4 b h s y)) := by
  pointwise [ATTN]
  have e0 : ∀ p, (⟨(j 0 : ℕ) / 2048, p⟩ : Fin 4) = b := fun _ => Fin.ext (by show (j 0 : ℕ) / 2048 = b; omega)
  have e1 : ∀ p, (⟨(j 0 : ℕ) % 2048, p⟩ : Fin 2048) = s := fun _ => Fin.ext (by show (j 0 : ℕ) % 2048 = s; omega)
  have e2 : ∀ p, (⟨(j 1 : ℕ) / 128, p⟩ : Fin 4) = h := fun _ => Fin.ext (by show (j 1 : ℕ) / 128 = h; omega)
  have e3 : ∀ p, (⟨(j 1 : ℕ) % 128, p⟩ : Fin 128) = d := fun _ => Fin.ext (by show (j 1 : ℕ) % 128 = d; omega)
  simp only [e0, e1, e2, e3]

/-- One head of a block of query rows. -/
abbrev HEAD (Q : FVec Ideal S512x128 .bf16) (K W : FVec Ideal S256x128 .bf16) : FVec Ideal S512x128 .bf16 :=
  k5_pay6 (F := Ideal) (k5_pay4 Q K W) (k5_pay5 Q K)

theorem head_eq0 (Q : FVec Ideal S512x128 .bf16) (K W : FVec Ideal S256x128 .bf16) : k5_pay2 (F := Ideal) Q K W = HEAD Q K W := rfl

theorem head_eq2 (Q : FVec Ideal S512x128 .bf16) (K W : FVec Ideal S256x128 .bf16) : k5_pay7 (F := Ideal) Q K W = HEAD Q K W := rfl

theorem head_eq3 (Q : FVec Ideal S512x128 .bf16) (K W : FVec Ideal S256x128 .bf16) :
    k5_pay1 (F := Ideal) (k5_pay8 Q K) (k5_pay9 Q K) W = HEAD Q K W := rfl

/-- A head's exponentials at an index. -/
theorem weights_at (Q : FVec Ideal S512x128 .bf16) (K : FVec Ideal S256x128 .bf16) (a : Fin 512) (m : Fin 256) :
    k5_pay3 (F := Ideal) Q K (ix2 a m) = Ideal.exp ((∑ x : Fin 128, Q (ix2 a x) * K (ix2 m x))
      - Finset.fold max (Ideal.ofBits .f32 0xFF800000#32) (fun y : Fin 256 => ∑ x : Fin 128, Q (ix2 a x) * K (ix2 y x)) Finset.univ) := by
  pointwise [k5_pay3]

theorem head_at (Q : FVec Ideal S512x128 .bf16) (K W : FVec Ideal S256x128 .bf16) (a : Fin 512) (d : Fin 128) :
    HEAD Q K W (ix2 a d) = Ideal.div (∑ m : Fin 256, k5_pay3 (F := Ideal) Q K (ix2 a m) * W (ix2 m d))
      (∑ m : Fin 256, k5_pay3 (F := Ideal) Q K (ix2 a m)) := by
  pointwise [k5_pay4, k5_pay5, k5_pay6]

/-- The divisor of the scores is the inverse of the constant that the queries are scaled by. -/
theorem div_sqrt_128 (x : EReal) : Ideal.div x (Ideal.sqrt (Ideal.ofBits .f32 0x43000000#32)) = x * (((Real.sqrt 128)⁻¹ : ℝ) : EReal) := by
  rw [show Ideal.ofBits .f32 0x43000000#32 = ((128 : ℝ) : EReal) by simp [Ideal.ofBits, Ideal.ieee, -EReal.coe_mul]; norm_num,
    Ideal.sqrt_coe, if_neg (by norm_num), Ideal.div_coe (by positivity), one_div]

theorem xs_eq : xs = (((Real.sqrt 128)⁻¹ : ℝ) : EReal) :=
  IdealRules.named_const.ideal_named_scalar _ _ _ _ rfl

/-- A head of a block of rows is the reference's attention at the block's place, once the scores are real numbers. -/
theorem head_core (Q : FVec Ideal S512x128 .bf16) (K W : FVec Ideal S256x128 .bf16)
    (Qn : FVec Ideal Cert.Reference5Ideal.S4x2048x4x128 .f32) (Kn Vn : FVec Ideal Cert.Reference5Ideal.S4x256x4x128 .f32)
    (hQr : ∀ i, IsReal (Qn i)) (hKr : ∀ i, IsReal (Kn i))
    (a : Fin 512) (d : Fin 128) (j : Cert.Reference5Ideal.S8192x512.Idx) (b : Fin 4) (h : Fin 4) (s : Fin 2048)
    (h0 : (j 0 : ℕ) = b * 2048 + s) (h1 : (j 1 : ℕ) = h * 128 + d)
    (hQ : ∀ x : Fin 128, Q (ix2 a x) = Qn (ix4 b s h x) * xs)
    (hK : ∀ (m : Fin 256) (x : Fin 128), K (ix2 m x) = Kn (ix4 b m h x))
    (hW : ∀ m : Fin 256, W (ix2 m d) = Vn (ix4 b m h d)) :
    HEAD Q K W (ix2 a d) = ATTN (EXPS (SCORES Qn Kn)) Vn j := by
  have hz : ∀ m : Fin 256, ∑ x : Fin 128, Q (ix2 a x) * K (ix2 m x) = SCORES Qn Kn (ix4 b h s m) := fun m => by
    rw [scores_at, div_sqrt_128, sum_mul_nonneg _ _ _ (by positivity)]
    refine Finset.sum_congr rfl fun x _ => ?_
    rw [hQ, hK, xs_eq, mul_right_comm]
  have hr : ∀ m : Fin 256, IsReal (SCORES Qn Kn (ix4 b h s m)) := fun m => by
    rw [scores_at, div_sqrt_128]
    exact (IsReal.sum _ fun x => (hQr _).mul (hKr _)).mul (isReal_coe _)
  rw [head_at, attn_at _ _ j b h s d h0 h1]
  simp only [weights_at, hz, hW, exps_at]
  exact average (by norm_num) (fun m => SCORES Qn Kn (ix4 b h s m)) (fun m => Vn (ix4 b m h d)) hr _ ofBits_neg_inf

theorem flat_queries_at (Qn : FVec Ideal Cert.Reference5Ideal.S4x2048x4x128 .f32) (j : Cert.Reference5Ideal.S8192x512.Idx)
    (b : Fin 4) (h : Fin 4) (s : Fin 2048) (d : Fin 128) (h0 : (j 0 : ℕ) = b * 2048 + s) (h1 : (j 1 : ℕ) = h * 128 + d) :
    shapeCast Cert.Reference5Ideal.S8192x512 Qn Cert.Reference5Ideal.Gen.shapeCasts_S4x2048x4x128_S8192x512 j = Qn (ix4 b s h d) := by
  pointwise
  have e0 : ∀ p, (⟨(j 0 : ℕ) / 2048, p⟩ : Fin 4) = b := fun _ => Fin.ext (by show (j 0 : ℕ) / 2048 = b; omega)
  have e1 : ∀ p, (⟨(j 0 : ℕ) % 2048, p⟩ : Fin 2048) = s := fun _ => Fin.ext (by show (j 0 : ℕ) % 2048 = s; omega)
  have e2 : ∀ p, (⟨(j 1 : ℕ) / 128, p⟩ : Fin 4) = h := fun _ => Fin.ext (by show (j 1 : ℕ) / 128 = h; omega)
  have e3 : ∀ p, (⟨(j 1 : ℕ) % 128, p⟩ : Fin 128) = d := fun _ => Fin.ext (by show (j 1 : ℕ) % 128 = d; omega)
  simp only [e0, e1, e2, e3]

theorem flat_keys_at (Kn : FVec Ideal Cert.Reference5Ideal.S4x256x4x128 .f32) (j : S1024x512.Idx)
    (b : Fin 4) (h : Fin 4) (m : Fin 256) (d : Fin 128) (h0 : (j 0 : ℕ) = b * 256 + m) (h1 : (j 1 : ℕ) = h * 128 + d) :
    shapeCast S1024x512 Kn flat_keys j = Kn (ix4 b m h d) := by
  pointwise
  have e0 : ∀ p, (⟨(j 0 : ℕ) / 256, p⟩ : Fin 4) = b := fun _ => Fin.ext (by show (j 0 : ℕ) / 256 = b; omega)
  have e1 : ∀ p, (⟨(j 0 : ℕ) % 256, p⟩ : Fin 256) = m := fun _ => Fin.ext (by show (j 0 : ℕ) % 256 = m; omega)
  have e2 : ∀ p, (⟨(j 1 : ℕ) / 128, p⟩ : Fin 4) = h := fun _ => Fin.ext (by show (j 1 : ℕ) / 128 = h; omega)
  have e3 : ∀ p, (⟨(j 1 : ℕ) % 128, p⟩ : Fin 128) = d := fun _ => Fin.ext (by show (j 1 : ℕ) % 128 = d; omega)
  simp only [e0, e1, e2, e3]

/-- A block of query rows holds the queries of one batch. -/
theorem queries5 (c : Dev nD) (t : Fin cfg5.N) (Qn : FVec Ideal Cert.Reference5Ideal.S4x2048x4x128 .f32)
    (hQ : V c main_v16 = mulf (shapeCast Cert.Reference5Ideal.S8192x512 Qn Cert.Reference5Ideal.Gen.shapeCasts_S4x2048x4x128_S8192x512) (broadcast _ xs))
    (i : S512x512.Idx) (b : Fin 4) (h : Fin 4) (s : Fin 2048) (d : Fin 128)
    (h0 : t.val * 512 + (i 0 : ℕ) = b * 2048 + s) (h1 : (i 1 : ℕ) = h * 128 + d) :
    iblk5 V c 0 t i = Qn (ix4 b s h d) * xs := by
  show V c main_v16 _ = _
  rw [hQ]
  refine congrArg (· * xs) (flat_queries_at Qn _ b h s d ?_ ?_)
  all_goals (blk_simp [idx5 t] <;> try omega)

theorem keys5 (c : Dev nD) (t : Fin cfg5.N) (Kn : FVec Ideal Cert.Reference5Ideal.S4x256x4x128 .f32)
    (hK : V c main_v24_0 = shapeCast S1024x512 Kn flat_keys) (i : S256x512.Idx) (b : Fin 4) (h : Fin 4) (m : Fin 256) (d : Fin 128)
    (h0 : t.val / 4 * 256 + (i 0 : ℕ) = b * 256 + m) (h1 : (i 1 : ℕ) = h * 128 + d) :
    iblk5 V c 1 t i = Kn (ix4 b m h d) := by
  show V c main_v24_0 _ = _
  rw [hK]
  refine flat_keys_at Kn _ b h m d ?_ ?_
  all_goals (blk_simp [idx5 t] <;> try omega)

theorem values5 (c : Dev nD) (t : Fin cfg5.N) (Vn : FVec Ideal Cert.Reference5Ideal.S4x256x4x128 .f32)
    (hV : V c main_v24_1 = shapeCast S1024x512 Vn flat_keys) (i : S256x512.Idx) (b : Fin 4) (h : Fin 4) (m : Fin 256) (d : Fin 128)
    (h0 : t.val / 4 * 256 + (i 0 : ℕ) = b * 256 + m) (h1 : (i 1 : ℕ) = h * 128 + d) :
    iblk5 V c 2 t i = Vn (ix4 b m h d) := by
  show V c main_v24_1 _ = _
  rw [hV]
  refine flat_keys_at Vn _ b h m d ?_ ?_
  all_goals (blk_simp [idx5 t] <;> try omega)

theorem point5 (c : Dev nD) (t : Fin cfg5.N) (Qn : FVec Ideal Cert.Reference5Ideal.S4x2048x4x128 .f32)
    (Kn Vn : FVec Ideal Cert.Reference5Ideal.S4x256x4x128 .f32)
    (hQ : V c main_v16 = mulf (shapeCast Cert.Reference5Ideal.S8192x512 Qn Cert.Reference5Ideal.Gen.shapeCasts_S4x2048x4x128_S8192x512) (broadcast _ xs))
    (hK : V c main_v24_0 = shapeCast S1024x512 Kn flat_keys) (hV : V c main_v24_1 = shapeCast S1024x512 Vn flat_keys)
    (hQr : ∀ i, IsReal (Qn i)) (hKr : ∀ i, IsReal (Kn i)) (y) :
    out5_3 (iblk5 V c 0 t) (iblk5 V c 1 t) (iblk5 V c 2 t) y
      = ATTN (EXPS (SCORES Qn Kn)) Vn (((cfg5.win 3).blk t).view.emb y) := by
  have ht : t.val < 16 := t.isLt
  have e0 : (((((cfg5.win 3).blk t).view.emb y) 0 : Fin 8192) : ℕ) = t.val * 512 + y 0 := by blk_simp [idx5 t]
  have e1 : (((((cfg5.win 3).blk t).view.emb y) 1 : Fin 512) : ℕ) = y 1 := by blk_simp [idx5 t]
  have hb : t.val / 4 < 4 := by omega
  unfold out5_3
  canon_tiles x h
  · obtain ⟨a, d, rfl⟩ : ∃ a d, x = ix2 a d := ⟨x 0, x 1, eq_ix2 x⟩
    have h0' : (y 0 : ℕ) = a := h0
    have h1' : (y 1 : ℕ) = 384 + (d : ℕ) := h1
    rw [head_eq3]
    refine head_core _ _ _ Qn Kn Vn hQr hKr _ _ _ ⟨t.val / 4, hb⟩ 3 ⟨t.val % 4 * 512 + a, by omega⟩ (e0.trans ?_) (e1.trans ?_)
      (fun x => queries5 V c t Qn hQ _ _ _ _ _ ?_ ?_) (fun m x => keys5 V c t Kn hK _ _ _ _ _ ?_ ?_)
      (fun m => values5 V c t Vn hV _ _ _ _ _ ?_ ?_)
    all_goals first | (simp [h0', h1'] <;> omega) | (simp [h0', h1'] <;> done)
  · obtain ⟨a, d, rfl⟩ : ∃ a d, x = ix2 a d := ⟨x 0, x 1, eq_ix2 x⟩
    have h0' : (y 0 : ℕ) = a := h0
    have h1' : (y 1 : ℕ) = 256 + (d : ℕ) := h1
    rw [head_eq2]
    refine head_core _ _ _ Qn Kn Vn hQr hKr _ _ _ ⟨t.val / 4, hb⟩ 2 ⟨t.val % 4 * 512 + a, by omega⟩ (e0.trans ?_) (e1.trans ?_)
      (fun x => queries5 V c t Qn hQ _ _ _ _ _ ?_ ?_) (fun m x => keys5 V c t Kn hK _ _ _ _ _ ?_ ?_)
      (fun m => values5 V c t Vn hV _ _ _ _ _ ?_ ?_)
    all_goals first | (simp [h0', h1'] <;> omega) | (simp [h0', h1'] <;> done)
  · obtain ⟨a, d, rfl⟩ : ∃ a d, x = ix2 a d := ⟨x 0, x 1, eq_ix2 x⟩
    have h0' : (y 0 : ℕ) = a := h0
    have h1' : (y 1 : ℕ) = 128 + (d : ℕ) := h1
    refine head_core _ _ _ Qn Kn Vn hQr hKr _ _ _ ⟨t.val / 4, hb⟩ 1 ⟨t.val % 4 * 512 + a, by omega⟩ (e0.trans ?_) (e1.trans ?_)
      (fun x => queries5 V c t Qn hQ _ _ _ _ _ ?_ ?_) (fun m x => keys5 V c t Kn hK _ _ _ _ _ ?_ ?_)
      (fun m => values5 V c t Vn hV _ _ _ _ _ ?_ ?_)
    all_goals first | (simp [h0', h1'] <;> omega) | (simp [h0', h1'] <;> done)
  · obtain ⟨a, d, rfl⟩ : ∃ a d, x = ix2 a d := ⟨x 0, x 1, eq_ix2 x⟩
    have h0' : (y 0 : ℕ) = a := h0
    have h1' : (y 1 : ℕ) = 0 + (d : ℕ) := by simpa using h1
    rw [head_eq0]
    refine head_core _ _ _ Qn Kn Vn hQr hKr _ _ _ ⟨t.val / 4, hb⟩ 0 ⟨t.val % 4 * 512 + a, by omega⟩ (e0.trans ?_) (e1.trans ?_)
      (fun x => queries5 V c t Qn hQ _ _ _ _ _ ?_ ?_) (fun m x => keys5 V c t Kn hK _ _ _ _ _ ?_ ?_)
      (fun m => values5 V c t Vn hV _ _ _ _ _ ?_ ?_)
    all_goals first | (simp [h0', h1'] <;> omega) | (simp [h0', h1'] <;> done)

/-- The array that the cross-attention leaves. -/
theorem final5 (c : Dev nD) (Qn : FVec Ideal Cert.Reference5Ideal.S4x2048x4x128 .f32)
    (Kn Vn : FVec Ideal Cert.Reference5Ideal.S4x256x4x128 .f32)
    (hQ : V c main_v16 = mulf (shapeCast Cert.Reference5Ideal.S8192x512 Qn Cert.Reference5Ideal.Gen.shapeCasts_S4x2048x4x128_S8192x512) (broadcast _ xs))
    (hK : V c main_v24_0 = shapeCast S1024x512 Kn flat_keys) (hV : V c main_v24_1 = shapeCast S1024x512 Vn flat_keys)
    (hQr : ∀ i, IsReal (Qn i)) (hKr : ∀ i, IsReal (Kn i)) :
    (dat5 V c).arrAt 3 cfg5.N = truncf .bf16 (ATTN (EXPS (SCORES Qn Kn)) Vn) bitsLt_bf16_f32 := by
  refine (dat5 V c).arrAt_eq_of_covers 3 _ (by decide +kernel) fun t _ y => ?_
  blk_simp
  rw [after5_3]
  exact point5 V c t Qn Kn Vn hQ hK hV hQr hKr y

end Cert.Kernel5Ideal.Value

end
-- ==== Proof.Layer.Finite.lean ====
/- The normed queries and keys of the cross-attention are real numbers where the arrays that they are computed from are. -/
module

public import proofs.«01_k».proof.Proof.Layer.Cross

@[expose] public section

set_option maxRecDepth 16384

noncomputable section

open Idealize.ShloMosaic Idealize.ShloMosaic.TcCoe Idealize.SL.Sem

namespace Cert.Kernel5Ideal.Value

open Cert.Reals
open Cert.Reference5Ideal
open Cert.Reference5Ideal.Value (NORM2048 NORM4096 NORMMEM MIXED OUT XQ XKV QNORM KNORM)

/-- The inverse of a row's root mean square is a real number. -/
theorem real_rms {n : ℕ} {f : Fin n → EReal} (hf : ∀ i, IsReal (f i)) (b e : EReal) (r s : ℝ) (hr : 0 < r) (hs : 0 < s)
    (hb : b = r) (he : e = s) : IsReal (Ideal.rsqrt (Ideal.div (∑ x, f x * f x) b + e)) := by
  subst hb he
  choose g hg using hf
  have hsum : ∑ x, f x * f x = ((∑ x, g x * g x : ℝ) : EReal) := by
    simp only [hg, ← EReal.coe_mul]
    exact (map_sum (⟨⟨(fun r : ℝ => (r : EReal)), EReal.coe_zero⟩, EReal.coe_add⟩ : ℝ →+ EReal) _ _).symm
  have h0 : 0 ≤ ∑ x, g x * g x := Finset.sum_nonneg fun x _ => mul_self_nonneg _
  rw [hsum, Ideal.div_coe hr.ne', ← EReal.coe_mul, ← EReal.coe_add, Ideal.rsqrt_coe, if_neg (not_lt.mpr (by positivity)), if_neg (ne_of_gt (by positivity))]
  exact isReal_coe _

theorem eps_pos : ∃ s : ℝ, 0 < s ∧ Ideal.ofBits .f32 0x358637BD#32 = s := by
  refine ⟨8796093 / 8796093022208, by norm_num, ?_⟩
  simp [Ideal.ofBits, Ideal.ieee, -EReal.coe_mul]; norm_num

theorem lit_2048 : Ideal.ofBits .f32 0x45000000#32 = ((2048 : ℝ) : EReal) := by simp [Ideal.ofBits, Ideal.ieee, -EReal.coe_mul]; norm_num
theorem lit_4096 : Ideal.ofBits .f32 0x45800000#32 = ((4096 : ℝ) : EReal) := by simp [Ideal.ofBits, Ideal.ieee, -EReal.coe_mul]; norm_num
theorem lit_128 : Ideal.ofBits .f32 0x43000000#32 = ((128 : ℝ) : EReal) := by simp [Ideal.ofBits, Ideal.ieee, -EReal.coe_mul]; norm_num

theorem real_norm2048 {A : FVec Ideal S8192x2048 .f32} {G : FVec Ideal S1x2048 .f32} (hA : ∀ i, IsReal (A i)) (hG : ∀ i, IsReal (G i)) :
    ∀ i, IsReal (NORM2048 A G i) := fun i => by
  obtain ⟨s, hs, he⟩ := eps_pos
  pointwise [NORM2048]
  try simp only [zero_add]
  exact ((hA _).mul (real_rms (fun x => hA _) _ _ 2048 s (by norm_num) hs lit_2048 he)).mul (hG _)

theorem real_norm4096 {A : FVec Ideal S8192x4096 .f32} {G : FVec Ideal S1x4096 .f32} (hA : ∀ i, IsReal (A i)) (hG : ∀ i, IsReal (G i)) :
    ∀ i, IsReal (NORM4096 A G i) := fun i => by
  obtain ⟨s, hs, he⟩ := eps_pos
  pointwise [NORM4096]
  try simp only [zero_add]
  exact ((hA _).mul (real_rms (fun x => hA _) _ _ 4096 s (by norm_num) hs lit_4096 he)).mul (hG _)

theorem real_normmem {A : FVec Ideal S1024x4096 .f32} {G : FVec Ideal S1x4096 .f32} (hA : ∀ i, IsReal (A i)) (hG : ∀ i, IsReal (G i)) :
    ∀ i, IsReal (NORMMEM A G i) := fun i => by
  obtain ⟨s, hs, he⟩ := eps_pos
  pointwise [NORMMEM]
  try simp only [zero_add]
  exact ((hA _).mul (real_rms (fun x => hA _) _ _ 4096 s (by norm_num) hs lit_4096 he)).mul (hG _)

theorem real_qnorm {A : FVec Ideal S4x2048x4x128 .f32} {G : FVec Ideal S128 .f32} (hA : ∀ i, IsReal (A i)) (hG : ∀ i, IsReal (G i)) :
    ∀ i, IsReal (QNORM A G i) := fun i => by
  obtain ⟨s, hs, he⟩ := eps_pos
  pointwise [QNORM]
  try simp only [zero_add]
  exact ((hA _).mul (real_rms (fun x => hA _) _ _ 128 s (by norm_num) hs lit_128 he)).mul (hG _)

theorem real_knorm {A : FVec Ideal S4x256x4x128 .f32} {G : FVec Ideal S128 .f32} (hA : ∀ i, IsReal (A i)) (hG : ∀ i, IsReal (G i)) :
    ∀ i, IsReal (KNORM A G i) := fun i => by
  obtain ⟨s, hs, he⟩ := eps_pos
  pointwise [KNORM]
  try simp only [zero_add]
  exact ((hA _).mul (real_rms (fun x => hA _) _ _ 128 s (by norm_num) hs lit_128 he)).mul (hG _)

theorem real_mixed {A B : FVec Ideal S8192x2048 .f32} {GA GB : FVec Ideal S1x2048 .f32} (hA : ∀ i, IsReal (A i)) (hB : ∀ i, IsReal (B i))
    (hGA : ∀ i, IsReal (GA i)) (hGB : ∀ i, IsReal (GB i)) : ∀ i, IsReal (MIXED A B GA GB i) := fun i => by
  have h1 := real_norm2048 hA hGA
  have h2 := real_norm2048 hB hGB
  unfold MIXED
  generalize NORM2048 A GA = X at h1 ⊢
  generalize NORM2048 B GB = Y at h2 ⊢
  pointwise
  split
  · exact h1 _
  · exact h2 _

theorem real_out {X M : FVec Ideal S8192x4096 .f32} {W : FVec Ideal S2x4096x4096 .f32} (hX : ∀ i, IsReal (X i)) (hM : ∀ i, IsReal (M i))
    (hW : ∀ i, IsReal (W i)) : ∀ i, IsReal (OUT X M W i) := fun i => by
  pointwise [OUT]
  exact (hX _).add (IsReal.sum _ fun x => (hM _).mul (hW _))

theorem real_xq {H : FVec Ideal S8192x4096 .f32} {W : FVec Ideal S2x4096x512 .f32} (hH : ∀ i, IsReal (H i))
    (hW : ∀ i, IsReal (W i)) : ∀ i, IsReal (XQ H W i) := fun i => by
  pointwise [XQ]
  exact IsReal.sum _ fun x => (hH _).mul (hW _)

theorem real_xkv {H : FVec Ideal S1024x4096 .f32} {W : FVec Ideal S2x4096x1024 .f32} (hH : ∀ i, IsReal (H i))
    (hW : ∀ i, IsReal (W i)) : ∀ i, IsReal (XKV H W i) := fun i => by
  pointwise [XKV]
  exact IsReal.sum _ fun x => (hH _).mul (hW _)

theorem real_kpart {Z : FVec Ideal S1024x1024 .f32} (hZ : ∀ i, IsReal (Z i)) : ∀ i, IsReal (KPART Z i) := fun i => by
  pointwise
  exact hZ _

/-- A float whose magnitude is below infinity is a real number. -/
theorem real_of_lt {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x using EReal.rec with
  | bot => simp [Ideal.cmp] at h
  | top => simp [Ideal.cmp] at h
  | coe r => exact isReal_coe r

/-- The precondition's comparison, at every index of an array. -/
theorem real_of_finite {S : Shape} (A : FVec Ideal S .f32) (h0 : (S_ : Shape).BroadcastsInDim S (![] : Fin 0 → Fin S.rank))
    (h : cmpf .olt (Host.absf A) (broadcastInDim S ![] h0 (constant (F := Ideal) S_ .f32 0x7F800000#32)) = (fun _ => 1#1)) :
    ∀ i, IsReal (A i) := fun i => by
  have := congrFun h i
  exact real_of_lt this

end Cert.Kernel5Ideal.Value

end
-- ==== Proof.Layer.Result.lean ====
/- The reference's result as one function of its arguments, step by step. -/
module

public import proofs.«01_k».proof.Proof.Layer.Finite

@[expose] public section

set_option maxRecDepth 16384

noncomputable section

open Idealize.ShloMosaic Idealize.ShloMosaic.TcCoe Idealize.SL.Sem

namespace Cert.Reference5Ideal.Value

open Cert.Reference5Ideal Cert.Reference5Ideal.Gen
open Cert.Kernel5Ideal.Value (KPART VPART)

/-- The layer's gains of one kind, as a row. -/
abbrev ROW2048 (g : FVec Ideal S2x2048 .f32) : FVec Ideal S1x2048 .f32 :=
  broadcastInDim S1x2048 ![1] bcast_S2048_S1x2048_1 (shapeCast _ (extractStridedSlice S1x2048 ![1, 0] g slices_S2x2048_S1x2048_1_0) shapeCasts_S1x2048_S2048)

/-- The layer's gains of one kind, as a row. -/
abbrev ROW4096 (g : FVec Ideal S2x4096 .f32) : FVec Ideal S1x4096 .f32 :=
  broadcastInDim S1x4096 ![1] bcast_S4096_S1x4096_1 (shapeCast _ (extractStridedSlice S1x4096 ![1, 0] g slices_S2x4096_S1x4096_1_0) shapeCasts_S1x4096_S4096)

/-- The layer's gains of a head. -/
abbrev ROW128 (g : FVec Ideal S2x128 .f32) : FVec Ideal S128 .f32 :=
  shapeCast _ (extractStridedSlice S1x128 ![1, 0] g slices_S2x128_S1x128_1_0) shapeCasts_S1x128_S128

/-- The residual stream after the output projection, from the arguments. -/
def X1 (a0 a1 : FVec Ideal S8192x2048 .f32) (a2 : FVec Ideal S4x2048x4096 .f32) (a4 a5 : FVec Ideal S2x2048 .f32)
    (a6 : FVec Ideal S2x4096x4096 .f32) : FVec Ideal S8192x4096 .f32 :=
  OUT (shapeCast _ a2 shapeCasts_S4x2048x4096_S8192x4096) (MIXED a0 a1 (ROW2048 a4) (ROW2048 a5)) a6

/-- The normed queries. -/
def QN (x : FVec Ideal S8192x4096 .f32) (a7 : FVec Ideal S2x4096 .f32) (a9 : FVec Ideal S2x4096x512 .f32) (a11 : FVec Ideal S2x128 .f32) :
    FVec Ideal S4x2048x4x128 .f32 :=
  QNORM (shapeCast _ (XQ (NORM4096 x (ROW4096 a7)) a9) shapeCasts_S8192x512_S4x2048x4x128) (ROW128 a11)

/-- The memory's projection. -/
def ZM (a3 : FVec Ideal S4x256x4096 .f32) (a8 : FVec Ideal S2x4096 .f32) (a10 : FVec Ideal S2x4096x1024 .f32) : FVec Ideal S1024x1024 .f32 :=
  XKV (NORMMEM (shapeCast _ a3 shapeCasts_S4x256x4096_S1024x4096) (ROW4096 a8)) a10

/-- The normed keys. -/
def KN (z : FVec Ideal S1024x1024 .f32) (a12 : FVec Ideal S2x128 .f32) : FVec Ideal S4x256x4x128 .f32 := KNORM (KPART z) (ROW128 a12)

/-- The residual stream after the cross-attention. -/
def X2 (x : FVec Ideal S8192x4096 .f32) (q : FVec Ideal S4x2048x4x128 .f32) (k v : FVec Ideal S4x256x4x128 .f32) (a13 : FVec Ideal S2x512x4096 .f32) :
    FVec Ideal S8192x4096 .f32 :=
  XOUT x (ATTN (EXPS (SCORES q k)) v) a13

/-- The residual stream after the feed-forward network. -/
def X3 (x : FVec Ideal S8192x4096 .f32) (a14 : FVec Ideal S2x4096 .f32) (a15 a16 : FVec Ideal S2x4096x11008 .f32)
    (a17 : FVec Ideal S1x11008x4096 .bf16) : FVec Ideal S8192x4096 .f32 :=
  DOWN x (SWIGLU (FFN (NORM4096 x (ROW4096 a14)) a15) (FFN (NORM4096 x (ROW4096 a14)) a16)) a17

section

variable (V0 : Valuation τ sig (Elt Ideal))

theorem x1_eq : res_main_v35 (F := Ideal) V0 = X1 (V0 (Proc.devRef .tc main_arg0)) (V0 (Proc.devRef .tc main_arg1)) (V0 (Proc.devRef .tc main_arg2)) (V0 (Proc.devRef .tc main_arg4)) (V0 (Proc.devRef .tc main_arg5))
    (V0 (Proc.devRef .tc main_arg6)) := rfl

theorem q_eq : res_main_v64 (F := Ideal) V0 = shapeCast _ (XQ (NORM4096 (res_main_v35 (F := Ideal) V0) (ROW4096 (V0 (Proc.devRef .tc main_arg7)))) (V0 (Proc.devRef .tc main_arg9)))
    shapeCasts_S8192x512_S4x2048x4x128 := rfl

theorem z_eq : res_main_v93 (F := Ideal) V0 = shapeCast _ (ZM (V0 (Proc.devRef .tc main_arg3)) (V0 (Proc.devRef .tc main_arg8)) (V0 (Proc.devRef .tc main_arg10))) shapeCasts_S1024x1024_S4x256x4x256 := rfl

theorem scores_eq : res_main_v112 (F := Ideal) V0 = SCORES (QN (res_main_v35 (F := Ideal) V0) (V0 (Proc.devRef .tc main_arg7)) (V0 (Proc.devRef .tc main_arg9)) (V0 (Proc.devRef .tc main_arg11)))
    (KN (ZM (V0 (Proc.devRef .tc main_arg3)) (V0 (Proc.devRef .tc main_arg8)) (V0 (Proc.devRef .tc main_arg10))) (V0 (Proc.devRef .tc main_arg12))) := by
  unfold res_main_v112 QN KN KPART; unfold res_main_v94; rw [z_eq, q_eq]

theorem x2_eq : res_main_v128 (F := Ideal) V0 = X2 (res_main_v35 (F := Ideal) V0)
    (QN (res_main_v35 (F := Ideal) V0) (V0 (Proc.devRef .tc main_arg7)) (V0 (Proc.devRef .tc main_arg9)) (V0 (Proc.devRef .tc main_arg11)))
    (KN (ZM (V0 (Proc.devRef .tc main_arg3)) (V0 (Proc.devRef .tc main_arg8)) (V0 (Proc.devRef .tc main_arg10))) (V0 (Proc.devRef .tc main_arg12)))
    (VPART (ZM (V0 (Proc.devRef .tc main_arg3)) (V0 (Proc.devRef .tc main_arg8)) (V0 (Proc.devRef .tc main_arg10)))) (V0 (Proc.devRef .tc main_arg13)) := by
  unfold res_main_v128 res_main_v119; rw [scores_eq, z_eq]; rfl

/-- The whole result. -/
theorem x3_eq : DOWN (res_main_v128 (F := Ideal) V0) (SWIGLU (res_main_v146 (F := Ideal) V0)
      (FFN (res_main_v143 (F := Ideal) V0) (V0 (Proc.devRef .tc main_arg16)))) (V0 (Proc.devRef .tc main_arg17))
    = X3 (res_main_v128 (F := Ideal) V0) (V0 (Proc.devRef .tc main_arg14)) (V0 (Proc.devRef .tc main_arg15)) (V0 (Proc.devRef .tc main_arg16)) (V0 (Proc.devRef .tc main_arg17)) := by
  unfold res_main_v146; unfold res_main_v143; rfl

end

end Cert.Reference5Ideal.Value

end
-- ==== Proof.Layer.Host.lean ====
/- What the host's reshapes between the kernel's calls leave. -/
module

public import proofs.«01_k».proof.Proof.Layer.Result
public import proofs.«01_k».proof.Proof.Gen.Kernel5Ideal.Frame.Fold0

@[expose] public section

set_option maxRecDepth 16384

noncomputable section

open Idealize.ShloMosaic Idealize.ShloMosaic.TcCoe Idealize.SL.Sem

namespace Cert.Kernel5Ideal.Value

open Cert.Kernel5Ideal Cert.Kernel5Ideal.Gen
open Cert.Reference5Ideal.Value (ROW2048 ROW4096 ROW128)

variable (m : (ℓ : Loc nD τ sig) → Buf (Elt Ideal) ℓ) (ρ : Dev nD → PrngReg) (c : Dev nD)

theorem row2048_eq (g : FVec Ideal S2x2048 .f32) :
    shapeCast S1x2048 (shapeCast S2048 (extractStridedSlice S1x2048 ![1, 0] g slices_S2x2048_S1x2048_1_0) shapeCasts_S1x2048_S2048) shapeCasts_S2048_S1x2048
      = ROW2048 g := by
  funext i; pointwise

theorem row4096_eq (g : FVec Ideal S2x4096 .f32) :
    shapeCast S1x4096 (shapeCast S4096 (extractStridedSlice S1x4096 ![1, 0] g slices_S2x4096_S1x4096_1_0) shapeCasts_S1x4096_S4096) shapeCasts_S4096_S1x4096
      = ROW4096 g := by
  funext i; pointwise

theorem row128_eq (g : FVec Ideal S2x128 .f32) :
    shapeCast S128 (shapeCast S1x128 (shapeCast S128 (extractStridedSlice S1x128 ![1, 0] g slices_S2x128_S1x128_1_0) shapeCasts_S1x128_S128) shapeCasts_S128_S1x128) shapeCasts_S1x128_S128
      = ROW128 g := by
  funext i; pointwise

theorem host_v0 : W1 m ρ c (Proc.devRef .tc main_v0) = shapeCast S8192x4096 (W0 m ρ c (Proc.devRef .tc main_arg2)) shapeCasts_S4x2048x4096_S8192x4096 := by
  show StableHlo.after _ (W0 m ρ c) _ = _
  after_results; rfl

theorem host_v1 : W1 m ρ c (Proc.devRef .tc main_v1) = shapeCast S1024x4096 (W0 m ρ c (Proc.devRef .tc main_arg3)) shapeCasts_S4x256x4096_S1024x4096 := by
  show StableHlo.after _ (W0 m ρ c) _ = _
  after_results; rfl

theorem host_v6 : W1 m ρ c (Proc.devRef .tc main_v6) = shapeCast S1x2048 (shapeCast S2048 (extractStridedSlice S1x2048 ![1, 0] (W0 m ρ c (Proc.devRef .tc main_arg4)) slices_S2x2048_S1x2048_1_0) shapeCasts_S1x2048_S2048) shapeCasts_S2048_S1x2048 := by
  show StableHlo.after _ (W0 m ρ c) _ = _
  after_results; rfl

theorem host_v7 : W1 m ρ c (Proc.devRef .tc main_v7) = shapeCast S1x2048 (shapeCast S2048 (extractStridedSlice S1x2048 ![1, 0] (W0 m ρ c (Proc.devRef .tc main_arg5)) slices_S2x2048_S1x2048_1_0) shapeCasts_S1x2048_S2048) shapeCasts_S2048_S1x2048 := by
  show StableHlo.after _ (W0 m ρ c) _ = _
  after_results; rfl

theorem host_v14 : W4 m ρ c (Proc.devRef .tc main_v14) = shapeCast S1x4096 (shapeCast S4096 (extractStridedSlice S1x4096 ![1, 0] (W3 m ρ c (Proc.devRef .tc main_arg7)) slices_S2x4096_S1x4096_1_0) shapeCasts_S1x4096_S4096) shapeCasts_S4096_S1x4096 := by
  show StableHlo.after _ (W3 m ρ c) _ = _
  after_results; rfl

theorem host_v15 : W4 m ρ c (Proc.devRef .tc main_v15) = shapeCast S1x128 (shapeCast S128 (extractStridedSlice S1x128 ![1, 0] (W3 m ρ c (Proc.devRef .tc main_arg11)) slices_S2x128_S1x128_1_0) shapeCasts_S1x128_S128) shapeCasts_S128_S1x128 := by
  show StableHlo.after _ (W3 m ρ c) _ = _
  after_results; rfl

theorem host_v19 : W6 m ρ c (Proc.devRef .tc main_v19) = shapeCast S1x4096 (shapeCast S4096 (extractStridedSlice S1x4096 ![1, 0] (W5 m ρ c (Proc.devRef .tc main_arg8)) slices_S2x4096_S1x4096_1_0) shapeCasts_S1x4096_S4096) shapeCasts_S4096_S1x4096 := by
  show StableHlo.after _ (W5 m ρ c) _ = _
  after_results; rfl

theorem host_v23 : W8 m ρ c (Proc.devRef .tc main_v23) = shapeCast S1x128 (shapeCast S128 (extractStridedSlice S1x128 ![1, 0] (W7 m ρ c (Proc.devRef .tc main_arg12)) slices_S2x128_S1x128_1_0) shapeCasts_S1x128_S128) shapeCasts_S128_S1x128 := by
  show StableHlo.after _ (W7 m ρ c) _ = _
  after_results; rfl

theorem host_v28 : W11 m ρ c (Proc.devRef .tc main_v28) = shapeCast S1x4096 (shapeCast S4096 (extractStridedSlice S1x4096 ![1, 0] (W10 m ρ c (Proc.devRef .tc main_arg14)) slices_S2x4096_S1x4096_1_0) shapeCasts_S1x4096_S4096) shapeCasts_S4096_S1x4096 := by
  show StableHlo.after _ (W10 m ρ c) _ = _
  after_results; rfl

theorem host_v32 : W15 m ρ c (Proc.devRef .tc main_v32) = shapeCast S4x2048x4096 (W14 m ρ c (Proc.devRef .tc main_v31)) shapeCasts_S8192x4096_S4x2048x4096 := by
  show StableHlo.after _ (W14 m ρ c) _ = _
  after_results; rfl

end Cert.Kernel5Ideal.Value

end
-- ==== Proof.Layer.Proj.lean ====
/- The output projection and the feed-forward network's two calls, each on the arrays that it finds. -/
module

public import proofs.«01_k».proof.Proof.Gen.Kernel5Ideal.Frame.Region1
public import proofs.«01_k».proof.Proof.Gen.Kernel5Ideal.Frame.Region7
public import proofs.«01_k».proof.Proof.Gen.Kernel5Ideal.Frame.Region8
public import proofs.«01_k».proof.Proof.Layer.Terms
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen
open Cert.Reference5Ideal.Value (OUT FFN SWIGLU DOWN)

variable (V : (c : Dev nD) → (b : Ref sig .tc) → Buf (Elt Ideal) ((c : Thread nD τ).loc b))

/-- The blocks of the output projection. -/
theorem idx1 : ∀ t : Fin cfg1.N, win1_0.index t = ![t.val / 8, 0] ∧ win1_1.index t = ![1, 0, t.val % 8]
    ∧ win1_2.index t = ![t.val / 8, t.val % 8] ∧ win1_3.index t = ![t.val / 8, t.val % 8] :=
  (by decide +kernel : ∀ t : Fin grid1.N, _)

theorem point1 (c : Dev nD) (t : Fin cfg1.N) (y) : k1_pay1 (iblk1 V c 0 t) (iblk1 V c 1 t) (iblk1 V c 2 t) y
    = OUT (V c main_v0) (extf .f32 (V c main_v8 : FVec Ideal S8192x4096 .bf16) bitsLt_bf16_f32) (V c main_arg6)
        (((cfg1.win 3).blk t).view.emb y) := by
  pointwise [k1_pay1, OUT]
  blk_point [iblk1, idx1 t]

/-- The array that the output projection leaves. -/
theorem final1 (c : Dev nD) : (dat1 V c).arrAt 3 cfg1.N
    = OUT (V c main_v0) (extf .f32 (V c main_v8 : FVec Ideal S8192x4096 .bf16) bitsLt_bf16_f32) (V c main_arg6) := by
  refine (dat1 V c).arrAt_eq_of_covers 3 _ (by decide +kernel) fun t _ y => ?_
  blk_simp
  rw [after1_3]; frame_out
  exact point1 V c t y

/-- The blocks of the gated projections. -/
theorem idx7 : ∀ t : Fin cfg7.N, win7_0.index t = ![t.val / 43, 0] ∧ win7_1.index t = ![1, 0, t.val % 43]
    ∧ win7_2.index t = ![1, 0, t.val % 43] ∧ win7_3.index t = ![t.val / 43, t.val % 43] :=
  (by decide +kernel : ∀ t : Fin grid7.N, _)

/-- The exponential is never negative. -/
theorem exp_nonneg (x : EReal) : 0 ≤ Ideal.exp x := by
  induction x with
  | bot => exact le_rfl
  | coe r => exact EReal.coe_nonneg.2 (Real.exp_pos r).le
  | top => exact le_top

/-- Dividing by `1 + e^(0 - x)` is multiplying by the logistic function. -/
theorem silu_eq (x : EReal) : Ideal.div x (1 + Ideal.exp (0 - x)) = x * Ideal.div 1 (1 + Ideal.exp (-x)) := by
  have h : (1 + Ideal.exp (-x)) ≠ 0 := by
    have h1 : (0 : EReal) < 1 + Ideal.exp (-x) := lt_of_lt_of_le zero_lt_one (le_add_of_nonneg_right (exp_nonneg _))
    exact h1.ne'
  rw [zero_sub, Ideal.div, Ideal.div, if_neg h, if_neg h, one_mul]

theorem point7 (c : Dev nD) (t : Fin cfg7.N) (y) : k7_pay1 (iblk7 V c 0 t) (iblk7 V c 1 t) (iblk7 V c 2 t) y
    = truncf .bf16 (SWIGLU (FFN (extf .f32 (V c main_v29_1 : FVec Ideal S8192x4096 .bf16) bitsLt_bf16_f32) (V c main_arg15))
        (FFN (extf .f32 (V c main_v29_1 : FVec Ideal S8192x4096 .bf16) bitsLt_bf16_f32) (V c main_arg16))) bitsLt_bf16_f32
        (((cfg7.win 3).blk t).view.emb y) := by
  pointwise [k7_pay1, SWIGLU, FFN]
  simp only [silu_eq]
  blk_point [iblk7, idx7 t]

/-- The array that the gated projections leave. -/
theorem final7 (c : Dev nD) : (dat7 V c).arrAt 3 cfg7.N
    = truncf .bf16 (SWIGLU (FFN (extf .f32 (V c main_v29_1 : FVec Ideal S8192x4096 .bf16) bitsLt_bf16_f32) (V c main_arg15))
        (FFN (extf .f32 (V c main_v29_1 : FVec Ideal S8192x4096 .bf16) bitsLt_bf16_f32) (V c main_arg16))) bitsLt_bf16_f32 := by
  refine (dat7 V c).arrAt_eq_of_covers 3 _ (by decide +kernel) fun t _ y => ?_
  blk_simp
  rw [after7_3]; frame_out
  exact point7 V c t y

/-- The blocks of the down projection. -/
theorem idx8 : ∀ t : Fin cfg8.N, win8_0.index t = ![t.val / 8, 0] ∧ win8_1.index t = ![0, 0, t.val % 8]
    ∧ win8_2.index t = ![t.val / 8, t.val % 8] ∧ win8_3.index t = ![t.val / 8, t.val % 8] :=
  (by decide +kernel : ∀ t : Fin grid8.N, _)

theorem point8 (c : Dev nD) (t : Fin cfg8.N) (y) : k8_pay1 (iblk8 V c 0 t) (iblk8 V c 1 t) (iblk8 V c 2 t) y
    = DOWN (V c main_v29_0) (extf .f32 (V c main_v30 : FVec Ideal S8192x11008 .bf16) bitsLt_bf16_f32) (V c main_arg17)
        (((cfg8.win 3).blk t).view.emb y) := by
  pointwise [k8_pay1, DOWN]
  blk_point [iblk8, idx8 t]

/-- The array that the down projection leaves. -/
theorem final8 (c : Dev nD) : (dat8 V c).arrAt 3 cfg8.N
    = DOWN (V c main_v29_0) (extf .f32 (V c main_v30 : FVec Ideal S8192x11008 .bf16) bitsLt_bf16_f32) (V c main_arg17) := by
  refine (dat8 V c).arrAt_eq_of_covers 3 _ (by decide +kernel) fun t _ y => ?_
  blk_simp
  rw [after8_3]; frame_out
  exact point8 V c t y

end Cert.Kernel5Ideal.Value

end
-- ==== Proof.Layer.Whole.lean ====
/- The contents of the kernel's arrays between its calls, as the reference's terms of the arguments. -/
module

public import proofs.«01_k».proof.Proof.Layer.Host
public import proofs.«01_k».proof.Proof.Layer.Proj

@[expose] public section

set_option maxRecDepth 16384

noncomputable section

open Idealize.ShloMosaic Idealize.ShloMosaic.TcCoe Idealize.SL.Sem

namespace Cert.Kernel5Ideal.Value

open Cert.Reals
open Cert.Kernel5Ideal Cert.Kernel5Ideal.Gen
open Cert.Reference5Ideal.Value (ROW2048 ROW4096 ROW128 NORM4096 NORMMEM MIXED XQ XKV FFN SWIGLU ATTN EXPS SCORES XOUT X1 QN ZM KN X2 X3)

variable (m : (ℓ : Loc nD τ sig) → Buf (Elt Ideal) ℓ) (ρ : Dev nD → PrngReg) (c : Dev nD)

/-- The residual stream after the output projection. -/
abbrev x1 : FVec Ideal Cert.Reference5Ideal.S8192x4096 .f32 := X1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))

/-- The normed queries. -/
abbrev qn : FVec Ideal Cert.Reference5Ideal.S4x2048x4x128 .f32 := QN (x1 m c) (m ((c : Thread nD τ).loc main_arg7)) (m ((c : Thread nD τ).loc main_arg9)) (m ((c : Thread nD τ).loc main_arg11))

/-- The memory's projection. -/
abbrev zm : FVec Ideal Cert.Reference5Ideal.S1024x1024 .f32 := ZM (m ((c : Thread nD τ).loc main_arg3)) (m ((c : Thread nD τ).loc main_arg8)) (m ((c : Thread nD τ).loc main_arg10))

/-- The normed keys. -/
abbrev kn : FVec Ideal Cert.Reference5Ideal.S4x256x4x128 .f32 := KN (zm m c) (m ((c : Thread nD τ).loc main_arg12))

/-- The values. -/
abbrev vn : FVec Ideal Cert.Reference5Ideal.S4x256x4x128 .f32 := VPART (zm m c)

/-- The residual stream after the cross-attention. -/
abbrev x2 : FVec Ideal Cert.Reference5Ideal.S8192x4096 .f32 := X2 (x1 m c) (qn m c) (kn m c) (vn m c) (m ((c : Thread nD τ).loc main_arg13))

/-- The residual stream after the feed-forward network. -/
abbrev x3 : FVec Ideal Cert.Reference5Ideal.S8192x4096 .f32 := X3 (x2 m c) (m ((c : Thread nD τ).loc main_arg14)) (m ((c : Thread nD τ).loc main_arg15)) (m ((c : Thread nD τ).loc main_arg16)) (m ((c : Thread nD τ).loc main_arg17))

theorem at2_v8 : W2 m ρ c (Proc.devRef .tc main_v8) = truncf .bf16 (MIXED (m ((c : Thread nD τ).loc main_arg0)) (m ((c : Thread nD τ).loc main_arg1)) (ROW2048 (m ((c : Thread nD τ).loc main_arg4))) (ROW2048 (m ((c : Thread nD τ).loc main_arg5)))) bitsLt_bf16_f32 := by
  refine (W2_arr m ρ c 4).trans ((final0 (V1 m ρ) c).trans ?_)
  rw [show V1 m ρ c main_arg0 = _ from W1_args m ρ c main_arg0 (by decide), show V1 m ρ c main_arg1 = _ from W1_args m ρ c main_arg1 (by decide), show V1 m ρ c main_v6 = _ from (host_v6 m ρ c).trans (row2048_eq _), show V1 m ρ c main_v7 = _ from (host_v7 m ρ c).trans (row2048_eq _)]

theorem at3_v9 : W3 m ρ c (Proc.devRef .tc main_v9) = x1 m c := by
  refine (W3_arr m ρ c 3).trans ((final1 (V2 m ρ) c).trans ?_)
  rw [show V2 m ρ c main_v0 = _ from (W2_of m ρ c main_v0 (by decide)).trans (host_v0 m ρ c), show V2 m ρ c main_v8 = _ from at2_v8 m ρ c, show V2 m ρ c main_arg6 = _ from W2_args m ρ c main_arg6 (by decide)]
  rfl

theorem at4_v9 : W4 m ρ c (Proc.devRef .tc main_v9) = x1 m c := by
  exact (W4_of m ρ c main_v9 (by decide)).trans (at3_v9 m ρ c)

theorem at5_v16 : W5 m ρ c (Proc.devRef .tc main_v16) = mulf (shapeCast S8192x512 (qn m c) Cert.Reference5Ideal.Gen.shapeCasts_S4x2048x4x128_S8192x512) (broadcast S8192x512 xs) := by
  refine (W5_arr m ρ c 4).trans ((final2 (V4 m ρ) c).trans ?_)
  rw [show V4 m ρ c main_v9 = _ from at4_v9 m ρ c, show V4 m ρ c main_v14 = _ from (host_v14 m ρ c).trans ((row4096_eq _).trans (congrArg ROW4096 (W3_args m ρ c main_arg7 (by decide)))), show V4 m ρ c main_arg9 = _ from W4_args m ρ c main_arg9 (by decide), show V4 m ρ c main_v15 = _ from host_v15 m ρ c]
  unfold QHEADS
  rw [row128_eq, show W3 m ρ c (Proc.devRef .tc main_arg11) = _ from W3_args m ρ c main_arg11 (by decide)]
  rfl

theorem at6_v1 : W6 m ρ c (Proc.devRef .tc main_v1) = shapeCast S1024x4096 (m ((c : Thread nD τ).loc main_arg3)) shapeCasts_S4x256x4096_S1024x4096 := by
  exact (W6_of m ρ c main_v1 (by decide)).trans ((W5_of m ρ c main_v1 (by decide)).trans ((W4_of m ρ c main_v1 (by decide)).trans ((W3_of m ρ c main_v1 (by decide)).trans ((W2_of m ρ c main_v1 (by decide)).trans (host_v1 m ρ c)))))

theorem at7_v20 : W7 m ρ c (Proc.devRef .tc main_v20) = truncf .bf16 (NORMMEM (shapeCast _ (m ((c : Thread nD τ).loc main_arg3)) shapeCasts_S4x256x4096_S1024x4096) (ROW4096 (m ((c : Thread nD τ).loc main_arg8)))) bitsLt_bf16_f32 := by
  refine (W7_arr m ρ c 2).trans ((final3 (V6 m ρ) c).trans ?_)
  rw [show V6 m ρ c main_v1 = _ from at6_v1 m ρ c, show V6 m ρ c main_v19 = _ from (host_v19 m ρ c).trans ((row4096_eq _).trans (congrArg ROW4096 (W5_args m ρ c main_arg8 (by decide))))]

theorem at9_v24_0 : W9 m ρ c (Proc.devRef .tc main_v24_0) = shapeCast S1024x512 (kn m c) flat_keys := by
  refine (W9_arr m ρ c 3).trans ((final4k (V8 m ρ) c).trans ?_)
  rw [show V8 m ρ c main_v20 = _ from (W8_of m ρ c main_v20 (by decide)).trans (at7_v20 m ρ c), show V8 m ρ c main_arg10 = _ from W8_args m ρ c main_arg10 (by decide), show V8 m ρ c main_v23 = _ from host_v23 m ρ c]
  unfold KHEADS
  rw [row128_eq, show W7 m ρ c (Proc.devRef .tc main_arg12) = _ from W7_args m ρ c main_arg12 (by decide)]
  rfl

theorem at9_v24_1 : W9 m ρ c (Proc.devRef .tc main_v24_1) = shapeCast S1024x512 (vn m c) flat_keys := by
  refine (W9_arr m ρ c 4).trans ((final4v (V8 m ρ) c).trans ?_)
  rw [show V8 m ρ c main_v20 = _ from (W8_of m ρ c main_v20 (by decide)).trans (at7_v20 m ρ c), show V8 m ρ c main_arg10 = _ from W8_args m ρ c main_arg10 (by decide)]
  rfl

theorem at9_v16 : W9 m ρ c (Proc.devRef .tc main_v16) = mulf (shapeCast S8192x512 (qn m c) Cert.Reference5Ideal.Gen.shapeCasts_S4x2048x4x128_S8192x512) (broadcast S8192x512 xs) := by
  exact (W9_of m ρ c main_v16 (by decide)).trans ((W8_of m ρ c main_v16 (by decide)).trans ((W7_of m ρ c main_v16 (by decide)).trans ((W6_of m ρ c main_v16 (by decide)).trans (at5_v16 m ρ c))))

variable (hQ : ∀ i, IsReal (qn m c i)) (hK : ∀ i, IsReal (kn m c i))

include hQ hK

theorem at10_v25 : W10 m ρ c (Proc.devRef .tc main_v25) = truncf .bf16 (ATTN (EXPS (SCORES (qn m c) (kn m c))) (vn m c)) bitsLt_bf16_f32 := by
  exact (W10_arr m ρ c 3).trans (final5 (V9 m ρ) c (qn m c) (kn m c) (vn m c) (at9_v16 m ρ c) (at9_v24_0 m ρ c) (at9_v24_1 m ρ c) hQ hK)

theorem at11_v25 : W11 m ρ c (Proc.devRef .tc main_v25) = truncf .bf16 (ATTN (EXPS (SCORES (qn m c) (kn m c))) (vn m c)) bitsLt_bf16_f32 := by
  exact (W11_of m ρ c main_v25 (by decide)).trans (at10_v25 m ρ c hQ hK)

omit hQ hK in
theorem at11_v9 : W11 m ρ c (Proc.devRef .tc main_v9) = x1 m c := by
  exact (W11_of m ρ c main_v9 (by decide)).trans ((W10_of m ρ c main_v9 (by decide)).trans ((W9_of m ρ c main_v9 (by decide)).trans ((W8_of m ρ c main_v9 (by decide)).trans ((W7_of m ρ c main_v9 (by decide)).trans ((W6_of m ρ c main_v9 (by decide)).trans ((W5_of m ρ c main_v9 (by decide)).trans (at4_v9 m ρ c)))))))

theorem at12_v29_0 : W12 m ρ c (Proc.devRef .tc main_v29_0) = x2 m c := by
  refine (W12_arr m ρ c 4).trans ((final6x (V11 m ρ) c).trans ?_)
  rw [show V11 m ρ c main_v9 = _ from at11_v9 m ρ c, show V11 m ρ c main_v25 = _ from at11_v25 m ρ c hQ hK, show V11 m ρ c main_arg13 = _ from W11_args m ρ c main_arg13 (by decide)]
  rfl

theorem at12_v29_1 : W12 m ρ c (Proc.devRef .tc main_v29_1) = truncf .bf16 (NORM4096 (x2 m c) (ROW4096 (m ((c : Thread nD τ).loc main_arg14)))) bitsLt_bf16_f32 := by
  refine (W12_arr m ρ c 5).trans ((final6h (V11 m ρ) c).trans ?_)
  rw [show V11 m ρ c main_v9 = _ from at11_v9 m ρ c, show V11 m ρ c main_v25 = _ from at11_v25 m ρ c hQ hK, show V11 m ρ c main_arg13 = _ from W11_args m ρ c main_arg13 (by decide), show V11 m ρ c main_v28 = _ from (host_v28 m ρ c).trans ((row4096_eq _).trans (congrArg ROW4096 (W10_args m ρ c main_arg14 (by decide))))]
  rfl

theorem at13_v30 : W13 m ρ c (Proc.devRef .tc main_v30) = truncf .bf16 (SWIGLU (FFN (NORM4096 (x2 m c) (ROW4096 (m ((c : Thread nD τ).loc main_arg14)))) (m ((c : Thread nD τ).loc main_arg15))) (FFN (NORM4096 (x2 m c) (ROW4096 (m ((c : Thread nD τ).loc main_arg14)))) (m ((c : Thread nD τ).loc main_arg16)))) bitsLt_bf16_f32 := by
  refine (W13_arr m ρ c 3).trans ((final7 (V12 m ρ) c).trans ?_)
  rw [show V12 m ρ c main_v29_1 = _ from at12_v29_1 m ρ c hQ hK, show V12 m ρ c main_arg15 = _ from W12_args m ρ c main_arg15 (by decide), show V12 m ρ c main_arg16 = _ from W12_args m ρ c main_arg16 (by decide)]
  rfl

theorem at14_v31 : W14 m ρ c (Proc.devRef .tc main_v31) = x3 m c := by
  refine (W14_arr m ρ c 3).trans ((final8 (V13 m ρ) c).trans ?_)
  rw [show V13 m ρ c main_v29_0 = _ from (W13_of m ρ c main_v29_0 (by decide)).trans (at12_v29_0 m ρ c hQ hK), show V13 m ρ c main_v30 = _ from at13_v30 m ρ c hQ hK, show V13 m ρ c main_arg17 = _ from W13_args m ρ c main_arg17 (by decide)]
  rfl

theorem at15_v32 : W15 m ρ c (Proc.devRef .tc main_v32) = shapeCast S4x2048x4096 (x3 m c) shapeCasts_S8192x4096_S4x2048x4096 := by
  exact (host_v32 m ρ c).trans (congrArg (fun X => shapeCast S4x2048x4096 X shapeCasts_S8192x4096_S4x2048x4096) (at14_v31 m ρ c hQ hK))

end Cert.Kernel5Ideal.Value

end
-- ==== Proof.Layer.Pre.lean ====
/- What the precondition says of each argument, and the normed queries and keys under it. -/
module

public import proofs.«01_k».proof.Proof.Layer.Whole
public import proofs.«01_k».proof.Proof.Gen.Pre_finite5
public import proofs.«01_k».proof.Defs

@[expose] public section

set_option maxRecDepth 16384

noncomputable section

open Idealize.ShloMosaic Idealize.ShloMosaic.TcCoe Idealize.SL.Sem

namespace Cert.Kernel5Ideal.Value

open Cert.Reals
open Cert.Kernel5Ideal Cert.Kernel5Ideal.Gen
open Cert.Reference5Ideal.Value (ROW2048 ROW4096 ROW128 X1 QN ZM KN)

variable (m : (ℓ : Loc nD τ sig) → Buf (Elt Ideal) ℓ) (c : Dev nD)

theorem real_row2048 (g : FVec Ideal Cert.Reference5Ideal.S2x2048 .f32) (h : ∀ i, IsReal (g i)) : ∀ i, IsReal (ROW2048 g i) := fun i => by
  pointwise; exact h _

theorem real_row4096 (g : FVec Ideal Cert.Reference5Ideal.S2x4096 .f32) (h : ∀ i, IsReal (g i)) : ∀ i, IsReal (ROW4096 g i) := fun i => by
  pointwise; exact h _

theorem real_row128 (g : FVec Ideal Cert.Reference5Ideal.S2x128 .f32) (h : ∀ i, IsReal (g i)) : ∀ i, IsReal (ROW128 g i) := fun i => by
  pointwise; exact h _

theorem real_x1 {a0 a1 a2 a4 a5 a6} (h0 : ∀ i, IsReal (a0 i)) (h1 : ∀ i, IsReal (a1 i)) (h2 : ∀ i, IsReal (a2 i)) (h4 : ∀ i, IsReal (a4 i))
    (h5 : ∀ i, IsReal (a5 i)) (h6 : ∀ i, IsReal (a6 i)) : ∀ i, IsReal (X1 a0 a1 a2 a4 a5 a6 i) :=
  real_out (fun i => by pointwise; exact h2 _) (real_mixed h0 h1 (real_row2048 _ h4) (real_row2048 _ h5)) h6

theorem real_qn {x a7 a9 a11} (hx : ∀ i, IsReal (x i)) (h7 : ∀ i, IsReal (a7 i)) (h9 : ∀ i, IsReal (a9 i)) (h11 : ∀ i, IsReal (a11 i)) :
    ∀ i, IsReal (QN x a7 a9 a11 i) := by
  have h := real_xq (real_norm4096 hx (real_row4096 _ h7)) h9
  unfold QN
  revert h
  generalize Cert.Reference5Ideal.Value.XQ _ a9 = z
  exact fun h => real_qnorm (fun i => by pointwise; exact h _) (real_row128 _ h11)

theorem real_zm {a3 a8 a10} (h3 : ∀ i, IsReal (a3 i)) (h8 : ∀ i, IsReal (a8 i)) (h10 : ∀ i, IsReal (a10 i)) : ∀ i, IsReal (ZM a3 a8 a10 i) :=
  real_xkv (real_normmem (fun i => by pointwise; exact h3 _) (real_row4096 _ h8)) h10

theorem real_kn {z a12} (hz : ∀ i, IsReal (z i)) (h12 : ∀ i, IsReal (a12 i)) : ∀ i, IsReal (KN z a12 i) :=
  real_knorm (real_kpart hz) (real_row128 _ h12)

/-- Every argument up to the cross-attention's gains is real under the precondition. -/
theorem args_real (h : Cert.Pre_Kernel5Ideal_finite5 m) :
    (∀ i, IsReal (m ((c : Thread nD τ).loc main_arg0) i)) ∧ (∀ i, IsReal (m ((c : Thread nD τ).loc main_arg1) i))
    ∧ (∀ i, IsReal (m ((c : Thread nD τ).loc main_arg2) i)) ∧ (∀ i, IsReal (m ((c : Thread nD τ).loc main_arg3) i))
    ∧ (∀ i, IsReal (m ((c : Thread nD τ).loc main_arg4) i)) ∧ (∀ i, IsReal (m ((c : Thread nD τ).loc main_arg5) i))
    ∧ (∀ i, IsReal (m ((c : Thread nD τ).loc main_arg6) i)) ∧ (∀ i, IsReal (m ((c : Thread nD τ).loc main_arg7) i))
    ∧ (∀ i, IsReal (m ((c : Thread nD τ).loc main_arg8) i)) ∧ (∀ i, IsReal (m ((c : Thread nD τ).loc main_arg9) i))
    ∧ (∀ i, IsReal (m ((c : Thread nD τ).loc main_arg10) i)) ∧ (∀ i, IsReal (m ((c : Thread nD τ).loc main_arg11) i))
    ∧ (∀ i, IsReal (m ((c : Thread nD τ).loc main_arg12) i)) := by
  obtain ⟨h0, h1, h2, h3, h4, h5, h6, h7, h8, h9, h10, h11, h12⟩ := h c
  exact ⟨real_of_finite _ _ h0, real_of_finite _ _ h1, real_of_finite _ _ h2, real_of_finite _ _ h3, real_of_finite _ _ h4, real_of_finite _ _ h5,
    real_of_finite _ _ h6, real_of_finite _ _ h7, real_of_finite _ _ h8, real_of_finite _ _ h9, real_of_finite _ _ h10, real_of_finite _ _ h11,
    real_of_finite _ _ h12⟩

theorem queries_real (h : Cert.Pre_Kernel5Ideal_finite5 m) : ∀ i, IsReal (qn m c i) := by
  obtain ⟨h0, h1, h2, -, h4, h5, h6, h7, -, h9, -, h11, -⟩ := args_real m c h
  exact real_qn (real_x1 h0 h1 h2 h4 h5 h6) h7 h9 h11

theorem keys_real (h : Cert.Pre_Kernel5Ideal_finite5 m) : ∀ i, IsReal (kn m c i) := by
  obtain ⟨-, -, -, h3, -, -, -, -, h8, -, h10, -, h12⟩ := args_real m c h
  exact real_kn (real_zm h3 h8 h10) h12

end Cert.Kernel5Ideal.Value

end
-- ==== Proof.Layer.Run.lean ====
/- The second call chain's run: every buffer that is not scoped ends at the contents of the last boundary. -/
module

public import proofs.«01_k».proof.Proof.Gen.Kernel5Ideal.Frame

@[expose] public section

set_option maxRecDepth 16384

noncomputable section

namespace Cert.Kernel5Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable (m : (ℓ : Loc nD τ sig) → Buf (Elt Ideal) ℓ) (ρ : Dev nD → PrngReg)

/-- The ghost state that the calls start from. -/
abbrev seed := initOf (Pipeline.cells cfgs cellOf_inj) (Pipeline.launchToks cfgs cellOf_inj)

set_option backward.isDefEq.respectTransparency.types false in
theorem run_all : θ_run (defs (F := Ideal)) (onTc (τ := τ) (main (F := Ideal))) ⟨m, fun _ => 0, ρ⟩ (fun r => ∀ c : Dev nD, ∀ b ∈ Pipeline.ucRefs τ sig,
      r.2.mem ((c : Thread nD τ).1, b) = W15 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := seed)
    (hu₀ := by
      iintro Hu; imodintro
      isplitl [Hu]
      · iapply (show (ownU seed : sProp (MT nD τ sig Unit (Elt Ideal) ℕ (UR sig nD τ) ℕ)) ⊢ BI.own (emb₁ seed) from .rfl)
        iexact Hu
      iapply (show (BI.emp : sProp (MT nD τ sig Unit (Elt Ideal) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := by
      refine ⟨fun _ => .rfl, fun _ => .rfl, fun _ => .rfl, fun _ => .rfl, fun _ => .rfl, fun _ => .rfl, fun _ => .rfl, fun _ => .rfl,
        fun _ => .rfl, fun _ => .rfl, fun _ => .rfl, fun _ => .rfl, fun _ => .rfl, fun _ => .rfl, fun _ => .rfl, fun c => ?_⟩
      dsimp only [Pipeline.Seg.post, hseg, Pipeline.HostSeg.ofOps]
      iintro ⟨Hh, Hp, HO⟩
      isplitl [Hh Hp]
      · isplitl [Hh]
        · iexact Hh
        · iexact Hp
      · iexact HO)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _; iexact Hp
      · iexists ∅; iexact HO)
    (QY := fun c s => ∀ b ∈ Pipeline.ucRefs τ sig, s.mem ((c : Thread nD τ).1, b) = W15 m ρ c b)
    (hfin := fun c s' => by
      iintro ⟨⟨Hh, -⟩, HS⟩
      unfold StableHlo.held
      imodintro
      iapply (pointsTo_read_all (Pipeline.ucRefs τ sig) (fun b => ((c : Thread nD τ).1, b)) (W15 m ρ c) s')
      isplitl [Hh] <;> iassumption)
    (hQ := fun _ h _ => h)

/-- The result's buffer, and the arguments' buffers. -/
theorem run_main : θ_run (defs (F := Ideal)) (onTc (τ := τ) (main (F := Ideal))) ⟨m, fun _ => 0, ρ⟩ (fun r => ∀ c : Dev nD,
      r.2.mem ((c : Thread nD τ).loc main_v32) = W15 m ρ c (Proc.devRef .tc main_v32)) :=
  (θ_run _ _ _).mono (fun _ h c => h c _ (mem_uc main_v32 (by decide))) (run_all m ρ)

end Cert.Kernel5Ideal.Value

end
-- ==== Proof.Layer.Agree.lean ====
/- The second chain's result is the reference's. -/
module

public import proofs.«01_k».proof.Proof.Layer.Pre
public import proofs.«01_k».proof.Proof.Layer.Run

@[expose] public section

set_option maxRecDepth 16384

noncomputable section

open Idealize.ShloMosaic Idealize.ShloMosaic.TcCoe Idealize.SL.Sem

namespace Cert.Reference5Ideal.Value

open Cert.Reference5Ideal Cert.Reference5Ideal.Gen
open Cert.Kernel5Ideal.Value (VPART)

/-- The result as a function of the arguments. -/
abbrev RESULT (a0 a1 : FVec Ideal S8192x2048 .f32) (a2 : FVec Ideal S4x2048x4096 .f32) (a3 : FVec Ideal S4x256x4096 .f32)
    (a4 a5 : FVec Ideal S2x2048 .f32) (a6 : FVec Ideal S2x4096x4096 .f32) (a7 a8 : FVec Ideal S2x4096 .f32) (a9 : FVec Ideal S2x4096x512 .f32)
    (a10 : FVec Ideal S2x4096x1024 .f32) (a11 a12 : FVec Ideal S2x128 .f32) (a13 : FVec Ideal S2x512x4096 .f32) (a14 : FVec Ideal S2x4096 .f32)
    (a15 a16 : FVec Ideal S2x4096x11008 .f32) (a17 : FVec Ideal S1x11008x4096 .bf16) : FVec Ideal S4x2048x4096 .f32 :=
  shapeCast _ (X3 (X2 (X1 a0 a1 a2 a4 a5 a6) (QN (X1 a0 a1 a2 a4 a5 a6) a7 a9 a11) (KN (ZM a3 a8 a10) a12) (VPART (ZM a3 a8 a10)) a13) a14 a15 a16 a17)
    shapeCasts_S8192x4096_S4x2048x4096

theorem result_eq (V0 : Valuation τ sig (Elt Ideal)) :
    shapeCast S4x2048x4096 (DOWN (res_main_v128 (F := Ideal) V0) (SWIGLU (res_main_v146 (F := Ideal) V0)
      (FFN (res_main_v143 (F := Ideal) V0) (V0 (Proc.devRef .tc main_arg16)))) (V0 (Proc.devRef .tc main_arg17))) shapeCasts_S8192x4096_S4x2048x4096
    = RESULT (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  rw [x3_eq, x2_eq, x1_eq]

end Cert.Reference5Ideal.Value

namespace Cert.Kernel5Ideal.Value

open Cert.Kernel5Ideal Cert.Kernel5Ideal.Gen

theorem algebraic : Cert.algebraic_Kernel5Ideal_Reference5Ideal_pre_finite5 := by
  intro m g m' g' hp h
  refine ⟨fun c => W15 m g c (Proc.devRef .tc main_v32), ?_, ?_⟩
  · refine (θ_run _ _ _).mono (fun r hr c => ?_) (run_all m g)
    exact ⟨hr c _ (mem_uc main_v32 (by decide)),
      (hr c _ (mem_uc main_arg0 (by decide))).trans (W15_main_arg0 m g c),
      (hr c _ (mem_uc main_arg1 (by decide))).trans (W15_main_arg1 m g c),
      (hr c _ (mem_uc main_arg2 (by decide))).trans (W15_main_arg2 m g c),
      (hr c _ (mem_uc main_arg3 (by decide))).trans (W15_main_arg3 m g c),
      (hr c _ (mem_uc main_arg4 (by decide))).trans (W15_main_arg4 m g c),
      (hr c _ (mem_uc main_arg5 (by decide))).trans (W15_main_arg5 m g c),
      (hr c _ (mem_uc main_arg6 (by decide))).trans (W15_main_arg6 m g c),
      (hr c _ (mem_uc main_arg7 (by decide))).trans (W15_main_arg7 m g c),
      (hr c _ (mem_uc main_arg8 (by decide))).trans (W15_main_arg8 m g c),
      (hr c _ (mem_uc main_arg9 (by decide))).trans (W15_main_arg9 m g c),
      (hr c _ (mem_uc main_arg10 (by decide))).trans (W15_main_arg10 m g c),
      (hr c _ (mem_uc main_arg11 (by decide))).trans (W15_main_arg11 m g c),
      (hr c _ (mem_uc main_arg12 (by decide))).trans (W15_main_arg12 m g c),
      (hr c _ (mem_uc main_arg13 (by decide))).trans (W15_main_arg13 m g c),
      (hr c _ (mem_uc main_arg14 (by decide))).trans (W15_main_arg14 m g c),
      (hr c _ (mem_uc main_arg15 (by decide))).trans (W15_main_arg15 m g c),
      (hr c _ (mem_uc main_arg16 (by decide))).trans (W15_main_arg16 m g c),
      (hr c _ (mem_uc main_arg17 (by decide))).trans (W15_main_arg17 m g c)⟩
  · refine (θ_run _ _ _).mono (fun r hr c => ⟨?_, (hr c).2⟩) (Cert.Reference5Ideal.Value.run m' g')
    obtain ⟨h0, h1, h2, h3, h4, h5, h6, h7, h8, h9, h10, h11, h12, h13, h14, h15, h16, h17⟩ := h c
    refine (hr c).1.trans ((Cert.Reference5Ideal.Value.result_eq _).trans ?_)
    refine Eq.trans ?_ (at15_v32 m g c (queries_real m c hp) (keys_real m c hp)).symm
    show Cert.Reference5Ideal.Value.RESULT (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg10)) (m' ((c.tc : Thread Cert.Reference5Ideal.nD Cert.Reference5Ideal.τ).loc Cert.Reference5Ideal.main_arg11)) (m' ((c.tc : Thread Cert.Reference5Ideal.nD Cert.Reference5Ideal.τ).loc Cert.Reference5Ideal.main_arg12)) (m' ((c.tc : Thread Cert.Reference5Ideal.nD Cert.Reference5Ideal.τ).loc Cert.Reference5Ideal.main_arg13)) (m' ((c.tc : Thread Cert.Reference5Ideal.nD Cert.Reference5Ideal.τ).loc Cert.Reference5Ideal.main_arg14)) (m' ((c.tc : Thread Cert.Reference5Ideal.nD Cert.Reference5Ideal.τ).loc Cert.Reference5Ideal.main_arg15)) (m' ((c.tc : Thread Cert.Reference5Ideal.nD Cert.Reference5Ideal.τ).loc Cert.Reference5Ideal.main_arg16)) (m' ((c.tc : Thread Cert.Reference5Ideal.nD Cert.Reference5Ideal.τ).loc Cert.Reference5Ideal.main_arg17)) = _
    rw [h0, h1, h2, h3, h4, h5, h6, h7, h8, h9, h10, h11, h12, h13, h14, h15, h16, h17]

end Cert.Kernel5Ideal.Value

end
-- ==== Proof.Front.Base.lean ====
/- Matrices read at natural numbers, and the lane selections of the latent heads' kernels. -/
module

public import proofs.«01_k».proof.Proof.Gen.Kernel6Ideal.Frame
public import Idealize.ShloMosaic.Lib.Pipeline.ValueKit

@[expose] public section

set_option maxRecDepth 16384

noncomputable section

open Idealize.ShloMosaic Idealize.ShloMosaic.TcCoe Idealize.SL.Sem

namespace Cert.Front

/-- A matrix read at a row and a column, zero outside. -/
def at2 {m n : ℕ} (A : (⟨2, ![m, n]⟩ : Shape).Idx → EReal) (r c : ℕ) : EReal :=
  if h : r < m ∧ c < n then A (ix2 ⟨r, h.1⟩ ⟨c, h.2⟩) else 0

theorem at2_fin {m n : ℕ} (A : (⟨2, ![m, n]⟩ : Shape).Idx → EReal) (r : Fin m) (c : Fin n) : A (ix2 r c) = at2 A r c := by
  unfold at2; rw [dif_pos ⟨r.isLt, c.isLt⟩]

theorem at2_idx {m n : ℕ} (A : (⟨2, ![m, n]⟩ : Shape).Idx → EReal) (j : (⟨2, ![m, n]⟩ : Shape).Idx) : A j = at2 A (j 0 : ℕ) (j 1 : ℕ) := by
  conv_lhs => rw [eq_ix2 j]
  exact at2_fin A (j 0) (j 1)

theorem at2_of {m n : ℕ} (A : (⟨2, ![m, n]⟩ : Shape).Idx → EReal) {r c : ℕ} (hr : r < m) (hc : c < n) : at2 A r c = A (ix2 ⟨r, hr⟩ ⟨c, hc⟩) := by
  unfold at2; rw [dif_pos ⟨hr, hc⟩]

/-- The matrix of a function of a row and a column. -/
def ofNat2 {m n : ℕ} (F : ℕ → ℕ → EReal) : (⟨2, ![m, n]⟩ : Shape).Idx → EReal := fun j => F (j 0 : ℕ) (j 1 : ℕ)

theorem at2_ofNat2 {m n : ℕ} (F : ℕ → ℕ → EReal) {r c : ℕ} (hr : r < m) (hc : c < n) : at2 (ofNat2 (m := m) (n := n) F) r c = F r c := by
  rw [at2_of _ hr hc]; rfl

/-- A stack of matrices read at a layer, a row and a column, zero outside. -/
def at3 {l m n : ℕ} (A : (⟨3, ![l, m, n]⟩ : Shape).Idx → EReal) (q r c : ℕ) : EReal :=
  if h : q < l ∧ r < m ∧ c < n then A (ix3 ⟨q, h.1⟩ ⟨r, h.2.1⟩ ⟨c, h.2.2⟩) else 0

theorem at3_of {l m n : ℕ} (A : (⟨3, ![l, m, n]⟩ : Shape).Idx → EReal) {q r c : ℕ} (hq : q < l) (hr : r < m) (hc : c < n) :
    at3 A q r c = A (ix3 ⟨q, hq⟩ ⟨r, hr⟩ ⟨c, hc⟩) := by
  unfold at3; rw [dif_pos ⟨hq, hr, hc⟩]

/-- A selection by whether the lane is below 64. -/
theorem sel64 {α : Type} (b : ℕ) (hb : b < 128) (x y : α) :
    Scalar.select (IntOp.cmpi .slt (BitVec.ofNat 32 b) 64#32) x y = if b < 64 then x else y := by
  have h : ∀ b : Fin 128, IntOp.cmpi .slt (BitVec.ofNat 32 b.val) 64#32 = if b.val < 64 then 1#1 else 0#1 := by decide
  rw [show IntOp.cmpi .slt (BitVec.ofNat 32 b) 64#32 = _ from h ⟨b, hb⟩]
  dsimp only
  split <;> rfl

/-- A selection by whether the lane is below 32. -/
theorem sel32 {α : Type} (b : ℕ) (hb : b < 128) (x y : α) :
    Scalar.select (IntOp.cmpi .slt (BitVec.ofNat 32 b) 32#32) x y = if b < 32 then x else y := by
  have h : ∀ b : Fin 128, IntOp.cmpi .slt (BitVec.ofNat 32 b.val) 32#32 = if b.val < 32 then 1#1 else 0#1 := by decide
  rw [show IntOp.cmpi .slt (BitVec.ofNat 32 b) 32#32 = _ from h ⟨b, hb⟩]
  dsimp only
  split <;> rfl

/-- A selection between a lane and the lane 64 further round is the lane's residue. -/
theorem twice_eq (Z : ℕ → EReal) (b o : ℕ) (hb : b < 128) :
    (if b < 64 then Z (o + b) else Z (o + (b + 128 - 64) % 128)) = Z (o + b % 64) := by
  split
  · rw [Nat.mod_eq_of_lt (by omega)]
  · congr 1; omega

theorem lit_64 : Ideal.ofBits .f32 0x42800000#32 = ((64 : ℝ) : EReal) := by simp [Ideal.ofBits, Ideal.ieee, -EReal.coe_mul]; norm_num
theorem lit_inv128 : Ideal.ofBits .f32 0x3C000000#32 = ((1 / 128 : ℝ) : EReal) := by simp [Ideal.ofBits, Ideal.ieee, -EReal.coe_mul]; norm_num

/-- The mean over the lanes twice over is the mean over the lanes. -/
theorem mean_twice (f : ℕ → EReal) : (∑ k : Fin 128, f (k % 64)) * Ideal.ofBits .f32 0x3C000000#32
    = Ideal.div (∑ k : Fin 64, f k) (Ideal.ofBits .f32 0x42800000#32) := by
  have h : ∑ k : Fin 128, f (k % 64) = (∑ k : Fin 64, f k) + ∑ k : Fin 64, f k := by
    rw [show (∑ k : Fin 128, f (k % 64)) = ∑ k : Fin (64 + 64), f (k % 64) from rfl, Fin.sum_univ_add]
    refine congrArg₂ (· + ·) (Finset.sum_congr rfl fun k _ => congrArg f ?_) (Finset.sum_congr rfl fun k _ => congrArg f ?_)
    · have := k.isLt; simp only [Fin.val_castAdd]; omega
    · have := k.isLt; simp only [Fin.val_natAdd]; omega
  rw [h, lit_64, lit_inv128, Ideal.div_coe (by norm_num)]
  generalize ∑ k : Fin 64, f k = s
  induction s using EReal.rec with
  | bot => rw [EReal.bot_add, EReal.bot_mul_coe_of_pos (by norm_num), EReal.bot_mul_coe_of_pos (by norm_num)]
  | top => rw [EReal.top_add_top, EReal.top_mul_coe_of_pos (by norm_num), EReal.top_mul_coe_of_pos (by norm_num)]
  | coe r => rw [← EReal.coe_add, ← EReal.coe_mul, ← EReal.coe_mul]; congr 1; ring

end Cert.Front

end
-- ==== Proof.Front.Latent.lean ====
/- The call that norms the residual stream and projects it to the latents: what each payload holds. -/
module

public import proofs.«01_k».proof.Proof.Front.Base

@[expose] public section

set_option maxRecDepth 16384

noncomputable section

open Idealize.ShloMosaic Idealize.ShloMosaic.TcCoe Idealize.SL.Sem

namespace Cert.Kernel6Ideal.Value

open Cert.Front
open Cert.Kernel6Ideal Cert.Kernel6Ideal.Gen

/-- Rows normed over their first `K` entries, `c` being the inverse of `K`, with the gain `G`. -/
def NRM (K : ℕ) (c : EReal) (X : ℕ → ℕ → EReal) (G : ℕ → EReal) (r b : ℕ) : EReal :=
  X r b * Ideal.rsqrt ((∑ k : Fin K, X r k * X r k) * c + Ideal.ofBits .f32 0x358637BD#32) * G b

/-- Rows against the rows of a weight. -/
def PRJ (K : ℕ) (X W : ℕ → ℕ → EReal) (r b : ℕ) : EReal := ∑ k : Fin K, X r k * W b k

/-- The rope lanes, each twice. -/
def TWICE (Z : ℕ → ℕ → EReal) (r b : ℕ) : EReal := Z r (1536 + b % 64)

/-- The normed lanes turned by the angle whose cosine and sine the tables hold. -/
def ROT (X C S : ℕ → ℕ → EReal) (r b : ℕ) : EReal := X r b * C r b + X r ((b + 128 - 32) % 128) * S r b

/-- The inverses of the lengths. -/
abbrev i4096 : EReal := Ideal.ofBits .f32 0x39800000#32
abbrev i1024 : EReal := Ideal.ofBits .f32 0x3A800000#32
abbrev i512 : EReal := Ideal.ofBits .f32 0x3B000000#32
abbrev i128 : EReal := Ideal.ofBits .f32 0x3C000000#32

/-- The selected lane. -/
theorem sel_twice (Z : ℕ → ℕ → EReal) (r b : ℕ) (hb : b < 128) :
    Scalar.select (IntOp.cmpi .slt (BitVec.ofNat 32 b) 64#32) (Z r (1536 + b)) (Z r (1536 + (b + 128 - 64) % 128)) = TWICE Z r b :=
  (sel64 b hb _ _).trans (twice_eq (Z r) b 1536 hb)

theorem n1a (X : Vec Ideal S256x4096 .f32) (G : Vec Ideal S1x4096 .f32) (Z : ℕ → ℕ → EReal) (r : ℕ)
    (hX : ∀ (a : Fin 256) (b : Fin 4096), X (ix2 a b) = Z (r + a) b) (a : Fin 256) (b : Fin 4096) :
    k1_pay2 (F := Ideal) X G (ix2 a b) = NRM 4096 i4096 Z (at2 G 0) (r + a) b := by
  pointwise [k1_pay2]
  simp only [hX, at2_fin G]
  rfl

theorem n1b (X : Vec Ideal S256x4096 .f32) (G : Vec Ideal S1x4096 .f32) (Z : ℕ → ℕ → EReal) (r : ℕ)
    (hX : ∀ (a : Fin 256) (b : Fin 4096), X (ix2 a b) = Z (r + a) b) (a : Fin 256) (b : Fin 4096) :
    k1_pay4 (F := Ideal) X G (ix2 a b) = NRM 4096 i4096 Z (at2 G 0) (r + a) b := by
  pointwise [k1_pay4]
  simp only [hX, at2_fin G]
  rfl

theorem p1a (X : Vec Ideal S256x4096 .f32) (G : Vec Ideal S1x4096 .f32) (W : Vec Ideal S1x1664x4096 .bf16) (N WW : ℕ → ℕ → EReal) (r : ℕ)
    (hN : ∀ (a : Fin 256) (b : Fin 4096), k1_pay2 (F := Ideal) X G (ix2 a b) = N (r + a) b)
    (hW : ∀ (b : Fin 1664) (k : Fin 4096), W (ix3 0 b k) = WW b k) (a : Fin 256) (b : Fin 1664) :
    k1_pay3 (F := Ideal) X G W (ix2 a b) = PRJ 4096 N WW (r + a) b := by
  generalize hP : k1_pay2 (F := Ideal) X G = P at hN
  unfold k1_pay3
  rw [hP]
  pointwise
  simp only [hN, hW, zero_add]
  rfl

theorem p1b (P : FVec Ideal S256x4096 .bf16) (W : Vec Ideal S1x1664x4096 .bf16) (N WW : ℕ → ℕ → EReal) (r : ℕ)
    (hN : ∀ (a : Fin 256) (b : Fin 4096), P (ix2 a b) = N (r + a) b)
    (hW : ∀ (b : Fin 1664) (k : Fin 4096), W (ix3 0 b k) = WW b k) (a : Fin 256) (b : Fin 1664) :
    k1_pay5 (F := Ideal) P W (ix2 a b) = PRJ 4096 N WW (r + a) b := by
  pointwise [k1_pay5]
  simp only [hN, hW, zero_add]
  rfl

theorem cq1a (P : FVec Ideal S256x1664 .f32) (G : Vec Ideal S1x1024 .f32) (Z : ℕ → ℕ → EReal) (r : ℕ)
    (hP : ∀ (a : Fin 256) (b : Fin 1664), P (ix2 a b) = Z (r + a) b) (a : Fin 256) (b : Fin 1024) :
    k1_pay6 (F := Ideal) P G (ix2 a b) = NRM 1024 i1024 Z (at2 G 0) (r + a) b := by
  pointwise [k1_pay6]
  simp only [hP, at2_fin G]
  rfl

theorem cq1b (P : FVec Ideal S256x1664 .f32) (G : Vec Ideal S1x1024 .f32) (Z : ℕ → ℕ → EReal) (r : ℕ)
    (hP : ∀ (a : Fin 256) (b : Fin 1664), P (ix2 a b) = Z (r + a) b) (a : Fin 256) (b : Fin 1024) :
    k1_pay10 (F := Ideal) (k1_pay9 P) G (ix2 a b) = NRM 1024 i1024 Z (at2 G 0) (r + a) b := by
  pointwise [k1_pay10, k1_pay9]
  simp only [hP, at2_fin G]
  rfl

theorem ckv1a (P : FVec Ideal S256x1664 .f32) (G : Vec Ideal S1x512 .f32) (Z : ℕ → ℕ → EReal) (r : ℕ)
    (hP : ∀ (a : Fin 256) (b : Fin 1664), P (ix2 a b) = Z (r + a) b) (a : Fin 256) (b : Fin 512) :
    k1_pay7 (F := Ideal) P G (ix2 a b) = NRM 512 i512 (fun r b => Z r (1024 + b)) (at2 G 0) (r + a) b := by
  pointwise [k1_pay7]
  simp only [hP, at2_fin G]
  rfl

theorem ckv1b (P : FVec Ideal S256x1664 .f32) (G : Vec Ideal S1x512 .f32) (Z : ℕ → ℕ → EReal) (r : ℕ)
    (hP : ∀ (a : Fin 256) (b : Fin 1664), P (ix2 a b) = Z (r + a) b) (a : Fin 256) (b : Fin 512) :
    k1_pay11 (F := Ideal) P G (ix2 a b) = NRM 512 i512 (fun r b => Z r (1024 + b)) (at2 G 0) (r + a) b := by
  pointwise [k1_pay11]
  simp only [hP, at2_fin G]
  rfl

theorem kr1a (P : FVec Ideal S256x1664 .f32) (G : FVec Ideal S1x128 .f32) (C S : FVec Ideal S256x128 .f32) (Z CF SF : ℕ → ℕ → EReal) (r : ℕ)
    (hP : ∀ (a : Fin 256) (b : Fin 1664), P (ix2 a b) = Z (r + a) b) (hC : ∀ (a : Fin 256) (b : Fin 128), C (ix2 a b) = CF (r + a) b)
    (hS : ∀ (a : Fin 256) (b : Fin 128), S (ix2 a b) = SF (r + a) b) (a : Fin 256) (b : Fin 128) :
    k1_pay8 (F := Ideal) P G C S (ix2 a b) = ROT (NRM 128 i128 (TWICE Z) (at2 G 0)) CF SF (r + a) b := by
  have hb := b.isLt
  pointwise [k1_pay8]
  simp only [hP, hC, hS, at2_fin G, sel_twice Z _ _ b.isLt, fun k : Fin 128 => sel_twice Z (r + a) k k.isLt,
    sel_twice Z (r + a) ((b + 128 - 32) % 128) (Nat.mod_lt _ (by omega))]
  rfl

theorem kr1b (P : FVec Ideal S256x1664 .f32) (G : FVec Ideal S1x128 .f32) (C S : FVec Ideal S256x128 .f32) (Z CF SF : ℕ → ℕ → EReal) (r : ℕ)
    (hP : ∀ (a : Fin 256) (b : Fin 1664), P (ix2 a b) = Z (r + a) b) (hC : ∀ (a : Fin 256) (b : Fin 128), C (ix2 a b) = CF (r + a) b)
    (hS : ∀ (a : Fin 256) (b : Fin 128), S (ix2 a b) = SF (r + a) b) (a : Fin 256) (b : Fin 128) :
    k1_pay1 (F := Ideal) (k1_pay12 P) G C S (ix2 a b) = ROT (NRM 128 i128 (TWICE Z) (at2 G 0)) CF SF (r + a) b := by
  have hb := b.isLt
  pointwise [k1_pay1, k1_pay12]
  simp only [hP, hC, hS, at2_fin G, sel_twice Z _ _ b.isLt, fun k : Fin 128 => sel_twice Z (r + a) k k.isLt,
    sel_twice Z (r + a) ((b + 128 - 32) % 128) (Nat.mod_lt _ (by omega))]
  rfl

end Cert.Kernel6Ideal.Value

end
-- ==== Proof.Front.QMean.lean ====
/- The group means of the up-projected queries. -/
module

public import proofs.«01_k».proof.Proof.Front.Latent
public import proofs.«01_k».proof.Proof.Layer.Reals

@[expose] public section

set_option maxRecDepth 16384

noncomputable section

open Idealize.ShloMosaic Idealize.ShloMosaic.TcCoe Idealize.SL.Sem

namespace Cert.Kernel6Ideal.Value

open Cert.Front Cert.Reals
open Cert.Kernel6Ideal Cert.Kernel6Ideal.Gen

/-- A selection by whether two words of small numbers agree. -/
theorem sel_same {α : Type} (x y : BitVec 32) (m n : ℕ) (p q : α) (hm : m < 2) (hn : n < 2) (hx : x = BitVec.ofNat 32 m) (hy : y = BitVec.ofNat 32 n) :
    Scalar.select (IntOp.cmpi .eq x y) p q = if m = n then p else q := by
  subst hx hy
  interval_cases m <;> interval_cases n <;> rfl

/-- The group-mean matrix: the inverse of 128 where the row's group is the column's. -/
theorem avg2 (k : Fin 512) (b : Fin 256) :
    k2_pay8 (F := Ideal) (iota .tc S512x256 32 [1] iota_S512x256_d1_w32) k2_pay5 128#32 k2_pay6 k2_pay7 0#32 (ix2 k b)
      = if (k : ℕ) % 256 / 128 = (b : ℕ) / 128 then Ideal.ofBits .f32 0x3C000000#32 else 0 := by
  pointwise [k2_pay8, k2_pay5, k2_pay6, k2_pay7]
  refine (sel_same _ _ ((k : ℕ) % 256 / 128) ((b : ℕ) / 128) _ _ (by omega) (by omega) ?_ ?_).trans ?_
  · revert k; decide +kernel
  · revert b; decide +kernel
  · rfl

/-- What a number less a copy of itself adds to a group's mean is nothing, and the matrix averages the group. -/
theorem mean_group (q A : ℕ → EReal) (g : ℕ) (hg : g < 2) (hq : ∀ k, k < 256 → IsReal (q k))
    (hA : ∀ k, k < 512 → A k = if k % 256 / 128 = g then Ideal.ofBits .f32 0x3C000000#32 else 0) :
    ∑ k : Fin 512, (if (k : ℕ) < 256 then q k else q (k - 256) - q (k - 256)) * A k
      = (∑ k : Fin 128, q (128 * g + k)) * Ideal.ofBits .f32 0x3C000000#32 := by
  have hs : ∑ k : Fin 512, (if (k : ℕ) < 256 then q k else q (k - 256) - q (k - 256)) * A k = ∑ k : Fin 256, q k * A k := by
    rw [show (∑ k : Fin 512, (if (k : ℕ) < 256 then q k else q (k - 256) - q (k - 256)) * A k)
      = ∑ k : Fin (256 + 256), (if (k : ℕ) < 256 then q k else q (k - 256) - q (k - 256)) * A k from rfl, Fin.sum_univ_add]
    refine (congrArg₂ (· + ·) (Finset.sum_congr rfl fun k _ => ?_) (Finset.sum_eq_zero fun k _ => ?_)).trans (add_zero _)
    · have hk := k.isLt
      simp only [Fin.val_castAdd]
      rw [if_pos hk]
    · obtain ⟨x, hx⟩ := hq k k.isLt
      simp only [Fin.val_natAdd]
      rw [if_neg (by omega), Nat.add_sub_cancel_left, hx, ← EReal.coe_sub, sub_self, EReal.coe_zero, zero_mul]
  have hz : ∀ k : ℕ, k < 256 → k / 128 ≠ g → q k * A k = 0 := fun k hk h => by
    rw [hA k (by omega), Nat.mod_eq_of_lt hk, if_neg h, mul_zero]
  have hn : ∀ k : ℕ, k < 256 → k / 128 = g → q k * A k = q k * Ideal.ofBits .f32 0x3C000000#32 := fun k hk h => by
    rw [hA k (by omega), Nat.mod_eq_of_lt hk, if_pos h]
  rw [hs, show (∑ k : Fin 256, q k * A k) = ∑ k : Fin (128 + 128), q k * A k from rfl, Fin.sum_univ_add]
  have hm : (∑ k : Fin 128, q (128 * g + k)) * Ideal.ofBits .f32 0x3C000000#32
      = ∑ k : Fin 128, q (128 * g + k) * Ideal.ofBits .f32 0x3C000000#32 := by
    rw [lit_inv128]; exact sum_mul_nonneg _ _ _ (by norm_num)
  rw [hm]
  obtain rfl | rfl : g = 0 ∨ g = 1 := by omega
  · rw [Finset.sum_eq_zero (s := Finset.univ) (f := fun k : Fin 128 => q (Fin.natAdd 128 k : Fin (128 + 128)) * A (Fin.natAdd 128 k : Fin (128 + 128)))
      fun k _ => hz _ (by omega) (by simp only [Fin.val_natAdd]; omega), add_zero]
    refine Finset.sum_congr rfl fun k _ => ?_
    rw [hn _ (by simp only [Fin.val_castAdd]; omega) (by simp only [Fin.val_castAdd]; omega)]
    simp only [Fin.val_castAdd, Nat.mul_zero, Nat.zero_add]
  · rw [Finset.sum_eq_zero (s := Finset.univ) (f := fun k : Fin 128 => q (Fin.castAdd 128 k : Fin (128 + 128)) * A (Fin.castAdd 128 k : Fin (128 + 128)))
      fun k _ => hz _ (by simp only [Fin.val_castAdd]; omega) (by simp only [Fin.val_castAdd]; omega), zero_add]
    refine Finset.sum_congr rfl fun k _ => ?_
    rw [hn _ (by omega) (by simp only [Fin.val_natAdd]; omega)]
    simp only [Fin.val_natAdd, Nat.mul_one]

/-- A head's lanes, each group normed by its own mean. -/
def QN (Q : ℕ → ℕ → EReal) (r b : ℕ) : EReal :=
  Q r b * Ideal.rsqrt ((∑ k : Fin 128, Q r (128 * (b / 128) + k) * Q r (128 * (b / 128) + k)) * i128 + Ideal.ofBits .f32 0x358637BD#32)

/-- The matrix. -/
abbrev AVG : FVec Ideal S512x256 .bf16 :=
  k2_pay8 (F := Ideal) (iota .tc S512x256 32 [1] iota_S512x256_d1_w32) k2_pay5 128#32 k2_pay6 k2_pay7 0#32

/-- The mean of a group by the matrix. -/
theorem mean2 (B : ℕ → EReal) (Q : ℕ → EReal) (b : Fin 256) (hQ : ∀ k, IsReal (Q k))
    (hB : ∀ k, k < 512 → B k = if k < 256 then Q k * Q k else Q (k - 256) * Q (k - 256) - Q (k - 256) * Q (k - 256)) :
    ∑ k : Fin 512, B k * AVG (ix2 k b)
      = (∑ k : Fin 128, Q (128 * ((b : ℕ) / 128) + k) * Q (128 * ((b : ℕ) / 128) + k)) * i128 := by
  rw [← mean_group (fun k => Q k * Q k) (fun k => if k % 256 / 128 = (b : ℕ) / 128 then Ideal.ofBits .f32 0x3C000000#32 else 0)
    ((b : ℕ) / 128) (by omega) (fun k _ => (hQ k).mul (hQ k)) fun k _ => rfl]
  refine Finset.sum_congr rfl fun k _ => ?_
  rw [hB k k.isLt]
  exact congrArg _ (avg2 k b)

end Cert.Kernel6Ideal.Value

end
-- ==== Proof.Front.QHeads.lean ====
/- The up-projected queries: what each payload of the call holds. -/
module

public import proofs.«01_k».proof.Proof.Front.QMean

@[expose] public section

set_option maxRecDepth 16384

noncomputable section

open Idealize.ShloMosaic Idealize.ShloMosaic.TcCoe Idealize.SL.Sem

namespace Cert.Kernel6Ideal.Value

open Cert.Front Cert.Reals
open Cert.Kernel6Ideal Cert.Kernel6Ideal.Gen

/-- A head's lanes: the part without position, then the rope part twice. -/
def YS (Y : ℕ → ℕ → EReal) (o r b : ℕ) : EReal := Y r (o + if b < 128 then b else 128 + b % 64)

/-- The constant that the queries are scaled by. -/
abbrev qs : Ideal .f32 := Named.named (F := Ideal) κ "qk_scale" 0x3DD53B95#32

/-- The part of a query without position. -/
def QNOPE (Q : ℕ → ℕ → EReal) (G : ℕ → EReal) (r b : ℕ) : EReal := QN Q r b * (G b * qs)

/-- The rope part of a query. -/
def QROPE (Q C S : ℕ → ℕ → EReal) (G : ℕ → EReal) : ℕ → ℕ → EReal :=
  ROT (fun r b => QN Q r (128 + b) * G b) (fun r b => C r b * qs) (fun r b => S r b * qs)

variable {v84 : FVec Ideal S1024x1024 .bf16} {v85 : Vec Ideal S1x1024x768 .f32} {Y CF SF : ℕ → ℕ → EReal} {r o : ℕ}

/-- The first head's lanes. -/
theorem ys0 (hY : ∀ (a : Fin 1024) (b : Fin 768), k2_pay10 (F := Ideal) v84 v85 (ix2 a b) = Y (r + a) (o + b)) (a : Fin 1024) (b : Fin 256) :
    k2_pay14 (F := Ideal) v84 v85 (ix2 a b) = YS Y (o + 0) (r + a) b := by
  have hb := b.isLt
  unfold YS
  unfold k2_pay14 k2_pay13 k2_pay12 k2_pay11
  generalize k2_pay10 (F := Ideal) v84 v85 = P at hY
  pointwise
  simp only [hY]
  split
  · first
      | rfl
      | (congr 1; omega)
      | (rw [sel64 _ (by omega)]; split <;> (congr 1; omega))
  · rw [sel64 _ (by omega)]
    split <;> (congr 1; omega)

/-- The squares of the first head's lanes beside what rounding them leaves. -/
theorem sq0 (hY : ∀ (a : Fin 1024) (b : Fin 768), k2_pay10 (F := Ideal) v84 v85 (ix2 a b) = Y (r + a) (o + b)) (a : Fin 1024) (k : Fin 512) :
    k2_pay20 (F := Ideal) v84 v85 (ix2 a k) = if (k : ℕ) < 256 then YS Y (o + 0) (r + a) k * YS Y (o + 0) (r + a) k
      else YS Y (o + 0) (r + a) (k - 256) * YS Y (o + 0) (r + a) (k - 256)
        - YS Y (o + 0) (r + a) (k - 256) * YS Y (o + 0) (r + a) (k - 256) := by
  have hk := k.isLt
  have hP := ys0 hY
  unfold k2_pay20
  generalize k2_pay14 (F := Ideal) v84 v85 = P at hP
  pointwise
  simp only [hP]
  split <;> rfl

/-- The first head normed. -/
theorem qn0 (hY : ∀ (a : Fin 1024) (b : Fin 768), k2_pay10 (F := Ideal) v84 v85 (ix2 a b) = Y (r + a) (o + b))
    (hR : ∀ r c, IsReal (Y r c)) (a : Fin 1024) (b : Fin 256) :
    k2_pay26 (F := Ideal) AVG (k2_pay14 v84 v85) (k2_pay20 v84 v85) (ix2 a b) = QN (YS Y (o + 0)) (r + a) b := by
  have hP := ys0 hY
  have hS := sq0 hY
  have hM := (mean2 (fun k => if k < 256 then YS Y (o + 0) (r + a) k * YS Y (o + 0) (r + a) k
      else YS Y (o + 0) (r + a) (k - 256) * YS Y (o + 0) (r + a) (k - 256)
        - YS Y (o + 0) (r + a) (k - 256) * YS Y (o + 0) (r + a) (k - 256)) (YS Y (o + 0) (r + a)) b (fun k => hR _ _) fun k _ => rfl)
  generalize AVG = A at hM ⊢
  generalize k2_pay14 (F := Ideal) v84 v85 = P at hP
  generalize k2_pay20 (F := Ideal) v84 v85 = Q at hS
  pointwise [k2_pay26]
  simp only [hP, hS, zero_add, hM]
  rfl

/-- The first head's part without position. -/
theorem nope0 (G : Vec Ideal S1x128 .f32) (hY : ∀ (a : Fin 1024) (b : Fin 768), k2_pay10 (F := Ideal) v84 v85 (ix2 a b) = Y (r + a) (o + b))
    (hR : ∀ r c, IsReal (Y r c)) (a : Fin 1024) (b : Fin 128) :
    k2_pay27 (F := Ideal) (k2_pay4 G) AVG (k2_pay14 v84 v85) (k2_pay20 v84 v85) (ix2 a b)
      = QNOPE (YS Y (o + 0)) (at2 G 0) (r + a) b := by
  have hP := qn0 hY hR
  unfold k2_pay27 QNOPE
  generalize k2_pay26 (F := Ideal) AVG (k2_pay14 v84 v85) (k2_pay20 v84 v85) = P at hP
  pointwise [k2_pay4]
  simp only [hP, at2_fin G]
  rfl

/-- The first head's rope part. -/
theorem rope0 (C S : Vec Ideal S1024x128 .f32) (G : Vec Ideal S1x128 .f32)
    (hY : ∀ (a : Fin 1024) (b : Fin 768), k2_pay10 (F := Ideal) v84 v85 (ix2 a b) = Y (r + a) (o + b))
    (hR : ∀ r c, IsReal (Y r c)) (hC : ∀ (a : Fin 1024) (b : Fin 128), C (ix2 a b) = CF (r + a) b)
    (hS : ∀ (a : Fin 1024) (b : Fin 128), S (ix2 a b) = SF (r + a) b) (a : Fin 1024) (b : Fin 128) :
    k2_pay28 (F := Ideal) (k2_pay2 C) (k2_pay3 S) AVG (k2_pay14 v84 v85) (k2_pay20 v84 v85) G (ix2 a b)
      = QROPE (YS Y (o + 0)) CF SF (at2 G 0) (r + a) b := by
  have hP := qn0 hY hR
  unfold k2_pay28
  unfold QROPE
  generalize k2_pay26 (F := Ideal) AVG (k2_pay14 v84 v85) (k2_pay20 v84 v85) = P at hP
  pointwise [k2_pay2, k2_pay3]
  simp only [hP, hC, hS, at2_fin G]
  rfl

/-- The second head's lanes. -/
theorem ys1 (hY : ∀ (a : Fin 1024) (b : Fin 768), k2_pay10 (F := Ideal) v84 v85 (ix2 a b) = Y (r + a) (o + b)) (a : Fin 1024) (b : Fin 256) :
    k2_pay15 (F := Ideal) v84 v85 (ix2 a b) = YS Y (o + 192) (r + a) b := by
  have hb := b.isLt
  unfold YS
  unfold k2_pay15 k2_pay13 k2_pay12 k2_pay11
  generalize k2_pay10 (F := Ideal) v84 v85 = P at hY
  pointwise
  simp only [hY]
  split
  · first
      | rfl
      | (congr 1; omega)
      | (rw [sel64 _ (by omega)]; split <;> (congr 1; omega))
  · rw [sel64 _ (by omega)]
    split <;> (congr 1; omega)

/-- The squares of the second head's lanes beside what rounding them leaves. -/
theorem sq1 (hY : ∀ (a : Fin 1024) (b : Fin 768), k2_pay10 (F := Ideal) v84 v85 (ix2 a b) = Y (r + a) (o + b)) (a : Fin 1024) (k : Fin 512) :
    k2_pay21 (F := Ideal) v84 v85 (ix2 a k) = if (k : ℕ) < 256 then YS Y (o + 192) (r + a) k * YS Y (o + 192) (r + a) k
      else YS Y (o + 192) (r + a) (k - 256) * YS Y (o + 192) (r + a) (k - 256)
        - YS Y (o + 192) (r + a) (k - 256) * YS Y (o + 192) (r + a) (k - 256) := by
  have hk := k.isLt
  have hP := ys1 hY
  unfold k2_pay21
  generalize k2_pay15 (F := Ideal) v84 v85 = P at hP
  pointwise
  simp only [hP]
  split <;> rfl

/-- The second head normed. -/
theorem qn1 (hY : ∀ (a : Fin 1024) (b : Fin 768), k2_pay10 (F := Ideal) v84 v85 (ix2 a b) = Y (r + a) (o + b))
    (hR : ∀ r c, IsReal (Y r c)) (a : Fin 1024) (b : Fin 256) :
    k2_pay29 (F := Ideal) AVG (k2_pay15 v84 v85) (k2_pay21 v84 v85) (ix2 a b) = QN (YS Y (o + 192)) (r + a) b := by
  have hP := ys1 hY
  have hS := sq1 hY
  have hM := (mean2 (fun k => if k < 256 then YS Y (o + 192) (r + a) k * YS Y (o + 192) (r + a) k
      else YS Y (o + 192) (r + a) (k - 256) * YS Y (o + 192) (r + a) (k - 256)
        - YS Y (o + 192) (r + a) (k - 256) * YS Y (o + 192) (r + a) (k - 256)) (YS Y (o + 192) (r + a)) b (fun k => hR _ _) fun k _ => rfl)
  generalize AVG = A at hM ⊢
  generalize k2_pay15 (F := Ideal) v84 v85 = P at hP
  generalize k2_pay21 (F := Ideal) v84 v85 = Q at hS
  pointwise [k2_pay29]
  simp only [hP, hS, zero_add, hM]
  rfl

/-- The second head's part without position. -/
theorem nope1 (G : Vec Ideal S1x128 .f32) (hY : ∀ (a : Fin 1024) (b : Fin 768), k2_pay10 (F := Ideal) v84 v85 (ix2 a b) = Y (r + a) (o + b))
    (hR : ∀ r c, IsReal (Y r c)) (a : Fin 1024) (b : Fin 128) :
    k2_pay30 (F := Ideal) (k2_pay4 G) AVG (k2_pay15 v84 v85) (k2_pay21 v84 v85) (ix2 a b)
      = QNOPE (YS Y (o + 192)) (at2 G 0) (r + a) b := by
  have hP := qn1 hY hR
  unfold k2_pay30 QNOPE
  generalize k2_pay29 (F := Ideal) AVG (k2_pay15 v84 v85) (k2_pay21 v84 v85) = P at hP
  pointwise [k2_pay4]
  simp only [hP, at2_fin G]
  rfl

/-- The second head's rope part. -/
theorem rope1 (C S : Vec Ideal S1024x128 .f32) (G : Vec Ideal S1x128 .f32)
    (hY : ∀ (a : Fin 1024) (b : Fin 768), k2_pay10 (F := Ideal) v84 v85 (ix2 a b) = Y (r + a) (o + b))
    (hR : ∀ r c, IsReal (Y r c)) (hC : ∀ (a : Fin 1024) (b : Fin 128), C (ix2 a b) = CF (r + a) b)
    (hS : ∀ (a : Fin 1024) (b : Fin 128), S (ix2 a b) = SF (r + a) b) (a : Fin 1024) (b : Fin 128) :
    k2_pay33 (F := Ideal) (k2_pay3 S) (k2_pay31 AVG (k2_pay15 v84 v85) (k2_pay21 v84 v85) G) (k2_pay32 (k2_pay2 C) AVG (k2_pay15 v84 v85) (k2_pay21 v84 v85) G) 32#32 (ix2 a b)
      = QROPE (YS Y (o + 192)) CF SF (at2 G 0) (r + a) b := by
  have hP := qn1 hY hR
  unfold k2_pay33 k2_pay32 k2_pay31
  unfold QROPE
  generalize k2_pay29 (F := Ideal) AVG (k2_pay15 v84 v85) (k2_pay21 v84 v85) = P at hP
  pointwise [k2_pay2, k2_pay3]
  simp only [hP, hC, hS, at2_fin G]
  rfl

/-- The third head's lanes. -/
theorem ys2 (hY : ∀ (a : Fin 1024) (b : Fin 768), k2_pay10 (F := Ideal) v84 v85 (ix2 a b) = Y (r + a) (o + b)) (a : Fin 1024) (b : Fin 256) :
    k2_pay18 (F := Ideal) v84 v85 (ix2 a b) = YS Y (o + 384) (r + a) b := by
  have hb := b.isLt
  unfold YS
  unfold k2_pay18 k2_pay17 k2_pay16 k2_pay11
  generalize k2_pay10 (F := Ideal) v84 v85 = P at hY
  pointwise
  simp only [hY]
  split
  · first
      | rfl
      | (congr 1; omega)
      | (rw [sel64 _ (by omega)]; split <;> (congr 1; omega))
  · rw [sel64 _ (by omega)]
    split <;> (congr 1; omega)

/-- The squares of the third head's lanes beside what rounding them leaves. -/
theorem sq2 (hY : ∀ (a : Fin 1024) (b : Fin 768), k2_pay10 (F := Ideal) v84 v85 (ix2 a b) = Y (r + a) (o + b)) (a : Fin 1024) (k : Fin 512) :
    k2_pay22 (F := Ideal) v84 v85 (ix2 a k) = if (k : ℕ) < 256 then YS Y (o + 384) (r + a) k * YS Y (o + 384) (r + a) k
      else YS Y (o + 384) (r + a) (k - 256) * YS Y (o + 384) (r + a) (k - 256)
        - YS Y (o + 384) (r + a) (k - 256) * YS Y (o + 384) (r + a) (k - 256) := by
  have hk := k.isLt
  have hP := ys2 hY
  unfold k2_pay22
  generalize k2_pay18 (F := Ideal) v84 v85 = P at hP
  pointwise
  simp only [hP]
  split <;> rfl

/-- The third head normed. -/
theorem qn2 (hY : ∀ (a : Fin 1024) (b : Fin 768), k2_pay10 (F := Ideal) v84 v85 (ix2 a b) = Y (r + a) (o + b))
    (hR : ∀ r c, IsReal (Y r c)) (a : Fin 1024) (b : Fin 256) :
    k2_pay34 (F := Ideal) (k2_pay18 v84 v85) (k2_pay24 AVG (k2_pay22 v84 v85)) (ix2 a b) = QN (YS Y (o + 384)) (r + a) b := by
  have hP := ys2 hY
  have hS := sq2 hY
  have hM := (mean2 (fun k => if k < 256 then YS Y (o + 384) (r + a) k * YS Y (o + 384) (r + a) k
      else YS Y (o + 384) (r + a) (k - 256) * YS Y (o + 384) (r + a) (k - 256)
        - YS Y (o + 384) (r + a) (k - 256) * YS Y (o + 384) (r + a) (k - 256)) (YS Y (o + 384) (r + a)) b (fun k => hR _ _) fun k _ => rfl)
  generalize AVG = A at hM ⊢
  generalize k2_pay18 (F := Ideal) v84 v85 = P at hP
  generalize k2_pay22 (F := Ideal) v84 v85 = Q at hS
  pointwise [k2_pay34, k2_pay24]
  simp only [hP, hS, zero_add, hM]
  rfl

/-- The third head's part without position. -/
theorem nope2 (G : Vec Ideal S1x128 .f32) (hY : ∀ (a : Fin 1024) (b : Fin 768), k2_pay10 (F := Ideal) v84 v85 (ix2 a b) = Y (r + a) (o + b))
    (hR : ∀ r c, IsReal (Y r c)) (a : Fin 1024) (b : Fin 128) :
    k2_pay35 (F := Ideal) (k2_pay4 G) (k2_pay18 v84 v85) (k2_pay24 AVG (k2_pay22 v84 v85)) (ix2 a b)
      = QNOPE (YS Y (o + 384)) (at2 G 0) (r + a) b := by
  have hP := qn2 hY hR
  unfold k2_pay35 QNOPE
  generalize k2_pay34 (F := Ideal) (k2_pay18 v84 v85) (k2_pay24 AVG (k2_pay22 v84 v85)) = P at hP
  pointwise [k2_pay4]
  simp only [hP, at2_fin G]
  rfl

/-- The third head's rope part. -/
theorem rope2 (C S : Vec Ideal S1024x128 .f32) (G : Vec Ideal S1x128 .f32)
    (hY : ∀ (a : Fin 1024) (b : Fin 768), k2_pay10 (F := Ideal) v84 v85 (ix2 a b) = Y (r + a) (o + b))
    (hR : ∀ r c, IsReal (Y r c)) (hC : ∀ (a : Fin 1024) (b : Fin 128), C (ix2 a b) = CF (r + a) b)
    (hS : ∀ (a : Fin 1024) (b : Fin 128), S (ix2 a b) = SF (r + a) b) (a : Fin 1024) (b : Fin 128) :
    k2_pay36 (F := Ideal) (k2_pay2 C) (k2_pay3 S) (k2_pay18 v84 v85) (k2_pay24 AVG (k2_pay22 v84 v85)) G (ix2 a b)
      = QROPE (YS Y (o + 384)) CF SF (at2 G 0) (r + a) b := by
  have hP := qn2 hY hR
  unfold k2_pay36
  unfold QROPE
  generalize k2_pay34 (F := Ideal) (k2_pay18 v84 v85) (k2_pay24 AVG (k2_pay22 v84 v85)) = P at hP
  pointwise [k2_pay2, k2_pay3]
  simp only [hP, hC, hS, at2_fin G]
  rfl

/-- The fourth head's lanes. -/
theorem ys3 (hY : ∀ (a : Fin 1024) (b : Fin 768), k2_pay10 (F := Ideal) v84 v85 (ix2 a b) = Y (r + a) (o + b)) (a : Fin 1024) (b : Fin 256) :
    k2_pay19 (F := Ideal) v84 v85 (ix2 a b) = YS Y (o + 576) (r + a) b := by
  have hb := b.isLt
  unfold YS
  unfold k2_pay19 k2_pay17 k2_pay16 k2_pay11
  generalize k2_pay10 (F := Ideal) v84 v85 = P at hY
  pointwise
  simp only [hY]
  split
  · first
      | rfl
      | (congr 1; omega)
      | (rw [sel64 _ (by omega)]; split <;> (congr 1; omega))
  · rw [sel64 _ (by omega)]
    split <;> (congr 1; omega)

/-- The squares of the fourth head's lanes beside what rounding them leaves. -/
theorem sq3 (hY : ∀ (a : Fin 1024) (b : Fin 768), k2_pay10 (F := Ideal) v84 v85 (ix2 a b) = Y (r + a) (o + b)) (a : Fin 1024) (k : Fin 512) :
    k2_pay23 (F := Ideal) v84 v85 (ix2 a k) = if (k : ℕ) < 256 then YS Y (o + 576) (r + a) k * YS Y (o + 576) (r + a) k
      else YS Y (o + 576) (r + a) (k - 256) * YS Y (o + 576) (r + a) (k - 256)
        - YS Y (o + 576) (r + a) (k - 256) * YS Y (o + 576) (r + a) (k - 256) := by
  have hk := k.isLt
  have hP := ys3 hY
  unfold k2_pay23
  generalize k2_pay19 (F := Ideal) v84 v85 = P at hP
  pointwise
  simp only [hP]
  split <;> rfl

/-- The fourth head normed. -/
theorem qn3 (hY : ∀ (a : Fin 1024) (b : Fin 768), k2_pay10 (F := Ideal) v84 v85 (ix2 a b) = Y (r + a) (o + b))
    (hR : ∀ r c, IsReal (Y r c)) (a : Fin 1024) (b : Fin 256) :
    k2_pay37 (F := Ideal) (k2_pay19 v84 v85) (k2_pay25 AVG (k2_pay23 v84 v85)) (ix2 a b) = QN (YS Y (o + 576)) (r + a) b := by
  have hP := ys3 hY
  have hS := sq3 hY
  have hM := (mean2 (fun k => if k < 256 then YS Y (o + 576) (r + a) k * YS Y (o + 576) (r + a) k
      else YS Y (o + 576) (r + a) (k - 256) * YS Y (o + 576) (r + a) (k - 256)
        - YS Y (o + 576) (r + a) (k - 256) * YS Y (o + 576) (r + a) (k - 256)) (YS Y (o + 576) (r + a)) b (fun k => hR _ _) fun k _ => rfl)
  generalize AVG = A at hM ⊢
  generalize k2_pay19 (F := Ideal) v84 v85 = P at hP
  generalize k2_pay23 (F := Ideal) v84 v85 = Q at hS
  pointwise [k2_pay37, k2_pay25]
  simp only [hP, hS, zero_add, hM]
  rfl

/-- The fourth head's part without position. -/
theorem nope3 (G : Vec Ideal S1x128 .f32) (hY : ∀ (a : Fin 1024) (b : Fin 768), k2_pay10 (F := Ideal) v84 v85 (ix2 a b) = Y (r + a) (o + b))
    (hR : ∀ r c, IsReal (Y r c)) (a : Fin 1024) (b : Fin 128) :
    k2_pay38 (F := Ideal) (k2_pay4 G) (k2_pay19 v84 v85) (k2_pay25 AVG (k2_pay23 v84 v85)) (ix2 a b)
      = QNOPE (YS Y (o + 576)) (at2 G 0) (r + a) b := by
  have hP := qn3 hY hR
  unfold k2_pay38 QNOPE
  generalize k2_pay37 (F := Ideal) (k2_pay19 v84 v85) (k2_pay25 AVG (k2_pay23 v84 v85)) = P at hP
  pointwise [k2_pay4]
  simp only [hP, at2_fin G]
  rfl

/-- The fourth head's rope part. -/
theorem rope3 (C S : Vec Ideal S1024x128 .f32) (G : Vec Ideal S1x128 .f32)
    (hY : ∀ (a : Fin 1024) (b : Fin 768), k2_pay10 (F := Ideal) v84 v85 (ix2 a b) = Y (r + a) (o + b))
    (hR : ∀ r c, IsReal (Y r c)) (hC : ∀ (a : Fin 1024) (b : Fin 128), C (ix2 a b) = CF (r + a) b)
    (hS : ∀ (a : Fin 1024) (b : Fin 128), S (ix2 a b) = SF (r + a) b) (a : Fin 1024) (b : Fin 128) :
    k2_pay1 (F := Ideal) (k2_pay3 S) (k2_pay39 (k2_pay19 v84 v85) (k2_pay25 AVG (k2_pay23 v84 v85)) G) (k2_pay40 (k2_pay2 C) (k2_pay19 v84 v85) (k2_pay25 AVG (k2_pay23 v84 v85)) G) 32#32 (ix2 a b)
      = QROPE (YS Y (o + 576)) CF SF (at2 G 0) (r + a) b := by
  have hP := qn3 hY hR
  unfold k2_pay1 k2_pay40 k2_pay39
  unfold QROPE
  generalize k2_pay37 (F := Ideal) (k2_pay19 v84 v85) (k2_pay25 AVG (k2_pay23 v84 v85)) = P at hP
  pointwise [k2_pay2, k2_pay3]
  simp only [hP, hC, hS, at2_fin G]
  rfl

end Cert.Kernel6Ideal.Value

end
-- ==== Proof.Front.QUp.lean ====
/- The up-projected queries: the array that the call leaves. -/
module

public import proofs.«01_k».proof.Proof.Front.QHeads

@[expose] public section

set_option maxRecDepth 16384

noncomputable section

open Idealize.ShloMosaic Idealize.ShloMosaic.TcCoe Idealize.SL.Sem
open Idealize.ShloMosaic.Pipeline (Dat)

namespace Cert.Kernel6Ideal.Value

open Cert.Front Cert.Reals
open Cert.Kernel6Ideal Cert.Kernel6Ideal.Gen

variable (V : (c : Dev nD) → (b : Ref sig .tc) → Buf (Elt Ideal) ((c : Thread nD τ).loc b))

/-- The blocks of the query up-projection. -/
theorem idx2 : ∀ t : Fin cfg2.N, win2_0.index t = ![t.val / 4, 0] ∧ win2_1.index t = ![1, 0, t.val % 4] ∧ win2_2.index t = ![0, 0]
    ∧ win2_3.index t = ![0, 0] ∧ win2_4.index t = ![t.val / 4, 0] ∧ win2_5.index t = ![t.val / 4, 0]
    ∧ win2_6.index t = ![t.val / 4, t.val % 4] :=
  (by decide +kernel : ∀ t : Fin grid2.N, _)

/-- Rows against the columns of a weight. -/
def UPJ (K : ℕ) (X W : ℕ → ℕ → EReal) (r b : ℕ) : EReal := ∑ k : Fin K, X r k * W k b

theorem real_upj {K : ℕ} {X W : ℕ → ℕ → EReal} (hX : ∀ r c, IsReal (X r c)) (hW : ∀ r c, IsReal (W r c)) (r b : ℕ) : IsReal (UPJ K X W r b) :=
  IsReal.sum _ fun k => (hX _ _).mul (hW _ _)

/-- The up-projected queries, before they are normed. -/
def Y2 (c : Dev nD) : ℕ → ℕ → EReal :=
  UPJ 1024 (at2 (m := 8192) (n := 1024) (V c main_v31_1)) (at3 (l := 2) (m := 1024) (n := 3072) (V c main_arg6) 1)

/-- The queries of every head: the part without position beside the rope part. -/
def Q2 (c : Dev nD) (r b : ℕ) : EReal :=
  if b % 256 < 128 then QNOPE (YS (Y2 V c) (192 * (b / 256))) (at2 (m := 1) (n := 128) (V c main_v34) 0) r (b % 256)
  else QROPE (YS (Y2 V c) (192 * (b / 256))) (at2 (m := 8192) (n := 128) (V c main_v12_0)) (at2 (m := 8192) (n := 128) (V c main_v12_1))
    (at2 (m := 1) (n := 128) (V c main_v40) 0) r (b % 256 - 128)

/-- The blocks that the projection reads. -/
theorem pb2 (c : Dev nD) (t : Fin cfg2.N) (a : Fin 1024) (b : Fin 768) :
    k2_pay10 (F := Ideal) (k2_pay9 (iblk2 V c 0 t)) (iblk2 V c 1 t) (ix2 a b) = Y2 V c (t.val / 4 * 1024 + a) (t.val % 4 * 768 + b) := by
  have ht : t.val < 32 := t.isLt
  have hX : ∀ k : Fin 1024, iblk2 V c 0 t (ix2 a k) = at2 (m := 8192) (n := 1024) (V c main_v31_1) (t.val / 4 * 1024 + a) k := by
    intro k
    rw [at2_of _ (by omega) k.isLt]
    blk_point [iblk2, idx2 t]
  have hW : ∀ k : Fin 1024, iblk2 V c 1 t (ix3 0 k b) = at3 (l := 2) (m := 1024) (n := 3072) (V c main_arg6) 1 k (t.val % 4 * 768 + b) := by
    intro k
    rw [at3_of _ (by omega) k.isLt (by omega)]
    blk_point [iblk2, idx2 t]
  generalize iblk2 V c 0 t = X at hX
  generalize iblk2 V c 1 t = W at hW
  pointwise [k2_pay10, k2_pay9]
  simp only [hX, hW, zero_add]
  rfl

/-- The block of the cosines. -/
theorem cb2 (c : Dev nD) (t : Fin cfg2.N) (a : Fin 1024) (b : Fin 128) :
    iblk2 V c 4 t (ix2 a b) = at2 (m := 8192) (n := 128) (V c main_v12_0) (t.val / 4 * 1024 + a) b := by
  have ht : t.val < 32 := t.isLt
  rw [at2_of _ (by omega) b.isLt]
  blk_point [iblk2, idx2 t]

/-- The block of the sines. -/
theorem sb2 (c : Dev nD) (t : Fin cfg2.N) (a : Fin 1024) (b : Fin 128) :
    iblk2 V c 5 t (ix2 a b) = at2 (m := 8192) (n := 128) (V c main_v12_1) (t.val / 4 * 1024 + a) b := by
  have ht : t.val < 32 := t.isLt
  rw [at2_of _ (by omega) b.isLt]
  blk_point [iblk2, idx2 t]

set_option maxHeartbeats 1600000 in
/-- A block of the queries. -/
theorem point2_6 (c : Dev nD) (hR : ∀ r b, IsReal (Y2 V c r b)) (t : Fin cfg2.N) (y) :
    out2_6 (iblk2 V c 0 t) (iblk2 V c 1 t) (iblk2 V c 2 t) (iblk2 V c 3 t) (iblk2 V c 4 t) (iblk2 V c 5 t) y
    = ofNat2 (m := 8192) (n := 4096) (Q2 V c) (((cfg2.win 6).blk t).view.emb y) := by
  have hG : iblk2 V c 2 t = V c main_v34 := by
    funext z; blk_point [iblk2, idx2 t]
  have hG' : iblk2 V c 3 t = V c main_v40 := by
    funext z; blk_point [iblk2, idx2 t]
  have ht : t.val < 32 := t.isLt
  unfold ofNat2
  unfold_out out2_6
  canon_tiles x h
  all_goals simp (disch := decide) only [View.ld_unit_lit']
  all_goals blk_simp [idx2 t]
  all_goals rw [h0, h1]
  all_goals unfold Q2
  · rw [show (t.val % 4 * 1024 + (896 + (x 1 : ℕ))) % 256 = 128 + (x 1 : ℕ) by omega,
      show 192 * ((t.val % 4 * 1024 + (896 + (x 1 : ℕ))) / 256) = t.val % 4 * 768 + 576 by omega, if_neg (by omega), hG', Nat.add_sub_cancel_left]
    conv_lhs => rw [eq_ix2 x]
    exact rope3 _ _ _ (pb2 V c t) hR (cb2 V c t) (sb2 V c t) _ _
  · rw [show (t.val % 4 * 1024 + (768 + (x 1 : ℕ))) % 256 = (x 1 : ℕ) by omega,
      show 192 * ((t.val % 4 * 1024 + (768 + (x 1 : ℕ))) / 256) = t.val % 4 * 768 + 576 by omega, if_pos (by omega), hG]
    conv_lhs => rw [eq_ix2 x]
    exact nope3 _ (pb2 V c t) hR _ _
  · rw [show (t.val % 4 * 1024 + (640 + (x 1 : ℕ))) % 256 = 128 + (x 1 : ℕ) by omega,
      show 192 * ((t.val % 4 * 1024 + (640 + (x 1 : ℕ))) / 256) = t.val % 4 * 768 + 384 by omega, if_neg (by omega), hG', Nat.add_sub_cancel_left]
    conv_lhs => rw [eq_ix2 x]
    exact rope2 _ _ _ (pb2 V c t) hR (cb2 V c t) (sb2 V c t) _ _
  · rw [show (t.val % 4 * 1024 + (512 + (x 1 : ℕ))) % 256 = (x 1 : ℕ) by omega,
      show 192 * ((t.val % 4 * 1024 + (512 + (x 1 : ℕ))) / 256) = t.val % 4 * 768 + 384 by omega, if_pos (by omega), hG]
    conv_lhs => rw [eq_ix2 x]
    exact nope2 _ (pb2 V c t) hR _ _
  · rw [show (t.val % 4 * 1024 + (384 + (x 1 : ℕ))) % 256 = 128 + (x 1 : ℕ) by omega,
      show 192 * ((t.val % 4 * 1024 + (384 + (x 1 : ℕ))) / 256) = t.val % 4 * 768 + 192 by omega, if_neg (by omega), hG', Nat.add_sub_cancel_left]
    conv_lhs => rw [eq_ix2 x]
    exact rope1 _ _ _ (pb2 V c t) hR (cb2 V c t) (sb2 V c t) _ _
  · rw [show (t.val % 4 * 1024 + (256 + (x 1 : ℕ))) % 256 = (x 1 : ℕ) by omega,
      show 192 * ((t.val % 4 * 1024 + (256 + (x 1 : ℕ))) / 256) = t.val % 4 * 768 + 192 by omega, if_pos (by omega), hG]
    conv_lhs => rw [eq_ix2 x]
    exact nope1 _ (pb2 V c t) hR _ _
  · rw [show (t.val % 4 * 1024 + (128 + (x 1 : ℕ))) % 256 = 128 + (x 1 : ℕ) by omega,
      show 192 * ((t.val % 4 * 1024 + (128 + (x 1 : ℕ))) / 256) = t.val % 4 * 768 + 0 by omega, if_neg (by omega), hG', Nat.add_sub_cancel_left]
    conv_lhs => rw [eq_ix2 x]
    exact rope0 _ _ _ (pb2 V c t) hR (cb2 V c t) (sb2 V c t) _ _
  · rw [show (t.val % 4 * 1024 + (x 1 : ℕ)) % 256 = (x 1 : ℕ) by omega,
      show 192 * ((t.val % 4 * 1024 + (x 1 : ℕ)) / 256) = t.val % 4 * 768 + 0 by omega, if_pos (by omega), hG]
    conv_lhs => rw [eq_ix2 x]
    exact nope0 _ (pb2 V c t) hR _ _

/-- The array of the queries. -/
theorem final2_6 (c : Dev nD) (hR : ∀ r b, IsReal (Y2 V c r b)) : (dat2 V c).arrAt 6 cfg2.N = ofNat2 (m := 8192) (n := 4096) (Q2 V c) := by
  refine (dat2 V c).arrAt_eq_of_covers 6 _ (by decide +kernel) fun t _ y => ?_
  blk_simp
  rw [after2_6]
  exact point2_6 V c hR t y

end Cert.Kernel6Ideal.Value

end
-- ==== Proof.Front.KVUp.lean ====
/- The up-projected keys and values. -/
module

public import proofs.«01_k».proof.Proof.Front.QUp

@[expose] public section

set_option maxRecDepth 16384

noncomputable section

open Idealize.ShloMosaic Idealize.ShloMosaic.TcCoe Idealize.SL.Sem
open Idealize.ShloMosaic.Pipeline (Dat)

namespace Cert.Kernel6Ideal.Value

open Cert.Front Cert.Reals
open Cert.Kernel6Ideal Cert.Kernel6Ideal.Gen

variable {X : Vec Ideal S1024x512 .bf16} {W : Vec Ideal S1x512x1024 .f32} {Y : ℕ → ℕ → EReal} {r o : ℕ}

/-- The first head's keys, the part without position. -/
theorem kn0 (G : Vec Ideal S1x128 .f32) (hY : ∀ (a b : Fin 1024), k3_pay6 (F := Ideal) X W (ix2 a b) = Y (r + a) (o + b)) (a : Fin 1024) (b : Fin 128) :
    k3_pay7 (F := Ideal) X W G (ix2 a b) = NRM 128 i128 (fun r b => Y r (o + 0 + b)) (at2 G 0) (r + a) b := by
  unfold k3_pay7
  generalize k3_pay6 (F := Ideal) X W = P at hY
  pointwise
  simp only [hY, at2_fin G, Nat.add_zero]
  rfl

/-- The first head's values. -/
theorem vn0 (hY : ∀ (a b : Fin 1024), k3_pay6 (F := Ideal) X W (ix2 a b) = Y (r + a) (o + b)) (a : Fin 1024) (b : Fin 128) :
    k3_pay9 (F := Ideal) X W (ix2 a b) = Y (r + a) (o + 128 + b) := by
  unfold k3_pay9
  generalize k3_pay6 (F := Ideal) X W = P at hY
  pointwise
  simp only [hY, ← Nat.add_assoc]

/-- The second head's keys, the part without position. -/
theorem kn1 (G : Vec Ideal S1x128 .f32) (hY : ∀ (a b : Fin 1024), k3_pay6 (F := Ideal) X W (ix2 a b) = Y (r + a) (o + b)) (a : Fin 1024) (b : Fin 128) :
    k3_pay13 (F := Ideal) (k3_pay10 X W) (k3_pay11 X W) (k3_pay12 (F := Ideal)) G (ix2 a b) = NRM 128 i128 (fun r b => Y r (o + 256 + b)) (at2 G 0) (r + a) b := by
  unfold k3_pay13 k3_pay12 k3_pay11 k3_pay10
  generalize k3_pay6 (F := Ideal) X W = P at hY
  pointwise
  simp only [hY, at2_fin G, ← Nat.add_assoc]
  rfl

/-- The second head's values. -/
theorem vn1 (hY : ∀ (a b : Fin 1024), k3_pay6 (F := Ideal) X W (ix2 a b) = Y (r + a) (o + b)) (a : Fin 1024) (b : Fin 128) :
    k3_pay15 (F := Ideal) (k3_pay6 X W) (ix2 a b) = Y (r + a) (o + 384 + b) := by
  unfold k3_pay15
  generalize k3_pay6 (F := Ideal) X W = P at hY
  pointwise
  simp only [hY, ← Nat.add_assoc]

/-- The third head's keys, the part without position. -/
theorem kn2 (G : Vec Ideal S1x128 .f32) (hY : ∀ (a b : Fin 1024), k3_pay6 (F := Ideal) X W (ix2 a b) = Y (r + a) (o + b)) (a : Fin 1024) (b : Fin 128) :
    k3_pay16 (F := Ideal) (k3_pay6 X W) G (ix2 a b) = NRM 128 i128 (fun r b => Y r (o + 512 + b)) (at2 G 0) (r + a) b := by
  unfold k3_pay16
  generalize k3_pay6 (F := Ideal) X W = P at hY
  pointwise
  simp only [hY, at2_fin G, ← Nat.add_assoc]
  rfl

/-- The third head's values. -/
theorem vn2 (hY : ∀ (a b : Fin 1024), k3_pay6 (F := Ideal) X W (ix2 a b) = Y (r + a) (o + b)) (a : Fin 1024) (b : Fin 128) :
    k3_pay2 (F := Ideal) (k3_pay6 X W) (ix2 a b) = Y (r + a) (o + 640 + b) := by
  unfold k3_pay2
  generalize k3_pay6 (F := Ideal) X W = P at hY
  pointwise
  simp only [hY, ← Nat.add_assoc]

/-- The fourth head's keys, the part without position. -/
theorem kn3 (G : Vec Ideal S1x128 .f32) (hY : ∀ (a b : Fin 1024), k3_pay6 (F := Ideal) X W (ix2 a b) = Y (r + a) (o + b)) (a : Fin 1024) (b : Fin 128) :
    k3_pay3 (F := Ideal) (k3_pay6 X W) G (ix2 a b) = NRM 128 i128 (fun r b => Y r (o + 768 + b)) (at2 G 0) (r + a) b := by
  unfold k3_pay3
  generalize k3_pay6 (F := Ideal) X W = P at hY
  pointwise
  simp only [hY, at2_fin G, ← Nat.add_assoc]
  rfl

/-- The fourth head's values. -/
theorem vn3 (hY : ∀ (a b : Fin 1024), k3_pay6 (F := Ideal) X W (ix2 a b) = Y (r + a) (o + b)) (a : Fin 1024) (b : Fin 128) :
    k3_pay5 (F := Ideal) (k3_pay6 X W) (ix2 a b) = Y (r + a) (o + 896 + b) := by
  unfold k3_pay5
  generalize k3_pay6 (F := Ideal) X W = P at hY
  pointwise
  simp only [hY, ← Nat.add_assoc]

variable (V : (c : Dev nD) → (b : Ref sig .tc) → Buf (Elt Ideal) ((c : Thread nD τ).loc b))

/-- The blocks of the up-projection of keys and values. -/
theorem idx3 : ∀ t : Fin cfg3.N, win3_0.index t = ![t.val / 4, 0] ∧ win3_1.index t = ![1, 0, t.val % 4] ∧ win3_2.index t = ![0, 0]
    ∧ win3_3.index t = ![t.val / 4, 0] ∧ win3_4.index t = ![t.val / 4, t.val % 4] ∧ win3_5.index t = ![t.val / 4, t.val % 4] :=
  (by decide +kernel : ∀ t : Fin grid3.N, _)

/-- The up-projected keys and values, before the keys are normed. -/
def Y3 (c : Dev nD) : ℕ → ℕ → EReal :=
  UPJ 512 (at2 (m := 8192) (n := 512) (V c main_v31_2)) (at3 (l := 2) (m := 512) (n := 4096) (V c main_arg7) 1)

/-- The keys of every head: the part without position beside the rope part. -/
def K3 (c : Dev nD) (r b : ℕ) : EReal :=
  if b % 256 < 128 then NRM 128 i128 (fun r l => Y3 V c r (256 * (b / 256) + l)) (at2 (m := 1) (n := 128) (V c main_v44) 0) r (b % 256)
  else at2 (m := 8192) (n := 128) (V c main_v31_3) r (b % 256 - 128)

/-- The values of every head. -/
def V3 (c : Dev nD) (r b : ℕ) : EReal := Y3 V c r (256 * (b / 128) + 128 + b % 128)

/-- The blocks that the projection reads. -/
theorem pb3 (c : Dev nD) (t : Fin cfg3.N) (a b : Fin 1024) :
    k3_pay6 (F := Ideal) (iblk3 V c 0 t) (iblk3 V c 1 t) (ix2 a b) = Y3 V c (t.val / 4 * 1024 + a) (t.val % 4 * 1024 + b) := by
  have ht : t.val < 32 := t.isLt
  have hX : ∀ k : Fin 512, iblk3 V c 0 t (ix2 a k) = at2 (m := 8192) (n := 512) (V c main_v31_2) (t.val / 4 * 1024 + a) k := by
    intro k
    rw [at2_of _ (by omega) k.isLt]
    blk_point [iblk3, idx3 t]
  have hW : ∀ k : Fin 512, iblk3 V c 1 t (ix3 0 k b) = at3 (l := 2) (m := 512) (n := 4096) (V c main_arg7) 1 k (t.val % 4 * 1024 + b) := by
    intro k
    rw [at3_of _ (by omega) k.isLt (by omega)]
    blk_point [iblk3, idx3 t]
  generalize iblk3 V c 0 t = X at hX
  generalize iblk3 V c 1 t = W at hW
  pointwise [k3_pay6]
  simp only [hX, hW, zero_add]
  rfl

/-- The block of the rope part. -/
theorem rb3 (c : Dev nD) (t : Fin cfg3.N) (a : Fin 1024) (b : Fin 128) :
    iblk3 V c 3 t (ix2 a b) = at2 (m := 8192) (n := 128) (V c main_v31_3) (t.val / 4 * 1024 + a) b := by
  have ht : t.val < 32 := t.isLt
  rw [at2_of _ (by omega) b.isLt]
  blk_point [iblk3, idx3 t]

set_option maxHeartbeats 1600000 in
/-- A block of the keys. -/
theorem point3_4 (c : Dev nD) (t : Fin cfg3.N) (y) :
    out3_4 (iblk3 V c 0 t) (iblk3 V c 1 t) (iblk3 V c 2 t) (iblk3 V c 3 t) y
    = ofNat2 (m := 8192) (n := 4096) (K3 V c) (((cfg3.win 4).blk t).view.emb y) := by
  have hG : iblk3 V c 2 t = V c main_v44 := by
    funext z; blk_point [iblk3, idx3 t]
  have ht : t.val < 32 := t.isLt
  unfold ofNat2
  unfold_out out3_4
  canon_tiles x h
  all_goals simp (disch := decide) only [View.ld_unit_lit']
  all_goals blk_simp [idx3 t]
  all_goals rw [h0, h1]
  all_goals unfold K3
  · rw [show (t.val % 4 * 1024 + (896 + (x 1 : ℕ))) % 256 = 128 + (x 1 : ℕ) by omega, if_neg (by omega), Nat.add_sub_cancel_left]
    refine Eq.trans ?_ (rb3 V c t (x 0) (x 1))
    conv_lhs => rw [eq_ix2 x]
    unfold k3_pay4
    pointwise
  · rw [show (t.val % 4 * 1024 + (768 + (x 1 : ℕ))) % 256 = (x 1 : ℕ) by omega,
      show 256 * ((t.val % 4 * 1024 + (768 + (x 1 : ℕ))) / 256) = t.val % 4 * 1024 + 768 by omega, if_pos (by omega), hG]
    conv_lhs => rw [eq_ix2 x]
    exact kn3 _ (pb3 V c t) _ _
  · rw [show (t.val % 4 * 1024 + (640 + (x 1 : ℕ))) % 256 = 128 + (x 1 : ℕ) by omega, if_neg (by omega), Nat.add_sub_cancel_left]
    refine Eq.trans ?_ (rb3 V c t (x 0) (x 1))
    conv_lhs => rw [eq_ix2 x]
    unfold k3_pay1
    pointwise
  · rw [show (t.val % 4 * 1024 + (512 + (x 1 : ℕ))) % 256 = (x 1 : ℕ) by omega,
      show 256 * ((t.val % 4 * 1024 + (512 + (x 1 : ℕ))) / 256) = t.val % 4 * 1024 + 512 by omega, if_pos (by omega), hG]
    conv_lhs => rw [eq_ix2 x]
    exact kn2 _ (pb3 V c t) _ _
  · rw [show (t.val % 4 * 1024 + (384 + (x 1 : ℕ))) % 256 = 128 + (x 1 : ℕ) by omega, if_neg (by omega), Nat.add_sub_cancel_left]
    refine Eq.trans ?_ (rb3 V c t (x 0) (x 1))
    conv_lhs => rw [eq_ix2 x]
    unfold k3_pay14
    pointwise
  · rw [show (t.val % 4 * 1024 + (256 + (x 1 : ℕ))) % 256 = (x 1 : ℕ) by omega,
      show 256 * ((t.val % 4 * 1024 + (256 + (x 1 : ℕ))) / 256) = t.val % 4 * 1024 + 256 by omega, if_pos (by omega), hG]
    conv_lhs => rw [eq_ix2 x]
    exact kn1 _ (pb3 V c t) _ _
  · rw [show (t.val % 4 * 1024 + (128 + (x 1 : ℕ))) % 256 = 128 + (x 1 : ℕ) by omega, if_neg (by omega), Nat.add_sub_cancel_left]
    refine Eq.trans ?_ (rb3 V c t (x 0) (x 1))
    conv_lhs => rw [eq_ix2 x]
    unfold k3_pay8
    pointwise
  · rw [show (t.val % 4 * 1024 + (x 1 : ℕ)) % 256 = (x 1 : ℕ) by omega,
      show 256 * ((t.val % 4 * 1024 + (x 1 : ℕ)) / 256) = t.val % 4 * 1024 + 0 by omega, if_pos (by omega), hG]
    conv_lhs => rw [eq_ix2 x]
    exact kn0 _ (pb3 V c t) _ _

set_option maxHeartbeats 1600000 in
/-- A block of the values. -/
theorem point3_5 (c : Dev nD) (t : Fin cfg3.N) (y) :
    out3_5 (iblk3 V c 0 t) (iblk3 V c 1 t) (iblk3 V c 2 t) (iblk3 V c 3 t) y
    = ofNat2 (m := 8192) (n := 2048) (V3 V c) (((cfg3.win 5).blk t).view.emb y) := by
  have ht : t.val < 32 := t.isLt
  unfold ofNat2
  unfold_out out3_5
  canon_tiles x h
  all_goals simp (disch := decide) only [View.ld_unit_lit']
  all_goals blk_simp [idx3 t]
  all_goals rw [h0, h1]
  all_goals unfold V3
  · rw [show 256 * ((t.val % 4 * 512 + (384 + (x 1 : ℕ))) / 128) + 128 + (t.val % 4 * 512 + (384 + (x 1 : ℕ))) % 128
        = t.val % 4 * 1024 + 896 + (x 1 : ℕ) by omega]
    conv_lhs => rw [eq_ix2 x]
    exact vn3 (pb3 V c t) _ _
  · rw [show 256 * ((t.val % 4 * 512 + (256 + (x 1 : ℕ))) / 128) + 128 + (t.val % 4 * 512 + (256 + (x 1 : ℕ))) % 128
        = t.val % 4 * 1024 + 640 + (x 1 : ℕ) by omega]
    conv_lhs => rw [eq_ix2 x]
    exact vn2 (pb3 V c t) _ _
  · rw [show 256 * ((t.val % 4 * 512 + (128 + (x 1 : ℕ))) / 128) + 128 + (t.val % 4 * 512 + (128 + (x 1 : ℕ))) % 128
        = t.val % 4 * 1024 + 384 + (x 1 : ℕ) by omega]
    conv_lhs => rw [eq_ix2 x]
    exact vn1 (pb3 V c t) _ _
  · rw [show 256 * ((t.val % 4 * 512 + (x 1 : ℕ)) / 128) + 128 + (t.val % 4 * 512 + (x 1 : ℕ)) % 128
        = t.val % 4 * 1024 + 128 + (x 1 : ℕ) by omega]
    conv_lhs => rw [eq_ix2 x]
    exact vn0 (pb3 V c t) _ _

/-- The array of the keys. -/
theorem final3_4 (c : Dev nD) : (dat3 V c).arrAt 4 cfg3.N = ofNat2 (m := 8192) (n := 4096) (K3 V c) := by
  refine (dat3 V c).arrAt_eq_of_covers 4 _ (by decide +kernel) fun t _ y => ?_
  blk_simp
  rw [after3_4]
  exact point3_4 V c t y

/-- The array of the values. -/
theorem final3_5 (c : Dev nD) : (dat3 V c).arrAt 5 cfg3.N = ofNat2 (m := 8192) (n := 2048) (V3 V c) := by
  refine (dat3 V c).arrAt_eq_of_covers 5 _ (by decide +kernel) fun t _ y => ?_
  blk_simp
  rw [after3_5]
  exact point3_5 V c t y

end Cert.Kernel6Ideal.Value

end
-- ==== Proof.Front.LatentRun.lean ====
/- The call that norms the residual stream and projects it to the latents: the arrays it leaves. -/
module

public import proofs.«01_k».proof.Proof.Front.Latent

@[expose] public section

set_option maxRecDepth 16384

noncomputable section

open Idealize.ShloMosaic Idealize.ShloMosaic.TcCoe Idealize.SL.Sem
open Idealize.ShloMosaic.Pipeline (Dat)

namespace Cert.Kernel6Ideal.Value

open Cert.Front
open Cert.Kernel6Ideal Cert.Kernel6Ideal.Gen

variable (V : (c : Dev nD) → (b : Ref sig .tc) → Buf (Elt Ideal) ((c : Thread nD τ).loc b))

/-- The blocks of the latent projection. -/
theorem idx1 : ∀ t : Fin cfg1.N, win1_0.index t = ![t.val, 0] ∧ win1_1.index t = ![0, 0] ∧ win1_2.index t = ![1, 0, 0]
    ∧ win1_3.index t = ![0, 0] ∧ win1_4.index t = ![0, 0] ∧ win1_5.index t = ![0, 0] ∧ win1_6.index t = ![t.val, 0]
    ∧ win1_7.index t = ![t.val, 0] ∧ win1_8.index t = ![t.val, 0] ∧ win1_9.index t = ![t.val, 0]
    ∧ win1_10.index t = ![t.val, 0] ∧ win1_11.index t = ![t.val, 0] :=
  (by decide +kernel : ∀ t : Fin grid1.N, _)

/-- The normed residual stream. -/
def N1 (c : Dev nD) : ℕ → ℕ → EReal := NRM 4096 i4096 (at2 (m := 8192) (n := 4096) (V c main_v0)) (at2 (m := 1) (n := 4096) (V c main_v28) 0)

/-- Its projection to the latents. -/
def P1 (c : Dev nD) : ℕ → ℕ → EReal := PRJ 4096 (N1 V c) (at3 (l := 2) (m := 1664) (n := 4096) (V c main_v15) 1)

/-- The normed latent of the queries. -/
def CQ1 (c : Dev nD) : ℕ → ℕ → EReal := NRM 1024 i1024 (P1 V c) (at2 (m := 1) (n := 1024) (V c main_v29) 0)

/-- The normed latent of the keys and values. -/
def CKV1 (c : Dev nD) : ℕ → ℕ → EReal := NRM 512 i512 (fun r b => P1 V c r (1024 + b)) (at2 (m := 1) (n := 512) (V c main_v30) 0)

/-- The rope part of the keys. -/
def KR1 (c : Dev nD) : ℕ → ℕ → EReal := ROT (NRM 128 i128 (TWICE (P1 V c)) (at2 (m := 1) (n := 128) (V c main_v27) 0))
  (at2 (m := 8192) (n := 128) (V c main_v12_0)) (at2 (m := 8192) (n := 128) (V c main_v12_1))

/-- The block of the weight that a projection reads. -/
theorem w1 (c : Dev nD) (t : Fin cfg1.N) (b : Fin 1664) (k : Fin 4096) :
    iblk1 V c 2 t (ix3 0 b k) = at3 (l := 2) (m := 1664) (n := 4096) (V c main_v15) 1 b k := by
  rw [at3_of _ (by omega) b.isLt k.isLt]
  blk_point [iblk1, idx1 t]

/-- The first half of the block of the residual stream. -/
theorem ld1xa (c : Dev nD) (t : Fin cfg1.N) (a : Fin 256) (b : Fin 4096) : View.ld (iblk1 V c 0 t) r1_0 (ix2 a b)
    = at2 (m := 8192) (n := 4096) (V c main_v0) (t.val * 512 + 0 + a) b := by
  have ht : t.val < 16 := t.isLt
  rw [at2_of _ (by omega) b.isLt]
  simp only [View.ld, iblk1]
  blk_simp [idx1 t]
  blk_ext [idx1 t]
  · show _ + (0 + 1 * a.val) = _; omega
  · show 0 + 1 * b.val = _; omega

/-- The first half of the block of the cosines. -/
theorem ld1ca (c : Dev nD) (t : Fin cfg1.N) (a : Fin 256) (b : Fin 128) : View.ld (iblk1 V c 6 t) r1_9 (ix2 a b)
    = at2 (m := 8192) (n := 128) (V c main_v12_0) (t.val * 512 + 0 + a) b := by
  have ht : t.val < 16 := t.isLt
  rw [at2_of _ (by omega) b.isLt]
  simp only [View.ld, iblk1]
  blk_simp [idx1 t]
  blk_ext [idx1 t]
  · show _ + (0 + 1 * a.val) = _; omega
  · show 0 + 1 * b.val = _; omega

/-- The first half of the block of the sines. -/
theorem ld1sa (c : Dev nD) (t : Fin cfg1.N) (a : Fin 256) (b : Fin 128) : View.ld (iblk1 V c 7 t) r1_9 (ix2 a b)
    = at2 (m := 8192) (n := 128) (V c main_v12_1) (t.val * 512 + 0 + a) b := by
  have ht : t.val < 16 := t.isLt
  rw [at2_of _ (by omega) b.isLt]
  simp only [View.ld, iblk1]
  blk_simp [idx1 t]
  blk_ext [idx1 t]
  · show _ + (0 + 1 * a.val) = _; omega
  · show 0 + 1 * b.val = _; omega

/-- The first half's normed rows. -/
theorem nb1a (c : Dev nD) (t : Fin cfg1.N) (hG1 : iblk1 V c 1 t = V c main_v28) (a : Fin 256) (b : Fin 4096) :
    k1_pay2 (F := Ideal) (View.ld (iblk1 V c 0 t) r1_0) (V c main_v28) (ix2 a b) = N1 V c (t.val * 512 + 0 + a) b :=
  n1a _ _ _ _ (ld1xa V c t) _ _

/-- The first half's projection. -/
theorem pb1a (c : Dev nD) (t : Fin cfg1.N) (hG1 : iblk1 V c 1 t = V c main_v28) (a : Fin 256) (b : Fin 1664) :
    k1_pay3 (F := Ideal) (View.ld (iblk1 V c 0 t) r1_0) (V c main_v28) (iblk1 V c 2 t) (ix2 a b) = P1 V c (t.val * 512 + 0 + a) b :=
  p1a _ _ _ _ _ _ (nb1a V c t hG1) (w1 V c t) _ _

/-- The second half of the block of the residual stream. -/
theorem ld1xb (c : Dev nD) (t : Fin cfg1.N) (a : Fin 256) (b : Fin 4096) : View.ld (iblk1 V c 0 t) r1_3 (ix2 a b)
    = at2 (m := 8192) (n := 4096) (V c main_v0) (t.val * 512 + 256 + a) b := by
  have ht : t.val < 16 := t.isLt
  rw [at2_of _ (by omega) b.isLt]
  simp only [View.ld, iblk1]
  blk_simp [idx1 t]
  blk_ext [idx1 t]
  · show _ + (256 + 1 * a.val) = _; omega
  · show 0 + 1 * b.val = _; omega

/-- The second half of the block of the cosines. -/
theorem ld1cb (c : Dev nD) (t : Fin cfg1.N) (a : Fin 256) (b : Fin 128) : View.ld (iblk1 V c 6 t) r1_12 (ix2 a b)
    = at2 (m := 8192) (n := 128) (V c main_v12_0) (t.val * 512 + 256 + a) b := by
  have ht : t.val < 16 := t.isLt
  rw [at2_of _ (by omega) b.isLt]
  simp only [View.ld, iblk1]
  blk_simp [idx1 t]
  blk_ext [idx1 t]
  · show _ + (256 + 1 * a.val) = _; omega
  · show 0 + 1 * b.val = _; omega

/-- The second half of the block of the sines. -/
theorem ld1sb (c : Dev nD) (t : Fin cfg1.N) (a : Fin 256) (b : Fin 128) : View.ld (iblk1 V c 7 t) r1_12 (ix2 a b)
    = at2 (m := 8192) (n := 128) (V c main_v12_1) (t.val * 512 + 256 + a) b := by
  have ht : t.val < 16 := t.isLt
  rw [at2_of _ (by omega) b.isLt]
  simp only [View.ld, iblk1]
  blk_simp [idx1 t]
  blk_ext [idx1 t]
  · show _ + (256 + 1 * a.val) = _; omega
  · show 0 + 1 * b.val = _; omega

/-- The second half's normed rows. -/
theorem nb1b (c : Dev nD) (t : Fin cfg1.N) (hG1 : iblk1 V c 1 t = V c main_v28) (a : Fin 256) (b : Fin 4096) :
    k1_pay4 (F := Ideal) (View.ld (iblk1 V c 0 t) r1_3) (V c main_v28) (ix2 a b) = N1 V c (t.val * 512 + 256 + a) b :=
  n1b _ _ _ _ (ld1xb V c t) _ _

/-- The second half's projection. -/
theorem pb1b (c : Dev nD) (t : Fin cfg1.N) (hG1 : iblk1 V c 1 t = V c main_v28) (a : Fin 256) (b : Fin 1664) :
    k1_pay5 (F := Ideal) (k1_pay4 (View.ld (iblk1 V c 0 t) r1_3) (V c main_v28)) (iblk1 V c 2 t) (ix2 a b) = P1 V c (t.val * 512 + 256 + a) b :=
  p1b _ _ _ _ _ (nb1b V c t hG1) (w1 V c t) _ _

theorem point1_8 (c : Dev nD) (t : Fin cfg1.N) (y) :
    out1_8 (iblk1 V c 0 t) (iblk1 V c 1 t) (iblk1 V c 2 t) (iblk1 V c 3 t) (iblk1 V c 4 t) (iblk1 V c 5 t) (iblk1 V c 6 t) (iblk1 V c 7 t) y
    = ofNat2 (m := 8192) (n := 4096) (N1 V c) (((cfg1.win 8).blk t).view.emb y) := by
  have hG1 : iblk1 V c 1 t = V c main_v28 := by
    funext z; blk_point [iblk1, idx1 t]
  unfold ofNat2
  unfold_out out1_8
  canon_tiles x h
  all_goals simp (disch := decide) only [View.ld_unit_lit']
  all_goals blk_simp [idx1 t]
  · rw [show t.val * 512 + (y 0 : ℕ) = t.val * 512 + 256 + (x 0 : ℕ) by omega, h1, hG1]
    conv_lhs => rw [eq_ix2 x]
    exact nb1b V c t hG1 _ _
  · rw [show t.val * 512 + (y 0 : ℕ) = t.val * 512 + 0 + (x 0 : ℕ) by omega, h1, hG1]
    conv_lhs => rw [eq_ix2 x]
    exact nb1a V c t hG1 _ _

theorem final1_8 (c : Dev nD) : (dat1 V c).arrAt 8 cfg1.N = ofNat2 (m := 8192) (n := 4096) (N1 V c) := by
  refine (dat1 V c).arrAt_eq_of_covers 8 _ (by decide +kernel) fun t _ y => ?_
  blk_simp
  rw [after1_8]
  exact point1_8 V c t y

theorem point1_9 (c : Dev nD) (t : Fin cfg1.N) (y) :
    out1_9 (iblk1 V c 0 t) (iblk1 V c 1 t) (iblk1 V c 2 t) (iblk1 V c 3 t) (iblk1 V c 4 t) (iblk1 V c 5 t) (iblk1 V c 6 t) (iblk1 V c 7 t) y
    = ofNat2 (m := 8192) (n := 1024) (CQ1 V c) (((cfg1.win 9).blk t).view.emb y) := by
  have hG1 : iblk1 V c 1 t = V c main_v28 := by
    funext z; blk_point [iblk1, idx1 t]
  have hG : iblk1 V c 3 t = V c main_v29 := by
    funext z; blk_point [iblk1, idx1 t]
  unfold ofNat2
  unfold_out out1_9
  canon_tiles x h
  all_goals simp (disch := decide) only [View.ld_unit_lit']
  all_goals blk_simp [idx1 t]
  · rw [show t.val * 512 + (y 0 : ℕ) = t.val * 512 + 256 + (x 0 : ℕ) by omega, h1, hG1, hG]
    conv_lhs => rw [eq_ix2 x]
    exact cq1b _ _ _ _ (pb1b V c t hG1) _ _
  · rw [show t.val * 512 + (y 0 : ℕ) = t.val * 512 + 0 + (x 0 : ℕ) by omega, h1, hG1, hG]
    conv_lhs => rw [eq_ix2 x]
    exact cq1a _ _ _ _ (pb1a V c t hG1) _ _

theorem final1_9 (c : Dev nD) : (dat1 V c).arrAt 9 cfg1.N = ofNat2 (m := 8192) (n := 1024) (CQ1 V c) := by
  refine (dat1 V c).arrAt_eq_of_covers 9 _ (by decide +kernel) fun t _ y => ?_
  blk_simp
  rw [after1_9]
  exact point1_9 V c t y

theorem point1_10 (c : Dev nD) (t : Fin cfg1.N) (y) :
    out1_10 (iblk1 V c 0 t) (iblk1 V c 1 t) (iblk1 V c 2 t) (iblk1 V c 3 t) (iblk1 V c 4 t) (iblk1 V c 5 t) (iblk1 V c 6 t) (iblk1 V c 7 t) y
    = ofNat2 (m := 8192) (n := 512) (CKV1 V c) (((cfg1.win 10).blk t).view.emb y) := by
  have hG1 : iblk1 V c 1 t = V c main_v28 := by
    funext z; blk_point [iblk1, idx1 t]
  have hG : iblk1 V c 4 t = V c main_v30 := by
    funext z; blk_point [iblk1, idx1 t]
  unfold ofNat2
  unfold_out out1_10
  canon_tiles x h
  all_goals simp (disch := decide) only [View.ld_unit_lit']
  all_goals blk_simp [idx1 t]
  · rw [show t.val * 512 + (y 0 : ℕ) = t.val * 512 + 256 + (x 0 : ℕ) by omega, h1, hG1, hG]
    conv_lhs => rw [eq_ix2 x]
    exact ckv1b _ _ _ _ (pb1b V c t hG1) _ _
  · rw [show t.val * 512 + (y 0 : ℕ) = t.val * 512 + 0 + (x 0 : ℕ) by omega, h1, hG1, hG]
    conv_lhs => rw [eq_ix2 x]
    exact ckv1a _ _ _ _ (pb1a V c t hG1) _ _

theorem final1_10 (c : Dev nD) : (dat1 V c).arrAt 10 cfg1.N = ofNat2 (m := 8192) (n := 512) (CKV1 V c) := by
  refine (dat1 V c).arrAt_eq_of_covers 10 _ (by decide +kernel) fun t _ y => ?_
  blk_simp
  rw [after1_10]
  exact point1_10 V c t y

theorem point1_11 (c : Dev nD) (t : Fin cfg1.N) (y) :
    out1_11 (iblk1 V c 0 t) (iblk1 V c 1 t) (iblk1 V c 2 t) (iblk1 V c 3 t) (iblk1 V c 4 t) (iblk1 V c 5 t) (iblk1 V c 6 t) (iblk1 V c 7 t) y
    = ofNat2 (m := 8192) (n := 128) (KR1 V c) (((cfg1.win 11).blk t).view.emb y) := by
  have hG1 : iblk1 V c 1 t = V c main_v28 := by
    funext z; blk_point [iblk1, idx1 t]
  have hG : iblk1 V c 5 t = V c main_v27 := by
    funext z; blk_point [iblk1, idx1 t]
  unfold ofNat2
  unfold_out out1_11
  canon_tiles x h
  all_goals simp (disch := decide) only [View.ld_unit_lit']
  all_goals blk_simp [idx1 t]
  · rw [show t.val * 512 + (y 0 : ℕ) = t.val * 512 + 256 + (x 0 : ℕ) by omega, h1, hG1, hG]
    conv_lhs => rw [eq_ix2 x]
    exact kr1b _ _ _ _ _ _ _ _ (pb1b V c t hG1) (ld1cb V c t) (ld1sb V c t) _ _
  · rw [show t.val * 512 + (y 0 : ℕ) = t.val * 512 + 0 + (x 0 : ℕ) by omega, h1, hG1, hG]
    conv_lhs => rw [eq_ix2 x]
    exact kr1a _ _ _ _ _ _ _ _ (pb1a V c t hG1) (ld1ca V c t) (ld1sa V c t) _ _

theorem final1_11 (c : Dev nD) : (dat1 V c).arrAt 11 cfg1.N = ofNat2 (m := 8192) (n := 128) (KR1 V c) := by
  refine (dat1 V c).arrAt_eq_of_covers 11 _ (by decide +kernel) fun t _ y => ?_
  blk_simp
  rw [after1_11]
  exact point1_11 V c t y

end Cert.Kernel6Ideal.Value

end
-- ==== Proof.Front.Tables.lean ====
/- The tables of cosines and sines. -/
module

public import proofs.«01_k».proof.Proof.Front.Base

@[expose] public section

set_option maxRecDepth 16384

noncomputable section

open Idealize.ShloMosaic Idealize.ShloMosaic.TcCoe Idealize.SL.Sem
open Idealize.ShloMosaic.Pipeline (Dat)

namespace Cert.Kernel6Ideal.Value

open Cert.Front
open Cert.Kernel6Ideal Cert.Kernel6Ideal.Gen

/-- The cosines of the positions `P` times the frequencies `F`, on the first 64 lanes. -/
def TC (P F : ℕ → EReal) (r b : ℕ) : EReal := if b < 64 then Ideal.cos (P r * F b) else 0

/-- The sines, their negatives on the first 32 lanes. -/
def TS (P F : ℕ → EReal) (r b : ℕ) : EReal := if b < 32 then 0 - Ideal.sin (P r * F b) else if b < 64 then Ideal.sin (P r * F b) else 0

theorem tc0 (X : Vec Ideal S512x1 .f32) (W : Vec Ideal S1x128 .f32) (P : ℕ → EReal) (r : ℕ) (hX : ∀ a : Fin 512, X (ix2 a 0) = P (r + a))
    (a : Fin 512) (b : Fin 128) : k0_pay2 (F := Ideal) X W (ix2 a b) = TC P (at2 W 0) (r + a) b := by
  pointwise [k0_pay2, k0_pay1]
  simp only [hX, at2_fin W, sel64 _ b.isLt]
  rfl

theorem ts0 (X : Vec Ideal S512x1 .f32) (W : Vec Ideal S1x128 .f32) (P : ℕ → EReal) (r : ℕ) (hX : ∀ a : Fin 512, X (ix2 a 0) = P (r + a))
    (a : Fin 512) (b : Fin 128) : k0_pay3 (F := Ideal) X W (ix2 a b) = TS P (at2 W 0) (r + a) b := by
  pointwise [k0_pay3, k0_pay1]
  simp only [hX, at2_fin W, sel64 _ b.isLt, sel32 _ b.isLt]
  rfl

variable (V : (c : Dev nD) → (b : Ref sig .tc) → Buf (Elt Ideal) ((c : Thread nD τ).loc b))

/-- The blocks of the tables. -/
theorem idx0 : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The positions. -/
def PS (c : Dev nD) (r : ℕ) : EReal := at2 (m := 8192) (n := 1) (V c main_v11) r 0

theorem xb0 (c : Dev nD) (t : Fin cfg0.N) (a : Fin 512) : iblk0 V c 0 t (ix2 a 0) = PS V c (t.val * 512 + a) := by
  have ht : t.val < 16 := t.isLt
  unfold PS
  rw [at2_of _ (by omega) (by omega)]
  blk_point [iblk0, idx0 t]

theorem point0_2 (c : Dev nD) (t : Fin cfg0.N) (y) : out0_2 (iblk0 V c 0 t) (iblk0 V c 1 t) y
    = ofNat2 (m := 8192) (n := 128) (TC (PS V c) (at2 (m := 1) (n := 128) (V c main_v9) 0)) (((cfg0.win 2).blk t).view.emb y) := by
  have hG : iblk0 V c 1 t = V c main_v9 := by
    funext z; blk_point [iblk0, idx0 t]
  unfold ofNat2
  unfold out0_2
  canon_tiles x h
  all_goals simp (disch := decide) only [View.ld_unit_lit']
  all_goals blk_simp [idx0 t]
  rw [hG, h0, h1]
  conv_lhs => rw [eq_ix2 x]
  exact tc0 _ _ _ _ (xb0 V c t) _ _

theorem final0_2 (c : Dev nD) : (dat0 V c).arrAt 2 cfg0.N
    = ofNat2 (m := 8192) (n := 128) (TC (PS V c) (at2 (m := 1) (n := 128) (V c main_v9) 0)) := by
  refine (dat0 V c).arrAt_eq_of_covers 2 _ (by decide +kernel) fun t _ y => ?_
  blk_simp
  rw [after0_2]
  exact point0_2 V c t y

theorem point0_3 (c : Dev nD) (t : Fin cfg0.N) (y) : out0_3 (iblk0 V c 0 t) (iblk0 V c 1 t) y
    = ofNat2 (m := 8192) (n := 128) (TS (PS V c) (at2 (m := 1) (n := 128) (V c main_v9) 0)) (((cfg0.win 3).blk t).view.emb y) := by
  have hG : iblk0 V c 1 t = V c main_v9 := by
    funext z; blk_point [iblk0, idx0 t]
  unfold ofNat2
  unfold out0_3
  canon_tiles x h
  all_goals simp (disch := decide) only [View.ld_unit_lit']
  all_goals blk_simp [idx0 t]
  rw [hG, h0, h1]
  conv_lhs => rw [eq_ix2 x]
  exact ts0 _ _ _ _ (xb0 V c t) _ _

theorem final0_3 (c : Dev nD) : (dat0 V c).arrAt 3 cfg0.N
    = ofNat2 (m := 8192) (n := 128) (TS (PS V c) (at2 (m := 1) (n := 128) (V c main_v9) 0)) := by
  refine (dat0 V c).arrAt_eq_of_covers 3 _ (by decide +kernel) fun t _ y => ?_
  blk_simp
  rw [after0_3]
  exact point0_3 V c t y

end Cert.Kernel6Ideal.Value

end
-- ==== Proof.Front.Spec.lean ====
/- What the front of the layer computes, entry by entry, as a function of the arguments. -/
module

public import proofs.«01_k».proof.Proof.Front.KVUp
public import proofs.«01_k».proof.Proof.Front.LatentRun
public import proofs.«01_k».proof.Proof.Front.Tables

@[expose] public section

set_option maxRecDepth 16384

noncomputable section

open Idealize.ShloMosaic Idealize.ShloMosaic.TcCoe Idealize.SL.Sem

namespace Cert.Front

open Cert.Reals
open Cert.Kernel6Ideal Cert.Kernel6Ideal.Gen Cert.Kernel6Ideal.Value

/-- The frequencies. -/
abbrev FREQ : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- A frequency. -/
def freq (l : ℕ) : EReal := if h : l < 32 then FREQ (ix1 ⟨l, h⟩) else 0

/-- Rows of 64 normed. -/
def NR64 (Z : ℕ → ℕ → EReal) (G : ℕ → EReal) (r b : ℕ) : EReal :=
  Z r b * Ideal.rsqrt (Ideal.div (∑ k : Fin 64, Z r k * Z r k) (Ideal.ofBits .f32 0x42800000#32) + Ideal.ofBits .f32 0x358637BD#32) * G b

/-- The rope of rows of 64, and nothing after them. -/
def ROPE (P : ℕ → EReal) (X : ℕ → ℕ → EReal) (r b : ℕ) : EReal :=
  if b < 32 then X r b * Ideal.cos (P r * freq b) - X r (b + 32) * Ideal.sin (P r * freq b)
  else if b < 64 then X r (b - 32) * Ideal.sin (P r * freq (b - 32)) + X r b * Ideal.cos (P r * freq (b - 32)) else 0

/-- The lanes that the tables turn are the rope of the group. -/
theorem rot_rope (P F : ℕ → EReal) (X : ℕ → ℕ → EReal) (X' : ℕ → ℕ → EReal) (r b : ℕ) (hb : b < 128) (hX : ∀ k, k < 128 → X r k = X' r (k % 64))
    (hF : ∀ k, k < 64 → F k = freq (k % 32)) : ROT X (TC P F) (TS P F) r b = ROPE P X' r b := by
  unfold ROT TC TS ROPE
  by_cases h32 : b < 32
  · rw [if_pos (by omega), if_pos h32, if_pos h32, hX _ hb, hX _ (by omega), hF _ (by omega), show b % 64 = b by omega,
      show (b + 128 - 32) % 128 % 64 = b + 32 by omega, show b % 32 = b by omega, zero_sub, mul_neg, ← sub_eq_add_neg]
  · by_cases h64 : b < 64
    · rw [if_pos h64, if_neg h32, if_pos h64, if_neg h32, if_pos h64, hX _ hb, hX _ (by omega), hF _ h64, show b % 64 = b by omega,
        show (b + 128 - 32) % 128 % 64 = b - 32 by omega, show b % 32 = b - 32 by omega, add_comm]
    · rw [if_neg h64, if_neg h32, if_neg h64, if_neg h32, if_neg h64, mul_zero, mul_zero, add_zero]

/-- The mean over the lanes twice over norms the group. -/
theorem nrm_twice (Z : ℕ → ℕ → EReal) (Z' : ℕ → ℕ → EReal) (G G' : ℕ → EReal) (r b : ℕ) (hZ : ∀ k, k < 128 → Z r k = Z' r (k % 64))
    (hG : ∀ k, k < 128 → G k = G' (k % 64)) (hb : b < 128) : NRM 128 i128 Z G r b = NR64 Z' G' r (b % 64) := by
  unfold NRM NR64
  rw [← mean_twice (fun k => Z' r k * Z' r k), hZ b hb, hG b hb]
  refine congrArg₂ (· * ·) (congrArg₂ (· * ·) rfl (congrArg Ideal.rsqrt (congrArg₂ (· + ·) (congrArg₂ (· * ·) ?_ rfl) rfl))) rfl
  exact Finset.sum_congr rfl fun k _ => by rw [hZ k k.isLt]

theorem nrm_congr {K : ℕ} {c : EReal} {Z Z' : ℕ → ℕ → EReal} {G G' : ℕ → EReal} {r b : ℕ} (hZ : ∀ k, k < K → Z r k = Z' r k) (hb : b < K)
    (hG : G b = G' b) : NRM K c Z G r b = NRM K c Z' G' r b := by
  unfold NRM
  rw [hZ b hb, hG]
  refine congrArg₂ (· * ·) (congrArg₂ (· * ·) rfl (congrArg Ideal.rsqrt (congrArg₂ (· + ·) (congrArg₂ (· * ·) ?_ rfl) rfl))) rfl
  exact Finset.sum_congr rfl fun k _ => by rw [hZ k k.isLt]

theorem upj_congr {K : ℕ} {X X' W W' : ℕ → ℕ → EReal} {r b : ℕ} (hX : ∀ k, k < K → X r k = X' r k) (hW : ∀ k, k < K → W k b = W' k b) :
    UPJ K X W r b = UPJ K X' W' r b :=
  Finset.sum_congr rfl fun k _ => by rw [hX k k.isLt, hW k k.isLt]

/-- The inverse of `log 2 · √192`. -/
def qk : EReal := (((Real.log 2 * Real.sqrt 192)⁻¹ : ℝ) : EReal)

theorem qs_eq : (qs : EReal) = qk := IdealRules.named_const.ideal_named_scalar _ _ _ _ rfl

section
variable (a0 : FVec Ideal S4x2048x4096 .f32) (a1 : IVec S4x2048 32) (a2 : FVec Ideal S2x4096 .f32) (a3 : FVec Ideal S2x4096x7744 .f32)
  (a4 : FVec Ideal S2x1024 .f32) (a5 : FVec Ideal S2x512 .f32) (a6 : FVec Ideal S2x1024x3072 .f32) (a7 : FVec Ideal S2x512x4096 .f32)
  (a8 a9 : FVec Ideal S2x192 .f32)

/-- The rows of the residual stream. -/
def XF (r b : ℕ) : EReal := at3 (l := 4) (m := 2048) (n := 4096) a0 (r / 2048) (r % 2048) b

/-- The positions. -/
def POS (r : ℕ) : EReal := at2 (m := 4) (n := 2048) (sitofp (F := Ideal) .f32 a1) (r / 2048) (r % 2048)

/-- The normed residual stream. -/
def NF : ℕ → ℕ → EReal := NRM 4096 i4096 (XF a0) (at2 (m := 2) (n := 4096) a2 1)

/-- Its projection. -/
def PF : ℕ → ℕ → EReal := UPJ 4096 (NF a0 a2) (at3 (l := 2) (m := 4096) (n := 7744) a3 1)

/-- The normed latents. -/
def CQF : ℕ → ℕ → EReal := NRM 1024 i1024 (PF a0 a2 a3) (at2 (m := 2) (n := 1024) a4 1)
def CKVF : ℕ → ℕ → EReal := NRM 512 i512 (fun r b => PF a0 a2 a3 r (1024 + b)) (at2 (m := 2) (n := 512) a5 1)

/-- The up-projections. -/
def YQF : ℕ → ℕ → EReal := UPJ 1024 (CQF a0 a2 a3 a4) (at3 (l := 2) (m := 1024) (n := 3072) a6 1)
def YKF : ℕ → ℕ → EReal := UPJ 512 (CKVF a0 a2 a3 a5) (at3 (l := 2) (m := 512) (n := 4096) a7 1)

/-- The rope part of the keys. -/
def KRF : ℕ → ℕ → EReal :=
  ROPE (POS a1) (NR64 (fun r b => PF a0 a2 a3 r (1536 + b)) (fun b => at2 (m := 2) (n := 192) a9 1 (128 + b)))

/-- The queries. -/
def QF (r b : ℕ) : EReal :=
  (if b % 256 < 128 then NRM 128 i128 (fun r l => YQF a0 a2 a3 a4 a6 r (192 * (b / 256) + l)) (at2 (m := 2) (n := 192) a8 1) r (b % 256)
  else ROPE (POS a1) (NR64 (fun r l => YQF a0 a2 a3 a4 a6 r (192 * (b / 256) + 128 + l)) (fun l => at2 (m := 2) (n := 192) a8 1 (128 + l))) r (b % 256 - 128)) * qk

/-- The keys. -/
def KF (r b : ℕ) : EReal :=
  if b % 256 < 128 then NRM 128 i128 (fun r l => YKF a0 a2 a3 a5 a7 r (256 * (b / 256) + l)) (at2 (m := 2) (n := 192) a9 1) r (b % 256)
  else KRF a0 a1 a2 a3 a9 r (b % 256 - 128)

/-- The values. -/
def VF (r b : ℕ) : EReal := YKF a0 a2 a3 a5 a7 r (256 * (b / 128) + 128 + b % 128)

end

/-- Turning by scaled tables is scaling what the tables turn. -/
theorem rot_scale (X C S : ℕ → ℕ → EReal) (r b : ℕ) : ROT X (fun r b => C r b * qs) (fun r b => S r b * qs) r b = ROT X C S r b * qk := by
  unfold ROT
  have hq : (0 : EReal) ≤ qk := EReal.coe_nonneg.mpr (by positivity)
  simp only [qs_eq]
  rw [EReal.right_distrib_of_nonneg_of_ne_top hq (EReal.coe_ne_top _), mul_assoc, mul_assoc]

/-- A query's part without position. -/
theorem qnope_eq (Y : ℕ → ℕ → EReal) (o : ℕ) (G : ℕ → EReal) (r b : ℕ) (hb : b < 128) :
    QNOPE (YS Y o) G r b = NRM 128 i128 (fun r l => Y r (o + l)) G r b * qk := by
  unfold QNOPE QN NRM YS
  rw [qs_eq, ← mul_assoc, if_pos hb, show b / 128 = 0 by omega]
  refine congrArg₂ (· * ·) (congrArg₂ (· * ·) (congrArg₂ (· * ·) rfl (congrArg Ideal.rsqrt (congrArg₂ (· + ·) (congrArg₂ (· * ·) ?_ rfl) rfl))) rfl) rfl
  refine Finset.sum_congr rfl fun k _ => ?_
  rw [Nat.mul_zero, Nat.zero_add, if_pos k.isLt]

/-- A query's rope part. -/
theorem qrope_eq (P F : ℕ → EReal) (Y : ℕ → ℕ → EReal) (o : ℕ) (G G' : ℕ → EReal) (r b : ℕ) (hb : b < 128) (hG : ∀ k, k < 128 → G k = G' (k % 64))
    (hF : ∀ k, k < 64 → F k = freq (k % 32)) :
    QROPE (YS Y o) (TC P F) (TS P F) G r b = ROPE P (NR64 (fun r l => Y r (o + 128 + l)) G') r b * qk := by
  unfold QROPE
  rw [rot_scale]
  refine congrArg₂ (· * ·) (rot_rope P F _ _ r b hb (fun k hk => ?_) hF) rfl
  refine Eq.trans ?_ (nrm_twice (fun r l => Y r (o + 128 + l % 64)) _ G G' r k (fun l _ => rfl) hG hk)
  unfold QN NRM YS
  rw [if_neg (by omega), show (128 + k) / 128 = 1 by omega, show o + (128 + (128 + k) % 64) = o + 128 + k % 64 by omega]
  refine congrArg₂ (· * ·) (congrArg₂ (· * ·) rfl (congrArg Ideal.rsqrt (congrArg₂ (· + ·) (congrArg₂ (· * ·) ?_ rfl) rfl))) rfl
  refine Finset.sum_congr rfl fun l _ => ?_
  rw [if_neg (by omega), show o + (128 + (128 * 1 + (l : ℕ)) % 64) = o + 128 + (l : ℕ) % 64 by omega]

end Cert.Front

end
-- ==== Proof.Front.Host.lean ====
/- What the host's reshapes between the kernel's calls leave, entry by entry. -/
module

public import proofs.«01_k».proof.Proof.Front.Spec

@[expose] public section

set_option maxRecDepth 16384

noncomputable section

open Idealize.ShloMosaic Idealize.ShloMosaic.TcCoe Idealize.SL.Sem

namespace Cert.Kernel6Ideal.Value

open Cert.Kernel6Ideal Cert.Kernel6Ideal.Gen Cert.Front

/-! ### The reshapes themselves -/

theorem rows_x (A : FVec Ideal S4x2048x4096 .f32) (r b : ℕ) (hr : r < 8192) (hb : b < 4096) :
    at2 (m := 8192) (n := 4096) (shapeCast S8192x4096 A shapeCasts_S4x2048x4096_S8192x4096 : FVec Ideal S8192x4096 .f32) r b = XF A r b := by
  unfold XF
  rw [at2_of _ hr hb, at3_of _ (by omega) (by omega) hb]
  pointwise

theorem rows_p (A : IVec S4x2048 32) (r : ℕ) (hr : r < 8192) :
    at2 (m := 8192) (n := 1) (shapeCast S8192x1 (sitofp (F := Ideal) .f32 A) shapeCasts_S4x2048_S8192x1 : FVec Ideal S8192x1 .f32) r 0 = POS A r := by
  unfold POS
  rw [at2_of _ hr (by omega), at2_of _ (by omega) (by omega)]
  pointwise

theorem freqs (k : ℕ) (hk : k < 64) :
    at2 (m := 1) (n := 128) (shapeCast S1x128 (concatenate S128 0 [⟨S32, FREQ⟩, ⟨S32, FREQ⟩, ⟨S64, broadcastInDim S64 ![] bcast_S_S64 (constant S_ .f32 0x00000000#32)⟩] concatenates_S32_S32_S64_S128_d0) shapeCasts_S128_S1x128 : FVec Ideal S1x128 .f32) 0 k
      = freq (k % 32) := by
  unfold freq
  rw [at2_of _ (by omega) (by omega), dif_pos (by omega)]
  generalize FREQ = Z
  by_cases h : k < 32
  · pointwise
    rw [dif_pos h]
    exact congrArg Z (congrArg ix1 (Fin.ext (show k = k % 32 by omega)))
  · pointwise
    rw [dif_neg h, dif_pos (by omega)]
    exact congrArg Z (congrArg ix1 (Fin.ext (show k - 32 = k % 32 by omega)))

theorem weights (A : FVec Ideal S2x4096x7744 .f32) (b k : ℕ) (hb : b < 1664) (hk : k < 4096) :
    at3 (l := 2) (m := 1664) (n := 4096) (truncf .bf16 (extractStridedSlice S2x1664x4096 ![0, 0, 0] (transpose S2x7744x4096 [0, 2, 1] A transposes_S2x4096x7744_S2x7744x4096_0_2_1) slices_S2x7744x4096_S2x1664x4096_0_0_0) bitsLt_bf16_f32 : FVec Ideal S2x1664x4096 .bf16) 1 b k
      = at3 (l := 2) (m := 4096) (n := 7744) A 1 k b := by
  rw [at3_of _ (by omega) hb hk, at3_of _ (by omega) hk (by omega)]
  pointwise

theorem row4096 (A : FVec Ideal S2x4096 .f32) (b : ℕ) (hb : b < 4096) :
    at2 (m := 1) (n := 4096) (shapeCast S1x4096 (shapeCast S4096 (extractStridedSlice S1x4096 ![1, 0] A slices_S2x4096_S1x4096_1_0) shapeCasts_S1x4096_S4096) shapeCasts_S4096_S1x4096 : FVec Ideal S1x4096 .f32) 0 b
      = at2 (m := 2) (n := 4096) A 1 b := by
  rw [at2_of _ (by omega) hb, at2_of _ (by omega) hb]
  pointwise

theorem row1024 (A : FVec Ideal S2x1024 .f32) (b : ℕ) (hb : b < 1024) :
    at2 (m := 1) (n := 1024) (shapeCast S1x1024 (shapeCast S1024 (extractStridedSlice S1x1024 ![1, 0] A slices_S2x1024_S1x1024_1_0) shapeCasts_S1x1024_S1024) shapeCasts_S1024_S1x1024 : FVec Ideal S1x1024 .f32) 0 b
      = at2 (m := 2) (n := 1024) A 1 b := by
  rw [at2_of _ (by omega) hb, at2_of _ (by omega) hb]
  pointwise

theorem row512 (A : FVec Ideal S2x512 .f32) (b : ℕ) (hb : b < 512) :
    at2 (m := 1) (n := 512) (shapeCast S1x512 (shapeCast S512 (extractStridedSlice S1x512 ![1, 0] A slices_S2x512_S1x512_1_0) shapeCasts_S1x512_S512) shapeCasts_S512_S1x512 : FVec Ideal S1x512 .f32) 0 b
      = at2 (m := 2) (n := 512) A 1 b := by
  rw [at2_of _ (by omega) hb, at2_of _ (by omega) hb]
  pointwise

theorem row128 (A : FVec Ideal S2x192 .f32) (b : ℕ) (hb : b < 128) :
    at2 (m := 1) (n := 128) (shapeCast S1x128 (shapeCast S128 (extractStridedSlice S1x128 ![1, 0] A slices_S2x192_S1x128_1_0) shapeCasts_S1x128_S128) shapeCasts_S128_S1x128 : FVec Ideal S1x128 .f32) 0 b
      = at2 (m := 2) (n := 192) A 1 b := by
  rw [at2_of _ (by omega) hb, at2_of _ (by omega) (by omega)]
  pointwise

theorem row64 (A : FVec Ideal S2x192 .f32) (b : ℕ) (hb : b < 128) :
    at2 (m := 1) (n := 128) (shapeCast S1x128 (shapeCast S128 (broadcastInDim S2x64 ![0, 1] bcast_S1x64_S2x64_0_1 (shapeCast S1x64 (shapeCast S64 (extractStridedSlice S1x64 ![1, 128] A slices_S2x192_S1x64_1_128) shapeCasts_S1x64_S64) shapeCasts_S64_S1x64)) shapeCasts_S2x64_S128) shapeCasts_S128_S1x128 : FVec Ideal S1x128 .f32) 0 b
      = at2 (m := 2) (n := 192) A 1 (128 + b % 64) := by
  rw [at2_of _ (by omega) hb, at2_of _ (by omega) (by omega)]
  pointwise

/-! ### What the buffers hold -/

variable (m : (ℓ : Loc nD τ sig) → Buf (Elt Ideal) ℓ) (ρ : Dev nD → PrngReg) (c : Dev nD)

theorem host_v0 : W1 m ρ c (Proc.devRef .tc main_v0) = shapeCast S8192x4096 (W0 m ρ c (Proc.devRef .tc main_arg0)) shapeCasts_S4x2048x4096_S8192x4096 := by
  show StableHlo.after _ (W0 m ρ c) _ = _
  after_results <;> rfl

theorem host_v11 : W1 m ρ c (Proc.devRef .tc main_v11) = shapeCast S8192x1 (sitofp (F := Ideal) .f32 (W0 m ρ c (Proc.devRef .tc main_arg1))) shapeCasts_S4x2048_S8192x1 := by
  show StableHlo.after _ (W0 m ρ c) _ = _
  after_results <;> rfl

theorem host_v9 : W1 m ρ c (Proc.devRef .tc main_v9) = shapeCast S1x128 (concatenate S128 0 [⟨S32, FREQ⟩, ⟨S32, FREQ⟩, ⟨S64, broadcastInDim S64 ![] bcast_S_S64 (constant S_ .f32 0x00000000#32)⟩] concatenates_S32_S32_S64_S128_d0) shapeCasts_S128_S1x128 := by
  show StableHlo.after _ (W0 m ρ c) _ = _
  after_results <;> rfl

theorem host_v15 : W3 m ρ c (Proc.devRef .tc main_v15) = truncf (F := Ideal) (φ := .f32) .bf16 (extractStridedSlice S2x1664x4096 ![0, 0, 0] (transpose S2x7744x4096 [0, 2, 1] (W2 m ρ c (Proc.devRef .tc main_arg3)) transposes_S2x4096x7744_S2x7744x4096_0_2_1) slices_S2x7744x4096_S2x1664x4096_0_0_0) bitsLt_bf16_f32 := by
  show StableHlo.after _ (W2 m ρ c) _ = _
  after_results <;> rfl

theorem host_v28 : W3 m ρ c (Proc.devRef .tc main_v28) = shapeCast S1x4096 (shapeCast S4096 (extractStridedSlice S1x4096 ![1, 0] (W2 m ρ c (Proc.devRef .tc main_arg2)) slices_S2x4096_S1x4096_1_0) shapeCasts_S1x4096_S4096) shapeCasts_S4096_S1x4096 := by
  show StableHlo.after _ (W2 m ρ c) _ = _
  after_results <;> rfl

theorem host_v29 : W3 m ρ c (Proc.devRef .tc main_v29) = shapeCast S1x1024 (shapeCast S1024 (extractStridedSlice S1x1024 ![1, 0] (W2 m ρ c (Proc.devRef .tc main_arg4)) slices_S2x1024_S1x1024_1_0) shapeCasts_S1x1024_S1024) shapeCasts_S1024_S1x1024 := by
  show StableHlo.after _ (W2 m ρ c) _ = _
  after_results <;> rfl

theorem host_v30 : W3 m ρ c (Proc.devRef .tc main_v30) = shapeCast S1x512 (shapeCast S512 (extractStridedSlice S1x512 ![1, 0] (W2 m ρ c (Proc.devRef .tc main_arg5)) slices_S2x512_S1x512_1_0) shapeCasts_S1x512_S512) shapeCasts_S512_S1x512 := by
  show StableHlo.after _ (W2 m ρ c) _ = _
  after_results <;> rfl

theorem host_v27 : W3 m ρ c (Proc.devRef .tc main_v27) = shapeCast S1x128 (shapeCast S128 (broadcastInDim S2x64 ![0, 1] bcast_S1x64_S2x64_0_1 (shapeCast S1x64 (shapeCast S64 (extractStridedSlice S1x64 ![1, 128] (W2 m ρ c (Proc.devRef .tc main_arg9)) slices_S2x192_S1x64_1_128) shapeCasts_S1x64_S64) shapeCasts_S64_S1x64)) shapeCasts_S2x64_S128) shapeCasts_S128_S1x128 := by
  show StableHlo.after _ (W2 m ρ c) _ = _
  after_results <;> rfl

theorem host_v34 : W5 m ρ c (Proc.devRef .tc main_v34) = shapeCast S1x128 (shapeCast S128 (extractStridedSlice S1x128 ![1, 0] (W4 m ρ c (Proc.devRef .tc main_arg8)) slices_S2x192_S1x128_1_0) shapeCasts_S1x128_S128) shapeCasts_S128_S1x128 := by
  show StableHlo.after _ (W4 m ρ c) _ = _
  after_results <;> rfl

theorem host_v40 : W5 m ρ c (Proc.devRef .tc main_v40) = shapeCast S1x128 (shapeCast S128 (broadcastInDim S2x64 ![0, 1] bcast_S1x64_S2x64_0_1 (shapeCast S1x64 (shapeCast S64 (extractStridedSlice S1x64 ![1, 128] (W4 m ρ c (Proc.devRef .tc main_arg8)) slices_S2x192_S1x64_1_128) shapeCasts_S1x64_S64) shapeCasts_S64_S1x64)) shapeCasts_S2x64_S128) shapeCasts_S128_S1x128 := by
  show StableHlo.after _ (W4 m ρ c) _ = _
  after_results <;> rfl

theorem host_v44 : W7 m ρ c (Proc.devRef .tc main_v44) = shapeCast S1x128 (shapeCast S128 (extractStridedSlice S1x128 ![1, 0] (W6 m ρ c (Proc.devRef .tc main_arg9)) slices_S2x192_S1x128_1_0) shapeCasts_S1x128_S128) shapeCasts_S128_S1x128 := by
  show StableHlo.after _ (W6 m ρ c) _ = _
  after_results <;> rfl

end Cert.Kernel6Ideal.Value

end
-- ==== Proof.Front.Whole.lean ====
/- What the front of the layer leaves, as a function of the arguments. -/
module

public import proofs.«01_k».proof.Proof.Front.Host

@[expose] public section

set_option maxRecDepth 16384

noncomputable section

open Idealize.ShloMosaic Idealize.ShloMosaic.TcCoe Idealize.SL.Sem

namespace Cert.Kernel6Ideal.Value

open Cert.Kernel6Ideal Cert.Kernel6Ideal.Gen Cert.Front Cert.Reals

theorem rope_congr {P P' : ℕ → EReal} {X X' : ℕ → ℕ → EReal} {r : ℕ} (b : ℕ) (hP : P r = P' r) (hX : ∀ k, X r k = X' r k) :
    ROPE P X r b = ROPE P' X' r b := by
  unfold ROPE
  simp only [hP, hX]

theorem nr64_congr {Z Z' : ℕ → ℕ → EReal} {G : ℕ → EReal} {r b : ℕ} (hZ : ∀ k, Z r k = Z' r k) : NR64 Z G r b = NR64 Z' G r b := by
  unfold NR64
  simp only [hZ]

theorem rot_congr {X C C' S S' : ℕ → ℕ → EReal} {r b : ℕ} (hC : C r b = C' r b) (hS : S r b = S' r b) : ROT X C S r b = ROT X C' S' r b := by
  unfold ROT
  rw [hC, hS]

theorem qrope_congr {Q C C' S S' : ℕ → ℕ → EReal} {G : ℕ → EReal} {r b : ℕ} (hC : C r b = C' r b) (hS : S r b = S' r b) :
    QROPE Q C S G r b = QROPE Q C' S' G r b := by
  unfold QROPE
  exact rot_congr (congrArg (· * qs) hC) (congrArg (· * qs) hS)

theorem ofNat2_congr {m n : ℕ} {f g : ℕ → ℕ → EReal} (h : ∀ r b, r < m → b < n → f r b = g r b) : ofNat2 (m := m) (n := n) f = ofNat2 (m := m) (n := n) g :=
  funext fun j => h (j 0) (j 1) (j 0).isLt (j 1).isLt

section
variable (m : (ℓ : Loc nD τ sig) → Buf (Elt Ideal) ℓ) (ρ : Dev nD → PrngReg) (c : Dev nD)

abbrev B0 : FVec Ideal S4x2048x4096 .f32 := m ((c : Thread nD τ).loc main_arg0)
abbrev B1 : IVec S4x2048 32 := m ((c : Thread nD τ).loc main_arg1)
abbrev B2 : FVec Ideal S2x4096 .f32 := m ((c : Thread nD τ).loc main_arg2)
abbrev B3 : FVec Ideal S2x4096x7744 .f32 := m ((c : Thread nD τ).loc main_arg3)
abbrev B4 : FVec Ideal S2x1024 .f32 := m ((c : Thread nD τ).loc main_arg4)
abbrev B5 : FVec Ideal S2x512 .f32 := m ((c : Thread nD τ).loc main_arg5)
abbrev B6 : FVec Ideal S2x1024x3072 .f32 := m ((c : Thread nD τ).loc main_arg6)
abbrev B7 : FVec Ideal S2x512x4096 .f32 := m ((c : Thread nD τ).loc main_arg7)
abbrev B8 : FVec Ideal S2x192 .f32 := m ((c : Thread nD τ).loc main_arg8)
abbrev B9 : FVec Ideal S2x192 .f32 := m ((c : Thread nD τ).loc main_arg9)

/-! ### The entry of the tables and of the latents -/

theorem e_v11 (r : ℕ) (hr : r < 8192) : PS (V1 m ρ) c r = POS (B1 m c) r := by
  unfold PS
  rw [show V1 m ρ c main_v11 = _ from host_v11 m ρ c]
  exact rows_p (B1 m c) r hr

theorem e_v9 (k : ℕ) (hk : k < 64) : at2 (m := 1) (n := 128) (V1 m ρ c main_v9) 0 k = freq (k % 32) := by
  rw [show V1 m ρ c main_v9 = _ from host_v9 m ρ c]
  exact freqs k hk

theorem w3_v12_0 : W3 m ρ c (Proc.devRef .tc main_v12_0) = ofNat2 (m := 8192) (n := 128) (TC (PS (V1 m ρ) c) (at2 (m := 1) (n := 128) (V1 m ρ c main_v9) 0)) :=
  (W3_of m ρ c main_v12_0 (by decide)).trans ((W2_arr m ρ c 2).trans (final0_2 (V1 m ρ) c))

theorem w3_v12_1 : W3 m ρ c (Proc.devRef .tc main_v12_1) = ofNat2 (m := 8192) (n := 128) (TS (PS (V1 m ρ) c) (at2 (m := 1) (n := 128) (V1 m ρ c main_v9) 0)) :=
  (W3_of m ρ c main_v12_1 (by decide)).trans ((W2_arr m ρ c 3).trans (final0_3 (V1 m ρ) c))

theorem e_v0 (r b : ℕ) (hr : r < 8192) (hb : b < 4096) : at2 (m := 8192) (n := 4096) (Gen.V3 m ρ c main_v0) r b = XF (B0 m c) r b := by
  rw [show Gen.V3 m ρ c main_v0 = _ from (W3_of m ρ c main_v0 (by decide)).trans ((W2_of m ρ c main_v0 (by decide)).trans (host_v0 m ρ c))]
  exact rows_x (B0 m c) r b hr hb

theorem e_v28 (b : ℕ) (hb : b < 4096) : at2 (m := 1) (n := 4096) (Gen.V3 m ρ c main_v28) 0 b = at2 (m := 2) (n := 4096) (B2 m c) 1 b := by
  rw [show Gen.V3 m ρ c main_v28 = _ from host_v28 m ρ c, show W2 m ρ c (Proc.devRef .tc main_arg2) = _ from W2_args m ρ c main_arg2 (by decide)]
  exact row4096 (B2 m c) b hb

theorem e_v15 (b k : ℕ) (hb : b < 1664) (hk : k < 4096) : at3 (l := 2) (m := 1664) (n := 4096) (Gen.V3 m ρ c main_v15) 1 b k = at3 (l := 2) (m := 4096) (n := 7744) (B3 m c) 1 k b := by
  rw [show Gen.V3 m ρ c main_v15 = _ from host_v15 m ρ c, show W2 m ρ c (Proc.devRef .tc main_arg3) = _ from W2_args m ρ c main_arg3 (by decide)]
  exact weights (B3 m c) b k hb hk

theorem e_v29 (b : ℕ) (hb : b < 1024) : at2 (m := 1) (n := 1024) (Gen.V3 m ρ c main_v29) 0 b = at2 (m := 2) (n := 1024) (B4 m c) 1 b := by
  rw [show Gen.V3 m ρ c main_v29 = _ from host_v29 m ρ c, show W2 m ρ c (Proc.devRef .tc main_arg4) = _ from W2_args m ρ c main_arg4 (by decide)]
  exact row1024 (B4 m c) b hb

theorem e_v30 (b : ℕ) (hb : b < 512) : at2 (m := 1) (n := 512) (Gen.V3 m ρ c main_v30) 0 b = at2 (m := 2) (n := 512) (B5 m c) 1 b := by
  rw [show Gen.V3 m ρ c main_v30 = _ from host_v30 m ρ c, show W2 m ρ c (Proc.devRef .tc main_arg5) = _ from W2_args m ρ c main_arg5 (by decide)]
  exact row512 (B5 m c) b hb

theorem e_v27 (b : ℕ) (hb : b < 128) : at2 (m := 1) (n := 128) (Gen.V3 m ρ c main_v27) 0 b = at2 (m := 2) (n := 192) (B9 m c) 1 (128 + b % 64) := by
  rw [show Gen.V3 m ρ c main_v27 = _ from host_v27 m ρ c, show W2 m ρ c (Proc.devRef .tc main_arg9) = _ from W2_args m ρ c main_arg9 (by decide)]
  exact row64 (B9 m c) b hb

/-! ### The latents -/

theorem n1 (r b : ℕ) (hr : r < 8192) (hb : b < 4096) : N1 (Gen.V3 m ρ) c r b = NF (B0 m c) (B2 m c) r b :=
  nrm_congr (fun k hk => e_v0 m ρ c r k hr hk) hb (e_v28 m ρ c b hb)

theorem p1 (r b : ℕ) (hr : r < 8192) (hb : b < 1664) : P1 (Gen.V3 m ρ) c r b = PF (B0 m c) (B2 m c) (B3 m c) r b := by
  unfold P1 PRJ PF UPJ
  exact Finset.sum_congr rfl fun k _ => congrArg₂ (· * ·) (n1 m ρ c r k hr k.isLt) (e_v15 m ρ c b k hb k.isLt)

theorem cq1 (r b : ℕ) (hr : r < 8192) (hb : b < 1024) : CQ1 (Gen.V3 m ρ) c r b = CQF (B0 m c) (B2 m c) (B3 m c) (B4 m c) r b :=
  nrm_congr (fun k hk => p1 m ρ c r k hr (by omega)) hb (e_v29 m ρ c b hb)

theorem ckv1 (r b : ℕ) (hr : r < 8192) (hb : b < 512) : CKV1 (Gen.V3 m ρ) c r b = CKVF (B0 m c) (B2 m c) (B3 m c) (B5 m c) r b :=
  nrm_congr (fun k hk => p1 m ρ c r (1024 + k) hr (by omega)) hb (e_v30 m ρ c b hb)

theorem kr1 (r b : ℕ) (hr : r < 8192) (hb : b < 128) : KR1 (Gen.V3 m ρ) c r b = KRF (B0 m c) (B1 m c) (B2 m c) (B3 m c) (B9 m c) r b := by
  unfold KR1 KRF
  refine (rot_congr ((congrArg (fun A => at2 (m := 8192) (n := 128) A r b) (w3_v12_0 m ρ c)).trans (at2_ofNat2 _ hr hb))
    ((congrArg (fun A => at2 (m := 8192) (n := 128) A r b) (w3_v12_1 m ρ c)).trans (at2_ofNat2 _ hr hb))).trans ?_
  refine (rot_rope _ _ _ (NR64 (fun r b => PF (B0 m c) (B2 m c) (B3 m c) r (1536 + b)) (fun b => at2 (m := 2) (n := 192) (B9 m c) 1 (128 + b))) r b hb
    (fun k hk => ?_) (e_v9 m ρ c)).trans (rope_congr b (e_v11 m ρ c r hr) fun _ => rfl)
  refine nrm_twice _ _ _ (fun b => at2 (m := 2) (n := 192) (B9 m c) 1 (128 + b)) r k (fun l hl => ?_) (fun l hl => e_v27 m ρ c l hl) hk
  exact p1 m ρ c r (1536 + l % 64) hr (by omega)

/-! ### The queries -/

theorem w5_v31_1 : W5 m ρ c (Proc.devRef .tc main_v31_1) = ofNat2 (m := 8192) (n := 1024) (CQ1 (Gen.V3 m ρ) c) :=
  (W5_of m ρ c main_v31_1 (by decide)).trans ((W4_arr m ρ c 9).trans (final1_9 (Gen.V3 m ρ) c))

theorem w5_v12_0 : W5 m ρ c (Proc.devRef .tc main_v12_0) = ofNat2 (m := 8192) (n := 128) (TC (PS (V1 m ρ) c) (at2 (m := 1) (n := 128) (V1 m ρ c main_v9) 0)) :=
  (W5_of m ρ c main_v12_0 (by decide)).trans ((W4_of m ρ c main_v12_0 (by decide)).trans (w3_v12_0 m ρ c))

theorem w5_v12_1 : W5 m ρ c (Proc.devRef .tc main_v12_1) = ofNat2 (m := 8192) (n := 128) (TS (PS (V1 m ρ) c) (at2 (m := 1) (n := 128) (V1 m ρ c main_v9) 0)) :=
  (W5_of m ρ c main_v12_1 (by decide)).trans ((W4_of m ρ c main_v12_1 (by decide)).trans (w3_v12_1 m ρ c))

theorem e_v34 (b : ℕ) (hb : b < 128) : at2 (m := 1) (n := 128) (V5 m ρ c main_v34) 0 b = at2 (m := 2) (n := 192) (B8 m c) 1 b := by
  rw [show V5 m ρ c main_v34 = _ from host_v34 m ρ c, show W4 m ρ c (Proc.devRef .tc main_arg8) = _ from W4_args m ρ c main_arg8 (by decide)]
  exact row128 (B8 m c) b hb

theorem e_v40 (b : ℕ) (hb : b < 128) : at2 (m := 1) (n := 128) (V5 m ρ c main_v40) 0 b = at2 (m := 2) (n := 192) (B8 m c) 1 (128 + b % 64) := by
  rw [show V5 m ρ c main_v40 = _ from host_v40 m ρ c, show W4 m ρ c (Proc.devRef .tc main_arg8) = _ from W4_args m ρ c main_arg8 (by decide)]
  exact row64 (B8 m c) b hb

theorem y2 (r b : ℕ) (hr : r < 8192) : Y2 (V5 m ρ) c r b = YQF (B0 m c) (B2 m c) (B3 m c) (B4 m c) (B6 m c) r b := by
  unfold Y2 YQF
  rw [show V5 m ρ c main_v31_1 = _ from w5_v31_1 m ρ c, show V5 m ρ c main_arg6 = _ from W5_args m ρ c main_arg6 (by decide)]
  exact upj_congr (fun k hk => (at2_ofNat2 _ hr hk).trans (cq1 m ρ c r k hr hk)) fun _ _ => rfl

theorem y2_out (r b : ℕ) (hr : ¬ r < 8192) : Y2 (V5 m ρ) c r b = 0 := by
  unfold Y2 UPJ
  refine Finset.sum_eq_zero fun k _ => ?_
  rw [show at2 (m := 8192) (n := 1024) (V5 m ρ c main_v31_1) r k = 0 by unfold at2; rw [dif_neg fun h => hr h.1], zero_mul]

theorem q2 (r b : ℕ) (hr : r < 8192) (hb : b < 4096) : Q2 (V5 m ρ) c r b = QF (B0 m c) (B1 m c) (B2 m c) (B3 m c) (B4 m c) (B6 m c) (B8 m c) r b := by
  unfold Q2 QF
  by_cases h : b % 256 < 128
  · rw [if_pos h, if_pos h, qnope_eq _ _ _ _ _ h]
    exact congrArg (· * qk) (nrm_congr (fun k hk => y2 m ρ c r _ hr) h (e_v34 m ρ c _ h))
  · rw [if_neg h, if_neg h]
    refine (qrope_congr ((congrArg (fun A => at2 (m := 8192) (n := 128) A r (b % 256 - 128)) (w5_v12_0 m ρ c)).trans (at2_ofNat2 _ hr (by omega)))
      ((congrArg (fun A => at2 (m := 8192) (n := 128) A r (b % 256 - 128)) (w5_v12_1 m ρ c)).trans (at2_ofNat2 _ hr (by omega)))).trans ?_
    refine (qrope_eq _ _ _ _ _ (fun l => at2 (m := 2) (n := 192) (B8 m c) 1 (128 + l)) r (b % 256 - 128) (by omega) (fun k hk => e_v40 m ρ c k hk) (e_v9 m ρ c)).trans ?_
    exact congrArg (· * qk) (rope_congr _ (e_v11 m ρ c r hr) fun k => nr64_congr fun l => y2 m ρ c r _ hr)

/-! ### The keys and values -/

theorem w7_v31_2 : W7 m ρ c (Proc.devRef .tc main_v31_2) = ofNat2 (m := 8192) (n := 512) (CKV1 (Gen.V3 m ρ) c) :=
  (W7_of m ρ c main_v31_2 (by decide)).trans ((W6_of m ρ c main_v31_2 (by decide)).trans ((W5_of m ρ c main_v31_2 (by decide)).trans ((W4_arr m ρ c 10).trans (final1_10 (Gen.V3 m ρ) c))))

theorem w7_v31_3 : W7 m ρ c (Proc.devRef .tc main_v31_3) = ofNat2 (m := 8192) (n := 128) (KR1 (Gen.V3 m ρ) c) :=
  (W7_of m ρ c main_v31_3 (by decide)).trans ((W6_of m ρ c main_v31_3 (by decide)).trans ((W5_of m ρ c main_v31_3 (by decide)).trans ((W4_arr m ρ c 11).trans (final1_11 (Gen.V3 m ρ) c))))

theorem e_v44 (b : ℕ) (hb : b < 128) : at2 (m := 1) (n := 128) (V7 m ρ c main_v44) 0 b = at2 (m := 2) (n := 192) (B9 m c) 1 b := by
  rw [show V7 m ρ c main_v44 = _ from host_v44 m ρ c, show W6 m ρ c (Proc.devRef .tc main_arg9) = _ from W6_args m ρ c main_arg9 (by decide)]
  exact row128 (B9 m c) b hb

theorem y3 (r b : ℕ) (hr : r < 8192) : Y3 (V7 m ρ) c r b = YKF (B0 m c) (B2 m c) (B3 m c) (B5 m c) (B7 m c) r b := by
  unfold Y3 YKF
  rw [show V7 m ρ c main_v31_2 = _ from w7_v31_2 m ρ c, show V7 m ρ c main_arg7 = _ from W7_args m ρ c main_arg7 (by decide)]
  exact upj_congr (fun k hk => (at2_ofNat2 _ hr hk).trans (ckv1 m ρ c r k hr hk)) fun _ _ => rfl

theorem k3 (r b : ℕ) (hr : r < 8192) (hb : b < 4096) : K3 (V7 m ρ) c r b = KF (B0 m c) (B1 m c) (B2 m c) (B3 m c) (B5 m c) (B7 m c) (B9 m c) r b := by
  unfold K3 KF
  by_cases h : b % 256 < 128
  · rw [if_pos h, if_pos h]
    exact nrm_congr (fun k hk => y3 m ρ c r _ hr) h (e_v44 m ρ c _ h)
  · rw [if_neg h, if_neg h, show V7 m ρ c main_v31_3 = _ from w7_v31_3 m ρ c]
    exact (at2_ofNat2 _ hr (by omega)).trans (kr1 m ρ c r _ hr (by omega))

/-! ### The results -/

theorem at8_n : W8 m ρ c (Proc.devRef .tc main_v31_0) = ofNat2 (m := 8192) (n := 4096) (NF (B0 m c) (B2 m c)) :=
  ((W8_of m ρ c main_v31_0 (by decide)).trans ((W7_of m ρ c main_v31_0 (by decide)).trans ((W6_of m ρ c main_v31_0 (by decide)).trans ((W5_of m ρ c main_v31_0 (by decide)).trans ((W4_arr m ρ c 8).trans (final1_8 (Gen.V3 m ρ) c)))))).trans
    (ofNat2_congr fun r b hr hb => n1 m ρ c r b hr hb)

theorem at8_q (hR : ∀ r b, IsReal (YQF (B0 m c) (B2 m c) (B3 m c) (B4 m c) (B6 m c) r b)) :
    W8 m ρ c (Proc.devRef .tc main_v41) = ofNat2 (m := 8192) (n := 4096) (QF (B0 m c) (B1 m c) (B2 m c) (B3 m c) (B4 m c) (B6 m c) (B8 m c)) :=
  ((W8_of m ρ c main_v41 (by decide)).trans ((W7_of m ρ c main_v41 (by decide)).trans ((W6_arr m ρ c 6).trans (final2_6 (V5 m ρ) c fun r b => by
    by_cases hr : r < 8192
    · rw [y2 m ρ c r b hr]; exact hR r b
    · rw [y2_out m ρ c r b hr]; exact isReal_coe 0)))).trans
    (ofNat2_congr fun r b hr hb => q2 m ρ c r b hr hb)

theorem at8_k : W8 m ρ c (Proc.devRef .tc main_v45_0) = ofNat2 (m := 8192) (n := 4096) (KF (B0 m c) (B1 m c) (B2 m c) (B3 m c) (B5 m c) (B7 m c) (B9 m c)) :=
  ((W8_arr m ρ c 4).trans (final3_4 (V7 m ρ) c)).trans (ofNat2_congr fun r b hr hb => k3 m ρ c r b hr hb)

theorem at8_v : W8 m ρ c (Proc.devRef .tc main_v45_1) = ofNat2 (m := 8192) (n := 2048) (VF (B0 m c) (B2 m c) (B3 m c) (B5 m c) (B7 m c)) :=
  ((W8_arr m ρ c 5).trans (final3_5 (V7 m ρ) c)).trans (ofNat2_congr fun r b hr hb => y3 m ρ c r _ hr)

end

end Cert.Kernel6Ideal.Value

end
-- ==== Proof.Front.Run.lean ====
/- The front's run: every buffer that is not scoped ends at the contents of the last boundary. -/
module

public import proofs.«01_k».proof.Proof.Gen.Kernel6Ideal.Frame

@[expose] public section

set_option maxRecDepth 16384

noncomputable section

namespace Cert.Kernel6Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable (m : (ℓ : Loc nD τ sig) → Buf (Elt Ideal) ℓ) (ρ : Dev nD → PrngReg)

/-- The ghost state that the calls start from. -/
abbrev seed := initOf (Pipeline.cells cfgs cellOf_inj) (Pipeline.launchToks cfgs cellOf_inj)

set_option backward.isDefEq.respectTransparency.types false in
theorem run_all : θ_run (defs (F := Ideal)) (onTc (τ := τ) (main (F := Ideal))) ⟨m, fun _ => 0, ρ⟩ (fun r => ∀ c : Dev nD, ∀ b ∈ Pipeline.ucRefs τ sig,
      r.2.mem ((c : Thread nD τ).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := seed)
    (hu₀ := by
      iintro Hu; imodintro
      isplitl [Hu]
      · iapply (show (ownU seed : sProp (MT nD τ sig Unit (Elt Ideal) ℕ (UR sig nD τ) ℕ)) ⊢ BI.own (emb₁ seed) from .rfl)
        iexact Hu
      iapply (show (BI.emp : sProp (MT nD τ sig Unit (Elt Ideal) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _; iexact Hp
      · iexists ∅; iexact HO)
    (QY := fun c s => ∀ b ∈ Pipeline.ucRefs τ sig, s.mem ((c : Thread nD τ).1, b) = W8 m ρ c b)
    (hfin := fun c s' => by
      iintro ⟨⟨Hh, -⟩, HS⟩
      unfold StableHlo.held
      imodintro
      iapply (pointsTo_read_all (Pipeline.ucRefs τ sig) (fun b => ((c : Thread nD τ).1, b)) (W8 m ρ c) s')
      isplitl [Hh] <;> iassumption)
    (hQ := fun _ h _ => h)

end Cert.Kernel6Ideal.Value

end
-- ==== Proof.Front.RefNorm.lean ====
/- The reference's norms and projections, entry by entry. -/
module

public import proofs.«01_k».proof.Proof.Front.Spec
public import proofs.«01_k».proof.Proof.Layer.XQ
public import proofs.«01_k».proof.Proof.Gen.Reference6Ideal.Run

@[expose] public section

set_option maxRecDepth 16384

noncomputable section

open Idealize.ShloMosaic Idealize.ShloMosaic.TcCoe Idealize.SL.Sem

namespace Cert.Reference6Ideal.Value

open Cert.Reference6Ideal Cert.Reference6Ideal.Gen Cert.Front
open Cert.Kernel6Ideal.Value (UPJ NRM i4096 i1024 i512 i128)

theorem div_1024 (x : EReal) : Ideal.div x (Ideal.ofBits .f32 0x44800000#32) = x * i1024 := by
  rw [show Ideal.ofBits .f32 0x44800000#32 = ((1024 : ℝ) : EReal) by simp [Ideal.ofBits, Ideal.ieee, -EReal.coe_mul]; norm_num,
    show i1024 = ((1 / 1024 : ℝ) : EReal) by simp [i1024, Ideal.ofBits, Ideal.ieee, -EReal.coe_mul]; norm_num,
    Ideal.div_coe (by norm_num)]

theorem div_512 (x : EReal) : Ideal.div x (Ideal.ofBits .f32 0x44000000#32) = x * i512 := by
  rw [show Ideal.ofBits .f32 0x44000000#32 = ((512 : ℝ) : EReal) by simp [Ideal.ofBits, Ideal.ieee, -EReal.coe_mul]; norm_num,
    show i512 = ((1 / 512 : ℝ) : EReal) by simp [i512, Ideal.ofBits, Ideal.ieee, -EReal.coe_mul]; norm_num,
    Ideal.div_coe (by norm_num)]

theorem rows4096 (X : FVec Ideal S8192x4096 .f32) (g : FVec Ideal S4096 .f32) (Z : ℕ → ℕ → EReal) (G : ℕ → EReal)
    (hX : ∀ (r : Fin 8192) (b : Fin 4096), X (ix2 r b) = Z r b) (hG : ∀ b : Fin 4096, g (ix1 b) = G b) (r : Fin 8192) (b : Fin 4096) :
    mulf (mulf X (broadcastInDim S8192x4096 ![0, 1] bcast_S8192x1_S8192x4096_0_1 (Host.rsqrt (addf (Host.divf (broadcastInDim S8192x1 ![0] bcast_S8192_S8192x1_0 (Host.reduceAdd (mulf X X) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g)) (ix2 r b)
      = NRM 4096 i4096 Z G r b := by
  unfold NRM
  rw [← Cert.Kernel5Ideal.Value.div_4096]
  pointwise
  simp only [hX, hG]

theorem rows1024 (X : FVec Ideal S8192x1024 .f32) (g : FVec Ideal S1024 .f32) (Z : ℕ → ℕ → EReal) (G : ℕ → EReal)
    (hX : ∀ (r : Fin 8192) (b : Fin 1024), X (ix2 r b) = Z r b) (hG : ∀ b : Fin 1024, g (ix1 b) = G b) (r : Fin 8192) (b : Fin 1024) :
    mulf (mulf X (broadcastInDim S8192x1024 ![0, 1] bcast_S8192x1_S8192x1024_0_1 (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g)) (ix2 r b)
      = NRM 1024 i1024 Z G r b := by
  unfold NRM
  rw [← div_1024]
  pointwise
  simp only [hX, hG]

theorem rows512 (X : FVec Ideal S8192x512 .f32) (g : FVec Ideal S512 .f32) (Z : ℕ → ℕ → EReal) (G : ℕ → EReal)
    (hX : ∀ (r : Fin 8192) (b : Fin 512), X (ix2 r b) = Z r b) (hG : ∀ b : Fin 512, g (ix1 b) = G b) (r : Fin 8192) (b : Fin 512) :
    mulf (mulf X (broadcastInDim S8192x512 ![0, 1] bcast_S8192x1_S8192x512_0_1 (Host.rsqrt (addf (Host.divf (broadcastInDim S8192x1 ![0] bcast_S8192_S8192x1_0 (Host.reduceAdd (mulf X X) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 (broadcastInDim S1x512 ![1] bcast_S512_S1x512_1 g)) (ix2 r b)
      = NRM 512 i512 Z G r b := by
  unfold NRM
  rw [← div_512]
  pointwise
  simp only [hX, hG]

theorem rows64 (X : FVec Ideal S8192x64 .f32) (g : FVec Ideal S64 .f32) (Z : ℕ → ℕ → EReal) (G : ℕ → EReal)
    (hX : ∀ (r : Fin 8192) (b : Fin 64), X (ix2 r b) = Z r b) (hG : ∀ b : Fin 64, g (ix1 b) = G b) (r : Fin 8192) (b : Fin 64) :
    mulf (mulf X (broadcastInDim S8192x64 ![0, 1] bcast_S8192x1_S8192x64_0_1 (Host.rsqrt (addf (Host.divf (broadcastInDim S8192x1 ![0] bcast_S8192_S8192x1_0 (Host.reduceAdd (mulf X X) (constant S_ .f32 0x00000000#32) reducesTo_S8192x64_S8192_d1 h_S_)) (broadcastInDim S8192x1 ![] bcast_S_S8192x1 (constant S_ .f32 0x42800000#32))) (broadcastInDim S8192x1 ![] bcast_S_S8192x1 (constant S_ .f32 0x358637BD#32)))))) (broadcastInDim S8192x64 ![0, 1] bcast_S1x64_S8192x64_0_1 (broadcastInDim S1x64 ![1] bcast_S64_S1x64_1 g)) (ix2 r b)
      = NR64 Z G r b := by
  unfold NR64
  pointwise
  simp only [hX, hG]

theorem heads128 (X : FVec Ideal S8192x16x128 .f32) (g : FVec Ideal S128 .f32) (Z : ℕ → ℕ → ℕ → EReal) (G : ℕ → EReal)
    (hX : ∀ (r : Fin 8192) (h : Fin 16) (b : Fin 128), X (ix3 r h b) = Z r h b) (hG : ∀ b : Fin 128, g (ix1 b) = G b) (r : Fin 8192) (h : Fin 16) (b : Fin 128) :
    mulf (mulf X (broadcastInDim S8192x16x128 ![0, 1, 2] bcast_S8192x16x1_S8192x16x128_0_1_2 (Host.rsqrt (addf (Host.divf (broadcastInDim S8192x16x1 ![0, 1] bcast_S8192x16_S8192x16x1_0_1 (Host.reduceAdd (mulf X X) (constant S_ .f32 0x00000000#32) reducesTo_S8192x16x128_S8192x16_d2 h_S_)) (broadcastInDim S8192x16x1 ![] bcast_S_S8192x16x1 (constant S_ .f32 0x43000000#32))) (broadcastInDim S8192x16x1 ![] bcast_S_S8192x16x1 (constant S_ .f32 0x358637BD#32)))))) (broadcastInDim S8192x16x128 ![0, 1, 2] bcast_S1x1x128_S8192x16x128_0_1_2 (broadcastInDim S1x1x128 ![2] bcast_S128_S1x1x128_2 g)) (ix3 r h b)
      = NRM 128 i128 (fun r l => Z r h l) G r b := by
  unfold NRM
  rw [← Cert.Kernel5Ideal.Value.div_128]
  pointwise
  simp only [hX, hG]

theorem heads64 (X : FVec Ideal S8192x16x64 .f32) (g : FVec Ideal S64 .f32) (Z : ℕ → ℕ → ℕ → EReal) (G : ℕ → EReal)
    (hX : ∀ (r : Fin 8192) (h : Fin 16) (b : Fin 64), X (ix3 r h b) = Z r h b) (hG : ∀ b : Fin 64, g (ix1 b) = G b) (r : Fin 8192) (h : Fin 16) (b : Fin 64) :
    mulf (mulf X (broadcastInDim S8192x16x64 ![0, 1, 2] bcast_S8192x16x1_S8192x16x64_0_1_2 (Host.rsqrt (addf (Host.divf (broadcastInDim S8192x16x1 ![0, 1] bcast_S8192x16_S8192x16x1_0_1 (Host.reduceAdd (mulf X X) (constant S_ .f32 0x00000000#32) reducesTo_S8192x16x64_S8192x16_d2 h_S_)) (broadcastInDim S8192x16x1 ![] bcast_S_S8192x16x1 (constant S_ .f32 0x42800000#32))) (broadcastInDim S8192x16x1 ![] bcast_S_S8192x16x1 (constant S_ .f32 0x358637BD#32)))))) (broadcastInDim S8192x16x64 ![0, 1, 2] bcast_S1x1x64_S8192x16x64_0_1_2 (broadcastInDim S1x1x64 ![2] bcast_S64_S1x1x64_2 g)) (ix3 r h b)
      = NR64 (fun r l => Z r h l) G r b := by
  unfold NR64
  pointwise
  simp only [hX, hG]

theorem up_in (X : FVec Ideal S8192x4096 .f32) (A : FVec Ideal S2x4096x7744 .f32) (Z : ℕ → ℕ → EReal)
    (hX : ∀ (r : Fin 8192) (b : Fin 4096), X (ix2 r b) = Z r b) (r : Fin 8192) (b : Fin 7744) :
    Host.dotGeneral dot_S8192x4096_S4096x7744_S8192x7744_1_0_0_1_n_n none X (shapeCast S4096x7744 (extractStridedSlice S1x4096x7744 ![1, 0, 0] A slices_S2x4096x7744_S1x4096x7744_1_0_0) shapeCasts_S1x4096x7744_S4096x7744) (ix2 r b)
      = UPJ 4096 Z (at3 (l := 2) (m := 4096) (n := 7744) A 1) r b := by
  unfold UPJ
  refine Eq.trans ?_ (Finset.sum_congr rfl fun k _ => congrArg₂ (· * ·) (hX r k) (at3_of A (show 1 < 2 by omega) k.isLt b.isLt).symm)
  pointwise

theorem up_q (X : FVec Ideal S8192x1024 .f32) (A : FVec Ideal S2x1024x3072 .f32) (Z : ℕ → ℕ → EReal)
    (hX : ∀ (r : Fin 8192) (b : Fin 1024), X (ix2 r b) = Z r b) (r : Fin 8192) (b : Fin 3072) :
    Host.dotGeneral dot_S8192x1024_S1024x3072_S8192x3072_1_0_0_1_n_n none X (shapeCast S1024x3072 (extractStridedSlice S1x1024x3072 ![1, 0, 0] A slices_S2x1024x3072_S1x1024x3072_1_0_0) shapeCasts_S1x1024x3072_S1024x3072) (ix2 r b)
      = UPJ 1024 Z (at3 (l := 2) (m := 1024) (n := 3072) A 1) r b := by
  unfold UPJ
  refine Eq.trans ?_ (Finset.sum_congr rfl fun k _ => congrArg₂ (· * ·) (hX r k) (at3_of A (show 1 < 2 by omega) k.isLt b.isLt).symm)
  pointwise

theorem up_kv (X : FVec Ideal S8192x512 .f32) (A : FVec Ideal S2x512x4096 .f32) (Z : ℕ → ℕ → EReal)
    (hX : ∀ (r : Fin 8192) (b : Fin 512), X (ix2 r b) = Z r b) (r : Fin 8192) (b : Fin 4096) :
    Host.dotGeneral dot_S8192x512_S512x4096_S8192x4096_1_0_0_1_n_n none X (shapeCast S512x4096 (extractStridedSlice S1x512x4096 ![1, 0, 0] A slices_S2x512x4096_S1x512x4096_1_0_0) shapeCasts_S1x512x4096_S512x4096) (ix2 r b)
      = UPJ 512 Z (at3 (l := 2) (m := 512) (n := 4096) A 1) r b := by
  unfold UPJ
  refine Eq.trans ?_ (Finset.sum_congr rfl fun k _ => congrArg₂ (· * ·) (hX r k) (at3_of A (show 1 < 2 by omega) k.isLt b.isLt).symm)
  pointwise

end Cert.Reference6Ideal.Value

end
-- ==== Proof.Front.Pre.lean ====
/- The up-projected queries are real numbers under the precondition. -/
module

public import proofs.«01_k».proof.Proof.Front.Spec
public import proofs.«01_k».proof.Proof.Front.RefNorm
public import proofs.«01_k».proof.Proof.Layer.Finite
public import proofs.«01_k».proof.Proof.Gen.Pre_finite6
public import proofs.«01_k».proof.Defs

@[expose] public section

set_option maxRecDepth 16384

noncomputable section

open Idealize.ShloMosaic Idealize.ShloMosaic.TcCoe Idealize.SL.Sem

namespace Cert.Kernel6Ideal.Value

open Cert.Kernel6Ideal Cert.Kernel6Ideal.Gen Cert.Front Cert.Reals
open Cert.Kernel5Ideal.Value (real_rms eps_pos lit_4096 div_4096 real_of_finite)

theorem real_at2 {m n : ℕ} {A : (⟨2, ![m, n]⟩ : Shape).Idx → EReal} (h : ∀ i, IsReal (A i)) (r b : ℕ) : IsReal (at2 A r b) := by
  unfold at2
  split
  · exact h _
  · exact isReal_coe 0

theorem real_at3 {l m n : ℕ} {A : (⟨3, ![l, m, n]⟩ : Shape).Idx → EReal} (h : ∀ i, IsReal (A i)) (q r b : ℕ) : IsReal (at3 A q r b) := by
  unfold at3
  split
  · exact h _
  · exact isReal_coe 0

theorem real_sum {K : ℕ} {X W : ℕ → ℕ → EReal} (hX : ∀ r b, IsReal (X r b)) (hW : ∀ r b, IsReal (W r b)) (r b : ℕ) : IsReal (UPJ K X W r b) :=
  IsReal.sum _ fun k => (hX r k).mul (hW k b)

theorem lit_1024 : Ideal.ofBits .f32 0x44800000#32 = ((1024 : ℝ) : EReal) := by simp [Ideal.ofBits, Ideal.ieee, -EReal.coe_mul]; norm_num

theorem real_n4096 {X : ℕ → ℕ → EReal} {G : ℕ → EReal} (hX : ∀ r b, IsReal (X r b)) (hG : ∀ b, IsReal (G b)) (r b : ℕ) : IsReal (NRM 4096 i4096 X G r b) := by
  obtain ⟨s, hs, he⟩ := eps_pos
  unfold NRM
  rw [← div_4096]
  exact ((hX _ _).mul (real_rms (fun x => hX _ _) _ _ 4096 s (by norm_num) hs lit_4096 he)).mul (hG _)

theorem real_n1024 {X : ℕ → ℕ → EReal} {G : ℕ → EReal} (hX : ∀ r b, IsReal (X r b)) (hG : ∀ b, IsReal (G b)) (r b : ℕ) : IsReal (NRM 1024 i1024 X G r b) := by
  obtain ⟨s, hs, he⟩ := eps_pos
  unfold NRM
  rw [← Cert.Reference6Ideal.Value.div_1024]
  exact ((hX _ _).mul (real_rms (fun x => hX _ _) _ _ 1024 s (by norm_num) hs lit_1024 he)).mul (hG _)

theorem real_yq {a0 : FVec Ideal S4x2048x4096 .f32} {a2 : FVec Ideal S2x4096 .f32} {a3 : FVec Ideal S2x4096x7744 .f32} {a4 : FVec Ideal S2x1024 .f32}
    {a6 : FVec Ideal S2x1024x3072 .f32} (h0 : ∀ i, IsReal (a0 i)) (h2 : ∀ i, IsReal (a2 i)) (h3 : ∀ i, IsReal (a3 i)) (h4 : ∀ i, IsReal (a4 i))
    (h6 : ∀ i, IsReal (a6 i)) (r b : ℕ) : IsReal (YQF a0 a2 a3 a4 a6 r b) :=
  real_sum (real_n1024 (real_sum (real_n4096 (fun r b => real_at3 h0 _ _ _) fun b => real_at2 h2 _ _) fun r b => real_at3 h3 _ _ _) fun b => real_at2 h4 _ _)
    (fun r b => real_at3 h6 _ _ _) r b

theorem queries_real (m : (ℓ : Loc nD τ sig) → Buf (Elt Ideal) ℓ) (c : Dev nD) (h : Cert.Pre_Kernel6Ideal_finite6 m) (r b : ℕ) :
    IsReal (YQF (m ((c : Thread nD τ).loc main_arg0)) (m ((c : Thread nD τ).loc main_arg2)) (m ((c : Thread nD τ).loc main_arg3))
      (m ((c : Thread nD τ).loc main_arg4)) (m ((c : Thread nD τ).loc main_arg6)) r b) := by
  obtain ⟨h0, h2, h3, h4, h6⟩ := h c
  exact real_yq (real_of_finite _ _ h0) (real_of_finite _ _ h2) (real_of_finite _ _ h3) (real_of_finite _ _ h4) (real_of_finite _ _ h6) r b

end Cert.Kernel6Ideal.Value

end
-- ==== Proof.Front.RefSide.lean ====
/- The reference's results, entry by entry. -/
module

public import proofs.«01_k».proof.Proof.Front.RefNorm

@[expose] public section

set_option maxRecDepth 16384

noncomputable section

open Idealize.ShloMosaic Idealize.ShloMosaic.TcCoe Idealize.SL.Sem

namespace Cert.Reference6Ideal.Value

open Cert.Reference6Ideal Cert.Reference6Ideal.Gen Cert.Front
open Cert.Kernel6Ideal.Value (UPJ NRM i4096 i1024 i512 i128)

variable (V0 : Valuation τ sig (Elt Ideal))

abbrev A0 : FVec Ideal S4x2048x4096 .f32 := V0 (Proc.devRef .tc main_arg0)
abbrev A1 : IVec S4x2048 32 := V0 (Proc.devRef .tc main_arg1)
abbrev A2 : FVec Ideal S2x4096 .f32 := V0 (Proc.devRef .tc main_arg2)
abbrev A3 : FVec Ideal S2x4096x7744 .f32 := V0 (Proc.devRef .tc main_arg3)
abbrev A4 : FVec Ideal S2x1024 .f32 := V0 (Proc.devRef .tc main_arg4)
abbrev A5 : FVec Ideal S2x512 .f32 := V0 (Proc.devRef .tc main_arg5)
abbrev A6 : FVec Ideal S2x1024x3072 .f32 := V0 (Proc.devRef .tc main_arg6)
abbrev A7 : FVec Ideal S2x512x4096 .f32 := V0 (Proc.devRef .tc main_arg7)
abbrev A8 : FVec Ideal S2x192 .f32 := V0 (Proc.devRef .tc main_arg8)
abbrev A9 : FVec Ideal S2x192 .f32 := V0 (Proc.devRef .tc main_arg9)

theorem gain4096 (A : FVec Ideal S2x4096 .f32) (b : Fin 4096) :
    (shapeCast S4096 (extractStridedSlice S1x4096 ![1, 0] A slices_S2x4096_S1x4096_1_0) shapeCasts_S1x4096_S4096 : FVec Ideal S4096 .f32) (ix1 b) = at2 (m := 2) (n := 4096) A 1 b := by
  rw [at2_of _ (by omega) b.isLt]
  pointwise

theorem gain1024 (A : FVec Ideal S2x1024 .f32) (b : Fin 1024) :
    (shapeCast S1024 (extractStridedSlice S1x1024 ![1, 0] A slices_S2x1024_S1x1024_1_0) shapeCasts_S1x1024_S1024 : FVec Ideal S1024 .f32) (ix1 b) = at2 (m := 2) (n := 1024) A 1 b := by
  rw [at2_of _ (by omega) b.isLt]
  pointwise

theorem gain512 (A : FVec Ideal S2x512 .f32) (b : Fin 512) :
    (shapeCast S512 (extractStridedSlice S1x512 ![1, 0] A slices_S2x512_S1x512_1_0) shapeCasts_S1x512_S512 : FVec Ideal S512 .f32) (ix1 b) = at2 (m := 2) (n := 512) A 1 b := by
  rw [at2_of _ (by omega) b.isLt]
  pointwise

theorem gain128 (A : FVec Ideal S2x192 .f32) (b : Fin 128) :
    (extractStridedSlice S128 ![0] (shapeCast S192 (extractStridedSlice S1x192 ![1, 0] A slices_S2x192_S1x192_1_0) shapeCasts_S1x192_S192) slices_S192_S128_0 : FVec Ideal S128 .f32) (ix1 b) = at2 (m := 2) (n := 192) A 1 b := by
  rw [at2_of _ (by omega) (by omega)]
  pointwise

theorem gain64 (A : FVec Ideal S2x192 .f32) (b : Fin 64) :
    (extractStridedSlice S64 ![128] (shapeCast S192 (extractStridedSlice S1x192 ![1, 0] A slices_S2x192_S1x192_1_0) shapeCasts_S1x192_S192) slices_S192_S64_128 : FVec Ideal S64 .f32) (ix1 b) = at2 (m := 2) (n := 192) A 1 (128 + b) := by
  rw [at2_of _ (by omega) (by omega)]
  pointwise

theorem ref_x (r : Fin 8192) (b : Fin 4096) : res_main_v1 V0 (ix2 r b) = XF (A0 V0) r b := by
  unfold res_main_v1 XF
  rw [at3_of _ (by omega) (by omega) b.isLt]
  pointwise

theorem ref_n (r : Fin 8192) (b : Fin 4096) : res_main_v16 V0 (ix2 r b) = NF (A0 V0) (A2 V0) r b :=
  rows4096 (res_main_v1 V0) _ _ _ (ref_x V0) (gain4096 (A2 V0)) r b

theorem ref_p (r : Fin 8192) (b : Fin 7744) : res_main_v19 V0 (ix2 r b) = PF (A0 V0) (A2 V0) (A3 V0) r b :=
  up_in (res_main_v16 V0) (A3 V0) _ (ref_n V0) r b

theorem ref_p20 (r : Fin 8192) (b : Fin 1024) : res_main_v20 V0 (ix2 r b) = PF (A0 V0) (A2 V0) (A3 V0) r b := by
  refine Eq.trans ?_ (ref_p V0 r ⟨b, by omega⟩)
  unfold res_main_v20
  generalize res_main_v19 V0 = Z
  pointwise

theorem ref_p21 (r : Fin 8192) (b : Fin 512) : res_main_v21 V0 (ix2 r b) = PF (A0 V0) (A2 V0) (A3 V0) r (1024 + b) := by
  refine Eq.trans ?_ (ref_p V0 r ⟨1024 + b, by omega⟩)
  unfold res_main_v21
  generalize res_main_v19 V0 = Z
  pointwise

theorem ref_p22 (r : Fin 8192) (b : Fin 64) : res_main_v22 V0 (ix2 r b) = PF (A0 V0) (A2 V0) (A3 V0) r (1536 + b) := by
  refine Eq.trans ?_ (ref_p V0 r ⟨1536 + b, by omega⟩)
  unfold res_main_v22
  generalize res_main_v19 V0 = Z
  pointwise

theorem cast_q (Z : FVec Ideal S8192x3072 .f32) (r : Fin 8192) (h : Fin 16) (b : Fin 192) :
    (shapeCast S8192x16x192 Z shapeCasts_S8192x3072_S8192x16x192 : FVec Ideal S8192x16x192 .f32) (ix3 r h b) = Z (ix2 r ⟨192 * h + b, by omega⟩) := by
  pointwise
  exact congrArg Z (congrArg (ix2 r) (Fin.ext (show (h : ℕ) * 192 + b = 192 * h + b by omega)))

theorem cast_k (Z : FVec Ideal S8192x4096 .f32) (r : Fin 8192) (h : Fin 16) (b : Fin 256) :
    (shapeCast S8192x16x256 Z shapeCasts_S8192x4096_S8192x16x256 : FVec Ideal S8192x16x256 .f32) (ix3 r h b) = Z (ix2 r ⟨256 * h + b, by omega⟩) := by
  pointwise
  exact congrArg Z (congrArg (ix2 r) (Fin.ext (show (h : ℕ) * 256 + b = 256 * h + b by omega)))

theorem ref_q (r : Fin 8192) (h : Fin 16) (b : Fin 192) :
    res_main_v45 V0 (ix3 r h b) = YQF (A0 V0) (A2 V0) (A3 V0) (A4 V0) (A6 V0) r (192 * h + b) :=
  (cast_q _ r h b).trans (up_q _ (A6 V0) _ (rows1024 (res_main_v20 V0) _ _ _ (ref_p20 V0) (gain1024 (A4 V0))) r ⟨192 * h + b, by omega⟩)

theorem ref_kv (r : Fin 8192) (h : Fin 16) (b : Fin 256) :
    res_main_v64 V0 (ix3 r h b) = YKF (A0 V0) (A2 V0) (A3 V0) (A5 V0) (A7 V0) r (256 * h + b) :=
  (cast_k _ r h b).trans (up_kv _ (A7 V0) _ (rows512 (res_main_v21 V0) _ (fun r b => PF (A0 V0) (A2 V0) (A3 V0) r (1024 + b)) _ (ref_p21 V0) (gain512 (A5 V0))) r ⟨256 * h + b, by omega⟩)

theorem ref_q67 (r : Fin 8192) (h : Fin 16) (b : Fin 128) :
    res_main_v67 V0 (ix3 r h b) = YQF (A0 V0) (A2 V0) (A3 V0) (A4 V0) (A6 V0) r (192 * h + b) := by
  refine Eq.trans ?_ (ref_q V0 r h ⟨b, by omega⟩)
  unfold res_main_v67
  generalize res_main_v45 V0 = Z
  pointwise

theorem ref_q82 (r : Fin 8192) (h : Fin 16) (b : Fin 64) :
    res_main_v82 V0 (ix3 r h b) = YQF (A0 V0) (A2 V0) (A3 V0) (A4 V0) (A6 V0) r (192 * h + 128 + b) := by
  rw [Nat.add_assoc]
  refine Eq.trans ?_ (ref_q V0 r h ⟨128 + b, by omega⟩)
  unfold res_main_v82
  generalize res_main_v45 V0 = Z
  pointwise

theorem ref_k65 (r : Fin 8192) (h : Fin 16) (b : Fin 128) :
    res_main_v65 V0 (ix3 r h b) = YKF (A0 V0) (A2 V0) (A3 V0) (A5 V0) (A7 V0) r (256 * h + b) := by
  refine Eq.trans ?_ (ref_kv V0 r h ⟨b, by omega⟩)
  unfold res_main_v65
  generalize res_main_v64 V0 = Z
  pointwise

theorem ref_q96 (r : Fin 8192) (h : Fin 16) (b : Fin 64) :
    res_main_v96 V0 (ix3 r h b) = NR64 (fun r l => YQF (A0 V0) (A2 V0) (A3 V0) (A4 V0) (A6 V0) r (192 * h + 128 + l)) (fun l => at2 (m := 2) (n := 192) (A8 V0) 1 (128 + l)) r b :=
  heads64 (res_main_v82 V0) _ (fun r h l => YQF (A0 V0) (A2 V0) (A3 V0) (A4 V0) (A6 V0) r (192 * h + 128 + l)) _ (ref_q82 V0) (gain64 (A8 V0)) r h b

theorem ref_k152 (r : Fin 8192) (b : Fin 64) :
    res_main_v152 V0 (ix2 r b) = NR64 (fun r b => PF (A0 V0) (A2 V0) (A3 V0) r (1536 + b)) (fun l => at2 (m := 2) (n := 192) (A9 V0) 1 (128 + l)) r b :=
  rows64 (res_main_v22 V0) _ (fun r b => PF (A0 V0) (A2 V0) (A3 V0) r (1536 + b)) _ (ref_p22 V0) (gain64 (A9 V0)) r b

theorem ang2 (r : Fin 8192) (l : Fin 32) : res_main_v164 V0 (ix2 r l) = POS (A1 V0) r * freq l := by
  unfold res_main_v164 res_main_v0 freq POS
  rw [dif_pos l.isLt, at2_of _ (by omega) (by omega)]
  pointwise

theorem ang3 (r : Fin 8192) (u : Fin 1) (l : Fin 32) : res_main_v109 V0 (ix3 r u l) = POS (A1 V0) r * freq l := by
  refine Eq.trans ?_ (ang2 V0 r l)
  unfold res_main_v109 res_main_v164
  generalize (mulf (F := Ideal) (s := S8192x32) (φ := .f32) _ _) = Z
  pointwise

end Cert.Reference6Ideal.Value

end
-- ==== Proof.Front.RefOut.lean ====
/- The reference's four results are the layer's front as a function of the arguments. -/
module

public import proofs.«01_k».proof.Proof.Front.RefSide

@[expose] public section

set_option maxRecDepth 16384

noncomputable section

open Idealize.ShloMosaic Idealize.ShloMosaic.TcCoe Idealize.SL.Sem

namespace Cert.Reference6Ideal.Value

open Cert.Reference6Ideal Cert.Reference6Ideal.Gen Cert.Front
open Cert.Kernel6Ideal.Value (UPJ NRM i4096 i1024 i512 i128)

theorem two_eq : Ideal.ofBits .f32 0x40000000#32 = ((2 : ℝ) : EReal) := by
  simp [Ideal.ofBits, Ideal.ieee, -EReal.coe_mul]; norm_num

theorem dim_eq : Ideal.ofBits .f32 0x43400000#32 = ((192 : ℝ) : EReal) := by
  simp [Ideal.ofBits, Ideal.ieee, -EReal.coe_mul]; norm_num

/-- The queries' divisor is the inverse of the named scale. -/
theorem div_qk (x : EReal) : Ideal.div x (Ideal.log (Ideal.ofBits .f32 0x40000000#32) * Ideal.sqrt (Ideal.ofBits .f32 0x43400000#32)) = x * qk := by
  have h2 : 0 < Real.log 2 := Real.log_pos (by norm_num)
  have h192 : 0 < Real.sqrt 192 := Real.sqrt_pos.2 (by norm_num)
  rw [two_eq, dim_eq, Ideal.log_coe, Ideal.sqrt_coe, if_neg (by norm_num), if_neg (by norm_num), ← EReal.coe_mul,
    Ideal.div_coe (mul_pos h2 h192).ne', one_div]
  rfl

/-- A head's queries, laid out. -/
theorem lay_q (N : FVec Ideal S8192x16x128 .f32) (H L : FVec Ideal S8192x16x32 .f32) (C S : FVec Ideal S8192x1x32 .f32)
    (n : ℕ → ℕ → ℕ → EReal) (P : ℕ → EReal) (x : ℕ → ℕ → ℕ → EReal)
    (hN : ∀ (r : Fin 8192) (h : Fin 16) (b : Fin 128), N (ix3 r h b) = n h r b)
    (hH : ∀ (r : Fin 8192) (h : Fin 16) (b : Fin 32), H (ix3 r h b) = x h r b)
    (hL : ∀ (r : Fin 8192) (h : Fin 16) (b : Fin 32), L (ix3 r h b) = x h r (b + 32))
    (hC : ∀ (r : Fin 8192) (u : Fin 1) (b : Fin 32), C (ix3 r u b) = Ideal.cos (P r * freq b))
    (hS : ∀ (r : Fin 8192) (u : Fin 1) (b : Fin 32), S (ix3 r u b) = Ideal.sin (P r * freq b)) (r : Fin 8192) (b : Fin 4096) :
    (truncf .bf16 (shapeCast S8192x4096 (Host.divf (concatenate S8192x16x256 2 [⟨S8192x16x128, N⟩, ⟨S8192x16x64, concatenate S8192x16x64 2 [⟨S8192x16x32, subf (mulf H (broadcastInDim S8192x16x32 ![0, 1, 2] bcast_S8192x1x32_S8192x16x32_0_1_2 C)) (mulf L (broadcastInDim S8192x16x32 ![0, 1, 2] bcast_S8192x1x32_S8192x16x32_0_1_2 S))⟩, ⟨S8192x16x32, addf (mulf H (broadcastInDim S8192x16x32 ![0, 1, 2] bcast_S8192x1x32_S8192x16x32_0_1_2 S)) (mulf L (broadcastInDim S8192x16x32 ![0, 1, 2] bcast_S8192x1x32_S8192x16x32_0_1_2 C))⟩] concatenates_S8192x16x32_S8192x16x32_S8192x16x64_d2⟩, ⟨S8192x16x64, broadcastInDim S8192x16x64 ![] bcast_S_S8192x16x64 (constant S_ .f32 0x00000000#32)⟩] concatenates_S8192x16x128_S8192x16x64_S8192x16x64_S8192x16x256_d2) (broadcastInDim S8192x16x256 ![] bcast_S_S8192x16x256 (mulf (Host.log (constant S_ .f32 0x40000000#32)) (Host.sqrt (constant S_ .f32 0x43400000#32))))) shapeCasts_S8192x16x256_S8192x4096) bitsLt_bf16_f32 : FVec Ideal S8192x4096 .bf16) (ix2 r b)
      = (if (b : ℕ) % 256 < 128 then n (b / 256) r (b % 256) else ROPE P (x (b / 256)) r (b % 256 - 128)) * qk := by
  rw [← div_qk]
  unfold ROPE
  generalize hz : (if (b : ℕ) % 256 < 128 then n (b / 256) r (b % 256) else _) = z
  pointwise
  subst hz
  simp only [hN, hH, hL, hC, hS]
  generalize (b : ℕ) % 256 - 128 = d
  by_cases h1 : (b : ℕ) % 256 < 128
  · rw [dif_pos h1, if_pos h1]
  · rw [dif_neg h1, if_neg h1]
    by_cases h2 : d < 32
    · rw [dif_pos (by omega), dif_pos h2, if_pos h2]
    · by_cases h3 : d < 64
      · rw [dif_pos h3, dif_neg h2, if_neg h2, if_pos h3, Nat.sub_add_cancel (by omega : 32 ≤ d)]
      · rw [dif_neg h3, if_neg h2, if_neg h3]

/-- A head's keys, laid out. -/
theorem lay_k (N : FVec Ideal S8192x16x128 .f32) (H L : FVec Ideal S8192x32 .f32) (C S : FVec Ideal S8192x32 .f32)
    (n : ℕ → ℕ → ℕ → EReal) (P : ℕ → EReal) (x : ℕ → ℕ → EReal)
    (hN : ∀ (r : Fin 8192) (h : Fin 16) (b : Fin 128), N (ix3 r h b) = n h r b)
    (hH : ∀ (r : Fin 8192) (b : Fin 32), H (ix2 r b) = x r b)
    (hL : ∀ (r : Fin 8192) (b : Fin 32), L (ix2 r b) = x r (b + 32))
    (hC : ∀ (r : Fin 8192) (b : Fin 32), C (ix2 r b) = Ideal.cos (P r * freq b))
    (hS : ∀ (r : Fin 8192) (b : Fin 32), S (ix2 r b) = Ideal.sin (P r * freq b)) (r : Fin 8192) (b : Fin 4096) :
    (truncf .bf16 (shapeCast S8192x4096 (concatenate S8192x16x256 2 [⟨S8192x16x128, N⟩, ⟨S8192x16x64, broadcastInDim S8192x16x64 ![0, 1, 2] bcast_S8192x1x64_S8192x16x64_0_1_2 (broadcastInDim S8192x1x64 ![0, 2] bcast_S8192x64_S8192x1x64_0_2 (concatenate S8192x64 1 [⟨S8192x32, subf (mulf H C) (mulf L S)⟩, ⟨S8192x32, addf (mulf H S) (mulf L C)⟩] concatenates_S8192x32_S8192x32_S8192x64_d1))⟩, ⟨S8192x16x64, broadcastInDim S8192x16x64 ![] bcast_S_S8192x16x64 (constant S_ .f32 0x00000000#32)⟩] concatenates_S8192x16x128_S8192x16x64_S8192x16x64_S8192x16x256_d2) shapeCasts_S8192x16x256_S8192x4096) bitsLt_bf16_f32 : FVec Ideal S8192x4096 .bf16) (ix2 r b)
      = if (b : ℕ) % 256 < 128 then n (b / 256) r (b % 256) else ROPE P x r (b % 256 - 128) := by
  unfold ROPE
  generalize hz : (if (b : ℕ) % 256 < 128 then n (b / 256) r (b % 256) else _) = z
  pointwise
  subst hz
  simp only [hN, hH, hL, hC, hS]
  generalize (b : ℕ) % 256 - 128 = d
  by_cases h1 : (b : ℕ) % 256 < 128
  · rw [dif_pos h1, if_pos h1]
  · rw [dif_neg h1, if_neg h1]
    by_cases h2 : d < 32
    · rw [dif_pos (by omega), dif_pos h2, if_pos h2]
    · by_cases h3 : d < 64
      · rw [dif_pos h3, dif_neg h2, if_neg h2, if_pos h3, Nat.sub_add_cancel (by omega : 32 ≤ d)]
      · rw [dif_neg h3, if_neg h2, if_neg h3]

theorem lay_v (Z : FVec Ideal S8192x16x256 .f32) (y : ℕ → ℕ → EReal)
    (hZ : ∀ (r : Fin 8192) (h : Fin 16) (b : Fin 256), Z (ix3 r h b) = y r (256 * h + b)) (r : Fin 8192) (b : Fin 2048) :
    (truncf .bf16 (shapeCast S8192x2048 (extractStridedSlice S8192x16x128 ![0, 0, 128] Z slices_S8192x16x256_S8192x16x128_0_0_128) shapeCasts_S8192x16x128_S8192x2048) bitsLt_bf16_f32 : FVec Ideal S8192x2048 .bf16) (ix2 r b)
      = y r (256 * (b / 128) + 128 + b % 128) := by
  rw [Nat.add_assoc]
  refine Eq.trans ?_ (hZ r ⟨b / 128, by omega⟩ ⟨128 + b % 128, by omega⟩)
  pointwise

variable (V0 : Valuation τ sig (Elt Ideal))

theorem q_half (r : Fin 8192) (h : Fin 16) (b : Fin 32) :
    res_main_v112 V0 (ix3 r h b) = NR64 (fun r l => YQF (A0 V0) (A2 V0) (A3 V0) (A4 V0) (A6 V0) r (192 * h + 128 + l)) (fun l => at2 (m := 2) (n := 192) (A8 V0) 1 (128 + l)) r b := by
  refine Eq.trans ?_ (ref_q96 V0 r h ⟨b, by omega⟩)
  unfold res_main_v112
  generalize res_main_v96 V0 = Z
  pointwise

theorem q_other (r : Fin 8192) (h : Fin 16) (b : Fin 32) :
    res_main_v113 V0 (ix3 r h b) = NR64 (fun r l => YQF (A0 V0) (A2 V0) (A3 V0) (A4 V0) (A6 V0) r (192 * h + 128 + l)) (fun l => at2 (m := 2) (n := 192) (A8 V0) 1 (128 + l)) r (b + 32) := by
  rw [Nat.add_comm (b : ℕ) 32]
  refine Eq.trans ?_ (ref_q96 V0 r h ⟨32 + b, by omega⟩)
  unfold res_main_v113
  generalize res_main_v96 V0 = Z
  pointwise

theorem k_half (r : Fin 8192) (b : Fin 32) :
    res_main_v167 V0 (ix2 r b) = NR64 (fun r b => PF (A0 V0) (A2 V0) (A3 V0) r (1536 + b)) (fun l => at2 (m := 2) (n := 192) (A9 V0) 1 (128 + l)) r b := by
  refine Eq.trans ?_ (ref_k152 V0 r ⟨b, by omega⟩)
  unfold res_main_v167
  generalize res_main_v152 V0 = Z
  pointwise

theorem k_other (r : Fin 8192) (b : Fin 32) :
    res_main_v168 V0 (ix2 r b) = NR64 (fun r b => PF (A0 V0) (A2 V0) (A3 V0) r (1536 + b)) (fun l => at2 (m := 2) (n := 192) (A9 V0) 1 (128 + l)) r (b + 32) := by
  rw [Nat.add_comm (b : ℕ) 32]
  refine Eq.trans ?_ (ref_k152 V0 r ⟨32 + b, by omega⟩)
  unfold res_main_v168
  generalize res_main_v152 V0 = Z
  pointwise

theorem cos3 (r : Fin 8192) (u : Fin 1) (b : Fin 32) : res_main_v110 V0 (ix3 r u b) = Ideal.cos (POS (A1 V0) r * freq b) := by
  rw [← ang3 V0 r u b]; rfl

theorem sin3 (r : Fin 8192) (u : Fin 1) (b : Fin 32) : res_main_v111 V0 (ix3 r u b) = Ideal.sin (POS (A1 V0) r * freq b) := by
  rw [← ang3 V0 r u b]; rfl

theorem cos2 (r : Fin 8192) (b : Fin 32) : res_main_v165 V0 (ix2 r b) = Ideal.cos (POS (A1 V0) r * freq b) := by
  rw [← ang2 V0 r b]; rfl

theorem sin2 (r : Fin 8192) (b : Fin 32) : res_main_v166 V0 (ix2 r b) = Ideal.sin (POS (A1 V0) r * freq b) := by
  rw [← ang2 V0 r b]; rfl

theorem eq_ofNat2 {m n : ℕ} (A : (⟨2, ![m, n]⟩ : Shape).Idx → EReal) (f : ℕ → ℕ → EReal) (h : ∀ (r : Fin m) (b : Fin n), A (ix2 r b) = f r b) :
    A = ofNat2 (m := m) (n := n) f := by
  funext j
  rw [eq_ix2 j]
  exact h (j 0) (j 1)

/-- The normed residual stream. -/
theorem out_n : truncf (F := Ideal) (φ := .f32) .bf16 (res_main_v16 V0) bitsLt_bf16_f32 = ofNat2 (m := 8192) (n := 4096) (NF (A0 V0) (A2 V0)) :=
  eq_ofNat2 (m := 8192) (n := 4096) _ _ fun r b => ref_n V0 r b

/-- The queries. -/
theorem out_q : truncf (F := Ideal) (φ := .f32) .bf16 (shapeCast _ (Host.divf ((concatenate S8192x16x256 2 [⟨S8192x16x128, ((mulf (mulf (res_main_v67 V0) (broadcastInDim S8192x16x128 ![0, 1, 2] bcast_S8192x16x1_S8192x16x128_0_1_2 (Host.rsqrt (addf (Host.divf (broadcastInDim S8192x16x1 ![0, 1] bcast_S8192x16_S8192x16x1_0_1 (Host.reduceAdd (mulf (res_main_v67 V0) (res_main_v67 V0)) (constant S_ .f32 0x00000000#32) reducesTo_S8192x16x128_S8192x16_d2 h_S_)) (broadcastInDim S8192x16x1 ![] bcast_S_S8192x16x1 (constant S_ .f32 0x43000000#32))) (broadcastInDim S8192x16x1 ![] bcast_S_S8192x16x1 (constant S_ .f32 0x358637BD#32)))))) (broadcastInDim S8192x16x128 ![0, 1, 2] bcast_S1x1x128_S8192x16x128_0_1_2 (broadcastInDim S1x1x128 ![2] bcast_S128_S1x1x128_2 (extractStridedSlice S128 ![0] (res_main_v24 V0) slices_S192_S128_0)))) : (⟨S8192x16x128, .f32⟩ : BufTy).Contents (Elt Ideal))⟩, ⟨S8192x16x64, ((concatenate S8192x16x64 2 [⟨S8192x16x32, (subf (mulf (res_main_v112 V0) (broadcastInDim S8192x16x32 ![0, 1, 2] bcast_S8192x1x32_S8192x16x32_0_1_2 (res_main_v110 V0))) (mulf (res_main_v113 V0) (broadcastInDim S8192x16x32 ![0, 1, 2] bcast_S8192x1x32_S8192x16x32_0_1_2 (res_main_v111 V0))))⟩, ⟨S8192x16x32, (addf (mulf (res_main_v112 V0) (broadcastInDim S8192x16x32 ![0, 1, 2] bcast_S8192x1x32_S8192x16x32_0_1_2 (res_main_v111 V0))) (mulf (res_main_v113 V0) (broadcastInDim S8192x16x32 ![0, 1, 2] bcast_S8192x1x32_S8192x16x32_0_1_2 (res_main_v110 V0))))⟩] concatenates_S8192x16x32_S8192x16x32_S8192x16x64_d2) : (⟨S8192x16x64, .f32⟩ : BufTy).Contents (Elt Ideal))⟩, ⟨S8192x16x64, ((res_main_v176 V0) : (⟨S8192x16x64, .f32⟩ : BufTy).Contents (Elt Ideal))⟩] concatenates_S8192x16x128_S8192x16x64_S8192x16x64_S8192x16x256_d2 : (⟨S8192x16x256, .f32⟩ : BufTy).Contents (Elt Ideal))) (broadcastInDim S8192x16x256 ![] bcast_S_S8192x16x256 (mulf (Host.log (constant S_ .f32 0x40000000#32)) (Host.sqrt (constant S_ .f32 0x43400000#32))))) shapeCasts_S8192x16x256_S8192x4096) bitsLt_bf16_f32 = ofNat2 (m := 8192) (n := 4096) (QF (A0 V0) (A1 V0) (A2 V0) (A3 V0) (A4 V0) (A6 V0) (A8 V0)) :=
  eq_ofNat2 (m := 8192) (n := 4096) _ _ fun r b =>
    lay_q _ (res_main_v112 V0) (res_main_v113 V0) (res_main_v110 V0) (res_main_v111 V0)
      (fun h => NRM 128 i128 (fun r l => YQF (A0 V0) (A2 V0) (A3 V0) (A4 V0) (A6 V0) r (192 * h + l)) (at2 (m := 2) (n := 192) (A8 V0) 1))
      (POS (A1 V0)) (fun h => NR64 (fun r l => YQF (A0 V0) (A2 V0) (A3 V0) (A4 V0) (A6 V0) r (192 * h + 128 + l)) (fun l => at2 (m := 2) (n := 192) (A8 V0) 1 (128 + l)))
      (heads128 (res_main_v67 V0) _ (fun r h l => YQF (A0 V0) (A2 V0) (A3 V0) (A4 V0) (A6 V0) r (192 * h + l)) _ (ref_q67 V0) (gain128 (A8 V0)))
      (q_half V0) (q_other V0) (cos3 V0) (sin3 V0) r b

/-- The keys. -/
theorem out_k : truncf (F := Ideal) (φ := .f32) .bf16 (shapeCast _ ((concatenate S8192x16x256 2 [⟨S8192x16x128, ((mulf (mulf (res_main_v65 V0) (broadcastInDim S8192x16x128 ![0, 1, 2] bcast_S8192x16x1_S8192x16x128_0_1_2 (Host.rsqrt (addf (Host.divf (broadcastInDim S8192x16x1 ![0, 1] bcast_S8192x16_S8192x16x1_0_1 (Host.reduceAdd (mulf (res_main_v65 V0) (res_main_v65 V0)) (constant S_ .f32 0x00000000#32) reducesTo_S8192x16x128_S8192x16_d2 h_S_)) (broadcastInDim S8192x16x1 ![] bcast_S_S8192x16x1 (constant S_ .f32 0x43000000#32))) (broadcastInDim S8192x16x1 ![] bcast_S_S8192x16x1 (constant S_ .f32 0x358637BD#32)))))) (broadcastInDim S8192x16x128 ![0, 1, 2] bcast_S1x1x128_S8192x16x128_0_1_2 (broadcastInDim S1x1x128 ![2] bcast_S128_S1x1x128_2 (extractStridedSlice S128 ![0] (res_main_v26 V0) slices_S192_S128_0)))) : (⟨S8192x16x128, .f32⟩ : BufTy).Contents (Elt Ideal))⟩, ⟨S8192x16x64, ((broadcastInDim S8192x16x64 ![0, 1, 2] bcast_S8192x1x64_S8192x16x64_0_1_2 (broadcastInDim S8192x1x64 ![0, 2] bcast_S8192x64_S8192x1x64_0_2 (concatenate S8192x64 1 [⟨S8192x32, (subf (mulf (res_main_v167 V0) (res_main_v165 V0)) (mulf (res_main_v168 V0) (res_main_v166 V0)))⟩, ⟨S8192x32, (addf (mulf (res_main_v167 V0) (res_main_v166 V0)) (mulf (res_main_v168 V0) (res_main_v165 V0)))⟩] concatenates_S8192x32_S8192x32_S8192x64_d1))) : (⟨S8192x16x64, .f32⟩ : BufTy).Contents (Elt Ideal))⟩, ⟨S8192x16x64, ((res_main_v176 V0) : (⟨S8192x16x64, .f32⟩ : BufTy).Contents (Elt Ideal))⟩] concatenates_S8192x16x128_S8192x16x64_S8192x16x64_S8192x16x256_d2 : (⟨S8192x16x256, .f32⟩ : BufTy).Contents (Elt Ideal))) shapeCasts_S8192x16x256_S8192x4096) bitsLt_bf16_f32 = ofNat2 (m := 8192) (n := 4096) (KF (A0 V0) (A1 V0) (A2 V0) (A3 V0) (A5 V0) (A7 V0) (A9 V0)) :=
  eq_ofNat2 (m := 8192) (n := 4096) _ _ fun r b =>
    lay_k _ (res_main_v167 V0) (res_main_v168 V0) (res_main_v165 V0) (res_main_v166 V0)
      (fun h => NRM 128 i128 (fun r l => YKF (A0 V0) (A2 V0) (A3 V0) (A5 V0) (A7 V0) r (256 * h + l)) (at2 (m := 2) (n := 192) (A9 V0) 1))
      (POS (A1 V0)) (NR64 (fun r b => PF (A0 V0) (A2 V0) (A3 V0) r (1536 + b)) (fun l => at2 (m := 2) (n := 192) (A9 V0) 1 (128 + l)))
      (heads128 (res_main_v65 V0) _ (fun r h l => YKF (A0 V0) (A2 V0) (A3 V0) (A5 V0) (A7 V0) r (256 * h + l)) _ (ref_k65 V0) (gain128 (A9 V0)))
      (k_half V0) (k_other V0) (cos2 V0) (sin2 V0) r b

/-- The values. -/
theorem out_v : truncf (F := Ideal) (φ := .f32) .bf16 (shapeCast _ (extractStridedSlice S8192x16x128 ![0, 0, 128] (res_main_v64 V0) slices_S8192x16x256_S8192x16x128_0_0_128) shapeCasts_S8192x16x128_S8192x2048) bitsLt_bf16_f32 = ofNat2 (m := 8192) (n := 2048) (VF (A0 V0) (A2 V0) (A3 V0) (A5 V0) (A7 V0)) :=
  eq_ofNat2 (m := 8192) (n := 2048) _ _ fun r b => lay_v (res_main_v64 V0) _ (ref_kv V0) r b

end Cert.Reference6Ideal.Value

end
-- ==== Proof.Front.Agree.lean ====
/- The front's results are the reference's. -/
module

public import proofs.«01_k».proof.Proof.Front.Whole
public import proofs.«01_k».proof.Proof.Front.Run
public import proofs.«01_k».proof.Proof.Front.Pre
public import proofs.«01_k».proof.Proof.Front.RefOut

@[expose] public section

set_option maxRecDepth 16384

noncomputable section

open Idealize.ShloMosaic Idealize.ShloMosaic.TcCoe Idealize.SL.Sem

namespace Cert.Kernel6Ideal.Value

open Cert.Kernel6Ideal Cert.Kernel6Ideal.Gen Cert.Front

theorem algebraic : Cert.algebraic_Kernel6Ideal_Reference6Ideal_pre_finite6 := by
  intro m g m' g' hp h
  refine ⟨fun c => W8 m g c (Proc.devRef .tc main_v31_0), fun c => W8 m g c (Proc.devRef .tc main_v41),
    fun c => W8 m g c (Proc.devRef .tc main_v45_0), fun c => W8 m g c (Proc.devRef .tc main_v45_1), ?_, ?_⟩
  · refine (θ_run _ _ _).mono (fun r hr c => ?_) (run_all m g)
    exact ⟨hr c _ (mem_uc main_v31_0 (by decide)), hr c _ (mem_uc main_v41 (by decide)),
      hr c _ (mem_uc main_v45_0 (by decide)), hr c _ (mem_uc main_v45_1 (by decide)),
      (hr c _ (mem_uc main_arg0 (by decide))).trans (W8_main_arg0 m g c),
      (hr c _ (mem_uc main_arg1 (by decide))).trans (W8_main_arg1 m g c),
      (hr c _ (mem_uc main_arg2 (by decide))).trans (W8_main_arg2 m g c),
      (hr c _ (mem_uc main_arg3 (by decide))).trans (W8_main_arg3 m g c),
      (hr c _ (mem_uc main_arg4 (by decide))).trans (W8_main_arg4 m g c),
      (hr c _ (mem_uc main_arg5 (by decide))).trans (W8_main_arg5 m g c),
      (hr c _ (mem_uc main_arg6 (by decide))).trans (W8_main_arg6 m g c),
      (hr c _ (mem_uc main_arg7 (by decide))).trans (W8_main_arg7 m g c),
      (hr c _ (mem_uc main_arg8 (by decide))).trans (W8_main_arg8 m g c),
      (hr c _ (mem_uc main_arg9 (by decide))).trans (W8_main_arg9 m g c)⟩
  · refine (θ_run _ _ _).mono (fun r hr c => ⟨?_, ?_, ?_, ?_, (hr c).2.2.2.2⟩) (Cert.Reference6Ideal.Value.run m' g')
    all_goals obtain ⟨h0, h1, h2, h3, h4, h5, h6, h7, h8, h9⟩ := h c
    · refine (hr c).1.trans ((Cert.Reference6Ideal.Value.out_n _).trans ?_)
      refine Eq.trans ?_ (at8_n m g c).symm
      show ofNat2 (m := 8192) (n := 4096) (NF (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg2))) = _
      rw [h0, h2]
    · refine (hr c).2.1.trans ((Cert.Reference6Ideal.Value.out_q _).trans ?_)
      refine Eq.trans ?_ (at8_q m g c (queries_real m c hp)).symm
      show ofNat2 (m := 8192) (n := 4096) (QF (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg8))) = _
      rw [h0, h1, h2, h3, h4, h6, h8]
    · refine (hr c).2.2.1.trans ((Cert.Reference6Ideal.Value.out_k _).trans ?_)
      refine Eq.trans ?_ (at8_k m g c).symm
      show ofNat2 (m := 8192) (n := 4096) (KF (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg9))) = _
      rw [h0, h1, h2, h3, h5, h7, h9]
    · refine (hr c).2.2.2.1.trans ((Cert.Reference6Ideal.Value.out_v _).trans ?_)
      refine Eq.trans ?_ (at8_v m g c).symm
      show ofNat2 (m := 8192) (n := 2048) (VF (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg7))) = _
      rw [h0, h2, h3, h5, h7]

end Cert.Kernel6Ideal.Value

end
-- ==== Proof.Mla.Run.lean ====
/- The run of the latent heads' causal attention. -/
module

public import proofs.«01_k».proof.Proof.Gen.Kernel7Ideal.Skeleton
public import proofs.«01_k».proof.Proof.Gen.Kernel7Ideal.Frame
public import Idealize.ShloMosaic.Lib.Pipeline.ValueKit

@[expose] public section

set_option maxRecDepth 16384

noncomputable section

namespace Cert.Kernel7Ideal.Mla

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rq0 : Rect S2048x256 := Rect.unit (s := S2048x256) ![0, 0] S256x256.size inb_S2048x256_S256x256_0_0
abbrev rk0 : Rect S2048x256 := Rect.unit (s := S2048x256) ![0, 0] S256x256.size inb_S2048x256_S256x256_0_0
abbrev rv0 : Rect S2048x128 := Rect.unit (s := S2048x128) ![0, 0] S256x128.size inb_S2048x128_S256x128_0_0
abbrev ro0 : Rect S2048x128 := Rect.unit (s := S2048x128) ![0, 0] S256x128.size inb_S2048x128_S256x128_0_0
abbrev rq1 : Rect S2048x256 := Rect.unit (s := S2048x256) ![256, 0] S256x256.size inb_S2048x256_S256x256_256_0
abbrev rk1 : Rect S2048x256 := Rect.unit (s := S2048x256) ![0, 0] S512x256.size inb_S2048x256_S512x256_0_0
abbrev rv1 : Rect S2048x128 := Rect.unit (s := S2048x128) ![0, 0] S512x128.size inb_S2048x128_S512x128_0_0
abbrev ro1 : Rect S2048x128 := Rect.unit (s := S2048x128) ![256, 0] S256x128.size inb_S2048x128_S256x128_256_0
abbrev rq2 : Rect S2048x256 := Rect.unit (s := S2048x256) ![512, 0] S256x256.size inb_S2048x256_S256x256_512_0
abbrev rk2 : Rect S2048x256 := Rect.unit (s := S2048x256) ![0, 0] S768x256.size inb_S2048x256_S768x256_0_0
abbrev rv2 : Rect S2048x128 := Rect.unit (s := S2048x128) ![0, 0] S768x128.size inb_S2048x128_S768x128_0_0
abbrev ro2 : Rect S2048x128 := Rect.unit (s := S2048x128) ![512, 0] S256x128.size inb_S2048x128_S256x128_512_0
abbrev rq3 : Rect S2048x256 := Rect.unit (s := S2048x256) ![768, 0] S256x256.size inb_S2048x256_S256x256_768_0
abbrev rk3 : Rect S2048x256 := Rect.unit (s := S2048x256) ![0, 0] S1024x256.size inb_S2048x256_S1024x256_0_0
abbrev rv3 : Rect S2048x128 := Rect.unit (s := S2048x128) ![0, 0] S1024x128.size inb_S2048x128_S1024x128_0_0
abbrev ro3 : Rect S2048x128 := Rect.unit (s := S2048x128) ![768, 0] S256x128.size inb_S2048x128_S256x128_768_0
abbrev rq4 : Rect S2048x256 := Rect.unit (s := S2048x256) ![1024, 0] S256x256.size inb_S2048x256_S256x256_1024_0
abbrev rk4 : Rect S2048x256 := Rect.unit (s := S2048x256) ![0, 0] S1280x256.size inb_S2048x256_S1280x256_0_0
abbrev rv4 : Rect S2048x128 := Rect.unit (s := S2048x128) ![0, 0] S1280x128.size inb_S2048x128_S1280x128_0_0
abbrev ro4 : Rect S2048x128 := Rect.unit (s := S2048x128) ![1024, 0] S256x128.size inb_S2048x128_S256x128_1024_0
abbrev rq5 : Rect S2048x256 := Rect.unit (s := S2048x256) ![1280, 0] S256x256.size inb_S2048x256_S256x256_1280_0
abbrev rk5 : Rect S2048x256 := Rect.unit (s := S2048x256) ![0, 0] S1536x256.size inb_S2048x256_S1536x256_0_0
abbrev rv5 : Rect S2048x128 := Rect.unit (s := S2048x128) ![0, 0] S1536x128.size inb_S2048x128_S1536x128_0_0
abbrev ro5 : Rect S2048x128 := Rect.unit (s := S2048x128) ![1280, 0] S256x128.size inb_S2048x128_S256x128_1280_0
abbrev rq6 : Rect S2048x256 := Rect.unit (s := S2048x256) ![1536, 0] S256x256.size inb_S2048x256_S256x256_1536_0
abbrev rk6 : Rect S2048x256 := Rect.unit (s := S2048x256) ![0, 0] S1792x256.size inb_S2048x256_S1792x256_0_0
abbrev rv6 : Rect S2048x128 := Rect.unit (s := S2048x128) ![0, 0] S1792x128.size inb_S2048x128_S1792x128_0_0
abbrev ro6 : Rect S2048x128 := Rect.unit (s := S2048x128) ![1536, 0] S256x128.size inb_S2048x128_S256x128_1536_0
abbrev rq7 : Rect S2048x256 := Rect.unit (s := S2048x256) ![1792, 0] S256x256.size inb_S2048x256_S256x256_1792_0
abbrev rk7 : Rect S2048x256 := Rect.unit (s := S2048x256) ![0, 0] S2048x256.size inb_S2048x256_S2048x256_0_0
abbrev rv7 : Rect S2048x128 := Rect.unit (s := S2048x128) ![0, 0] S2048x128.size inb_S2048x128_S2048x128_0_0
abbrev ro7 : Rect S2048x128 := Rect.unit (s := S2048x128) ![1792, 0] S256x128.size inb_S2048x128_S256x128_1792_0

abbrev rw : Rect S1x256x4096 := Rect.unit (s := S1x256x4096) ![0, 0, 0] S1x256x4096.size inb_S1x256x4096_S1x256x4096_0_0_0

/-- The row numbers of a tile. -/
abbrev row : IVec S256x256 32 := iota .tc S256x256 32 [0] iota_S256x256_d0_w32
/-- The column numbers of a tile. -/
abbrev col : IVec S256x256 32 := iota .tc S256x256 32 [1] iota_S256x256_d1_w32

/-- What the body leaves in the block of the attention's output: its eight tiles, the last first. -/
def out0_4 (x0 : Vec F S2048x256 .bf16) (x1 : Vec F S2048x256 .bf16) (x2 : Vec F S2048x128 .bf16) : Vec F S2048x128 .f32 :=
  View.canon [⟨ro7, k0_pay28 (k0_pay23 (View.ld x0 rq7) (View.ld x1 rk7)) (k0_pay24 row col) (k0_pay25 (View.ld x0 rq7) (View.ld x1 rk7)) (View.ld x2 rv7)⟩,
    ⟨ro6, k0_pay27 (k0_pay18 row col (View.ld x0 rq6) (View.ld x1 rk6)) (View.ld x2 rv6)⟩,
    ⟨ro5, k0_pay26 (k0_pay21 (k0_pay16 row col (View.ld x0 rq5) (View.ld x1 rk5))) (k0_pay22 (k0_pay16 row col (View.ld x0 rq5) (View.ld x1 rk5))) (View.ld x2 rv5)⟩,
    ⟨ro4, k0_pay19 (k0_pay14 row col (View.ld x0 rq4) (View.ld x1 rk4)) (View.ld x2 rv4)⟩,
    ⟨ro3, k0_pay17 (k0_pay10 row col (View.ld x0 rq3) (View.ld x1 rk3)) (View.ld x2 rv3)⟩,
    ⟨ro2, k0_pay15 (k0_pay12 (k0_pay6 (View.ld x0 rq2) (View.ld x1 rk2)) k0_pay7 (k0_pay8 (View.ld x0 rq2) (View.ld x1 rk2))) (k0_pay13 (k0_pay6 (View.ld x0 rq2) (View.ld x1 rk2)) k0_pay7 (k0_pay8 (View.ld x0 rq2) (View.ld x1 rk2))) (View.ld x2 rv2)⟩,
    ⟨ro1, k0_pay11 (k0_pay2 (View.ld x0 rq1) (View.ld x1 rk1)) (View.ld x2 rv1)⟩,
    ⟨ro0, k0_pay9 (k0_pay4 (View.ld x0 rq0) (View.ld x1 rk0)) (k0_pay5 (View.ld x0 rq0) (View.ld x1 rk0)) (View.ld x2 rv0)⟩]

/-- What the body leaves in the block of the cast weights. -/
def out0_5 (x3 : Vec F S1x256x4096 .f32) : Vec F S1x256x4096 .bf16 := View.canon [⟨rw, k0_pay1 (View.ld x3 rw)⟩]

/-- The tiles fill the block. -/
theorem cover0_4 (p0 p1 p2 p3 p4 p5 p6 p7 : Vec F S256x128 .f32) (y : S2048x128.Idx) :
    ∃ pc ∈ ([⟨ro7, p7⟩, ⟨ro6, p6⟩, ⟨ro5, p5⟩, ⟨ro4, p4⟩, ⟨ro3, p3⟩, ⟨ro2, p2⟩, ⟨ro1, p1⟩, ⟨ro0, p0⟩] : List (View.Piece (Elt F) S2048x128 .f32)), y ∈ pc.1.set :=
  View.cover_of_tiled [⟨ro7, p7⟩, ⟨ro6, p6⟩, ⟨ro5, p5⟩, ⟨ro4, p4⟩, ⟨ro3, p3⟩, ⟨ro2, p2⟩, ⟨ro1, p1⟩, ⟨ro0, p0⟩] S256x128.size (by rfl) y

/-- The cast block is stored whole. -/
theorem cover0_5 (p0 : Vec F S1x256x4096 .bf16) (y : S1x256x4096.Idx) :
    ∃ pc ∈ ([⟨rw, p0⟩] : List (View.Piece (Elt F) S1x256x4096 .bf16)), y ∈ pc.1.set :=
  View.cover_of_tiled [⟨rw, p0⟩] S1x256x4096.size (by rfl) y

set_option maxHeartbeats 4000000 in
/-- The body at a point that casts a block. -/
theorem sound_cast (c : Dev nD) (E : Set ℕ) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S1x256x4096 .f32) (harg5 : arg5.IsWhole) (arg6 : Memref sig .tc .vmem S2048x128 .f32) (harg6 : arg6.IsWhole) (arg7 : Memref sig .tc .vmem S1x256x4096 .bf16) (harg7 : arg7.IsWhole)
    (hc : k0_cond1 i = 1#1) (x0 : Vec F S2048x256 .bf16) (x1 : Vec F S2048x256 .bf16) (x2 : Vec F S2048x128 .bf16) (x3 : Vec F S1x256x4096 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0_4 x0 x1 x2) ∗ owns (c : Thread nD τ) arg7 fullShare (out0_5 x3)) -∗ K ⟨⟩))
      ⊢ wp frame (wpE (defs₀ (F := F)) Variants.none c none) E (cc0_mla_attention i arg2 harg2 arg3 harg3 arg4 harg4 arg5 harg5 arg6 harg6 arg7 harg7) K := by
  simp only [cc0_mla_attention_eq_skeleton]; unfold cc0_mla_attention_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _ _ _ _ _ _ _ _)).trans ?_
    rfl
  iexists _; isplitr
  swap; · iexact H5
  ipureintro
  exact View.read_writes_eq_canon _ _ _ (cover0_5 _)

set_option maxHeartbeats 4000000 in
/-- The body at a point past the last block to cast. -/
theorem sound_idle (c : Dev nD) (E : Set ℕ) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S1x256x4096 .f32) (harg5 : arg5.IsWhole) (arg6 : Memref sig .tc .vmem S2048x128 .f32) (harg6 : arg6.IsWhole) (arg7 : Memref sig .tc .vmem S1x256x4096 .bf16) (harg7 : arg7.IsWhole)
    (hc : ¬ k0_cond1 i = 1#1) (x0 : Vec F S2048x256 .bf16) (x1 : Vec F S2048x256 .bf16) (x2 : Vec F S2048x128 .bf16) (x3 : Vec F S1x256x4096 .f32) (x5 : Vec F S1x256x4096 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0_4 x0 x1 x2) ∗ owns (c : Thread nD τ) arg7 fullShare x5) -∗ K ⟨⟩))
      ⊢ wp frame (wpE (defs₀ (F := F)) Variants.none c none) E (cc0_mla_attention i arg2 harg2 arg3 harg3 arg4 harg4 arg5 harg5 arg6 harg6 arg7 harg7) K := by
  simp only [cc0_mla_attention_eq_skeleton]; unfold cc0_mla_attention_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _ _ _ _ _ _ _ _)).trans ?_
    rfl
  iexists f5; isplitr; · ipureintro; rfl
  iexact H5

variable (m : (ℓ : Loc nD τ sig) → Buf (Elt F) ℓ) (ρ : Dev nD → PrngReg)

/-- The proof data of the one pipeline: every input's buffer keeps its block, the outputs hold what the body leaves of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t)
    | ⟨5, _⟩ => out0_5 (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) := by dsimp only [dats]
theorem after0_5 (c : Dev nD) (t : Fin cfg0.N) : (dats m 0 c).after 5 t = out0_5 (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Which points cast a block: the first forty-three. -/
theorem cond_iff : ∀ t : Fin cfg0.N, k0_cond1 (grid0.coords t) = 1#1 ↔ t.val < 43 :=
  (by decide +kernel : ∀ t : Fin grid0.N, _)

theorem idle_eq : ∀ t : Fin cfg0.N, cfg0.idle 5 (cfg0.grid.coords t) = decide (43 ≤ t.val) :=
  (by decide +kernel : ∀ t : Fin grid0.N, _)

/-- The blocks of the weights, which stay at the last from its point on. -/
theorem idx0_3 : ∀ t : Fin cfg0.N, win0_3.index t = ![1, min t.val 42, 0] :=
  (by decide +kernel : ∀ t : Fin grid0.N, _)

/-- Where the cast weights are written back. -/
theorem flush0_5 : ∀ t : Fin cfg0.N, (cfg0.win 5).flush t = (decide (t.val < 42) || decide (t.val = 63)) :=
  (by decide +kernel : ∀ t : Fin grid0.N, win0_5.flush t = _)

/-- From the last block's point on the block read is that one. -/
theorem same_block (c : Dev nD) (t u : Fin cfg0.N) (ht : 42 ≤ t.val) (hu : 42 ≤ u.val) : iblk m c 3 t = iblk m c 3 u := by
  funext z
  have h : win0_3.index t = win0_3.index u := by rw [idx0_3, idx0_3, Nat.min_eq_right ht, Nat.min_eq_right hu]
  blk_point [iblk, V, h]

/-- What the last cast leaves for the next point. -/
theorem kept0_5 (c : Dev nD) (t : Fin cfg0.N) (d) : (dats m 0 c).kept 5 t d = out0_5 (iblk m c 3 t) := by
  unfold Dat.kept
  rw [Pipeline.fill_of_clip_none 5 _ (fun _ => rfl) d ((dats m 0 c).after 5 t), Window.fill_cut, after0_5]

/-- What an idle point finds: the last block, cast. -/
theorem before0_5 (c : Dev nD) (n : ℕ) (h : 43 ≤ n) : ∀ (hn : n < cfg0.N) (d), (dats m 0 c).before 5 ⟨n, hn⟩ d = out0_5 (iblk m c 3 ⟨n, hn⟩) := by
  induction n, h using Nat.le_induction with
  | base =>
    intro hn d
    rw [(dats m 0 c).before_of_pos 5 ⟨43, hn⟩ (fun h => by cases h) ((cfg0.win 5).fetch_out rfl _), flush0_5, if_neg (by simp)]
    unfold Dat.left
    rw [idle_eq, show decide (43 ≤ (⟨43 - 1, Nat.lt_of_le_of_lt (Nat.sub_le _ _) hn⟩ : Fin cfg0.N).val) = false from rfl]
    show (dats m 0 c).kept 5 _ d = _
    rw [kept0_5, same_block m c ⟨43, hn⟩ ⟨43 - 1, Nat.lt_of_le_of_lt (Nat.sub_le _ _) hn⟩ (by show 42 ≤ 43; omega) (by show 42 ≤ 43 - 1; omega)]
  | succ n h ih =>
    intro hn d
    have hN : n + 1 < 64 := hn
    rw [(dats m 0 c).before_of_pos 5 ⟨n + 1, hn⟩ (Nat.succ_ne_zero n) ((cfg0.win 5).fetch_out rfl _), flush0_5, if_neg (by simp; omega)]
    unfold Dat.left
    rw [idle_eq, show decide (43 ≤ (⟨n + 1 - 1, Nat.lt_of_le_of_lt (Nat.sub_le _ _) hn⟩ : Fin cfg0.N).val) = true from decide_eq_true h]
    show (dats m 0 c).before 5 ⟨n, _⟩ d = _
    rw [ih]
    exact congrArg out0_5 (same_block m c _ _ (by show 42 ≤ n; omega) (by show 42 ≤ n + 1; omega))

/-- The body's row of the table at a point. -/
theorem defs₀_row (t : Fin cfg0.N) : defs₀ (F := F) .tc cfg0.body (cfg0.bodyArgs t (cfg0.slots t)) = bodyAt0 t := by
  unfold defs₀; rw [Defs.onTc_tc]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h : t.val < 43
  · rw [show (dats m 0 c).leavesExact 5 t = owns (c : Thread nD τ) (st0_5 t) fullShare (out0_5 (iblk m c 3 t)) by
      unfold Dat.leavesExact; rw [idle_eq, decide_eq_false (by omega), after0_5]]
    iintro ⟨HΦ, Ho, ⟨%d0, H0⟩, ⟨%d1, H1⟩, ⟨%d2, H2⟩, ⟨%d3, H3⟩, ⟨%d4, H4⟩, ⟨%d5, H5⟩⟩
    iapply (sound_cast c Set.univ (grid0.coords t) _ _ _ _ _ _ _ _ _ _ _ _ ((cond_iff t).mpr h) (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have hb : ∀ d, (dats m 0 c).before 5 t d = out0_5 (iblk m c 3 t) := before0_5 m c t.val (by omega) t.isLt
    rw [show (dats m 0 c).leavesExact 5 t = (if (cfg0.win 5).flush t = true then owns (c : Thread nD τ) (st0_5 t) fullShare (out0_5 (iblk m c 3 t))
        else iprop(∃ d, owns (c : Thread nD τ) (st0_5 t) fullShare ((dats m 0 c).before 5 t d)) : sProp 𝕄) by
      unfold Dat.leavesExact; rw [idle_eq, decide_eq_true (by omega), after0_5]; cases (cfg0.win 5).flush t <;> rfl]
    simp only [hb]
    iintro ⟨HΦ, Ho, ⟨%d0, H0⟩, ⟨%d1, H1⟩, ⟨%d2, H2⟩, ⟨%d3, H3⟩, ⟨%d4, H4⟩, ⟨%d5, H5⟩⟩
    iapply (sound_idle c Set.univ (grid0.coords t) _ _ _ _ _ _ _ _ _ _ _ _ (fun e => h ((cond_iff t).mp e)) (iblk m c 0 t) (iblk m c 1 t) (iblk m c 2 t) (iblk m c 3 t) (out0_5 (iblk m c 3 t)) _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    split
    · iexact H5
    · iexists d5; iexact H5

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run, and every counter at zero after it. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel7Ideal.Mla

end
-- ==== Proof.Mla.Same.lean ====
module

public import proofs.«01_k».proof.Proof.Mla.Run
public import proofs.«01_k».proof.Proof.Gen.Kernel7.Frame

/-! The program as printed is the ideal one's text, so its frame is that run at machine words. -/

@[expose] public section

open Idealize.ShloMosaic Idealize.ShloMosaic.TcCoe Idealize.SL.Sem

namespace Cert.Kernel7.Mla

theorem pcfgs_same : pcfgs (F := Bits) = Kernel7Ideal.pcfgs (F := Bits) := rfl

theorem defs₀_same : defs₀ (F := Bits) = Kernel7Ideal.defs₀ (F := Bits) := by
  unfold defs₀ Kernel7Ideal.defs₀
  congr 1
  funext a b
  match a with
  | 0 => rfl

theorem defs_same : defs (F := Bits) = Kernel7Ideal.defs (F := Bits) :=
  congrArg (Pipeline.defs (pcfgs (F := Bits))) defs₀_same

variable (m : (ℓ : Loc nD τ sig) → Buf (Elt Bits) ℓ) (ρ : Dev nD → PrngReg)

/-- The frame: the arguments end unchanged, and every counter at zero. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_same]
  exact Kernel7Ideal.Mla.frame (F := Bits) m ρ

end Cert.Kernel7.Mla
-- ==== Proof.Mla.Softmax.lean ====
/- A row of causal attention: the exponentials to base two of the scores kept by the mask, summed before the division over the keys
   read, are the row's softmax over all keys. -/
module

public import proofs.«01_k».proof.Proof.Layer.Reals

@[expose] public section

noncomputable section

open Idealize.ShloMosaic

namespace Cert.Mla

open Cert.Reals

/-- A row's scores, minus infinity past the row. -/
def mask (r : ℕ) (f : ℕ → EReal) (x : ℕ) : EReal := if x ≤ r then f x else ⊥

/-- A row's attention over the first `n` keys, divided last, to base two. -/
def KER (n r : ℕ) (f v : ℕ → EReal) : EReal :=
  Ideal.div (∑ x : Fin n, Ideal.exp2 (mask r f x - Finset.fold max ⊥ (fun y : Fin n => mask r f y) Finset.univ) * v x)
    (∑ x : Fin n, Ideal.exp2 (mask r f x - Finset.fold max ⊥ (fun y : Fin n => mask r f y) Finset.univ))

/-- A row's attention over the first `n` keys as the softmax of its scores. -/
def SOFT (n r : ℕ) (f v : ℕ → EReal) : EReal :=
  ∑ x : Fin n, v x * Ideal.div (Ideal.exp (mask r f x - Finset.fold max ⊥ (fun y : Fin n => mask r f y) Finset.univ))
    (∑ k : Fin n, Ideal.exp (mask r f k - Finset.fold max ⊥ (fun y : Fin n => mask r f y) Finset.univ))

/-- The largest masked score is the largest score kept. -/
theorem fold_mask (n r : ℕ) (f : ℕ → EReal) (h : r < n) :
    Finset.fold max ⊥ (fun y : Fin n => mask r f y) Finset.univ = (Finset.range (r + 1)).sup f := by
  show Finset.univ.sup (fun y : Fin n => mask r f y) = _
  apply le_antisymm
  · refine Finset.sup_le fun y _ => ?_
    unfold mask
    split
    · next hy => exact Finset.le_sup (f := f) (Finset.mem_range.mpr (Nat.lt_succ_of_le hy))
    · exact bot_le
  · refine Finset.sup_le fun x hx => ?_
    have hx' : x ≤ r := Nat.lt_succ_iff.mp (Finset.mem_range.mp hx)
    refine le_trans (le_of_eq ?_) (Finset.le_sup (f := fun y : Fin n => mask r f y) (Finset.mem_univ ⟨x, lt_of_le_of_lt hx' h⟩))
    show f x = mask r f x
    unfold mask; rw [if_pos hx']

/-- A sum of terms that are zero past the row. -/
theorem sum_mask (n r : ℕ) (g : ℕ → EReal) (h : r < n) (h0 : ∀ x, r < x → g x = 0) : ∑ x : Fin n, g x = ∑ x ∈ Finset.range (r + 1), g x := by
  rw [Fin.sum_univ_eq_sum_range g n]
  refine (Finset.sum_subset (Finset.range_subset_range.mpr h) fun x _ hx => h0 x ?_).symm
  rw [Finset.mem_range] at hx; omega

/-- The attention over any prefix that holds the row's keys is the row's softmax. -/
theorem ker_eq_soft (n N r : ℕ) (f v : ℕ → EReal) (hn : r < n) (hN : r < N) (hf : ∀ x, IsReal (f x)) :
    KER n r f v = SOFT N r (fun x => f x * ((Real.log 2 : ℝ) : EReal)) v := by
  choose g hg using hf
  obtain ⟨i0, hi0, hi⟩ := Finset.exists_mem_eq_sup (Finset.range (r + 1)) ⟨0, by simp⟩ f
  have hS : (Finset.range (r + 1)).sup f = (g i0 : EReal) := hi.trans (hg i0)
  have hW : (Finset.range (r + 1)).sup (fun x => f x * ((Real.log 2 : ℝ) : EReal)) = ((g i0 * Real.log 2 : ℝ) : EReal) := by
    have hl : 0 ≤ Real.log 2 := Real.log_nonneg (by norm_num)
    apply le_antisymm
    · refine Finset.sup_le fun x hx => ?_
      have h1 := Finset.le_sup (f := f) hx
      rw [hS, hg x, EReal.coe_le_coe_iff] at h1
      show f x * _ ≤ _
      rw [hg x, ← EReal.coe_mul, EReal.coe_le_coe_iff]
      exact mul_le_mul_of_nonneg_right h1 hl
    · have h2 := Finset.le_sup (f := fun x => f x * ((Real.log 2 : ℝ) : EReal)) (b := i0) hi0
      rwa [hg i0, ← EReal.coe_mul] at h2
  have e2 : ∀ x, Ideal.exp2 (mask r f x - (g i0 : EReal)) = if x ≤ r then ((Real.exp ((g x - g i0) * Real.log 2) : ℝ) : EReal) else 0 := fun x => by
    unfold mask
    split
    · rw [hg x, ← EReal.coe_sub, Ideal.exp2_coe]
      congr 1
      show (2 : ℝ) ^ (g x - g i0) = _
      rw [Real.rpow_def_of_pos (by norm_num), mul_comm]
    · rw [EReal.bot_sub, Ideal.exp2_bot]
  have e1 : ∀ x, Ideal.exp (mask r (fun x => f x * ((Real.log 2 : ℝ) : EReal)) x - ((g i0 * Real.log 2 : ℝ) : EReal))
      = if x ≤ r then ((Real.exp ((g x - g i0) * Real.log 2) : ℝ) : EReal) else 0 := fun x => by
    unfold mask
    split
    · show Ideal.exp (f x * _ - _) = _
      rw [hg x, ← EReal.coe_mul, ← EReal.coe_sub, Ideal.exp_coe, sub_mul]
    · rw [EReal.bot_sub, Ideal.exp_bot]
  have hT : ∀ M, r < M → ∑ x : Fin M, (if (x : ℕ) ≤ r then ((Real.exp ((g x - g i0) * Real.log 2) : ℝ) : EReal) else 0)
      = ((∑ x ∈ Finset.range (r + 1), Real.exp ((g x - g i0) * Real.log 2) : ℝ) : EReal) := fun M hM => by
    rw [sum_mask M r (fun x => if x ≤ r then ((Real.exp ((g x - g i0) * Real.log 2) : ℝ) : EReal) else 0) hM (fun x hx => if_neg (by omega))]
    refine Eq.trans ?_ (map_sum (⟨⟨(fun r : ℝ => (r : EReal)), EReal.coe_zero⟩, EReal.coe_add⟩ : ℝ →+ EReal) _ _).symm
    refine Finset.sum_congr rfl fun x hx => ?_
    rw [Finset.mem_range] at hx
    exact if_pos (by omega)
  have hpos : 0 < ∑ x ∈ Finset.range (r + 1), Real.exp ((g x - g i0) * Real.log 2) :=
    Finset.sum_pos (fun x _ => Real.exp_pos _) ⟨0, by simp⟩
  unfold KER SOFT
  rw [fold_mask n r f hn, fold_mask N r _ hN, hS, hW]
  simp only [e1, e2]
  rw [hT n hn, hT N hN]
  generalize (∑ x ∈ Finset.range (r + 1), Real.exp ((g x - g i0) * Real.log 2)) = T at hpos
  simp only [Ideal.div_coe hpos.ne']
  rw [sum_mul_nonneg _ _ _ (by positivity),
    sum_mask n r (fun x => (if x ≤ r then ((Real.exp ((g x - g i0) * Real.log 2) : ℝ) : EReal) else 0) * v x * ((1 / T : ℝ) : EReal)) hn
      (fun x hx => by rw [if_neg (by omega), zero_mul, zero_mul]),
    sum_mask N r (fun x => v x * ((if x ≤ r then ((Real.exp ((g x - g i0) * Real.log 2) : ℝ) : EReal) else 0) * ((1 / T : ℝ) : EReal))) hN
      (fun x hx => by rw [if_neg (by omega), zero_mul, mul_zero])]
  refine Finset.sum_congr rfl fun x _ => ?_
  rw [mul_comm _ (v x), mul_assoc]

end Cert.Mla

end
-- ==== Proof.Mla.Tiles.lean ====
/- The eight row tiles of a head's causal attention, at an index. -/
module

public import proofs.«01_k».proof.Proof.Mla.Run
public import proofs.«01_k».proof.Proof.Mla.Softmax
public import proofs.«01_k».proof.Proof.Front.Base

@[expose] public section

set_option maxRecDepth 16384

noncomputable section

open Idealize.ShloMosaic Idealize.ShloMosaic.TcCoe Idealize.SL.Sem

namespace Cert.Kernel7Ideal.Mla

open Cert.Front Cert.Mla Cert.Reals
open Cert.Kernel7Ideal Cert.Kernel7Ideal.Gen

/-- A selection by the order of two small numbers. -/
theorem sel_le {α : Type} (x a : ℕ) (hx : x < 2048) (ha : a < 2048) (u v : α) :
    Scalar.select (IntOp.cmpi .sle (BitVec.ofNat 32 x) (BitVec.ofNat 32 a)) u v = if x ≤ a then u else v := by
  have e : ∀ y : ℕ, y < 2048 → (BitVec.ofNat 32 y).toInt = y := fun y hy => by
    have h : (BitVec.ofNat 32 y).toNat = y := by rw [BitVec.toNat_ofNat]; omega
    rw [BitVec.toInt_eq_toNat_of_lt (by rw [h]; omega), h]
  have h : IntOp.cmpi .sle (BitVec.ofNat 32 x) (BitVec.ofNat 32 a) = if x ≤ a then 1#1 else 0#1 := by
    simp only [IntOp.cmpi, BitVec.sle, e x hx, e a ha]
    by_cases h : x ≤ a <;> simp [h]
  rw [h]; split <;> rfl

/-- A tile's last block of keys is masked past the row. -/
theorem masked (o a x : ℕ) (f : ℕ → EReal) (ha : a < 256) (hx : x < o + 256) (ho : o < 2048) :
    (if h : x < o then f x else Scalar.select (IntOp.cmpi .sle (BitVec.ofNat 32 (x - o)) (BitVec.ofNat 32 a)) (f (o + (x - o))) ⊥) = mask (o + a) f x := by
  unfold mask
  split
  · rw [if_pos (by omega)]
  · rw [sel_le _ _ (by omega) (by omega), show o + (x - o) = x by omega]
    by_cases h : x ≤ o + a
    · rw [if_pos h, if_pos (by omega)]
    · rw [if_neg h, if_neg (by omega)]

/-- A query's scores. -/
def SC (q : ℕ → EReal) (k : ℕ → ℕ → EReal) (x : ℕ) : EReal := ∑ d : Fin 256, q d * k x d

variable {Q : Vec Ideal S256x256 .bf16} {a : Fin 256} {b : Fin 128} {q v : ℕ → EReal} {k : ℕ → ℕ → EReal}

/-- The first tile of rows. -/
theorem tile0 (K : Vec Ideal S256x256 .bf16) (W : Vec Ideal S256x128 .bf16)
    (hQ : ∀ x : Fin 256, Q (ix2 a x) = q x) (hK : ∀ (y : Fin 256) (x : Fin 256), K (ix2 y x) = k y x) (hW : ∀ y : Fin 256, W (ix2 y b) = v y) :
    k0_pay9 (F := Ideal) (k0_pay4 Q K) (k0_pay5 Q K) W (ix2 a b) = KER 256 (0 + a) (SC q k) v := by
  pointwise [k0_pay9, k0_pay4, k0_pay5, k0_pay3]
  simp only [hQ, hK, hW, ofBits_neg_inf]
  have e : ∀ y : Fin 256, Scalar.select (IntOp.cmpi .sle (BitVec.ofNat 32 (y : ℕ)) (BitVec.ofNat 32 (a : ℕ))) (∑ d : Fin 256, q d * k y d) ⊥
      = mask (0 + a) (SC q k) y := fun y => by
    rw [sel_le _ _ (by omega) (by omega), zero_add]; rfl
  simp only [e, zero_add]
  rfl

theorem sc1 (K : Vec Ideal S512x256 .bf16) (hQ : ∀ x : Fin 256, Q (ix2 a x) = q x) (hK : ∀ (y : Fin 512) (x : Fin 256), K (ix2 y x) = k y x) (y : Fin 512) :
    k0_pay2 (F := Ideal) Q K (ix2 a y) = mask (256 + a) (SC q k) y := by
  rw [← masked 256 a y _ a.isLt (by omega) (by norm_num)]
  pointwise [k0_pay2]
  simp only [hQ, hK, ofBits_neg_inf]
  rfl

theorem sm1 (P : FVec Ideal S256x512 .f32) (W : Vec Ideal S512x128 .bf16) (r : ℕ) (f : ℕ → EReal) (hP : ∀ y : Fin 512, P (ix2 a y) = mask r f y)
    (hW : ∀ y : Fin 512, W (ix2 y b) = v y) : k0_pay11 (F := Ideal) P W (ix2 a b) = KER 512 r f v := by
  pointwise [k0_pay11]
  simp only [hP, hW, ofBits_neg_inf]
  rfl

/-- The tile of rows from 256 on. -/
theorem tile1 (K : Vec Ideal S512x256 .bf16) (W : Vec Ideal S512x128 .bf16)
    (hQ : ∀ x : Fin 256, Q (ix2 a x) = q x) (hK : ∀ (y : Fin 512) (x : Fin 256), K (ix2 y x) = k y x) (hW : ∀ y : Fin 512, W (ix2 y b) = v y) :
    k0_pay11 (F := Ideal) (k0_pay2 Q K) W (ix2 a b) = KER 512 (256 + a) (SC q k) v :=
  sm1 _ W _ _ (sc1 K hQ hK) hW

/-- The masked scores of the tile of rows from 512 on. -/
abbrev ms2 (Q : Vec Ideal S256x256 .bf16) (K : Vec Ideal S768x256 .bf16) : FVec Ideal S256x768 .f32 :=
  (concatenate S256x768 1 [⟨S256x512, extractStridedSlice S256x512 ![0, 0] (k0_pay6 (F := Ideal) Q K) slices_S256x768_o0_0_S256x512⟩,
      ⟨S256x256, select (k0_pay7) (k0_pay8 (F := Ideal) Q K) (broadcast S256x256 (Scalar.ofBits .f32 0xFF800000#32))⟩] concatenates_S256x512_S256x256_S256x768_d1 : FVec Ideal S256x768 .f32)

theorem sc2 (K : Vec Ideal S768x256 .bf16) (hQ : ∀ x : Fin 256, Q (ix2 a x) = q x) (hK : ∀ (y : Fin 768) (x : Fin 256), K (ix2 y x) = k y x) (y : Fin 768) :
    ms2 Q K (ix2 a y) = mask (512 + a) (SC q k) y := by
  rw [← masked 512 a y _ a.isLt (by omega) (by norm_num)]
  pointwise [k0_pay6, k0_pay7, k0_pay8]
  simp only [hQ, hK, ofBits_neg_inf]
  rfl

/-- The tile of rows from 512 on. -/
theorem tile2 (K : Vec Ideal S768x256 .bf16) (W : Vec Ideal S768x128 .bf16)
    (hQ : ∀ x : Fin 256, Q (ix2 a x) = q x) (hK : ∀ (y : Fin 768) (x : Fin 256), K (ix2 y x) = k y x) (hW : ∀ y : Fin 768, W (ix2 y b) = v y) :
    k0_pay15 (F := Ideal) (k0_pay12 (k0_pay6 Q K) k0_pay7 (k0_pay8 Q K)) (k0_pay13 (k0_pay6 Q K) k0_pay7 (k0_pay8 Q K)) W (ix2 a b) = KER 768 (512 + a) (SC q k) v := by
  have h := sc2 K hQ hK
  unfold k0_pay15 k0_pay13 k0_pay12
  dsimp only
  rw [show (concatenate S256x768 1 [⟨S256x512, extractStridedSlice S256x512 ![0, 0] (k0_pay6 (F := Ideal) Q K) slices_S256x768_o0_0_S256x512⟩,
      ⟨S256x256, select (k0_pay7) (k0_pay8 (F := Ideal) Q K) (broadcast S256x256 (Scalar.ofBits .f32 0xFF800000#32))⟩] concatenates_S256x512_S256x256_S256x768_d1 : FVec Ideal S256x768 .f32) = ms2 Q K from rfl]
  generalize ms2 Q K = P at h
  pointwise
  simp only [h, hW, ofBits_neg_inf]
  rfl

theorem sc3 (K : Vec Ideal S1024x256 .bf16) (hQ : ∀ x : Fin 256, Q (ix2 a x) = q x) (hK : ∀ (y : Fin 1024) (x : Fin 256), K (ix2 y x) = k y x) (y : Fin 1024) :
    k0_pay10 (F := Ideal) row col Q K (ix2 a y) = mask (768 + a) (SC q k) y := by
  rw [← masked 768 a y _ a.isLt (by omega) (by norm_num)]
  pointwise [k0_pay10]
  simp only [hQ, hK, ofBits_neg_inf]
  rfl

theorem sm3 (P : FVec Ideal S256x1024 .f32) (W : Vec Ideal S1024x128 .bf16) (r : ℕ) (f : ℕ → EReal) (hP : ∀ y : Fin 1024, P (ix2 a y) = mask r f y)
    (hW : ∀ y : Fin 1024, W (ix2 y b) = v y) : k0_pay17 (F := Ideal) P W (ix2 a b) = KER 1024 r f v := by
  pointwise [k0_pay17]
  simp only [hP, hW, ofBits_neg_inf]
  rfl

/-- The tile of rows from 768 on. -/
theorem tile3 (K : Vec Ideal S1024x256 .bf16) (W : Vec Ideal S1024x128 .bf16)
    (hQ : ∀ x : Fin 256, Q (ix2 a x) = q x) (hK : ∀ (y : Fin 1024) (x : Fin 256), K (ix2 y x) = k y x) (hW : ∀ y : Fin 1024, W (ix2 y b) = v y) :
    k0_pay17 (F := Ideal) (k0_pay10 row col Q K) W (ix2 a b) = KER 1024 (768 + a) (SC q k) v :=
  sm3 _ W _ _ (sc3 K hQ hK) hW

theorem sc4 (K : Vec Ideal S1280x256 .bf16) (hQ : ∀ x : Fin 256, Q (ix2 a x) = q x) (hK : ∀ (y : Fin 1280) (x : Fin 256), K (ix2 y x) = k y x) (y : Fin 1280) :
    k0_pay14 (F := Ideal) row col Q K (ix2 a y) = mask (1024 + a) (SC q k) y := by
  rw [← masked 1024 a y _ a.isLt (by omega) (by norm_num)]
  pointwise [k0_pay14]
  simp only [hQ, hK, ofBits_neg_inf]
  rfl

theorem sm4 (P : FVec Ideal S256x1280 .f32) (W : Vec Ideal S1280x128 .bf16) (r : ℕ) (f : ℕ → EReal) (hP : ∀ y : Fin 1280, P (ix2 a y) = mask r f y)
    (hW : ∀ y : Fin 1280, W (ix2 y b) = v y) : k0_pay19 (F := Ideal) P W (ix2 a b) = KER 1280 r f v := by
  pointwise [k0_pay19]
  simp only [hP, hW, ofBits_neg_inf]
  rfl

/-- The tile of rows from 1024 on. -/
theorem tile4 (K : Vec Ideal S1280x256 .bf16) (W : Vec Ideal S1280x128 .bf16)
    (hQ : ∀ x : Fin 256, Q (ix2 a x) = q x) (hK : ∀ (y : Fin 1280) (x : Fin 256), K (ix2 y x) = k y x) (hW : ∀ y : Fin 1280, W (ix2 y b) = v y) :
    k0_pay19 (F := Ideal) (k0_pay14 row col Q K) W (ix2 a b) = KER 1280 (1024 + a) (SC q k) v :=
  sm4 _ W _ _ (sc4 K hQ hK) hW

theorem sc5 (K : Vec Ideal S1536x256 .bf16) (hQ : ∀ x : Fin 256, Q (ix2 a x) = q x) (hK : ∀ (y : Fin 1536) (x : Fin 256), K (ix2 y x) = k y x) (y : Fin 1536) :
    k0_pay16 (F := Ideal) row col Q K (ix2 a y) = mask (1280 + a) (SC q k) y := by
  rw [← masked 1280 a y _ a.isLt (by omega) (by norm_num)]
  pointwise [k0_pay16]
  simp only [hQ, hK, ofBits_neg_inf]
  rfl

theorem sm5 (P : FVec Ideal S256x1536 .f32) (W : Vec Ideal S1536x128 .bf16) (r : ℕ) (f : ℕ → EReal) (hP : ∀ y : Fin 1536, P (ix2 a y) = mask r f y)
    (hW : ∀ y : Fin 1536, W (ix2 y b) = v y) : k0_pay26 (F := Ideal) (k0_pay21 P) (k0_pay22 P) W (ix2 a b) = KER 1536 r f v := by
  pointwise [k0_pay26, k0_pay21, k0_pay22, k0_pay20]
  simp only [hP, hW, ofBits_neg_inf]
  rfl

/-- The tile of rows from 1280 on. -/
theorem tile5 (K : Vec Ideal S1536x256 .bf16) (W : Vec Ideal S1536x128 .bf16)
    (hQ : ∀ x : Fin 256, Q (ix2 a x) = q x) (hK : ∀ (y : Fin 1536) (x : Fin 256), K (ix2 y x) = k y x) (hW : ∀ y : Fin 1536, W (ix2 y b) = v y) :
    k0_pay26 (F := Ideal) (k0_pay21 (k0_pay16 row col Q K)) (k0_pay22 (k0_pay16 row col Q K)) W (ix2 a b) = KER 1536 (1280 + a) (SC q k) v :=
  sm5 _ W _ _ (sc5 K hQ hK) hW

theorem sc6 (K : Vec Ideal S1792x256 .bf16) (hQ : ∀ x : Fin 256, Q (ix2 a x) = q x) (hK : ∀ (y : Fin 1792) (x : Fin 256), K (ix2 y x) = k y x) (y : Fin 1792) :
    k0_pay18 (F := Ideal) row col Q K (ix2 a y) = mask (1536 + a) (SC q k) y := by
  rw [← masked 1536 a y _ a.isLt (by omega) (by norm_num)]
  pointwise [k0_pay18]
  simp only [hQ, hK, ofBits_neg_inf]
  rfl

theorem sm6 (P : FVec Ideal S256x1792 .f32) (W : Vec Ideal S1792x128 .bf16) (r : ℕ) (f : ℕ → EReal) (hP : ∀ y : Fin 1792, P (ix2 a y) = mask r f y)
    (hW : ∀ y : Fin 1792, W (ix2 y b) = v y) : k0_pay27 (F := Ideal) P W (ix2 a b) = KER 1792 r f v := by
  pointwise [k0_pay27]
  simp only [hP, hW, ofBits_neg_inf]
  rfl

/-- The tile of rows from 1536 on. -/
theorem tile6 (K : Vec Ideal S1792x256 .bf16) (W : Vec Ideal S1792x128 .bf16)
    (hQ : ∀ x : Fin 256, Q (ix2 a x) = q x) (hK : ∀ (y : Fin 1792) (x : Fin 256), K (ix2 y x) = k y x) (hW : ∀ y : Fin 1792, W (ix2 y b) = v y) :
    k0_pay27 (F := Ideal) (k0_pay18 row col Q K) W (ix2 a b) = KER 1792 (1536 + a) (SC q k) v :=
  sm6 _ W _ _ (sc6 K hQ hK) hW

/-- The masked scores of the tile of rows from 1792 on. -/
abbrev ms7 (Q : Vec Ideal S256x256 .bf16) (K : Vec Ideal S2048x256 .bf16) : FVec Ideal S256x2048 .f32 :=
  (concatenate S256x2048 1 [⟨S256x1792, extractStridedSlice S256x1792 ![0, 0] (k0_pay23 (F := Ideal) Q K) slices_S256x2048_o0_0_S256x1792⟩,
      ⟨S256x256, select (k0_pay24 row col) (k0_pay25 (F := Ideal) Q K) (broadcast S256x256 (Scalar.ofBits .f32 0xFF800000#32))⟩] concatenates_S256x1792_S256x256_S256x2048_d1 : FVec Ideal S256x2048 .f32)

theorem sc7 (K : Vec Ideal S2048x256 .bf16) (hQ : ∀ x : Fin 256, Q (ix2 a x) = q x) (hK : ∀ (y : Fin 2048) (x : Fin 256), K (ix2 y x) = k y x) (y : Fin 2048) :
    ms7 Q K (ix2 a y) = mask (1792 + a) (SC q k) y := by
  rw [← masked 1792 a y _ a.isLt (by omega) (by norm_num)]
  pointwise [k0_pay23, k0_pay24, k0_pay25]
  simp only [hQ, hK, ofBits_neg_inf]
  rfl

/-- The tile of rows from 1792 on. -/
theorem tile7 (K : Vec Ideal S2048x256 .bf16) (W : Vec Ideal S2048x128 .bf16)
    (hQ : ∀ x : Fin 256, Q (ix2 a x) = q x) (hK : ∀ (y : Fin 2048) (x : Fin 256), K (ix2 y x) = k y x) (hW : ∀ y : Fin 2048, W (ix2 y b) = v y) :
    k0_pay28 (F := Ideal) (k0_pay23 Q K) (k0_pay24 row col) (k0_pay25 Q K) W (ix2 a b) = KER 2048 (1792 + a) (SC q k) v := by
  have h := sc7 K hQ hK
  unfold k0_pay28
  dsimp only
  rw [show (concatenate S256x2048 1 [⟨S256x1792, extractStridedSlice S256x1792 ![0, 0] (k0_pay23 (F := Ideal) Q K) slices_S256x2048_o0_0_S256x1792⟩,
      ⟨S256x256, select (k0_pay24 row col) (k0_pay25 (F := Ideal) Q K) (broadcast S256x256 (Scalar.ofBits .f32 0xFF800000#32))⟩] concatenates_S256x1792_S256x256_S256x2048_d1 : FVec Ideal S256x2048 .f32) = ms7 Q K from rfl]
  generalize ms7 Q K = P at h
  pointwise
  simp only [h, hW, ofBits_neg_inf]
  rfl

end Cert.Kernel7Ideal.Mla

end
-- ==== Proof.Mla.Value.lean ====
/- What the kernel of the causal attention computes: the attention's rows and the cast weights. -/
module

public import proofs.«01_k».proof.Proof.Mla.Tiles

@[expose] public section

set_option maxRecDepth 16384

noncomputable section

open Idealize.ShloMosaic Idealize.ShloMosaic.TcCoe Idealize.SL.Sem
open Idealize.ShloMosaic.Pipeline (Dat)

namespace Cert.Mla

open Cert.Front Cert.Reals

/-- A query's score with a key of its batch, in the head of column `b`. -/
def SCORE (Q K : ℕ → ℕ → EReal) (r b y : ℕ) : EReal :=
  ∑ d : Fin 256, Q r (b / 128 * 256 + d) * K (r / 2048 * 2048 + y) (b / 128 * 256 + d)

/-- Causal attention: row `r`, column `b`. -/
def ATT (Q K W : ℕ → ℕ → EReal) (r b : ℕ) : EReal :=
  SOFT 2048 (r % 2048) (fun y => SCORE Q K r b y * ((Real.log 2 : ℝ) : EReal)) (fun y => W (r / 2048 * 2048 + y) b)

theorem real_at2 {m n : ℕ} (A : (⟨2, ![m, n]⟩ : Shape).Idx → EReal) (h : ∀ i, IsReal (A i)) (r b : ℕ) : IsReal (at2 A r b) := by
  unfold at2; split
  · exact h _
  · exact isReal_coe 0

end Cert.Mla

namespace Cert.Kernel7Ideal.Mla

open Cert.Front Cert.Mla Cert.Reals
open Cert.Kernel7Ideal Cert.Kernel7Ideal.Gen

/-- A tile's row is the row of the causal attention. -/
theorem ker_eq_att (Q K W : ℕ → ℕ → EReal) (hQ : ∀ r b, IsReal (Q r b)) (hK : ∀ r b, IsReal (K r b)) (t n o a b : ℕ)
    (hn : o + a < n) (h : o + a < 2048) (hb : b < 128) :
    KER n (o + a) (SC (fun d => Q (t / 16 * 2048 + (o + a)) (t % 16 * 256 + d)) (fun y d => K (t / 16 * 2048 + y) (t % 16 * 256 + d)))
      (fun y => W (t / 16 * 2048 + y) (t % 16 * 128 + b)) = ATT Q K W (t / 16 * 2048 + (o + a)) (t % 16 * 128 + b) := by
  rw [ker_eq_soft n 2048 _ _ _ hn h (fun x => by unfold SC; exact IsReal.sum _ fun d => (hQ _ _).mul (hK _ _))]
  unfold ATT SCORE SC
  rw [show (t / 16 * 2048 + (o + a)) % 2048 = o + a by omega, show (t / 16 * 2048 + (o + a)) / 2048 = t / 16 by omega,
    show (t % 16 * 128 + b) / 128 = t % 16 by omega]

/-- A block's tiles, from the queries, keys and values it holds. -/
structure Holds (Q K W : ℕ → ℕ → EReal) (t : ℕ) (x0 x1 : Vec Ideal S2048x256 .bf16) (x2 : Vec Ideal S2048x128 .bf16) : Prop where
  realQ : ∀ r b, IsReal (Q r b)
  realK : ∀ r b, IsReal (K r b)
  q : ∀ (a : Fin 2048) (x : Fin 256), x0 (ix2 a x) = Q (t / 16 * 2048 + a) (t % 16 * 256 + x)
  k : ∀ (a : Fin 2048) (x : Fin 256), x1 (ix2 a x) = K (t / 16 * 2048 + a) (t % 16 * 256 + x)
  v : ∀ (a : Fin 2048) (x : Fin 128), x2 (ix2 a x) = W (t / 16 * 2048 + a) (t % 16 * 128 + x)

variable {Q K W : ℕ → ℕ → EReal} {t : ℕ} {x0 x1 : Vec Ideal S2048x256 .bf16} {x2 : Vec Ideal S2048x128 .bf16}

theorem row0 (h : Holds Q K W t x0 x1 x2) (a : Fin 256) (b : Fin 128) :
    k0_pay9 (F := Ideal) (k0_pay4 (View.ld x0 rq0) (View.ld x1 rk0)) (k0_pay5 (View.ld x0 rq0) (View.ld x1 rk0)) (View.ld x2 rv0) (ix2 a b)
      = ATT Q K W (t / 16 * 2048 + (0 + a)) (t % 16 * 128 + b) := by
  have hq : ∀ x : Fin 256, View.ld x0 rq0 (ix2 a x) = Q (t / 16 * 2048 + (0 + a)) (t % 16 * 256 + x) := fun x => by
    refine Eq.trans ?_ (h.q ⟨0 + a, by omega⟩ x); pointwise
  have hk : ∀ (y : Fin 256) (x : Fin 256), View.ld x1 rk0 (ix2 y x) = K (t / 16 * 2048 + y) (t % 16 * 256 + x) := fun y x => by
    refine Eq.trans ?_ (h.k ⟨y, by omega⟩ x); pointwise
  have hv : ∀ y : Fin 256, View.ld x2 rv0 (ix2 y b) = W (t / 16 * 2048 + y) (t % 16 * 128 + b) := fun y => by
    refine Eq.trans ?_ (h.v ⟨y, by omega⟩ b); pointwise
  refine Eq.trans ?_ (ker_eq_att Q K W h.realQ h.realK t 256 0 a b (by omega) (by omega) b.isLt)
  generalize View.ld x0 rq0 = y0 at hq ⊢
  generalize View.ld x1 rk0 = y1 at hk ⊢
  generalize View.ld x2 rv0 = y2 at hv ⊢
  exact tile0 (q := fun d => Q (t / 16 * 2048 + (0 + a)) (t % 16 * 256 + d)) (k := fun y d => K (t / 16 * 2048 + y) (t % 16 * 256 + d))
    (v := fun y => W (t / 16 * 2048 + y) (t % 16 * 128 + b)) y1 y2 hq hk hv

theorem row1 (h : Holds Q K W t x0 x1 x2) (a : Fin 256) (b : Fin 128) :
    k0_pay11 (F := Ideal) (k0_pay2 (View.ld x0 rq1) (View.ld x1 rk1)) (View.ld x2 rv1) (ix2 a b)
      = ATT Q K W (t / 16 * 2048 + (256 + a)) (t % 16 * 128 + b) := by
  have hq : ∀ x : Fin 256, View.ld x0 rq1 (ix2 a x) = Q (t / 16 * 2048 + (256 + a)) (t % 16 * 256 + x) := fun x => by
    refine Eq.trans ?_ (h.q ⟨256 + a, by omega⟩ x); pointwise
  have hk : ∀ (y : Fin 512) (x : Fin 256), View.ld x1 rk1 (ix2 y x) = K (t / 16 * 2048 + y) (t % 16 * 256 + x) := fun y x => by
    refine Eq.trans ?_ (h.k ⟨y, by omega⟩ x); pointwise
  have hv : ∀ y : Fin 512, View.ld x2 rv1 (ix2 y b) = W (t / 16 * 2048 + y) (t % 16 * 128 + b) := fun y => by
    refine Eq.trans ?_ (h.v ⟨y, by omega⟩ b); pointwise
  refine Eq.trans ?_ (ker_eq_att Q K W h.realQ h.realK t 512 256 a b (by omega) (by omega) b.isLt)
  generalize View.ld x0 rq1 = y0 at hq ⊢
  generalize View.ld x1 rk1 = y1 at hk ⊢
  generalize View.ld x2 rv1 = y2 at hv ⊢
  exact tile1 (q := fun d => Q (t / 16 * 2048 + (256 + a)) (t % 16 * 256 + d)) (k := fun y d => K (t / 16 * 2048 + y) (t % 16 * 256 + d))
    (v := fun y => W (t / 16 * 2048 + y) (t % 16 * 128 + b)) y1 y2 hq hk hv

theorem row2 (h : Holds Q K W t x0 x1 x2) (a : Fin 256) (b : Fin 128) :
    k0_pay15 (F := Ideal) (k0_pay12 (k0_pay6 (View.ld x0 rq2) (View.ld x1 rk2)) k0_pay7 (k0_pay8 (View.ld x0 rq2) (View.ld x1 rk2))) (k0_pay13 (k0_pay6 (View.ld x0 rq2) (View.ld x1 rk2)) k0_pay7 (k0_pay8 (View.ld x0 rq2) (View.ld x1 rk2))) (View.ld x2 rv2) (ix2 a b)
      = ATT Q K W (t / 16 * 2048 + (512 + a)) (t % 16 * 128 + b) := by
  have hq : ∀ x : Fin 256, View.ld x0 rq2 (ix2 a x) = Q (t / 16 * 2048 + (512 + a)) (t % 16 * 256 + x) := fun x => by
    refine Eq.trans ?_ (h.q ⟨512 + a, by omega⟩ x); pointwise
  have hk : ∀ (y : Fin 768) (x : Fin 256), View.ld x1 rk2 (ix2 y x) = K (t / 16 * 2048 + y) (t % 16 * 256 + x) := fun y x => by
    refine Eq.trans ?_ (h.k ⟨y, by omega⟩ x); pointwise
  have hv : ∀ y : Fin 768, View.ld x2 rv2 (ix2 y b) = W (t / 16 * 2048 + y) (t % 16 * 128 + b) := fun y => by
    refine Eq.trans ?_ (h.v ⟨y, by omega⟩ b); pointwise
  refine Eq.trans ?_ (ker_eq_att Q K W h.realQ h.realK t 768 512 a b (by omega) (by omega) b.isLt)
  generalize View.ld x0 rq2 = y0 at hq ⊢
  generalize View.ld x1 rk2 = y1 at hk ⊢
  generalize View.ld x2 rv2 = y2 at hv ⊢
  exact tile2 (q := fun d => Q (t / 16 * 2048 + (512 + a)) (t % 16 * 256 + d)) (k := fun y d => K (t / 16 * 2048 + y) (t % 16 * 256 + d))
    (v := fun y => W (t / 16 * 2048 + y) (t % 16 * 128 + b)) y1 y2 hq hk hv

theorem row3 (h : Holds Q K W t x0 x1 x2) (a : Fin 256) (b : Fin 128) :
    k0_pay17 (F := Ideal) (k0_pay10 row col (View.ld x0 rq3) (View.ld x1 rk3)) (View.ld x2 rv3) (ix2 a b)
      = ATT Q K W (t / 16 * 2048 + (768 + a)) (t % 16 * 128 + b) := by
  have hq : ∀ x : Fin 256, View.ld x0 rq3 (ix2 a x) = Q (t / 16 * 2048 + (768 + a)) (t % 16 * 256 + x) := fun x => by
    refine Eq.trans ?_ (h.q ⟨768 + a, by omega⟩ x); pointwise
  have hk : ∀ (y : Fin 1024) (x : Fin 256), View.ld x1 rk3 (ix2 y x) = K (t / 16 * 2048 + y) (t % 16 * 256 + x) := fun y x => by
    refine Eq.trans ?_ (h.k ⟨y, by omega⟩ x); pointwise
  have hv : ∀ y : Fin 1024, View.ld x2 rv3 (ix2 y b) = W (t / 16 * 2048 + y) (t % 16 * 128 + b) := fun y => by
    refine Eq.trans ?_ (h.v ⟨y, by omega⟩ b); pointwise
  refine Eq.trans ?_ (ker_eq_att Q K W h.realQ h.realK t 1024 768 a b (by omega) (by omega) b.isLt)
  generalize View.ld x0 rq3 = y0 at hq ⊢
  generalize View.ld x1 rk3 = y1 at hk ⊢
  generalize View.ld x2 rv3 = y2 at hv ⊢
  exact tile3 (q := fun d => Q (t / 16 * 2048 + (768 + a)) (t % 16 * 256 + d)) (k := fun y d => K (t / 16 * 2048 + y) (t % 16 * 256 + d))
    (v := fun y => W (t / 16 * 2048 + y) (t % 16 * 128 + b)) y1 y2 hq hk hv

theorem row4 (h : Holds Q K W t x0 x1 x2) (a : Fin 256) (b : Fin 128) :
    k0_pay19 (F := Ideal) (k0_pay14 row col (View.ld x0 rq4) (View.ld x1 rk4)) (View.ld x2 rv4) (ix2 a b)
      = ATT Q K W (t / 16 * 2048 + (1024 + a)) (t % 16 * 128 + b) := by
  have hq : ∀ x : Fin 256, View.ld x0 rq4 (ix2 a x) = Q (t / 16 * 2048 + (1024 + a)) (t % 16 * 256 + x) := fun x => by
    refine Eq.trans ?_ (h.q ⟨1024 + a, by omega⟩ x); pointwise
  have hk : ∀ (y : Fin 1280) (x : Fin 256), View.ld x1 rk4 (ix2 y x) = K (t / 16 * 2048 + y) (t % 16 * 256 + x) := fun y x => by
    refine Eq.trans ?_ (h.k ⟨y, by omega⟩ x); pointwise
  have hv : ∀ y : Fin 1280, View.ld x2 rv4 (ix2 y b) = W (t / 16 * 2048 + y) (t % 16 * 128 + b) := fun y => by
    refine Eq.trans ?_ (h.v ⟨y, by omega⟩ b); pointwise
  refine Eq.trans ?_ (ker_eq_att Q K W h.realQ h.realK t 1280 1024 a b (by omega) (by omega) b.isLt)
  generalize View.ld x0 rq4 = y0 at hq ⊢
  generalize View.ld x1 rk4 = y1 at hk ⊢
  generalize View.ld x2 rv4 = y2 at hv ⊢
  exact tile4 (q := fun d => Q (t / 16 * 2048 + (1024 + a)) (t % 16 * 256 + d)) (k := fun y d => K (t / 16 * 2048 + y) (t % 16 * 256 + d))
    (v := fun y => W (t / 16 * 2048 + y) (t % 16 * 128 + b)) y1 y2 hq hk hv

theorem row5 (h : Holds Q K W t x0 x1 x2) (a : Fin 256) (b : Fin 128) :
    k0_pay26 (F := Ideal) (k0_pay21 (k0_pay16 row col (View.ld x0 rq5) (View.ld x1 rk5))) (k0_pay22 (k0_pay16 row col (View.ld x0 rq5) (View.ld x1 rk5))) (View.ld x2 rv5) (ix2 a b)
      = ATT Q K W (t / 16 * 2048 + (1280 + a)) (t % 16 * 128 + b) := by
  have hq : ∀ x : Fin 256, View.ld x0 rq5 (ix2 a x) = Q (t / 16 * 2048 + (1280 + a)) (t % 16 * 256 + x) := fun x => by
    refine Eq.trans ?_ (h.q ⟨1280 + a, by omega⟩ x); pointwise
  have hk : ∀ (y : Fin 1536) (x : Fin 256), View.ld x1 rk5 (ix2 y x) = K (t / 16 * 2048 + y) (t % 16 * 256 + x) := fun y x => by
    refine Eq.trans ?_ (h.k ⟨y, by omega⟩ x); pointwise
  have hv : ∀ y : Fin 1536, View.ld x2 rv5 (ix2 y b) = W (t / 16 * 2048 + y) (t % 16 * 128 + b) := fun y => by
    refine Eq.trans ?_ (h.v ⟨y, by omega⟩ b); pointwise
  refine Eq.trans ?_ (ker_eq_att Q K W h.realQ h.realK t 1536 1280 a b (by omega) (by omega) b.isLt)
  generalize View.ld x0 rq5 = y0 at hq ⊢
  generalize View.ld x1 rk5 = y1 at hk ⊢
  generalize View.ld x2 rv5 = y2 at hv ⊢
  exact tile5 (q := fun d => Q (t / 16 * 2048 + (1280 + a)) (t % 16 * 256 + d)) (k := fun y d => K (t / 16 * 2048 + y) (t % 16 * 256 + d))
    (v := fun y => W (t / 16 * 2048 + y) (t % 16 * 128 + b)) y1 y2 hq hk hv

theorem row6 (h : Holds Q K W t x0 x1 x2) (a : Fin 256) (b : Fin 128) :
    k0_pay27 (F := Ideal) (k0_pay18 row col (View.ld x0 rq6) (View.ld x1 rk6)) (View.ld x2 rv6) (ix2 a b)
      = ATT Q K W (t / 16 * 2048 + (1536 + a)) (t % 16 * 128 + b) := by
  have hq : ∀ x : Fin 256, View.ld x0 rq6 (ix2 a x) = Q (t / 16 * 2048 + (1536 + a)) (t % 16 * 256 + x) := fun x => by
    refine Eq.trans ?_ (h.q ⟨1536 + a, by omega⟩ x); pointwise
  have hk : ∀ (y : Fin 1792) (x : Fin 256), View.ld x1 rk6 (ix2 y x) = K (t / 16 * 2048 + y) (t % 16 * 256 + x) := fun y x => by
    refine Eq.trans ?_ (h.k ⟨y, by omega⟩ x); pointwise
  have hv : ∀ y : Fin 1792, View.ld x2 rv6 (ix2 y b) = W (t / 16 * 2048 + y) (t % 16 * 128 + b) := fun y => by
    refine Eq.trans ?_ (h.v ⟨y, by omega⟩ b); pointwise
  refine Eq.trans ?_ (ker_eq_att Q K W h.realQ h.realK t 1792 1536 a b (by omega) (by omega) b.isLt)
  generalize View.ld x0 rq6 = y0 at hq ⊢
  generalize View.ld x1 rk6 = y1 at hk ⊢
  generalize View.ld x2 rv6 = y2 at hv ⊢
  exact tile6 (q := fun d => Q (t / 16 * 2048 + (1536 + a)) (t % 16 * 256 + d)) (k := fun y d => K (t / 16 * 2048 + y) (t % 16 * 256 + d))
    (v := fun y => W (t / 16 * 2048 + y) (t % 16 * 128 + b)) y1 y2 hq hk hv

theorem row7 (h : Holds Q K W t x0 x1 x2) (a : Fin 256) (b : Fin 128) :
    k0_pay28 (F := Ideal) (k0_pay23 (View.ld x0 rq7) (View.ld x1 rk7)) (k0_pay24 row col) (k0_pay25 (View.ld x0 rq7) (View.ld x1 rk7)) (View.ld x2 rv7) (ix2 a b)
      = ATT Q K W (t / 16 * 2048 + (1792 + a)) (t % 16 * 128 + b) := by
  have hq : ∀ x : Fin 256, View.ld x0 rq7 (ix2 a x) = Q (t / 16 * 2048 + (1792 + a)) (t % 16 * 256 + x) := fun x => by
    refine Eq.trans ?_ (h.q ⟨1792 + a, by omega⟩ x); pointwise
  have hk : ∀ (y : Fin 2048) (x : Fin 256), View.ld x1 rk7 (ix2 y x) = K (t / 16 * 2048 + y) (t % 16 * 256 + x) := fun y x => by
    refine Eq.trans ?_ (h.k ⟨y, by omega⟩ x); pointwise
  have hv : ∀ y : Fin 2048, View.ld x2 rv7 (ix2 y b) = W (t / 16 * 2048 + y) (t % 16 * 128 + b) := fun y => by
    refine Eq.trans ?_ (h.v ⟨y, by omega⟩ b); pointwise
  refine Eq.trans ?_ (ker_eq_att Q K W h.realQ h.realK t 2048 1792 a b (by omega) (by omega) b.isLt)
  generalize View.ld x0 rq7 = y0 at hq ⊢
  generalize View.ld x1 rk7 = y1 at hk ⊢
  generalize View.ld x2 rv7 = y2 at hv ⊢
  exact tile7 (q := fun d => Q (t / 16 * 2048 + (1792 + a)) (t % 16 * 256 + d)) (k := fun y d => K (t / 16 * 2048 + y) (t % 16 * 256 + d))
    (v := fun y => W (t / 16 * 2048 + y) (t % 16 * 128 + b)) y1 y2 hq hk hv

variable (m : (ℓ : Loc nD τ sig) → Buf (Elt Ideal) ℓ) (c : Dev nD)

/-- The queries. -/
abbrev AQ : ℕ → ℕ → EReal := at2 (m := 8192) (n := 4096) (m ((c : Thread nD τ).loc main_arg0))
/-- The keys. -/
abbrev AK : ℕ → ℕ → EReal := at2 (m := 8192) (n := 4096) (m ((c : Thread nD τ).loc main_arg1))
/-- The values. -/
abbrev AV : ℕ → ℕ → EReal := at2 (m := 8192) (n := 2048) (m ((c : Thread nD τ).loc main_arg2))

/-- The blocks of the attention. -/
theorem idx0 : ∀ t : Fin cfg0.N, win0_0.index t = ![t.val / 16, t.val % 16] ∧ win0_1.index t = ![t.val / 16, t.val % 16]
    ∧ win0_2.index t = ![t.val / 16, t.val % 16] ∧ win0_4.index t = ![t.val / 16, t.val % 16] ∧ win0_5.index t = ![0, min t.val 42, 0] :=
  (by decide +kernel : ∀ t : Fin grid0.N, _)

theorem qb (t : Fin cfg0.N) (a : Fin 2048) (x : Fin 256) : iblk m c 0 t (ix2 a x) = AQ m c (t.val / 16 * 2048 + a) (t.val % 16 * 256 + x) := by
  have ht : t.val < 64 := t.isLt
  refine Eq.trans ?_ (at2_of _ (by omega) (by omega)).symm
  blk_point [iblk, V, idx0 t]

theorem kb (t : Fin cfg0.N) (a : Fin 2048) (x : Fin 256) : iblk m c 1 t (ix2 a x) = AK m c (t.val / 16 * 2048 + a) (t.val % 16 * 256 + x) := by
  have ht : t.val < 64 := t.isLt
  refine Eq.trans ?_ (at2_of _ (by omega) (by omega)).symm
  blk_point [iblk, V, idx0 t]

theorem vb (t : Fin cfg0.N) (a : Fin 2048) (x : Fin 128) : iblk m c 2 t (ix2 a x) = AV m c (t.val / 16 * 2048 + a) (t.val % 16 * 128 + x) := by
  have ht : t.val < 64 := t.isLt
  refine Eq.trans ?_ (at2_of _ (by omega) (by omega)).symm
  blk_point [iblk, V, idx0 t]

set_option maxHeartbeats 1600000 in
/-- A block of the attention. -/
theorem point0_4 (hq : ∀ i, IsReal (m ((c : Thread nD τ).loc main_arg0) i)) (hk : ∀ i, IsReal (m ((c : Thread nD τ).loc main_arg1) i)) (t : Fin cfg0.N) (y) :
    out0_4 (iblk m c 0 t) (iblk m c 1 t) (iblk m c 2 t) y
    = ofNat2 (m := 8192) (n := 2048) (ATT (AQ m c) (AK m c) (AV m c)) (((cfg0.win 4).blk t).view.emb y) := by
  have ht : t.val < 64 := t.isLt
  have H : Holds (AQ m c) (AK m c) (AV m c) t.val (iblk m c 0 t) (iblk m c 1 t) (iblk m c 2 t) :=
    ⟨real_at2 (m := 8192) (n := 4096) _ hq, real_at2 (m := 8192) (n := 4096) _ hk, qb m c t, kb m c t, vb m c t⟩
  generalize iblk m c 0 t = x0 at H
  generalize iblk m c 1 t = x1 at H
  generalize iblk m c 2 t = x2 at H
  unfold ofNat2 out0_4
  canon_tiles x h
  all_goals blk_simp [idx0 t]
  all_goals rw [h0, h1]
  all_goals conv_lhs => rw [eq_ix2 x]
  · exact row7 H (x 0) (x 1)
  · exact row6 H (x 0) (x 1)
  · exact row5 H (x 0) (x 1)
  · exact row4 H (x 0) (x 1)
  · exact row3 H (x 0) (x 1)
  · exact row2 H (x 0) (x 1)
  · exact row1 H (x 0) (x 1)
  · simpa only [zero_add] using row0 H (x 0) (x 1)

/-- The array of the attention. -/
theorem final0_4 (hq : ∀ i, IsReal (m ((c : Thread nD τ).loc main_arg0) i)) (hk : ∀ i, IsReal (m ((c : Thread nD τ).loc main_arg1) i)) :
    (dats m 0 c).arrAt 4 cfg0.N = ofNat2 (m := 8192) (n := 2048) (ATT (AQ m c) (AK m c) (AV m c)) := by
  refine (dats m 0 c).arrAt_eq_of_covers 4 _ (by decide +kernel) fun t _ y => ?_
  blk_simp
  rw [after0_4]
  exact point0_4 m c hq hk t y

/-- The cast weights of the layer. -/
def CAST : (⟨3, ![1, 11008, 4096]⟩ : Shape).Idx → EReal := fun j => at3 (l := 2) (m := 11008) (n := 4096) (m ((c : Thread nD τ).loc main_arg3)) 1 (j 1 : ℕ) (j 2 : ℕ)

theorem pay1_at (X : Vec Ideal S1x256x4096 .f32) (a : Fin 256) (b : Fin 4096) : k0_pay1 (F := Ideal) X (ix3 0 a b) = X (ix3 0 a b) := by
  pointwise [k0_pay1]

theorem wb (t : Fin cfg0.N) (a : Fin 256) (b : Fin 4096) : iblk m c 3 t (ix3 0 a b)
    = at3 (l := 2) (m := 11008) (n := 4096) (m ((c : Thread nD τ).loc main_arg3)) 1 (min t.val 42 * 256 + a) b := by
  have ht : t.val < 64 := t.isLt
  have hm : min t.val 42 ≤ 42 := Nat.min_le_right _ _
  rw [at3_of _ (by omega) (by omega) b.isLt]
  blk_point [iblk, V, idx0_3 t]

/-- A block of the cast weights. -/
theorem point0_5 (t : Fin cfg0.N) (y) : out0_5 (iblk m c 3 t) y = CAST m c (((cfg0.win 5).blk t).view.emb y) := by
  have ht : t.val < 64 := t.isLt
  unfold CAST out0_5
  canon_tiles x h
  obtain ⟨a, b, rfl⟩ : ∃ a b, x = ix3 0 a b := ⟨x 1, x 2, by rw [eq_ix3 x]; congr 1; exact Subsingleton.elim _ _⟩
  rw [pay1_at]
  refine Eq.trans ?_ ((wb m c t a b).trans ?_)
  · pointwise
  · blk_simp [idx0 t]
    rw [h1, h2]
    rfl

/-- The array of the cast weights. -/
theorem final0_5 : (dats m 0 c).arrAt 5 cfg0.N = CAST m c := by
  refine (dats m 0 c).arrAt_eq_of_covers 5 _ (by decide +kernel) fun t _ y => ?_
  blk_simp
  rw [after0_5]
  exact point0_5 m c t y

end Cert.Kernel7Ideal.Mla

end
-- ==== Proof.Mla.Ref.lean ====
/- What the reference of the causal attention computes. -/
module

public import proofs.«01_k».proof.Proof.Gen.Reference7Ideal.Run
public import proofs.«01_k».proof.Proof.Mla.Value

@[expose] public section

set_option maxRecDepth 16384

noncomputable section

open Idealize.ShloMosaic Idealize.ShloMosaic.TcCoe Idealize.SL.Sem

namespace Cert.Reference7Ideal.Value

open Cert.Front Cert.Mla Cert.Reals
open Cert.Reference7Ideal Cert.Reference7Ideal.Gen

/-- The scores, to base e. -/
abbrev SCORES (q k : FVec Ideal S8192x4096 .bf16) : FVec Ideal S4x16x2048x2048 .f32 :=
  mulf (Host.dotGeneral dot_S4x2048x16x256_S4x2048x16x256_S4x16x2048x2048_3_3_1_1_02_02 none
      (shapeCast _ (extf .f32 q bitsLt_bf16_f32) shapeCasts_S8192x4096_S4x2048x16x256)
      (shapeCast _ (extf .f32 k bitsLt_bf16_f32) shapeCasts_S8192x4096_S4x2048x16x256))
      (broadcastInDim S4x16x2048x2048 ![] bcast_S_S4x16x2048x2048 (Host.log (constant S_ .f32 0x40000000#32)))

/-- The scores, minus infinity past the row. -/
abbrev MASKED (Z : FVec Ideal S4x16x2048x2048 .f32) : FVec Ideal S4x16x2048x2048 .f32 :=
  select (broadcastInDim S4x16x2048x2048 ![2, 3] bcast_S2048x2048_S4x16x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    Z (broadcastInDim S4x16x2048x2048 ![] bcast_S_S4x16x2048x2048 (id (constant S_ .f32 0xFF800000#32)))

/-- The largest of each row. -/
abbrev ROWMAX (Z : FVec Ideal S4x16x2048x2048 .f32) : FVec Ideal S4x16x2048 .f32 :=
  Host.reduce FloatOps.maximumf Z (constant S_ .f32 0xFF800000#32) reducesTo_S4x16x2048x2048_S4x16x2048_d3 h_S_

/-- The exponentials of the scores less a row's number. -/
abbrev SHIFTED (Z : FVec Ideal S4x16x2048x2048 .f32) (M : FVec Ideal S4x16x2048 .f32) : FVec Ideal S4x16x2048x2048 .f32 :=
  Host.exp (subf Z (broadcastInDim S4x16x2048x2048 ![0, 1, 2, 3] bcast_S4x16x2048x1_S4x16x2048x2048_0_1_2_3 (broadcastInDim S4x16x2048x1 ![0, 1, 2] bcast_S4x16x2048_S4x16x2048x1_0_1_2
    (maximumf (broadcastInDim S4x16x2048 ![] bcast_S_S4x16x2048 (constant S_ .f32 0xFF800000#32)) M))))

/-- The values averaged by the quotients of the exponentials. -/
abbrev ATTN (v : FVec Ideal S8192x2048 .bf16) (E : FVec Ideal S4x16x2048x2048 .f32) : FVec Ideal S8192x2048 .f32 :=
  shapeCast _ (transpose S4x2048x16x128 [0, 3, 1, 2] (Host.dotGeneral dot_S4x2048x16x128_S4x16x2048x2048_S4x16x128x2048_1_3_3_2_02_01 none (shapeCast _ (extf .f32 v bitsLt_bf16_f32) shapeCasts_S8192x2048_S4x2048x16x128)
    (Host.divf E (broadcastInDim S4x16x2048x2048 ![0, 1, 2, 3] bcast_S4x16x2048x1_S4x16x2048x2048_0_1_2_3 (broadcastInDim S4x16x2048x1 ![0, 1, 2] bcast_S4x16x2048_S4x16x2048x1_0_1_2
      (Host.reduceAdd E (constant S_ .f32 0x00000000#32) reducesTo_S4x16x2048x2048_S4x16x2048_d3 h_S_))))) transposes_S4x16x128x2048_S4x2048x16x128_0_3_1_2) shapeCasts_S4x2048x16x128_S8192x2048

theorem log_two : Ideal.log (Ideal.ofBits .f32 0x40000000#32) = ((Real.log 2 : ℝ) : EReal) := by
  rw [show Ideal.ofBits .f32 0x40000000#32 = ((2 : ℝ) : EReal) by simp [Ideal.ofBits, Ideal.ieee, -EReal.coe_mul]; norm_num, Ideal.log_coe, if_neg (by norm_num)]

theorem scores_at (q k : FVec Ideal S8192x4096 .bf16) (b : Fin 4) (h : Fin 16) (s x : Fin 2048) : SCORES q k (ix4 b h s x)
    = (∑ d : Fin 256, at2 q (b * 2048 + s) (h * 256 + d) * at2 k (b * 2048 + x) (h * 256 + d)) * ((Real.log 2 : ℝ) : EReal) := by
  pointwise
  rw [log_two]
  simp only [at2_fin q, at2_fin k]

theorem masked_at (Z : FVec Ideal S4x16x2048x2048 .f32) (b : Fin 4) (h : Fin 16) (s x : Fin 2048) :
    MASKED Z (ix4 b h s x) = if (x : ℕ) ≤ s then Z (ix4 b h s x) else ⊥ := by
  rw [← Cert.Kernel7Ideal.Mla.sel_le x s x.isLt s.isLt]
  pointwise
  exact congrArg _ ofBits_neg_inf

theorem rowmax_at (Z : FVec Ideal S4x16x2048x2048 .f32) (b : Fin 4) (h : Fin 16) (s : Fin 2048) :
    ROWMAX Z (ix3 b h s) = Finset.fold max ⊥ (fun x : Fin 2048 => Z (ix4 b h s x)) Finset.univ := by
  rw [← ofBits_neg_inf]
  pointwise

theorem shifted_at (Z : FVec Ideal S4x16x2048x2048 .f32) (M : FVec Ideal S4x16x2048 .f32) (b : Fin 4) (h : Fin 16) (s x : Fin 2048) :
    SHIFTED Z M (ix4 b h s x) = Ideal.exp (Z (ix4 b h s x) - M (ix3 b h s)) := by
  pointwise
  rw [ofBits_neg_inf, max_eq_right bot_le]

theorem attn_at (v : FVec Ideal S8192x2048 .bf16) (E : FVec Ideal S4x16x2048x2048 .f32) (j : S8192x2048.Idx) (b : Fin 4) (h : Fin 16) (s : Fin 2048)
    (h0 : (j 0 : ℕ) / 2048 = b) (h1 : (j 0 : ℕ) % 2048 = s) (h2 : (j 1 : ℕ) / 128 = h) : ATTN v E j
      = ∑ x : Fin 2048, at2 v (b * 2048 + x) (j 1 : ℕ) * Ideal.div (E (ix4 b h s x)) (∑ y : Fin 2048, E (ix4 b h s y)) := by
  pointwise
  have e0 : ∀ p, (⟨(j 0 : ℕ) / 2048, p⟩ : Fin 4) = b := fun _ => Fin.ext h0
  have e1 : ∀ p, (⟨(j 0 : ℕ) % 2048, p⟩ : Fin 2048) = s := fun _ => Fin.ext h1
  have e2 : ∀ p, (⟨(j 1 : ℕ) / 128, p⟩ : Fin 16) = h := fun _ => Fin.ext h2
  simp only [e0, e1, e2]
  refine Finset.sum_congr rfl fun x _ => congrArg (· * _) ((at2_fin v _ (j 1)).trans ?_)
  show at2 v ((j 0 : ℕ) / 2048 * 2048 + x) (j 1 : ℕ) = _
  rw [h0]

theorem out_o (m : (ℓ : Loc nD τ sig) → Buf (Elt Ideal) ℓ) (c : Dev nD) : res_main_v31 m c
    = ofNat2 (m := 8192) (n := 2048) (ATT (at2 (m := 8192) (n := 4096) (m ((c.tc : Thread nD τ).loc main_arg0)))
        (at2 (m := 8192) (n := 4096) (m ((c.tc : Thread nD τ).loc main_arg1))) (at2 (m := 8192) (n := 2048) (m ((c.tc : Thread nD τ).loc main_arg2)))) := by
  funext j
  show ATTN (m ((c.tc : Thread nD τ).loc main_arg2)) (SHIFTED (MASKED (SCORES (m ((c.tc : Thread nD τ).loc main_arg0)) (m ((c.tc : Thread nD τ).loc main_arg1))))
    (ROWMAX (MASKED (SCORES (m ((c.tc : Thread nD τ).loc main_arg0)) (m ((c.tc : Thread nD τ).loc main_arg1)))))) j = _
  generalize m ((c.tc : Thread nD τ).loc main_arg0) = q
  generalize m ((c.tc : Thread nD τ).loc main_arg1) = k
  generalize m ((c.tc : Thread nD τ).loc main_arg2) = v
  have hj : (j 0 : ℕ) < 8192 := (j 0).isLt
  have hj1 : (j 1 : ℕ) < 2048 := (j 1).isLt
  rw [attn_at v _ j ⟨(j 0 : ℕ) / 2048, by omega⟩ ⟨(j 1 : ℕ) / 128, by omega⟩ ⟨(j 0 : ℕ) % 2048, by omega⟩ rfl rfl rfl]
  simp only [shifted_at, rowmax_at, masked_at, scores_at]
  unfold ofNat2 ATT SOFT SCORE Cert.Mla.mask
  dsimp only
  rw [Nat.div_add_mod' (j 0 : ℕ) 2048]

end Cert.Reference7Ideal.Value

end
-- ==== Proof.Mla.Agree.lean ====
/- The causal attention's results are the reference's. -/
module

public import proofs.«01_k».proof.Proof.Mla.Ref
public import proofs.«01_k».proof.Proof.Layer.Finite
public import proofs.«01_k».proof.Proof.Gen.Pre_finite7
public import proofs.«01_k».proof.Defs

@[expose] public section

set_option maxRecDepth 16384

noncomputable section

open Idealize.ShloMosaic Idealize.ShloMosaic.TcCoe Idealize.SL.Sem

namespace Cert.Kernel7Ideal.Mla

open Cert.Front Cert.Mla Cert.Reals
open Cert.Kernel7Ideal Cert.Kernel7Ideal.Gen

/-- The queries and keys are real under the precondition. -/
theorem args_real (m : (ℓ : Loc nD τ sig) → Buf (Elt Ideal) ℓ) (c : Dev nD) (h : Cert.Pre_Kernel7Ideal_finite7 m) :
    (∀ i, IsReal (m ((c : Thread nD τ).loc main_arg0) i)) ∧ (∀ i, IsReal (m ((c : Thread nD τ).loc main_arg1) i)) := by
  obtain ⟨h0, h1⟩ := h c
  exact ⟨fun i => Cert.Kernel5Ideal.Value.real_of_finite _ _ h0 i, fun i => Cert.Kernel5Ideal.Value.real_of_finite _ _ h1 i⟩

/-- The reference's cast weights. -/
theorem cast_at (A : FVec Ideal Cert.Reference7Ideal.S2x11008x4096 .f32) (j : Cert.Reference7Ideal.S1x11008x4096.Idx) :
    (truncf .bf16 (broadcastInDim Cert.Reference7Ideal.S1x11008x4096 ![1, 2] Cert.Reference7Ideal.Gen.bcast_S11008x4096_S1x11008x4096_1_2
      (shapeCast Cert.Reference7Ideal.S11008x4096 (extractStridedSlice Cert.Reference7Ideal.S1x11008x4096 ![1, 0, 0] A Cert.Reference7Ideal.Gen.slices_S2x11008x4096_S1x11008x4096_1_0_0)
        Cert.Reference7Ideal.Gen.shapeCasts_S1x11008x4096_S11008x4096)) Cert.Reference7Ideal.Gen.bitsLt_bf16_f32 : FVec Ideal Cert.Reference7Ideal.S1x11008x4096 .bf16) j
      = at3 (l := 2) (m := 11008) (n := 4096) A 1 (j 1 : ℕ) (j 2 : ℕ) := by
  refine Eq.trans ?_ (at3_of A (q := 1) (r := (j 1 : ℕ)) (c := (j 2 : ℕ)) (by norm_num) (j 1).isLt (j 2).isLt).symm
  pointwise

theorem algebraic : Cert.algebraic_Kernel7Ideal_Reference7Ideal_pre_finite7 := by
  intro m g m' g' hp h
  refine ⟨fun c => ofNat2 (m := 8192) (n := 2048) (ATT (AQ m c) (AK m c) (AV m c)), fun c => CAST m c, ?_, ?_⟩
  · refine (θ_run _ _ _).mono (fun r hr c => ?_) (run_main m g)
    obtain ⟨hq, hk⟩ := args_real m c hp
    exact ⟨((hr c).1 4).trans (final0_4 m c hq hk), ((hr c).1 5).trans (final0_5 m c),
      ((hr c).1 0).trans (((dats m 0 c).arrAt_in 0 rfl _).trans ((A_eq m c 0).trans (V_main_arg0 m c))),
      ((hr c).1 1).trans (((dats m 0 c).arrAt_in 1 rfl _).trans ((A_eq m c 1).trans (V_main_arg1 m c))),
      ((hr c).1 2).trans (((dats m 0 c).arrAt_in 2 rfl _).trans ((A_eq m c 2).trans (V_main_arg2 m c))),
      ((hr c).1 3).trans (((dats m 0 c).arrAt_in 3 rfl _).trans ((A_eq m c 3).trans (V_main_arg3 m c)))⟩
  · refine (θ_run _ _ _).mono (fun r hr c => ⟨?_, ?_, (hr c).2.2⟩) (Cert.Reference7Ideal.Value.run m' g')
    all_goals obtain ⟨h0, h1, h2, h3⟩ := h c
    · refine (hr c).1.trans ((Cert.Reference7Ideal.Value.out_o _ _).trans ?_)
      rw [h0, h1, h2]
    · refine (hr c).2.1.trans ?_
      funext j
      refine (cast_at _ j).trans ?_
      rw [h3]
      rfl

end Cert.Kernel7Ideal.Mla

end
-- ==== Proof.Sb.Maths.lean ====
/- The weights of the attention without positions, to base two and to base e. -/
module

public import proofs.«01_k».proof.Proof.Layer.Reals
public import proofs.«01_k».proof.Proof.Front.Base

@[expose] public section

noncomputable section

open Idealize.ShloMosaic Idealize.ShloMosaic.TcCoe Idealize.SL.Sem

namespace Cert.Sb

open Cert.Reals

/-- The logarithm to base two of a logit's weight, the logit to base two. -/
def L2 (z : EReal) : EReal := min z 0 - Ideal.log (1 + Ideal.exp2 (0 - FloatOps.absf (F := Ideal) (φ := .f32) z)) * (((Real.log 2)⁻¹ : ℝ) : EReal)

/-- The logarithm of what a key before the row leaves. -/
def KM (r : ℕ) (z : ℕ → EReal) (y : ℕ) : EReal := if y < r then L2 (z y) - z y else 0

/-- The sum of `k` later blocks of `n`, the last first. -/
def CAR (t : ℕ → EReal) (n : ℕ) : ℕ → EReal
  | 0 => 0
  | k + 1 => CAR t n k + t (n - 1 - k)

/-- A query's score with a key. -/
def SC (q : ℕ → EReal) (k : ℕ → ℕ → EReal) (x : ℕ) : EReal := ∑ d : Fin 128, q d * k x d

/-- A row of the kernel, over `n` blocks of keys. -/
def KER (n r : ℕ) (z v : ℕ → EReal) : EReal :=
  ∑ y : Fin (256 * n), (if (y : ℕ) < r then Ideal.exp2 (L2 (z y) + ∑ x ∈ Finset.Ico ((y : ℕ) + 1) (256 * n), KM r z x) else 0) * v y

theorem sum_block (f : ℕ → EReal) (c : ℕ) : ∑ k : Fin 256, f (256 * c + k) = ∑ x ∈ Finset.Ico (256 * c) (256 * (c + 1)), f x := by
  rw [Finset.sum_Ico_eq_sum_range, Fin.sum_univ_eq_sum_range (fun k => f (256 * c + k)), show 256 * (c + 1) - 256 * c = 256 by omega]

theorem car_eq (f : ℕ → EReal) (n k : ℕ) (hk : k ≤ n) :
    CAR (fun c => ∑ k : Fin 256, f (256 * c + k)) n k = ∑ x ∈ Finset.Ico (256 * (n - k)) (256 * n), f x := by
  induction k with
  | zero => simp [CAR]
  | succ k ih =>
    show CAR _ n k + ∑ j : Fin 256, f (256 * (n - 1 - k) + j) = _
    rw [ih (by omega), sum_block, add_comm, show n - 1 - k = n - (k + 1) by omega, show n - (k + 1) + 1 = n - k by omega]
    exact Finset.sum_Ico_consecutive f (by omega) (by omega)

/-- A key's later keys: those of its block, then the later blocks. -/
theorem suffix {f : ℕ → EReal} (n c : ℕ) (j : Fin 256) (hc : c < n) :
    (∑ k : Fin 256, f (256 * c + k) * (if (j : ℕ) < k then 1 else 0)) + CAR (fun c => ∑ k : Fin 256, f (256 * c + k)) n (n - 1 - c)
      = ∑ x ∈ Finset.Ico (256 * c + j + 1) (256 * n), f x := by
  rw [car_eq f n _ (by omega), show n - (n - 1 - c) = c + 1 by omega,
    ← Finset.sum_Ico_consecutive f (show 256 * c + j + 1 ≤ 256 * (c + 1) by omega) (show 256 * (c + 1) ≤ 256 * n by omega)]
  congr 1
  have e : ∀ k : Fin 256, f (256 * c + k) * (if (j : ℕ) < k then 1 else 0) = (fun x => if 256 * c + j < x then f x else 0) (256 * c + (k : ℕ)) := fun k => by
    simp only [add_lt_add_iff_left]
    split <;> simp
  rw [Finset.sum_congr rfl fun k _ => e k, sum_block (fun x => if 256 * c + j < x then f x else 0), ← Finset.sum_filter]
  refine Finset.sum_congr ?_ fun _ _ => rfl
  ext x
  simp only [Finset.mem_filter, Finset.mem_Ico]
  omega

end Cert.Sb

end
-- ==== Proof.Sb.Base.lean ====
/- Selections by the order of two small numbers, and the named constant. -/
module

public import proofs.«01_k».proof.Proof.Sb.Maths
public import proofs.«01_k».proof.Proof.Gen.Kernel8Ideal.Frame

@[expose] public section

noncomputable section

open Idealize.ShloMosaic Idealize.ShloMosaic.TcCoe Idealize.SL.Sem

namespace Cert.Kernel8Ideal.Sb

open Cert.Front Cert.Sb Cert.Reals
open Cert.Kernel8Ideal Cert.Kernel8Ideal.Gen

theorem toInt_small (y : ℕ) (hy : y < 2048) : (BitVec.ofNat 32 y).toInt = y := by
  have h : (BitVec.ofNat 32 y).toNat = y := by rw [BitVec.toNat_ofNat]; omega
  rw [BitVec.toInt_eq_toNat_of_lt (by rw [h]; omega), h]

theorem sel_lt {α : Type} (x a : ℕ) (hx : x < 2048) (ha : a < 2048) (u v : α) :
    Scalar.select (IntOp.cmpi .slt (BitVec.ofNat 32 x) (BitVec.ofNat 32 a)) u v = if x < a then u else v := by
  have h : IntOp.cmpi .slt (BitVec.ofNat 32 x) (BitVec.ofNat 32 a) = if x < a then 1#1 else 0#1 := by
    simp only [IntOp.cmpi, BitVec.slt, toInt_small x hx, toInt_small a ha]
    by_cases h : x < a <;> simp [h]
  rw [h]; split <;> rfl

theorem sel_gt {α : Type} (x a : ℕ) (hx : x < 256) (ha : a < 256) (u v : α) :
    Scalar.select (IntOp.cmpi .sgt (BitVec.ofNat 32 x) (BitVec.ofNat 32 a)) u v = if a < x then u else v := by
  have h : IntOp.cmpi .sgt (BitVec.ofNat 32 x) (BitVec.ofNat 32 a) = if a < x then 1#1 else 0#1 := by
    simp only [IntOp.cmpi, BitVec.slt, toInt_small x (by omega), toInt_small a (by omega)]
    by_cases h : a < x <;> simp [h]
  rw [h]; split <;> rfl

/-- The named constant. -/
theorem l2e : Named.named (F := Ideal) κ "log2_e" (φ := .f32) 0x3FB8AA3B#32 = (((Real.log 2)⁻¹ : ℝ) : EReal) :=
  IdealRules.named_const.ideal_named_scalar _ _ _ _ rfl

theorem ofBits_one : Ideal.ofBits .f32 0x3F800000#32 = 1 := by
  rw [show Ideal.ofBits .f32 0x3F800000#32 = ((1 : ℝ) : EReal) by simp [Ideal.ofBits, Ideal.ieee, -EReal.coe_mul]; norm_num, EReal.coe_one]

end Cert.Kernel8Ideal.Sb

end
-- ==== Proof.Sb.Tile2.lean ====
/- The tile of 2 blocks of keys of the attention without positions, at an index. -/
module

public import proofs.«01_k».proof.Proof.Sb.Base

@[expose] public section

set_option maxRecDepth 16384

noncomputable section

open Idealize.ShloMosaic Idealize.ShloMosaic.TcCoe Idealize.SL.Sem

namespace Cert.Kernel8Ideal.Sb

open Cert.Front Cert.Sb Cert.Reals
open Cert.Kernel8Ideal Cert.Kernel8Ideal.Gen

/-- The first part of the logarithms. -/
def LV2 (Z : FVec Ideal S512x256 .f32) : FVec Ideal S512x256 .f32 :=
  subf (minimumf Z (broadcast S512x256 (Scalar.ofBits .f32 0x00000000#32))) (mulf (log (addf (broadcast S512x256 (Scalar.ofBits .f32 0x3F800000#32)) (exp2 (subf (broadcast S512x256 (Scalar.ofBits .f32 0x00000000#32)) (absf Z)))))
    (broadcast S512x256 (Named.named κ "log2_e" 0x3FB8AA3B#32)))

/-- The last block's entries at and past the row, at zero. -/
def MSK2 (X : FVec Ideal S512x256 .f32) : FVec Ideal S512x256 .f32 :=
  concatenate S512x256 0 [⟨S256x256, extractStridedSlice S256x256 ![0, 0] X slices_S512x256_o0_0_S256x256⟩,
    ⟨S256x256, select k0_pay2 (extractStridedSlice S256x256 ![256, 0] X slices_S512x256_o256_0_S256x256) (broadcast S256x256 (Scalar.ofBits .f32 0x00000000#32))⟩] concatenates_S256x256_S256x256_S512x256_d0

/-- The sums of the rows. -/
def TOT2 (X : FVec Ideal S512x256 .f32) : FVec Ideal S512x1 .f32 :=
  shapeCast S512x1 (multiReduction .add [1] S512 X 0x00000000#32 reduces_S512x256_S512 (.inl rfl) rfl) shapeCasts_S512_S512x1

/-- The sums of the later blocks. -/
def CARRY2 (T : FVec Ideal S512x1 .f32) : FVec Ideal S512x1 .f32 :=
  have c0 : FVec Ideal S256x1 .f32 := broadcast S256x1 (Scalar.ofBits .f32 0x00000000#32)
  have c1 : FVec Ideal S256x1 .f32 := addf c0 (extractStridedSlice S256x1 ![256, 0] T slices_S512x1_o256_0_S256x1)
  concatenate S512x1 0 [⟨S256x1, c1⟩, ⟨S256x1, c0⟩] concatenates_S256x1_S256x1_S512x1_d0

/-- The weights before the mask. -/
def WT2 (L M : FVec Ideal S512x256 .f32) (C : FVec Ideal S512x1 .f32) : FVec Ideal S512x256 .f32 :=
  exp2 (addf (addf L (matmul dot_S512x256_S256x256_S512x256_1_0_0_1_n_n none (truncf .bf16 M bitsLt_bf16_f32) (k0_pay3 (F := Ideal)) (constant S512x256 .f32 0x00000000#32)))
    (broadcastTo S512x256 C broadcasts_S512x1_S512x256))

/-- The blocks side by side. -/
def SIDE2 (A : FVec Ideal S512x256 .f32) : FVec Ideal S256x512 .bf16 :=
  concatenate S256x512 1 [⟨S256x256, extractStridedSlice S256x256 ![0, 0] (truncf .bf16 A bitsLt_bf16_f32) slices_S512x256_o0_0_S256x256⟩, ⟨S256x256, extractStridedSlice S256x256 ![256, 0] (truncf .bf16 A bitsLt_bf16_f32) slices_S512x256_o256_0_S256x256⟩] concatenates_S256x256_S256x256_S256x512_d1

/-- The values, weighed. -/
def OUT2 (B : FVec Ideal S256x512 .bf16) (V : Vec Ideal S512x128 .bf16) : FVec Ideal S256x128 .f32 :=
  matmul (φ₁ := .bf16) (φ₂ := .bf16) dot_S256x512_S512x128_S256x128_1_0_0_1_n_n none B V (constant S256x128 .f32 0x00000000#32)

/-- The logits. -/
def LOGITS2 (Q : Vec Ideal S256x128 .bf16) (K0 K1 : Vec Ideal S256x128 .bf16) : FVec Ideal S512x256 .f32 :=
  concatenate S512x256 0 [⟨S256x256, matmul (φ₁ := .bf16) (φ₂ := .bf16) dot_S256x128_S256x128_S256x256_1_1_0_0_n_n none Q K0 (constant S256x256 .f32 0x00000000#32)⟩, ⟨S256x256, matmul (φ₁ := .bf16) (φ₂ := .bf16) dot_S256x128_S256x128_S256x256_1_1_0_0_n_n none Q K1 (constant S256x256 .f32 0x00000000#32)⟩] concatenates_S256x256_S256x256_S512x256_d0

/-- The tile. -/
def TILE2 (Z : FVec Ideal S512x256 .f32) (V : Vec Ideal S512x128 .bf16) : FVec Ideal S256x128 .f32 :=
  OUT2 (SIDE2 (MSK2 (WT2 (LV2 Z) (MSK2 (subf (LV2 Z) Z)) (CARRY2 (TOT2 (MSK2 (subf (LV2 Z) Z))))))) V

variable {a : Fin 256} {b : Fin 128}

theorem lv2 (Z : FVec Ideal S512x256 .f32) (i : Fin 512) (j : Fin 256) : LV2 Z (ix2 i j) = L2 (Z (ix2 i j)) := by
  pointwise [LV2]
  simp only [l2e]
  rfl

theorem msk2 (X : FVec Ideal S512x256 .f32) (c : ℕ) (hc : c < 2) (j : Fin 256) :
    MSK2 X (ix2 ⟨256 * c + a, by omega⟩ j) = if 256 * c + j < 256 + a then X (ix2 ⟨256 * c + a, by omega⟩ j) else 0 := by
  pointwise [MSK2, k0_pay2]
  split
  · exact (if_pos (by omega)).symm
  · refine (sel_lt _ _ (by omega) (by omega) _ _).trans ?_
    by_cases h : (j : ℕ) < 256 * c + a - 256
    · refine (if_pos h).trans (Eq.trans ?_ (if_pos (by omega)).symm)
      exact congrArg X (congrArg (ix2 · j) (Fin.ext (by simp only []; omega)))
    · exact (if_neg h).trans (if_neg (by omega)).symm

theorem tot2 (X : FVec Ideal S512x256 .f32) (i : Fin 512) : TOT2 X (ix2 i 0) = ∑ k : Fin 256, X (ix2 i k) := by
  pointwise [TOT2]

set_option maxHeartbeats 6400000 in
theorem carry2 (T : FVec Ideal S512x1 .f32) (f : ℕ → EReal) (hT : ∀ (c : ℕ) (h : c < 2), T (ix2 ⟨256 * c + a, by omega⟩ 0) = f c) (c : ℕ) (hc : c < 2) :
    CARRY2 T (ix2 ⟨256 * c + a, by omega⟩ 0) = CAR f 2 (2 - 1 - c) := by
  have e : ∀ (x : ℕ) (p : x < 512) (d : ℕ) (h : d < 2), x = 256 * d + a → T (ix2 ⟨x, p⟩ 0) = f d := fun x p d h hx => by
    subst hx; exact hT d h
  interval_cases c
  · pointwise [CARRY2]
    try simp (disch := omega) only [dif_neg, dif_pos]
    rw [e _ _ 1 (by omega) (by omega)]
    exact (congrArg (fun x => x) (zero_add (f 1))).symm
  · pointwise [CARRY2]
    try simp (disch := omega) only [dif_neg, dif_pos]
    rfl

theorem wt2 (L M : FVec Ideal S512x256 .f32) (C : FVec Ideal S512x1 .f32) (i : Fin 512) (j : Fin 256) :
    WT2 L M C (ix2 i j) = Ideal.exp2 (L (ix2 i j) + ∑ k : Fin 256, M (ix2 i k) * (if (j : ℕ) < k then 1 else 0) + C (ix2 i 0)) := by
  pointwise [WT2, k0_pay3]
  simp only [sel_gt _ _ (Fin.is_lt _) (Fin.is_lt _), ofBits_one, mul_ite, mul_one, mul_zero]
  rfl

set_option maxHeartbeats 3200000 in
theorem side2 (A : FVec Ideal S512x256 .f32) (c : ℕ) (hc : c < 2) (j : Fin 256) :
    SIDE2 A (ix2 a ⟨256 * c + j, by omega⟩) = A (ix2 ⟨256 * c + a, by omega⟩ j) := by
  interval_cases c
  · pointwise [SIDE2]
    try simp (disch := omega) only [dif_neg, dif_pos]
    all_goals first | rfl | (congr 2; all_goals exact Fin.ext (by simp only []; omega))
  · pointwise [SIDE2]
    try simp (disch := omega) only [dif_neg, dif_pos]
    all_goals first | rfl | (congr 2; all_goals exact Fin.ext (by simp only []; omega))

theorem out2 (B : FVec Ideal S256x512 .bf16) (V : Vec Ideal S512x128 .bf16) : OUT2 B V (ix2 a b) = ∑ y : Fin 512, B (ix2 a y) * V (ix2 y b) := by
  pointwise [OUT2]

set_option maxHeartbeats 3200000 in
theorem logits2 (Q : Vec Ideal S256x128 .bf16) (K0 K1 : Vec Ideal S256x128 .bf16) (q : ℕ → EReal) (k : ℕ → ℕ → EReal)
    (hQ : ∀ d : Fin 128, Q (ix2 a d) = q d)
    (h0 : ∀ (y : Fin 256) (d : Fin 128), K0 (ix2 y d) = k y d) (h1 : ∀ (y : Fin 256) (d : Fin 128), K1 (ix2 y d) = k (256 + y) d)
    (c : ℕ) (hc : c < 2) (j : Fin 256) : LOGITS2 Q K0 K1 (ix2 ⟨256 * c + a, by omega⟩ j) = SC q k (256 * c + j) := by
  have e : ∀ (x : ℕ) (p : x < 256) (d : Fin 128), x = a → Q (ix2 ⟨x, p⟩ d) = q d := fun x p d hx => by
    subst hx; exact hQ d
  unfold SC
  interval_cases c
  · pointwise [LOGITS2]
    try simp (disch := omega) only [dif_neg, dif_pos]
    refine Finset.sum_congr rfl fun d _ => congrArg₂ (· * ·) (e _ _ d ?_) (h0 j d)
    all_goals first | rfl | omega
  · pointwise [LOGITS2]
    try simp (disch := omega) only [dif_neg, dif_pos]
    refine Finset.sum_congr rfl fun d _ => congrArg₂ (· * ·) (e _ _ d ?_) (h1 j d)
    all_goals first | rfl | omega

/-- A row of the tile. -/
theorem tile2 (Z : FVec Ideal S512x256 .f32) (V : Vec Ideal S512x128 .bf16) (z v : ℕ → EReal)
    (hZ : ∀ (c : ℕ) (hc : c < 2) (j : Fin 256), Z (ix2 ⟨256 * c + a, by omega⟩ j) = z (256 * c + j)) (hV : ∀ y : Fin 512, V (ix2 y b) = v y) :
    TILE2 Z V (ix2 a b) = KER 2 (256 + a) z v := by
  have hM : ∀ (c : ℕ) (hc : c < 2) (j : Fin 256), MSK2 (subf (LV2 Z) Z) (ix2 ⟨256 * c + a, by omega⟩ j) = KM (256 + a) z (256 * c + j) := fun c hc j => by
    rw [msk2 _ c hc]
    show (if _ then LV2 Z _ - Z _ else 0) = _
    rw [lv2, hZ c hc]
    rfl
  have hT := carry2 (TOT2 (MSK2 (subf (LV2 Z) Z))) (fun c => ∑ k : Fin 256, KM (256 + a) z (256 * c + k)) fun c hc => by
    rw [tot2]
    exact Finset.sum_congr rfl fun k _ => hM c hc k
  unfold TILE2 KER
  rw [out2]
  refine Finset.sum_congr rfl fun y _ => ?_
  obtain ⟨c, j, hc, rfl⟩ : ∃ (c : ℕ) (j : Fin 256) (hc : c < 2), y = ⟨256 * c + j, by omega⟩ :=
    ⟨y / 256, ⟨y % 256, by omega⟩, by omega, Fin.ext (by simp only []; omega)⟩
  rw [side2 _ c hc, msk2 _ c hc, wt2, hV, lv2, hZ c hc, hT c hc]
  simp only [hM c hc]
  rw [add_assoc, suffix 2 c j hc]

end Cert.Kernel8Ideal.Sb

end
-- ==== Proof.Sb.Tile3.lean ====
/- The tile of 3 blocks of keys of the attention without positions, at an index. -/
module

public import proofs.«01_k».proof.Proof.Sb.Base

@[expose] public section

set_option maxRecDepth 16384

noncomputable section

open Idealize.ShloMosaic Idealize.ShloMosaic.TcCoe Idealize.SL.Sem

namespace Cert.Kernel8Ideal.Sb

open Cert.Front Cert.Sb Cert.Reals
open Cert.Kernel8Ideal Cert.Kernel8Ideal.Gen

/-- The first part of the logarithms. -/
def LV3 (Z : FVec Ideal S768x256 .f32) : FVec Ideal S768x256 .f32 :=
  subf (minimumf Z (broadcast S768x256 (Scalar.ofBits .f32 0x00000000#32))) (mulf (log (addf (broadcast S768x256 (Scalar.ofBits .f32 0x3F800000#32)) (exp2 (subf (broadcast S768x256 (Scalar.ofBits .f32 0x00000000#32)) (absf Z)))))
    (broadcast S768x256 (Named.named κ "log2_e" 0x3FB8AA3B#32)))

/-- The last block's entries at and past the row, at zero. -/
def MSK3 (X : FVec Ideal S768x256 .f32) : FVec Ideal S768x256 .f32 :=
  concatenate S768x256 0 [⟨S512x256, extractStridedSlice S512x256 ![0, 0] X slices_S768x256_o0_0_S512x256⟩,
    ⟨S256x256, select k0_pay2 (extractStridedSlice S256x256 ![512, 0] X slices_S768x256_o512_0_S256x256) (broadcast S256x256 (Scalar.ofBits .f32 0x00000000#32))⟩] concatenates_S512x256_S256x256_S768x256_d0

/-- The sums of the rows. -/
def TOT3 (X : FVec Ideal S768x256 .f32) : FVec Ideal S768x1 .f32 :=
  shapeCast S768x1 (multiReduction .add [1] S768 X 0x00000000#32 reduces_S768x256_S768 (.inl rfl) rfl) shapeCasts_S768_S768x1

/-- The sums of the later blocks. -/
def CARRY3 (T : FVec Ideal S768x1 .f32) : FVec Ideal S768x1 .f32 :=
  have c0 : FVec Ideal S256x1 .f32 := broadcast S256x1 (Scalar.ofBits .f32 0x00000000#32)
  have c1 : FVec Ideal S256x1 .f32 := addf c0 (extractStridedSlice S256x1 ![512, 0] T slices_S768x1_o512_0_S256x1)
  have c2 : FVec Ideal S256x1 .f32 := addf c1 (extractStridedSlice S256x1 ![256, 0] T slices_S768x1_o256_0_S256x1)
  concatenate S768x1 0 [⟨S256x1, c2⟩, ⟨S256x1, c1⟩, ⟨S256x1, c0⟩] concatenates_S256x1_S256x1_S256x1_S768x1_d0

/-- The weights before the mask. -/
def WT3 (L M : FVec Ideal S768x256 .f32) (C : FVec Ideal S768x1 .f32) : FVec Ideal S768x256 .f32 :=
  exp2 (addf (addf L (matmul dot_S768x256_S256x256_S768x256_1_0_0_1_n_n none (truncf .bf16 M bitsLt_bf16_f32) (k0_pay3 (F := Ideal)) (constant S768x256 .f32 0x00000000#32)))
    (broadcastTo S768x256 C broadcasts_S768x1_S768x256))

/-- The blocks side by side. -/
def SIDE3 (A : FVec Ideal S768x256 .f32) : FVec Ideal S256x768 .bf16 :=
  concatenate S256x768 1 [⟨S256x256, extractStridedSlice S256x256 ![0, 0] (truncf .bf16 A bitsLt_bf16_f32) slices_S768x256_o0_0_S256x256⟩, ⟨S256x256, extractStridedSlice S256x256 ![256, 0] (truncf .bf16 A bitsLt_bf16_f32) slices_S768x256_o256_0_S256x256⟩, ⟨S256x256, extractStridedSlice S256x256 ![512, 0] (truncf .bf16 A bitsLt_bf16_f32) slices_S768x256_o512_0_S256x256⟩] concatenates_S256x256_S256x256_S256x256_S256x768_d1

/-- The values, weighed. -/
def OUT3 (B : FVec Ideal S256x768 .bf16) (V : Vec Ideal S768x128 .bf16) : FVec Ideal S256x128 .f32 :=
  matmul (φ₁ := .bf16) (φ₂ := .bf16) dot_S256x768_S768x128_S256x128_1_0_0_1_n_n none B V (constant S256x128 .f32 0x00000000#32)

/-- The logits. -/
def LOGITS3 (Q : Vec Ideal S256x128 .bf16) (K0 K1 K2 : Vec Ideal S256x128 .bf16) : FVec Ideal S768x256 .f32 :=
  concatenate S768x256 0 [⟨S256x256, matmul (φ₁ := .bf16) (φ₂ := .bf16) dot_S256x128_S256x128_S256x256_1_1_0_0_n_n none Q K0 (constant S256x256 .f32 0x00000000#32)⟩, ⟨S256x256, matmul (φ₁ := .bf16) (φ₂ := .bf16) dot_S256x128_S256x128_S256x256_1_1_0_0_n_n none Q K1 (constant S256x256 .f32 0x00000000#32)⟩, ⟨S256x256, matmul (φ₁ := .bf16) (φ₂ := .bf16) dot_S256x128_S256x128_S256x256_1_1_0_0_n_n none Q K2 (constant S256x256 .f32 0x00000000#32)⟩] concatenates_S256x256_S256x256_S256x256_S768x256_d0

/-- The tile. -/
def TILE3 (Z : FVec Ideal S768x256 .f32) (V : Vec Ideal S768x128 .bf16) : FVec Ideal S256x128 .f32 :=
  OUT3 (SIDE3 (MSK3 (WT3 (LV3 Z) (MSK3 (subf (LV3 Z) Z)) (CARRY3 (TOT3 (MSK3 (subf (LV3 Z) Z))))))) V

variable {a : Fin 256} {b : Fin 128}

theorem lv3 (Z : FVec Ideal S768x256 .f32) (i : Fin 768) (j : Fin 256) : LV3 Z (ix2 i j) = L2 (Z (ix2 i j)) := by
  pointwise [LV3]
  simp only [l2e]
  rfl

theorem msk3 (X : FVec Ideal S768x256 .f32) (c : ℕ) (hc : c < 3) (j : Fin 256) :
    MSK3 X (ix2 ⟨256 * c + a, by omega⟩ j) = if 256 * c + j < 512 + a then X (ix2 ⟨256 * c + a, by omega⟩ j) else 0 := by
  pointwise [MSK3, k0_pay2]
  split
  · exact (if_pos (by omega)).symm
  · refine (sel_lt _ _ (by omega) (by omega) _ _).trans ?_
    by_cases h : (j : ℕ) < 256 * c + a - 512
    · refine (if_pos h).trans (Eq.trans ?_ (if_pos (by omega)).symm)
      exact congrArg X (congrArg (ix2 · j) (Fin.ext (by simp only []; omega)))
    · exact (if_neg h).trans (if_neg (by omega)).symm

theorem tot3 (X : FVec Ideal S768x256 .f32) (i : Fin 768) : TOT3 X (ix2 i 0) = ∑ k : Fin 256, X (ix2 i k) := by
  pointwise [TOT3]

set_option maxHeartbeats 6400000 in
theorem carry3 (T : FVec Ideal S768x1 .f32) (f : ℕ → EReal) (hT : ∀ (c : ℕ) (h : c < 3), T (ix2 ⟨256 * c + a, by omega⟩ 0) = f c) (c : ℕ) (hc : c < 3) :
    CARRY3 T (ix2 ⟨256 * c + a, by omega⟩ 0) = CAR f 3 (3 - 1 - c) := by
  have e : ∀ (x : ℕ) (p : x < 768) (d : ℕ) (h : d < 3), x = 256 * d + a → T (ix2 ⟨x, p⟩ 0) = f d := fun x p d h hx => by
    subst hx; exact hT d h
  interval_cases c
  · pointwise [CARRY3]
    try simp (disch := omega) only [dif_neg, dif_pos]
    rw [e _ _ 2 (by omega) (by omega), e _ _ 1 (by omega) (by omega)]
    exact (congrArg (fun x => x + f 1) (zero_add (f 2))).symm
  · pointwise [CARRY3]
    try simp (disch := omega) only [dif_neg, dif_pos]
    rw [e _ _ 2 (by omega) (by omega)]
    exact (congrArg (fun x => x) (zero_add (f 2))).symm
  · pointwise [CARRY3]
    try simp (disch := omega) only [dif_neg, dif_pos]
    rfl

theorem wt3 (L M : FVec Ideal S768x256 .f32) (C : FVec Ideal S768x1 .f32) (i : Fin 768) (j : Fin 256) :
    WT3 L M C (ix2 i j) = Ideal.exp2 (L (ix2 i j) + ∑ k : Fin 256, M (ix2 i k) * (if (j : ℕ) < k then 1 else 0) + C (ix2 i 0)) := by
  pointwise [WT3, k0_pay3]
  simp only [sel_gt _ _ (Fin.is_lt _) (Fin.is_lt _), ofBits_one, mul_ite, mul_one, mul_zero]
  rfl

set_option maxHeartbeats 3200000 in
theorem side3 (A : FVec Ideal S768x256 .f32) (c : ℕ) (hc : c < 3) (j : Fin 256) :
    SIDE3 A (ix2 a ⟨256 * c + j, by omega⟩) = A (ix2 ⟨256 * c + a, by omega⟩ j) := by
  interval_cases c
  · pointwise [SIDE3]
    try simp (disch := omega) only [dif_neg, dif_pos]
    all_goals first | rfl | (congr 2; all_goals exact Fin.ext (by simp only []; omega))
  · pointwise [SIDE3]
    try simp (disch := omega) only [dif_neg, dif_pos]
    all_goals first | rfl | (congr 2; all_goals exact Fin.ext (by simp only []; omega))
  · pointwise [SIDE3]
    try simp (disch := omega) only [dif_neg, dif_pos]
    all_goals first | rfl | (congr 2; all_goals exact Fin.ext (by simp only []; omega))

theorem out3 (B : FVec Ideal S256x768 .bf16) (V : Vec Ideal S768x128 .bf16) : OUT3 B V (ix2 a b) = ∑ y : Fin 768, B (ix2 a y) * V (ix2 y b) := by
  pointwise [OUT3]

set_option maxHeartbeats 3200000 in
theorem logits3 (Q : Vec Ideal S256x128 .bf16) (K0 K1 K2 : Vec Ideal S256x128 .bf16) (q : ℕ → EReal) (k : ℕ → ℕ → EReal)
    (hQ : ∀ d : Fin 128, Q (ix2 a d) = q d)
    (h0 : ∀ (y : Fin 256) (d : Fin 128), K0 (ix2 y d) = k y d) (h1 : ∀ (y : Fin 256) (d : Fin 128), K1 (ix2 y d) = k (256 + y) d) (h2 : ∀ (y : Fin 256) (d : Fin 128), K2 (ix2 y d) = k (512 + y) d)
    (c : ℕ) (hc : c < 3) (j : Fin 256) : LOGITS3 Q K0 K1 K2 (ix2 ⟨256 * c + a, by omega⟩ j) = SC q k (256 * c + j) := by
  have e : ∀ (x : ℕ) (p : x < 256) (d : Fin 128), x = a → Q (ix2 ⟨x, p⟩ d) = q d := fun x p d hx => by
    subst hx; exact hQ d
  unfold SC
  interval_cases c
  · pointwise [LOGITS3]
    try simp (disch := omega) only [dif_neg, dif_pos]
    refine Finset.sum_congr rfl fun d _ => congrArg₂ (· * ·) (e _ _ d ?_) (h0 j d)
    all_goals first | rfl | omega
  · pointwise [LOGITS3]
    try simp (disch := omega) only [dif_neg, dif_pos]
    refine Finset.sum_congr rfl fun d _ => congrArg₂ (· * ·) (e _ _ d ?_) (h1 j d)
    all_goals first | rfl | omega
  · pointwise [LOGITS3]
    try simp (disch := omega) only [dif_neg, dif_pos]
    refine Finset.sum_congr rfl fun d _ => congrArg₂ (· * ·) (e _ _ d ?_) (h2 j d)
    all_goals first | rfl | omega

/-- A row of the tile. -/
theorem tile3 (Z : FVec Ideal S768x256 .f32) (V : Vec Ideal S768x128 .bf16) (z v : ℕ → EReal)
    (hZ : ∀ (c : ℕ) (hc : c < 3) (j : Fin 256), Z (ix2 ⟨256 * c + a, by omega⟩ j) = z (256 * c + j)) (hV : ∀ y : Fin 768, V (ix2 y b) = v y) :
    TILE3 Z V (ix2 a b) = KER 3 (512 + a) z v := by
  have hM : ∀ (c : ℕ) (hc : c < 3) (j : Fin 256), MSK3 (subf (LV3 Z) Z) (ix2 ⟨256 * c + a, by omega⟩ j) = KM (512 + a) z (256 * c + j) := fun c hc j => by
    rw [msk3 _ c hc]
    show (if _ then LV3 Z _ - Z _ else 0) = _
    rw [lv3, hZ c hc]
    rfl
  have hT := carry3 (TOT3 (MSK3 (subf (LV3 Z) Z))) (fun c => ∑ k : Fin 256, KM (512 + a) z (256 * c + k)) fun c hc => by
    rw [tot3]
    exact Finset.sum_congr rfl fun k _ => hM c hc k
  unfold TILE3 KER
  rw [out3]
  refine Finset.sum_congr rfl fun y _ => ?_
  obtain ⟨c, j, hc, rfl⟩ : ∃ (c : ℕ) (j : Fin 256) (hc : c < 3), y = ⟨256 * c + j, by omega⟩ :=
    ⟨y / 256, ⟨y % 256, by omega⟩, by omega, Fin.ext (by simp only []; omega)⟩
  rw [side3 _ c hc, msk3 _ c hc, wt3, hV, lv3, hZ c hc, hT c hc]
  simp only [hM c hc]
  rw [add_assoc, suffix 3 c j hc]

end Cert.Kernel8Ideal.Sb

end
-- ==== Proof.Sb.Tile4.lean ====
/- The tile of 4 blocks of keys of the attention without positions, at an index. -/
module

public import proofs.«01_k».proof.Proof.Sb.Base

@[expose] public section

set_option maxRecDepth 16384

noncomputable section

open Idealize.ShloMosaic Idealize.ShloMosaic.TcCoe Idealize.SL.Sem

namespace Cert.Kernel8Ideal.Sb

open Cert.Front Cert.Sb Cert.Reals
open Cert.Kernel8Ideal Cert.Kernel8Ideal.Gen

/-- The first part of the logarithms. -/
def LV4 (Z : FVec Ideal S1024x256 .f32) : FVec Ideal S1024x256 .f32 :=
  subf (minimumf Z (broadcast S1024x256 (Scalar.ofBits .f32 0x00000000#32))) (mulf (log (addf (broadcast S1024x256 (Scalar.ofBits .f32 0x3F800000#32)) (exp2 (subf (broadcast S1024x256 (Scalar.ofBits .f32 0x00000000#32)) (absf Z)))))
    (broadcast S1024x256 (Named.named κ "log2_e" 0x3FB8AA3B#32)))

/-- The last block's entries at and past the row, at zero. -/
def MSK4 (X : FVec Ideal S1024x256 .f32) : FVec Ideal S1024x256 .f32 :=
  concatenate S1024x256 0 [⟨S768x256, extractStridedSlice S768x256 ![0, 0] X slices_S1024x256_o0_0_S768x256⟩,
    ⟨S256x256, select k0_pay2 (extractStridedSlice S256x256 ![768, 0] X slices_S1024x256_o768_0_S256x256) (broadcast S256x256 (Scalar.ofBits .f32 0x00000000#32))⟩] concatenates_S768x256_S256x256_S1024x256_d0

/-- The sums of the rows. -/
def TOT4 (X : FVec Ideal S1024x256 .f32) : FVec Ideal S1024x1 .f32 :=
  shapeCast S1024x1 (multiReduction .add [1] S1024 X 0x00000000#32 reduces_S1024x256_S1024 (.inl rfl) rfl) shapeCasts_S1024_S1024x1

/-- The sums of the later blocks. -/
def CARRY4 (T : FVec Ideal S1024x1 .f32) : FVec Ideal S1024x1 .f32 :=
  have c0 : FVec Ideal S256x1 .f32 := broadcast S256x1 (Scalar.ofBits .f32 0x00000000#32)
  have c1 : FVec Ideal S256x1 .f32 := addf c0 (extractStridedSlice S256x1 ![768, 0] T slices_S1024x1_o768_0_S256x1)
  have c2 : FVec Ideal S256x1 .f32 := addf c1 (extractStridedSlice S256x1 ![512, 0] T slices_S1024x1_o512_0_S256x1)
  have c3 : FVec Ideal S256x1 .f32 := addf c2 (extractStridedSlice S256x1 ![256, 0] T slices_S1024x1_o256_0_S256x1)
  concatenate S1024x1 0 [⟨S256x1, c3⟩, ⟨S256x1, c2⟩, ⟨S256x1, c1⟩, ⟨S256x1, c0⟩] concatenates_S256x1_S256x1_S256x1_S256x1_S1024x1_d0

/-- The weights before the mask. -/
def WT4 (L M : FVec Ideal S1024x256 .f32) (C : FVec Ideal S1024x1 .f32) : FVec Ideal S1024x256 .f32 :=
  exp2 (addf (addf L (matmul dot_S1024x256_S256x256_S1024x256_1_0_0_1_n_n none (truncf .bf16 M bitsLt_bf16_f32) (k0_pay3 (F := Ideal)) (constant S1024x256 .f32 0x00000000#32)))
    (broadcastTo S1024x256 C broadcasts_S1024x1_S1024x256))

/-- The blocks side by side. -/
def SIDE4 (A : FVec Ideal S1024x256 .f32) : FVec Ideal S256x1024 .bf16 :=
  concatenate S256x1024 1 [⟨S256x256, extractStridedSlice S256x256 ![0, 0] (truncf .bf16 A bitsLt_bf16_f32) slices_S1024x256_o0_0_S256x256⟩, ⟨S256x256, extractStridedSlice S256x256 ![256, 0] (truncf .bf16 A bitsLt_bf16_f32) slices_S1024x256_o256_0_S256x256⟩, ⟨S256x256, extractStridedSlice S256x256 ![512, 0] (truncf .bf16 A bitsLt_bf16_f32) slices_S1024x256_o512_0_S256x256⟩, ⟨S256x256, extractStridedSlice S256x256 ![768, 0] (truncf .bf16 A bitsLt_bf16_f32) slices_S1024x256_o768_0_S256x256⟩] concatenates_S256x256_S256x256_S256x256_S256x256_S256x1024_d1

/-- The values, weighed. -/
def OUT4 (B : FVec Ideal S256x1024 .bf16) (V : Vec Ideal S1024x128 .bf16) : FVec Ideal S256x128 .f32 :=
  matmul (φ₁ := .bf16) (φ₂ := .bf16) dot_S256x1024_S1024x128_S256x128_1_0_0_1_n_n none B V (constant S256x128 .f32 0x00000000#32)

/-- The logits. -/
def LOGITS4 (Q : Vec Ideal S256x128 .bf16) (K0 K1 K2 K3 : Vec Ideal S256x128 .bf16) : FVec Ideal S1024x256 .f32 :=
  concatenate S1024x256 0 [⟨S256x256, matmul (φ₁ := .bf16) (φ₂ := .bf16) dot_S256x128_S256x128_S256x256_1_1_0_0_n_n none Q K0 (constant S256x256 .f32 0x00000000#32)⟩, ⟨S256x256, matmul (φ₁ := .bf16) (φ₂ := .bf16) dot_S256x128_S256x128_S256x256_1_1_0_0_n_n none Q K1 (constant S256x256 .f32 0x00000000#32)⟩, ⟨S256x256, matmul (φ₁ := .bf16) (φ₂ := .bf16) dot_S256x128_S256x128_S256x256_1_1_0_0_n_n none Q K2 (constant S256x256 .f32 0x00000000#32)⟩, ⟨S256x256, matmul (φ₁ := .bf16) (φ₂ := .bf16) dot_S256x128_S256x128_S256x256_1_1_0_0_n_n none Q K3 (constant S256x256 .f32 0x00000000#32)⟩] concatenates_S256x256_S256x256_S256x256_S256x256_S1024x256_d0

/-- The tile. -/
def TILE4 (Z : FVec Ideal S1024x256 .f32) (V : Vec Ideal S1024x128 .bf16) : FVec Ideal S256x128 .f32 :=
  OUT4 (SIDE4 (MSK4 (WT4 (LV4 Z) (MSK4 (subf (LV4 Z) Z)) (CARRY4 (TOT4 (MSK4 (subf (LV4 Z) Z))))))) V

variable {a : Fin 256} {b : Fin 128}

theorem lv4 (Z : FVec Ideal S1024x256 .f32) (i : Fin 1024) (j : Fin 256) : LV4 Z (ix2 i j) = L2 (Z (ix2 i j)) := by
  pointwise [LV4]
  simp only [l2e]
  rfl

theorem msk4 (X : FVec Ideal S1024x256 .f32) (c : ℕ) (hc : c < 4) (j : Fin 256) :
    MSK4 X (ix2 ⟨256 * c + a, by omega⟩ j) = if 256 * c + j < 768 + a then X (ix2 ⟨256 * c + a, by omega⟩ j) else 0 := by
  pointwise [MSK4, k0_pay2]
  split
  · exact (if_pos (by omega)).symm
  · refine (sel_lt _ _ (by omega) (by omega) _ _).trans ?_
    by_cases h : (j : ℕ) < 256 * c + a - 768
    · refine (if_pos h).trans (Eq.trans ?_ (if_pos (by omega)).symm)
      exact congrArg X (congrArg (ix2 · j) (Fin.ext (by simp only []; omega)))
    · exact (if_neg h).trans (if_neg (by omega)).symm

theorem tot4 (X : FVec Ideal S1024x256 .f32) (i : Fin 1024) : TOT4 X (ix2 i 0) = ∑ k : Fin 256, X (ix2 i k) := by
  pointwise [TOT4]

set_option maxHeartbeats 6400000 in
theorem carry4 (T : FVec Ideal S1024x1 .f32) (f : ℕ → EReal) (hT : ∀ (c : ℕ) (h : c < 4), T (ix2 ⟨256 * c + a, by omega⟩ 0) = f c) (c : ℕ) (hc : c < 4) :
    CARRY4 T (ix2 ⟨256 * c + a, by omega⟩ 0) = CAR f 4 (4 - 1 - c) := by
  have e : ∀ (x : ℕ) (p : x < 1024) (d : ℕ) (h : d < 4), x = 256 * d + a → T (ix2 ⟨x, p⟩ 0) = f d := fun x p d h hx => by
    subst hx; exact hT d h
  interval_cases c
  · pointwise [CARRY4]
    try simp (disch := omega) only [dif_neg, dif_pos]
    rw [e _ _ 3 (by omega) (by omega), e _ _ 2 (by omega) (by omega), e _ _ 1 (by omega) (by omega)]
    exact (congrArg (fun x => x + f 2 + f 1) (zero_add (f 3))).symm
  · pointwise [CARRY4]
    try simp (disch := omega) only [dif_neg, dif_pos]
    rw [e _ _ 3 (by omega) (by omega), e _ _ 2 (by omega) (by omega)]
    exact (congrArg (fun x => x + f 2) (zero_add (f 3))).symm
  · pointwise [CARRY4]
    try simp (disch := omega) only [dif_neg, dif_pos]
    rw [e _ _ 3 (by omega) (by omega)]
    exact (congrArg (fun x => x) (zero_add (f 3))).symm
  · pointwise [CARRY4]
    try simp (disch := omega) only [dif_neg, dif_pos]
    rfl

theorem wt4 (L M : FVec Ideal S1024x256 .f32) (C : FVec Ideal S1024x1 .f32) (i : Fin 1024) (j : Fin 256) :
    WT4 L M C (ix2 i j) = Ideal.exp2 (L (ix2 i j) + ∑ k : Fin 256, M (ix2 i k) * (if (j : ℕ) < k then 1 else 0) + C (ix2 i 0)) := by
  pointwise [WT4, k0_pay3]
  simp only [sel_gt _ _ (Fin.is_lt _) (Fin.is_lt _), ofBits_one, mul_ite, mul_one, mul_zero]
  rfl

set_option maxHeartbeats 3200000 in
theorem side4 (A : FVec Ideal S1024x256 .f32) (c : ℕ) (hc : c < 4) (j : Fin 256) :
    SIDE4 A (ix2 a ⟨256 * c + j, by omega⟩) = A (ix2 ⟨256 * c + a, by omega⟩ j) := by
  interval_cases c
  · pointwise [SIDE4]
    try simp (disch := omega) only [dif_neg, dif_pos]
    all_goals first | rfl | (congr 2; all_goals exact Fin.ext (by simp only []; omega))
  · pointwise [SIDE4]
    try simp (disch := omega) only [dif_neg, dif_pos]
    all_goals first | rfl | (congr 2; all_goals exact Fin.ext (by simp only []; omega))
  · pointwise [SIDE4]
    try simp (disch := omega) only [dif_neg, dif_pos]
    all_goals first | rfl | (congr 2; all_goals exact Fin.ext (by simp only []; omega))
  · pointwise [SIDE4]
    try simp (disch := omega) only [dif_neg, dif_pos]
    all_goals first | rfl | (congr 2; all_goals exact Fin.ext (by simp only []; omega))

theorem out4 (B : FVec Ideal S256x1024 .bf16) (V : Vec Ideal S1024x128 .bf16) : OUT4 B V (ix2 a b) = ∑ y : Fin 1024, B (ix2 a y) * V (ix2 y b) := by
  pointwise [OUT4]

set_option maxHeartbeats 3200000 in
theorem logits4 (Q : Vec Ideal S256x128 .bf16) (K0 K1 K2 K3 : Vec Ideal S256x128 .bf16) (q : ℕ → EReal) (k : ℕ → ℕ → EReal)
    (hQ : ∀ d : Fin 128, Q (ix2 a d) = q d)
    (h0 : ∀ (y : Fin 256) (d : Fin 128), K0 (ix2 y d) = k y d) (h1 : ∀ (y : Fin 256) (d : Fin 128), K1 (ix2 y d) = k (256 + y) d) (h2 : ∀ (y : Fin 256) (d : Fin 128), K2 (ix2 y d) = k (512 + y) d) (h3 : ∀ (y : Fin 256) (d : Fin 128), K3 (ix2 y d) = k (768 + y) d)
    (c : ℕ) (hc : c < 4) (j : Fin 256) : LOGITS4 Q K0 K1 K2 K3 (ix2 ⟨256 * c + a, by omega⟩ j) = SC q k (256 * c + j) := by
  have e : ∀ (x : ℕ) (p : x < 256) (d : Fin 128), x = a → Q (ix2 ⟨x, p⟩ d) = q d := fun x p d hx => by
    subst hx; exact hQ d
  unfold SC
  interval_cases c
  · pointwise [LOGITS4]
    try simp (disch := omega) only [dif_neg, dif_pos]
    refine Finset.sum_congr rfl fun d _ => congrArg₂ (· * ·) (e _ _ d ?_) (h0 j d)
    all_goals first | rfl | omega
  · pointwise [LOGITS4]
    try simp (disch := omega) only [dif_neg, dif_pos]
    refine Finset.sum_congr rfl fun d _ => congrArg₂ (· * ·) (e _ _ d ?_) (h1 j d)
    all_goals first | rfl | omega
  · pointwise [LOGITS4]
    try simp (disch := omega) only [dif_neg, dif_pos]
    refine Finset.sum_congr rfl fun d _ => congrArg₂ (· * ·) (e _ _ d ?_) (h2 j d)
    all_goals first | rfl | omega
  · pointwise [LOGITS4]
    try simp (disch := omega) only [dif_neg, dif_pos]
    refine Finset.sum_congr rfl fun d _ => congrArg₂ (· * ·) (e _ _ d ?_) (h3 j d)
    all_goals first | rfl | omega

/-- A row of the tile. -/
theorem tile4 (Z : FVec Ideal S1024x256 .f32) (V : Vec Ideal S1024x128 .bf16) (z v : ℕ → EReal)
    (hZ : ∀ (c : ℕ) (hc : c < 4) (j : Fin 256), Z (ix2 ⟨256 * c + a, by omega⟩ j) = z (256 * c + j)) (hV : ∀ y : Fin 1024, V (ix2 y b) = v y) :
    TILE4 Z V (ix2 a b) = KER 4 (768 + a) z v := by
  have hM : ∀ (c : ℕ) (hc : c < 4) (j : Fin 256), MSK4 (subf (LV4 Z) Z) (ix2 ⟨256 * c + a, by omega⟩ j) = KM (768 + a) z (256 * c + j) := fun c hc j => by
    rw [msk4 _ c hc]
    show (if _ then LV4 Z _ - Z _ else 0) = _
    rw [lv4, hZ c hc]
    rfl
  have hT := carry4 (TOT4 (MSK4 (subf (LV4 Z) Z))) (fun c => ∑ k : Fin 256, KM (768 + a) z (256 * c + k)) fun c hc => by
    rw [tot4]
    exact Finset.sum_congr rfl fun k _ => hM c hc k
  unfold TILE4 KER
  rw [out4]
  refine Finset.sum_congr rfl fun y _ => ?_
  obtain ⟨c, j, hc, rfl⟩ : ∃ (c : ℕ) (j : Fin 256) (hc : c < 4), y = ⟨256 * c + j, by omega⟩ :=
    ⟨y / 256, ⟨y % 256, by omega⟩, by omega, Fin.ext (by simp only []; omega)⟩
  rw [side4 _ c hc, msk4 _ c hc, wt4, hV, lv4, hZ c hc, hT c hc]
  simp only [hM c hc]
  rw [add_assoc, suffix 4 c j hc]

end Cert.Kernel8Ideal.Sb

end
-- ==== Proof.Sb.Tile5.lean ====
/- The tile of 5 blocks of keys of the attention without positions, at an index. -/
module

public import proofs.«01_k».proof.Proof.Sb.Base

@[expose] public section

set_option maxRecDepth 16384

noncomputable section

open Idealize.ShloMosaic Idealize.ShloMosaic.TcCoe Idealize.SL.Sem

namespace Cert.Kernel8Ideal.Sb

open Cert.Front Cert.Sb Cert.Reals
open Cert.Kernel8Ideal Cert.Kernel8Ideal.Gen

/-- The first part of the logarithms. -/
def LV5 (Z : FVec Ideal S1280x256 .f32) : FVec Ideal S1280x256 .f32 :=
  subf (minimumf Z (broadcast S1280x256 (Scalar.ofBits .f32 0x00000000#32))) (mulf (log (addf (broadcast S1280x256 (Scalar.ofBits .f32 0x3F800000#32)) (exp2 (subf (broadcast S1280x256 (Scalar.ofBits .f32 0x00000000#32)) (absf Z)))))
    (broadcast S1280x256 (Named.named κ "log2_e" 0x3FB8AA3B#32)))

/-- The last block's entries at and past the row, at zero. -/
def MSK5 (X : FVec Ideal S1280x256 .f32) : FVec Ideal S1280x256 .f32 :=
  concatenate S1280x256 0 [⟨S1024x256, extractStridedSlice S1024x256 ![0, 0] X slices_S1280x256_o0_0_S1024x256⟩,
    ⟨S256x256, select k0_pay2 (extractStridedSlice S256x256 ![1024, 0] X slices_S1280x256_o1024_0_S256x256) (broadcast S256x256 (Scalar.ofBits .f32 0x00000000#32))⟩] concatenates_S1024x256_S256x256_S1280x256_d0

/-- The sums of the rows. -/
def TOT5 (X : FVec Ideal S1280x256 .f32) : FVec Ideal S1280x1 .f32 :=
  shapeCast S1280x1 (multiReduction .add [1] S1280 X 0x00000000#32 reduces_S1280x256_S1280 (.inl rfl) rfl) shapeCasts_S1280_S1280x1

/-- The sums of the later blocks. -/
def CARRY5 (T : FVec Ideal S1280x1 .f32) : FVec Ideal S1280x1 .f32 :=
  have c0 : FVec Ideal S256x1 .f32 := broadcast S256x1 (Scalar.ofBits .f32 0x00000000#32)
  have c1 : FVec Ideal S256x1 .f32 := addf c0 (extractStridedSlice S256x1 ![1024, 0] T slices_S1280x1_o1024_0_S256x1)
  have c2 : FVec Ideal S256x1 .f32 := addf c1 (extractStridedSlice S256x1 ![768, 0] T slices_S1280x1_o768_0_S256x1)
  have c3 : FVec Ideal S256x1 .f32 := addf c2 (extractStridedSlice S256x1 ![512, 0] T slices_S1280x1_o512_0_S256x1)
  have c4 : FVec Ideal S256x1 .f32 := addf c3 (extractStridedSlice S256x1 ![256, 0] T slices_S1280x1_o256_0_S256x1)
  concatenate S1280x1 0 [⟨S256x1, c4⟩, ⟨S256x1, c3⟩, ⟨S256x1, c2⟩, ⟨S256x1, c1⟩, ⟨S256x1, c0⟩] concatenates_S256x1_S256x1_S256x1_S256x1_S256x1_S1280x1_d0

/-- The weights before the mask. -/
def WT5 (L M : FVec Ideal S1280x256 .f32) (C : FVec Ideal S1280x1 .f32) : FVec Ideal S1280x256 .f32 :=
  exp2 (addf (addf L (matmul dot_S1280x256_S256x256_S1280x256_1_0_0_1_n_n none (truncf .bf16 M bitsLt_bf16_f32) (k0_pay3 (F := Ideal)) (constant S1280x256 .f32 0x00000000#32)))
    (broadcastTo S1280x256 C broadcasts_S1280x1_S1280x256))

/-- The blocks side by side. -/
def SIDE5 (A : FVec Ideal S1280x256 .f32) : FVec Ideal S256x1280 .bf16 :=
  concatenate S256x1280 1 [⟨S256x256, extractStridedSlice S256x256 ![0, 0] (truncf .bf16 A bitsLt_bf16_f32) slices_S1280x256_o0_0_S256x256⟩, ⟨S256x256, extractStridedSlice S256x256 ![256, 0] (truncf .bf16 A bitsLt_bf16_f32) slices_S1280x256_o256_0_S256x256⟩, ⟨S256x256, extractStridedSlice S256x256 ![512, 0] (truncf .bf16 A bitsLt_bf16_f32) slices_S1280x256_o512_0_S256x256⟩, ⟨S256x256, extractStridedSlice S256x256 ![768, 0] (truncf .bf16 A bitsLt_bf16_f32) slices_S1280x256_o768_0_S256x256⟩, ⟨S256x256, extractStridedSlice S256x256 ![1024, 0] (truncf .bf16 A bitsLt_bf16_f32) slices_S1280x256_o1024_0_S256x256⟩] concatenates_S256x256_S256x256_S256x256_S256x256_S256x256_S256x1280_d1

/-- The values, weighed. -/
def OUT5 (B : FVec Ideal S256x1280 .bf16) (V : Vec Ideal S1280x128 .bf16) : FVec Ideal S256x128 .f32 :=
  matmul (φ₁ := .bf16) (φ₂ := .bf16) dot_S256x1280_S1280x128_S256x128_1_0_0_1_n_n none B V (constant S256x128 .f32 0x00000000#32)

/-- The logits. -/
def LOGITS5 (Q : Vec Ideal S256x128 .bf16) (K0 K1 K2 K3 K4 : Vec Ideal S256x128 .bf16) : FVec Ideal S1280x256 .f32 :=
  concatenate S1280x256 0 [⟨S256x256, matmul (φ₁ := .bf16) (φ₂ := .bf16) dot_S256x128_S256x128_S256x256_1_1_0_0_n_n none Q K0 (constant S256x256 .f32 0x00000000#32)⟩, ⟨S256x256, matmul (φ₁ := .bf16) (φ₂ := .bf16) dot_S256x128_S256x128_S256x256_1_1_0_0_n_n none Q K1 (constant S256x256 .f32 0x00000000#32)⟩, ⟨S256x256, matmul (φ₁ := .bf16) (φ₂ := .bf16) dot_S256x128_S256x128_S256x256_1_1_0_0_n_n none Q K2 (constant S256x256 .f32 0x00000000#32)⟩, ⟨S256x256, matmul (φ₁ := .bf16) (φ₂ := .bf16) dot_S256x128_S256x128_S256x256_1_1_0_0_n_n none Q K3 (constant S256x256 .f32 0x00000000#32)⟩, ⟨S256x256, matmul (φ₁ := .bf16) (φ₂ := .bf16) dot_S256x128_S256x128_S256x256_1_1_0_0_n_n none Q K4 (constant S256x256 .f32 0x00000000#32)⟩] concatenates_S256x256_S256x256_S256x256_S256x256_S256x256_S1280x256_d0

/-- The tile. -/
def TILE5 (Z : FVec Ideal S1280x256 .f32) (V : Vec Ideal S1280x128 .bf16) : FVec Ideal S256x128 .f32 :=
  OUT5 (SIDE5 (MSK5 (WT5 (LV5 Z) (MSK5 (subf (LV5 Z) Z)) (CARRY5 (TOT5 (MSK5 (subf (LV5 Z) Z))))))) V

variable {a : Fin 256} {b : Fin 128}

theorem lv5 (Z : FVec Ideal S1280x256 .f32) (i : Fin 1280) (j : Fin 256) : LV5 Z (ix2 i j) = L2 (Z (ix2 i j)) := by
  pointwise [LV5]
  simp only [l2e]
  rfl

theorem msk5 (X : FVec Ideal S1280x256 .f32) (c : ℕ) (hc : c < 5) (j : Fin 256) :
    MSK5 X (ix2 ⟨256 * c + a, by omega⟩ j) = if 256 * c + j < 1024 + a then X (ix2 ⟨256 * c + a, by omega⟩ j) else 0 := by
  pointwise [MSK5, k0_pay2]
  split
  · exact (if_pos (by omega)).symm
  · refine (sel_lt _ _ (by omega) (by omega) _ _).trans ?_
    by_cases h : (j : ℕ) < 256 * c + a - 1024
    · refine (if_pos h).trans (Eq.trans ?_ (if_pos (by omega)).symm)
      exact congrArg X (congrArg (ix2 · j) (Fin.ext (by simp only []; omega)))
    · exact (if_neg h).trans (if_neg (by omega)).symm

theorem tot5 (X : FVec Ideal S1280x256 .f32) (i : Fin 1280) : TOT5 X (ix2 i 0) = ∑ k : Fin 256, X (ix2 i k) := by
  pointwise [TOT5]

set_option maxHeartbeats 6400000 in
theorem carry5 (T : FVec Ideal S1280x1 .f32) (f : ℕ → EReal) (hT : ∀ (c : ℕ) (h : c < 5), T (ix2 ⟨256 * c + a, by omega⟩ 0) = f c) (c : ℕ) (hc : c < 5) :
    CARRY5 T (ix2 ⟨256 * c + a, by omega⟩ 0) = CAR f 5 (5 - 1 - c) := by
  have e : ∀ (x : ℕ) (p : x < 1280) (d : ℕ) (h : d < 5), x = 256 * d + a → T (ix2 ⟨x, p⟩ 0) = f d := fun x p d h hx => by
    subst hx; exact hT d h
  interval_cases c
  · pointwise [CARRY5]
    try simp (disch := omega) only [dif_neg, dif_pos]
    rw [e _ _ 4 (by omega) (by omega), e _ _ 3 (by omega) (by omega), e _ _ 2 (by omega) (by omega), e _ _ 1 (by omega) (by omega)]
    exact (congrArg (fun x => x + f 3 + f 2 + f 1) (zero_add (f 4))).symm
  · pointwise [CARRY5]
    try simp (disch := omega) only [dif_neg, dif_pos]
    rw [e _ _ 4 (by omega) (by omega), e _ _ 3 (by omega) (by omega), e _ _ 2 (by omega) (by omega)]
    exact (congrArg (fun x => x + f 3 + f 2) (zero_add (f 4))).symm
  · pointwise [CARRY5]
    try simp (disch := omega) only [dif_neg, dif_pos]
    rw [e _ _ 4 (by omega) (by omega), e _ _ 3 (by omega) (by omega)]
    exact (congrArg (fun x => x + f 3) (zero_add (f 4))).symm
  · pointwise [CARRY5]
    try simp (disch := omega) only [dif_neg, dif_pos]
    rw [e _ _ 4 (by omega) (by omega)]
    exact (congrArg (fun x => x) (zero_add (f 4))).symm
  · pointwise [CARRY5]
    try simp (disch := omega) only [dif_neg, dif_pos]
    rfl

theorem wt5 (L M : FVec Ideal S1280x256 .f32) (C : FVec Ideal S1280x1 .f32) (i : Fin 1280) (j : Fin 256) :
    WT5 L M C (ix2 i j) = Ideal.exp2 (L (ix2 i j) + ∑ k : Fin 256, M (ix2 i k) * (if (j : ℕ) < k then 1 else 0) + C (ix2 i 0)) := by
  pointwise [WT5, k0_pay3]
  simp only [sel_gt _ _ (Fin.is_lt _) (Fin.is_lt _), ofBits_one, mul_ite, mul_one, mul_zero]
  rfl

set_option maxHeartbeats 3200000 in
theorem side5 (A : FVec Ideal S1280x256 .f32) (c : ℕ) (hc : c < 5) (j : Fin 256) :
    SIDE5 A (ix2 a ⟨256 * c + j, by omega⟩) = A (ix2 ⟨256 * c + a, by omega⟩ j) := by
  interval_cases c
  · pointwise [SIDE5]
    try simp (disch := omega) only [dif_neg, dif_pos]
    all_goals first | rfl | (congr 2; all_goals exact Fin.ext (by simp only []; omega))
  · pointwise [SIDE5]
    try simp (disch := omega) only [dif_neg, dif_pos]
    all_goals first | rfl | (congr 2; all_goals exact Fin.ext (by simp only []; omega))
  · pointwise [SIDE5]
    try simp (disch := omega) only [dif_neg, dif_pos]
    all_goals first | rfl | (congr 2; all_goals exact Fin.ext (by simp only []; omega))
  · pointwise [SIDE5]
    try simp (disch := omega) only [dif_neg, dif_pos]
    all_goals first | rfl | (congr 2; all_goals exact Fin.ext (by simp only []; omega))
  · pointwise [SIDE5]
    try simp (disch := omega) only [dif_neg, dif_pos]
    all_goals first | rfl | (congr 2; all_goals exact Fin.ext (by simp only []; omega))

theorem out5 (B : FVec Ideal S256x1280 .bf16) (V : Vec Ideal S1280x128 .bf16) : OUT5 B V (ix2 a b) = ∑ y : Fin 1280, B (ix2 a y) * V (ix2 y b) := by
  pointwise [OUT5]

set_option maxHeartbeats 3200000 in
theorem logits5 (Q : Vec Ideal S256x128 .bf16) (K0 K1 K2 K3 K4 : Vec Ideal S256x128 .bf16) (q : ℕ → EReal) (k : ℕ → ℕ → EReal)
    (hQ : ∀ d : Fin 128, Q (ix2 a d) = q d)
    (h0 : ∀ (y : Fin 256) (d : Fin 128), K0 (ix2 y d) = k y d) (h1 : ∀ (y : Fin 256) (d : Fin 128), K1 (ix2 y d) = k (256 + y) d) (h2 : ∀ (y : Fin 256) (d : Fin 128), K2 (ix2 y d) = k (512 + y) d) (h3 : ∀ (y : Fin 256) (d : Fin 128), K3 (ix2 y d) = k (768 + y) d) (h4 : ∀ (y : Fin 256) (d : Fin 128), K4 (ix2 y d) = k (1024 + y) d)
    (c : ℕ) (hc : c < 5) (j : Fin 256) : LOGITS5 Q K0 K1 K2 K3 K4 (ix2 ⟨256 * c + a, by omega⟩ j) = SC q k (256 * c + j) := by
  have e : ∀ (x : ℕ) (p : x < 256) (d : Fin 128), x = a → Q (ix2 ⟨x, p⟩ d) = q d := fun x p d hx => by
    subst hx; exact hQ d
  unfold SC
  interval_cases c
  · pointwise [LOGITS5]
    try simp (disch := omega) only [dif_neg, dif_pos]
    refine Finset.sum_congr rfl fun d _ => congrArg₂ (· * ·) (e _ _ d ?_) (h0 j d)
    all_goals first | rfl | omega
  · pointwise [LOGITS5]
    try simp (disch := omega) only [dif_neg, dif_pos]
    refine Finset.sum_congr rfl fun d _ => congrArg₂ (· * ·) (e _ _ d ?_) (h1 j d)
    all_goals first | rfl | omega
  · pointwise [LOGITS5]
    try simp (disch := omega) only [dif_neg, dif_pos]
    refine Finset.sum_congr rfl fun d _ => congrArg₂ (· * ·) (e _ _ d ?_) (h2 j d)
    all_goals first | rfl | omega
  · pointwise [LOGITS5]
    try simp (disch := omega) only [dif_neg, dif_pos]
    refine Finset.sum_congr rfl fun d _ => congrArg₂ (· * ·) (e _ _ d ?_) (h3 j d)
    all_goals first | rfl | omega
  · pointwise [LOGITS5]
    try simp (disch := omega) only [dif_neg, dif_pos]
    refine Finset.sum_congr rfl fun d _ => congrArg₂ (· * ·) (e _ _ d ?_) (h4 j d)
    all_goals first | rfl | omega

/-- A row of the tile. -/
theorem tile5 (Z : FVec Ideal S1280x256 .f32) (V : Vec Ideal S1280x128 .bf16) (z v : ℕ → EReal)
    (hZ : ∀ (c : ℕ) (hc : c < 5) (j : Fin 256), Z (ix2 ⟨256 * c + a, by omega⟩ j) = z (256 * c + j)) (hV : ∀ y : Fin 1280, V (ix2 y b) = v y) :
    TILE5 Z V (ix2 a b) = KER 5 (1024 + a) z v := by
  have hM : ∀ (c : ℕ) (hc : c < 5) (j : Fin 256), MSK5 (subf (LV5 Z) Z) (ix2 ⟨256 * c + a, by omega⟩ j) = KM (1024 + a) z (256 * c + j) := fun c hc j => by
    rw [msk5 _ c hc]
    show (if _ then LV5 Z _ - Z _ else 0) = _
    rw [lv5, hZ c hc]
    rfl
  have hT := carry5 (TOT5 (MSK5 (subf (LV5 Z) Z))) (fun c => ∑ k : Fin 256, KM (1024 + a) z (256 * c + k)) fun c hc => by
    rw [tot5]
    exact Finset.sum_congr rfl fun k _ => hM c hc k
  unfold TILE5 KER
  rw [out5]
  refine Finset.sum_congr rfl fun y _ => ?_
  obtain ⟨c, j, hc, rfl⟩ : ∃ (c : ℕ) (j : Fin 256) (hc : c < 5), y = ⟨256 * c + j, by omega⟩ :=
    ⟨y / 256, ⟨y % 256, by omega⟩, by omega, Fin.ext (by simp only []; omega)⟩
  rw [side5 _ c hc, msk5 _ c hc, wt5, hV, lv5, hZ c hc, hT c hc]
  simp only [hM c hc]
  rw [add_assoc, suffix 5 c j hc]

end Cert.Kernel8Ideal.Sb

end
-- ==== Proof.Sb.Tile6.lean ====
/- The tile of 6 blocks of keys of the attention without positions, at an index. -/
module

public import proofs.«01_k».proof.Proof.Sb.Base

@[expose] public section

set_option maxRecDepth 16384

noncomputable section

open Idealize.ShloMosaic Idealize.ShloMosaic.TcCoe Idealize.SL.Sem

namespace Cert.Kernel8Ideal.Sb

open Cert.Front Cert.Sb Cert.Reals
open Cert.Kernel8Ideal Cert.Kernel8Ideal.Gen

/-- The first part of the logarithms. -/
def LV6 (Z : FVec Ideal S1536x256 .f32) : FVec Ideal S1536x256 .f32 :=
  subf (minimumf Z (broadcast S1536x256 (Scalar.ofBits .f32 0x00000000#32))) (mulf (log (addf (broadcast S1536x256 (Scalar.ofBits .f32 0x3F800000#32)) (exp2 (subf (broadcast S1536x256 (Scalar.ofBits .f32 0x00000000#32)) (absf Z)))))
    (broadcast S1536x256 (Named.named κ "log2_e" 0x3FB8AA3B#32)))

/-- The last block's entries at and past the row, at zero. -/
def MSK6 (X : FVec Ideal S1536x256 .f32) : FVec Ideal S1536x256 .f32 :=
  concatenate S1536x256 0 [⟨S1280x256, extractStridedSlice S1280x256 ![0, 0] X slices_S1536x256_o0_0_S1280x256⟩,
    ⟨S256x256, select k0_pay2 (extractStridedSlice S256x256 ![1280, 0] X slices_S1536x256_o1280_0_S256x256) (broadcast S256x256 (Scalar.ofBits .f32 0x00000000#32))⟩] concatenates_S1280x256_S256x256_S1536x256_d0

/-- The sums of the rows. -/
def TOT6 (X : FVec Ideal S1536x256 .f32) : FVec Ideal S1536x1 .f32 :=
  shapeCast S1536x1 (multiReduction .add [1] S1536 X 0x00000000#32 reduces_S1536x256_S1536 (.inl rfl) rfl) shapeCasts_S1536_S1536x1

/-- The sums of the later blocks. -/
def CARRY6 (T : FVec Ideal S1536x1 .f32) : FVec Ideal S1536x1 .f32 :=
  have c0 : FVec Ideal S256x1 .f32 := broadcast S256x1 (Scalar.ofBits .f32 0x00000000#32)
  have c1 : FVec Ideal S256x1 .f32 := addf c0 (extractStridedSlice S256x1 ![1280, 0] T slices_S1536x1_o1280_0_S256x1)
  have c2 : FVec Ideal S256x1 .f32 := addf c1 (extractStridedSlice S256x1 ![1024, 0] T slices_S1536x1_o1024_0_S256x1)
  have c3 : FVec Ideal S256x1 .f32 := addf c2 (extractStridedSlice S256x1 ![768, 0] T slices_S1536x1_o768_0_S256x1)
  have c4 : FVec Ideal S256x1 .f32 := addf c3 (extractStridedSlice S256x1 ![512, 0] T slices_S1536x1_o512_0_S256x1)
  have c5 : FVec Ideal S256x1 .f32 := addf c4 (extractStridedSlice S256x1 ![256, 0] T slices_S1536x1_o256_0_S256x1)
  concatenate S1536x1 0 [⟨S256x1, c5⟩, ⟨S256x1, c4⟩, ⟨S256x1, c3⟩, ⟨S256x1, c2⟩, ⟨S256x1, c1⟩, ⟨S256x1, c0⟩] concatenates_S256x1_S256x1_S256x1_S256x1_S256x1_S256x1_S1536x1_d0

/-- The weights before the mask. -/
def WT6 (L M : FVec Ideal S1536x256 .f32) (C : FVec Ideal S1536x1 .f32) : FVec Ideal S1536x256 .f32 :=
  exp2 (addf (addf L (matmul dot_S1536x256_S256x256_S1536x256_1_0_0_1_n_n none (truncf .bf16 M bitsLt_bf16_f32) (k0_pay3 (F := Ideal)) (constant S1536x256 .f32 0x00000000#32)))
    (broadcastTo S1536x256 C broadcasts_S1536x1_S1536x256))

/-- The blocks side by side. -/
def SIDE6 (A : FVec Ideal S1536x256 .f32) : FVec Ideal S256x1536 .bf16 :=
  concatenate S256x1536 1 [⟨S256x256, extractStridedSlice S256x256 ![0, 0] (truncf .bf16 A bitsLt_bf16_f32) slices_S1536x256_o0_0_S256x256⟩, ⟨S256x256, extractStridedSlice S256x256 ![256, 0] (truncf .bf16 A bitsLt_bf16_f32) slices_S1536x256_o256_0_S256x256⟩, ⟨S256x256, extractStridedSlice S256x256 ![512, 0] (truncf .bf16 A bitsLt_bf16_f32) slices_S1536x256_o512_0_S256x256⟩, ⟨S256x256, extractStridedSlice S256x256 ![768, 0] (truncf .bf16 A bitsLt_bf16_f32) slices_S1536x256_o768_0_S256x256⟩, ⟨S256x256, extractStridedSlice S256x256 ![1024, 0] (truncf .bf16 A bitsLt_bf16_f32) slices_S1536x256_o1024_0_S256x256⟩, ⟨S256x256, extractStridedSlice S256x256 ![1280, 0] (truncf .bf16 A bitsLt_bf16_f32) slices_S1536x256_o1280_0_S256x256⟩] concatenates_S256x256_S256x256_S256x256_S256x256_S256x256_S256x256_S256x1536_d1

/-- The values, weighed. -/
def OUT6 (B : FVec Ideal S256x1536 .bf16) (V : Vec Ideal S1536x128 .bf16) : FVec Ideal S256x128 .f32 :=
  matmul (φ₁ := .bf16) (φ₂ := .bf16) dot_S256x1536_S1536x128_S256x128_1_0_0_1_n_n none B V (constant S256x128 .f32 0x00000000#32)

/-- The logits. -/
def LOGITS6 (Q : Vec Ideal S256x128 .bf16) (K0 K1 K2 K3 K4 K5 : Vec Ideal S256x128 .bf16) : FVec Ideal S1536x256 .f32 :=
  concatenate S1536x256 0 [⟨S256x256, matmul (φ₁ := .bf16) (φ₂ := .bf16) dot_S256x128_S256x128_S256x256_1_1_0_0_n_n none Q K0 (constant S256x256 .f32 0x00000000#32)⟩, ⟨S256x256, matmul (φ₁ := .bf16) (φ₂ := .bf16) dot_S256x128_S256x128_S256x256_1_1_0_0_n_n none Q K1 (constant S256x256 .f32 0x00000000#32)⟩, ⟨S256x256, matmul (φ₁ := .bf16) (φ₂ := .bf16) dot_S256x128_S256x128_S256x256_1_1_0_0_n_n none Q K2 (constant S256x256 .f32 0x00000000#32)⟩, ⟨S256x256, matmul (φ₁ := .bf16) (φ₂ := .bf16) dot_S256x128_S256x128_S256x256_1_1_0_0_n_n none Q K3 (constant S256x256 .f32 0x00000000#32)⟩, ⟨S256x256, matmul (φ₁ := .bf16) (φ₂ := .bf16) dot_S256x128_S256x128_S256x256_1_1_0_0_n_n none Q K4 (constant S256x256 .f32 0x00000000#32)⟩, ⟨S256x256, matmul (φ₁ := .bf16) (φ₂ := .bf16) dot_S256x128_S256x128_S256x256_1_1_0_0_n_n none Q K5 (constant S256x256 .f32 0x00000000#32)⟩] concatenates_S256x256_S256x256_S256x256_S256x256_S256x256_S256x256_S1536x256_d0

/-- The tile. -/
def TILE6 (Z : FVec Ideal S1536x256 .f32) (V : Vec Ideal S1536x128 .bf16) : FVec Ideal S256x128 .f32 :=
  OUT6 (SIDE6 (MSK6 (WT6 (LV6 Z) (MSK6 (subf (LV6 Z) Z)) (CARRY6 (TOT6 (MSK6 (subf (LV6 Z) Z))))))) V

variable {a : Fin 256} {b : Fin 128}

theorem lv6 (Z : FVec Ideal S1536x256 .f32) (i : Fin 1536) (j : Fin 256) : LV6 Z (ix2 i j) = L2 (Z (ix2 i j)) := by
  pointwise [LV6]
  simp only [l2e]
  rfl

theorem msk6 (X : FVec Ideal S1536x256 .f32) (c : ℕ) (hc : c < 6) (j : Fin 256) :
    MSK6 X (ix2 ⟨256 * c + a, by omega⟩ j) = if 256 * c + j < 1280 + a then X (ix2 ⟨256 * c + a, by omega⟩ j) else 0 := by
  pointwise [MSK6, k0_pay2]
  split
  · exact (if_pos (by omega)).symm
  · refine (sel_lt _ _ (by omega) (by omega) _ _).trans ?_
    by_cases h : (j : ℕ) < 256 * c + a - 1280
    · refine (if_pos h).trans (Eq.trans ?_ (if_pos (by omega)).symm)
      exact congrArg X (congrArg (ix2 · j) (Fin.ext (by simp only []; omega)))
    · exact (if_neg h).trans (if_neg (by omega)).symm

theorem tot6 (X : FVec Ideal S1536x256 .f32) (i : Fin 1536) : TOT6 X (ix2 i 0) = ∑ k : Fin 256, X (ix2 i k) := by
  pointwise [TOT6]

set_option maxHeartbeats 6400000 in
theorem carry6 (T : FVec Ideal S1536x1 .f32) (f : ℕ → EReal) (hT : ∀ (c : ℕ) (h : c < 6), T (ix2 ⟨256 * c + a, by omega⟩ 0) = f c) (c : ℕ) (hc : c < 6) :
    CARRY6 T (ix2 ⟨256 * c + a, by omega⟩ 0) = CAR f 6 (6 - 1 - c) := by
  have e : ∀ (x : ℕ) (p : x < 1536) (d : ℕ) (h : d < 6), x = 256 * d + a → T (ix2 ⟨x, p⟩ 0) = f d := fun x p d h hx => by
    subst hx; exact hT d h
  interval_cases c
  · pointwise [CARRY6]
    try simp (disch := omega) only [dif_neg, dif_pos]
    rw [e _ _ 5 (by omega) (by omega), e _ _ 4 (by omega) (by omega), e _ _ 3 (by omega) (by omega), e _ _ 2 (by omega) (by omega), e _ _ 1 (by omega) (by omega)]
    exact (congrArg (fun x => x + f 4 + f 3 + f 2 + f 1) (zero_add (f 5))).symm
  · pointwise [CARRY6]
    try simp (disch := omega) only [dif_neg, dif_pos]
    rw [e _ _ 5 (by omega) (by omega), e _ _ 4 (by omega) (by omega), e _ _ 3 (by omega) (by omega), e _ _ 2 (by omega) (by omega)]
    exact (congrArg (fun x => x + f 4 + f 3 + f 2) (zero_add (f 5))).symm
  · pointwise [CARRY6]
    try simp (disch := omega) only [dif_neg, dif_pos]
    rw [e _ _ 5 (by omega) (by omega), e _ _ 4 (by omega) (by omega), e _ _ 3 (by omega) (by omega)]
    exact (congrArg (fun x => x + f 4 + f 3) (zero_add (f 5))).symm
  · pointwise [CARRY6]
    try simp (disch := omega) only [dif_neg, dif_pos]
    rw [e _ _ 5 (by omega) (by omega), e _ _ 4 (by omega) (by omega)]
    exact (congrArg (fun x => x + f 4) (zero_add (f 5))).symm
  · pointwise [CARRY6]
    try simp (disch := omega) only [dif_neg, dif_pos]
    rw [e _ _ 5 (by omega) (by omega)]
    exact (congrArg (fun x => x) (zero_add (f 5))).symm
  · pointwise [CARRY6]
    try simp (disch := omega) only [dif_neg, dif_pos]
    rfl

theorem wt6 (L M : FVec Ideal S1536x256 .f32) (C : FVec Ideal S1536x1 .f32) (i : Fin 1536) (j : Fin 256) :
    WT6 L M C (ix2 i j) = Ideal.exp2 (L (ix2 i j) + ∑ k : Fin 256, M (ix2 i k) * (if (j : ℕ) < k then 1 else 0) + C (ix2 i 0)) := by
  pointwise [WT6, k0_pay3]
  simp only [sel_gt _ _ (Fin.is_lt _) (Fin.is_lt _), ofBits_one, mul_ite, mul_one, mul_zero]
  rfl

set_option maxHeartbeats 3200000 in
theorem side6 (A : FVec Ideal S1536x256 .f32) (c : ℕ) (hc : c < 6) (j : Fin 256) :
    SIDE6 A (ix2 a ⟨256 * c + j, by omega⟩) = A (ix2 ⟨256 * c + a, by omega⟩ j) := by
  interval_cases c
  · pointwise [SIDE6]
    try simp (disch := omega) only [dif_neg, dif_pos]
    all_goals first | rfl | (congr 2; all_goals exact Fin.ext (by simp only []; omega))
  · pointwise [SIDE6]
    try simp (disch := omega) only [dif_neg, dif_pos]
    all_goals first | rfl | (congr 2; all_goals exact Fin.ext (by simp only []; omega))
  · pointwise [SIDE6]
    try simp (disch := omega) only [dif_neg, dif_pos]
    all_goals first | rfl | (congr 2; all_goals exact Fin.ext (by simp only []; omega))
  · pointwise [SIDE6]
    try simp (disch := omega) only [dif_neg, dif_pos]
    all_goals first | rfl | (congr 2; all_goals exact Fin.ext (by simp only []; omega))
  · pointwise [SIDE6]
    try simp (disch := omega) only [dif_neg, dif_pos]
    all_goals first | rfl | (congr 2; all_goals exact Fin.ext (by simp only []; omega))
  · pointwise [SIDE6]
    try simp (disch := omega) only [dif_neg, dif_pos]
    all_goals first | rfl | (congr 2; all_goals exact Fin.ext (by simp only []; omega))

theorem out6 (B : FVec Ideal S256x1536 .bf16) (V : Vec Ideal S1536x128 .bf16) : OUT6 B V (ix2 a b) = ∑ y : Fin 1536, B (ix2 a y) * V (ix2 y b) := by
  pointwise [OUT6]

set_option maxHeartbeats 3200000 in
theorem logits6 (Q : Vec Ideal S256x128 .bf16) (K0 K1 K2 K3 K4 K5 : Vec Ideal S256x128 .bf16) (q : ℕ → EReal) (k : ℕ → ℕ → EReal)
    (hQ : ∀ d : Fin 128, Q (ix2 a d) = q d)
    (h0 : ∀ (y : Fin 256) (d : Fin 128), K0 (ix2 y d) = k y d) (h1 : ∀ (y : Fin 256) (d : Fin 128), K1 (ix2 y d) = k (256 + y) d) (h2 : ∀ (y : Fin 256) (d : Fin 128), K2 (ix2 y d) = k (512 + y) d) (h3 : ∀ (y : Fin 256) (d : Fin 128), K3 (ix2 y d) = k (768 + y) d) (h4 : ∀ (y : Fin 256) (d : Fin 128), K4 (ix2 y d) = k (1024 + y) d) (h5 : ∀ (y : Fin 256) (d : Fin 128), K5 (ix2 y d) = k (1280 + y) d)
    (c : ℕ) (hc : c < 6) (j : Fin 256) : LOGITS6 Q K0 K1 K2 K3 K4 K5 (ix2 ⟨256 * c + a, by omega⟩ j) = SC q k (256 * c + j) := by
  have e : ∀ (x : ℕ) (p : x < 256) (d : Fin 128), x = a → Q (ix2 ⟨x, p⟩ d) = q d := fun x p d hx => by
    subst hx; exact hQ d
  unfold SC
  interval_cases c
  · pointwise [LOGITS6]
    try simp (disch := omega) only [dif_neg, dif_pos]
    refine Finset.sum_congr rfl fun d _ => congrArg₂ (· * ·) (e _ _ d ?_) (h0 j d)
    all_goals first | rfl | omega
  · pointwise [LOGITS6]
    try simp (disch := omega) only [dif_neg, dif_pos]
    refine Finset.sum_congr rfl fun d _ => congrArg₂ (· * ·) (e _ _ d ?_) (h1 j d)
    all_goals first | rfl | omega
  · pointwise [LOGITS6]
    try simp (disch := omega) only [dif_neg, dif_pos]
    refine Finset.sum_congr rfl fun d _ => congrArg₂ (· * ·) (e _ _ d ?_) (h2 j d)
    all_goals first | rfl | omega
  · pointwise [LOGITS6]
    try simp (disch := omega) only [dif_neg, dif_pos]
    refine Finset.sum_congr rfl fun d _ => congrArg₂ (· * ·) (e _ _ d ?_) (h3 j d)
    all_goals first | rfl | omega
  · pointwise [LOGITS6]
    try simp (disch := omega) only [dif_neg, dif_pos]
    refine Finset.sum_congr rfl fun d _ => congrArg₂ (· * ·) (e _ _ d ?_) (h4 j d)
    all_goals first | rfl | omega
  · pointwise [LOGITS6]
    try simp (disch := omega) only [dif_neg, dif_pos]
    refine Finset.sum_congr rfl fun d _ => congrArg₂ (· * ·) (e _ _ d ?_) (h5 j d)
    all_goals first | rfl | omega

/-- A row of the tile. -/
theorem tile6 (Z : FVec Ideal S1536x256 .f32) (V : Vec Ideal S1536x128 .bf16) (z v : ℕ → EReal)
    (hZ : ∀ (c : ℕ) (hc : c < 6) (j : Fin 256), Z (ix2 ⟨256 * c + a, by omega⟩ j) = z (256 * c + j)) (hV : ∀ y : Fin 1536, V (ix2 y b) = v y) :
    TILE6 Z V (ix2 a b) = KER 6 (1280 + a) z v := by
  have hM : ∀ (c : ℕ) (hc : c < 6) (j : Fin 256), MSK6 (subf (LV6 Z) Z) (ix2 ⟨256 * c + a, by omega⟩ j) = KM (1280 + a) z (256 * c + j) := fun c hc j => by
    rw [msk6 _ c hc]
    show (if _ then LV6 Z _ - Z _ else 0) = _
    rw [lv6, hZ c hc]
    rfl
  have hT := carry6 (TOT6 (MSK6 (subf (LV6 Z) Z))) (fun c => ∑ k : Fin 256, KM (1280 + a) z (256 * c + k)) fun c hc => by
    rw [tot6]
    exact Finset.sum_congr rfl fun k _ => hM c hc k
  unfold TILE6 KER
  rw [out6]
  refine Finset.sum_congr rfl fun y _ => ?_
  obtain ⟨c, j, hc, rfl⟩ : ∃ (c : ℕ) (j : Fin 256) (hc : c < 6), y = ⟨256 * c + j, by omega⟩ :=
    ⟨y / 256, ⟨y % 256, by omega⟩, by omega, Fin.ext (by simp only []; omega)⟩
  rw [side6 _ c hc, msk6 _ c hc, wt6, hV, lv6, hZ c hc, hT c hc]
  simp only [hM c hc]
  rw [add_assoc, suffix 6 c j hc]

end Cert.Kernel8Ideal.Sb

end
-- ==== Proof.Sb.Tile7.lean ====
/- The tile of 7 blocks of keys of the attention without positions, at an index. -/
module

public import proofs.«01_k».proof.Proof.Sb.Base

@[expose] public section

set_option maxRecDepth 16384

noncomputable section

open Idealize.ShloMosaic Idealize.ShloMosaic.TcCoe Idealize.SL.Sem

namespace Cert.Kernel8Ideal.Sb

open Cert.Front Cert.Sb Cert.Reals
open Cert.Kernel8Ideal Cert.Kernel8Ideal.Gen

/-- The first part of the logarithms. -/
def LV7 (Z : FVec Ideal S1792x256 .f32) : FVec Ideal S1792x256 .f32 :=
  subf (minimumf Z (broadcast S1792x256 (Scalar.ofBits .f32 0x00000000#32))) (mulf (log (addf (broadcast S1792x256 (Scalar.ofBits .f32 0x3F800000#32)) (exp2 (subf (broadcast S1792x256 (Scalar.ofBits .f32 0x00000000#32)) (absf Z)))))
    (broadcast S1792x256 (Named.named κ "log2_e" 0x3FB8AA3B#32)))

/-- The last block's entries at and past the row, at zero. -/
def MSK7 (X : FVec Ideal S1792x256 .f32) : FVec Ideal S1792x256 .f32 :=
  concatenate S1792x256 0 [⟨S1536x256, extractStridedSlice S1536x256 ![0, 0] X slices_S1792x256_o0_0_S1536x256⟩,
    ⟨S256x256, select k0_pay2 (extractStridedSlice S256x256 ![1536, 0] X slices_S1792x256_o1536_0_S256x256) (broadcast S256x256 (Scalar.ofBits .f32 0x00000000#32))⟩] concatenates_S1536x256_S256x256_S1792x256_d0

/-- The sums of the rows. -/
def TOT7 (X : FVec Ideal S1792x256 .f32) : FVec Ideal S1792x1 .f32 :=
  shapeCast S1792x1 (multiReduction .add [1] S1792 X 0x00000000#32 reduces_S1792x256_S1792 (.inl rfl) rfl) shapeCasts_S1792_S1792x1

/-- The sums of the later blocks. -/
def CARRY7 (T : FVec Ideal S1792x1 .f32) : FVec Ideal S1792x1 .f32 :=
  have c0 : FVec Ideal S256x1 .f32 := broadcast S256x1 (Scalar.ofBits .f32 0x00000000#32)
  have c1 : FVec Ideal S256x1 .f32 := addf c0 (extractStridedSlice S256x1 ![1536, 0] T slices_S1792x1_o1536_0_S256x1)
  have c2 : FVec Ideal S256x1 .f32 := addf c1 (extractStridedSlice S256x1 ![1280, 0] T slices_S1792x1_o1280_0_S256x1)
  have c3 : FVec Ideal S256x1 .f32 := addf c2 (extractStridedSlice S256x1 ![1024, 0] T slices_S1792x1_o1024_0_S256x1)
  have c4 : FVec Ideal S256x1 .f32 := addf c3 (extractStridedSlice S256x1 ![768, 0] T slices_S1792x1_o768_0_S256x1)
  have c5 : FVec Ideal S256x1 .f32 := addf c4 (extractStridedSlice S256x1 ![512, 0] T slices_S1792x1_o512_0_S256x1)
  have c6 : FVec Ideal S256x1 .f32 := addf c5 (extractStridedSlice S256x1 ![256, 0] T slices_S1792x1_o256_0_S256x1)
  concatenate S1792x1 0 [⟨S256x1, c6⟩, ⟨S256x1, c5⟩, ⟨S256x1, c4⟩, ⟨S256x1, c3⟩, ⟨S256x1, c2⟩, ⟨S256x1, c1⟩, ⟨S256x1, c0⟩] concatenates_S256x1_S256x1_S256x1_S256x1_S256x1_S256x1_S256x1_S1792x1_d0

/-- The weights before the mask. -/
def WT7 (L M : FVec Ideal S1792x256 .f32) (C : FVec Ideal S1792x1 .f32) : FVec Ideal S1792x256 .f32 :=
  exp2 (addf (addf L (matmul dot_S1792x256_S256x256_S1792x256_1_0_0_1_n_n none (truncf .bf16 M bitsLt_bf16_f32) (k0_pay3 (F := Ideal)) (constant S1792x256 .f32 0x00000000#32)))
    (broadcastTo S1792x256 C broadcasts_S1792x1_S1792x256))

/-- The blocks side by side. -/
def SIDE7 (A : FVec Ideal S1792x256 .f32) : FVec Ideal S256x1792 .bf16 :=
  concatenate S256x1792 1 [⟨S256x256, extractStridedSlice S256x256 ![0, 0] (truncf .bf16 A bitsLt_bf16_f32) slices_S1792x256_o0_0_S256x256⟩, ⟨S256x256, extractStridedSlice S256x256 ![256, 0] (truncf .bf16 A bitsLt_bf16_f32) slices_S1792x256_o256_0_S256x256⟩, ⟨S256x256, extractStridedSlice S256x256 ![512, 0] (truncf .bf16 A bitsLt_bf16_f32) slices_S1792x256_o512_0_S256x256⟩, ⟨S256x256, extractStridedSlice S256x256 ![768, 0] (truncf .bf16 A bitsLt_bf16_f32) slices_S1792x256_o768_0_S256x256⟩, ⟨S256x256, extractStridedSlice S256x256 ![1024, 0] (truncf .bf16 A bitsLt_bf16_f32) slices_S1792x256_o1024_0_S256x256⟩, ⟨S256x256, extractStridedSlice S256x256 ![1280, 0] (truncf .bf16 A bitsLt_bf16_f32) slices_S1792x256_o1280_0_S256x256⟩, ⟨S256x256, extractStridedSlice S256x256 ![1536, 0] (truncf .bf16 A bitsLt_bf16_f32) slices_S1792x256_o1536_0_S256x256⟩] concatenates_S256x256_S256x256_S256x256_S256x256_S256x256_S256x256_S256x256_S256x1792_d1

/-- The values, weighed. -/
def OUT7 (B : FVec Ideal S256x1792 .bf16) (V : Vec Ideal S1792x128 .bf16) : FVec Ideal S256x128 .f32 :=
  matmul (φ₁ := .bf16) (φ₂ := .bf16) dot_S256x1792_S1792x128_S256x128_1_0_0_1_n_n none B V (constant S256x128 .f32 0x00000000#32)

/-- The logits. -/
def LOGITS7 (Q : Vec Ideal S256x128 .bf16) (K0 K1 K2 K3 K4 K5 K6 : Vec Ideal S256x128 .bf16) : FVec Ideal S1792x256 .f32 :=
  concatenate S1792x256 0 [⟨S256x256, matmul (φ₁ := .bf16) (φ₂ := .bf16) dot_S256x128_S256x128_S256x256_1_1_0_0_n_n none Q K0 (constant S256x256 .f32 0x00000000#32)⟩, ⟨S256x256, matmul (φ₁ := .bf16) (φ₂ := .bf16) dot_S256x128_S256x128_S256x256_1_1_0_0_n_n none Q K1 (constant S256x256 .f32 0x00000000#32)⟩, ⟨S256x256, matmul (φ₁ := .bf16) (φ₂ := .bf16) dot_S256x128_S256x128_S256x256_1_1_0_0_n_n none Q K2 (constant S256x256 .f32 0x00000000#32)⟩, ⟨S256x256, matmul (φ₁ := .bf16) (φ₂ := .bf16) dot_S256x128_S256x128_S256x256_1_1_0_0_n_n none Q K3 (constant S256x256 .f32 0x00000000#32)⟩, ⟨S256x256, matmul (φ₁ := .bf16) (φ₂ := .bf16) dot_S256x128_S256x128_S256x256_1_1_0_0_n_n none Q K4 (constant S256x256 .f32 0x00000000#32)⟩, ⟨S256x256, matmul (φ₁ := .bf16) (φ₂ := .bf16) dot_S256x128_S256x128_S256x256_1_1_0_0_n_n none Q K5 (constant S256x256 .f32 0x00000000#32)⟩, ⟨S256x256, matmul (φ₁ := .bf16) (φ₂ := .bf16) dot_S256x128_S256x128_S256x256_1_1_0_0_n_n none Q K6 (constant S256x256 .f32 0x00000000#32)⟩] concatenates_S256x256_S256x256_S256x256_S256x256_S256x256_S256x256_S256x256_S1792x256_d0

/-- The tile. -/
def TILE7 (Z : FVec Ideal S1792x256 .f32) (V : Vec Ideal S1792x128 .bf16) : FVec Ideal S256x128 .f32 :=
  OUT7 (SIDE7 (MSK7 (WT7 (LV7 Z) (MSK7 (subf (LV7 Z) Z)) (CARRY7 (TOT7 (MSK7 (subf (LV7 Z) Z))))))) V

variable {a : Fin 256} {b : Fin 128}

theorem lv7 (Z : FVec Ideal S1792x256 .f32) (i : Fin 1792) (j : Fin 256) : LV7 Z (ix2 i j) = L2 (Z (ix2 i j)) := by
  pointwise [LV7]
  simp only [l2e]
  rfl

theorem msk7 (X : FVec Ideal S1792x256 .f32) (c : ℕ) (hc : c < 7) (j : Fin 256) :
    MSK7 X (ix2 ⟨256 * c + a, by omega⟩ j) = if 256 * c + j < 1536 + a then X (ix2 ⟨256 * c + a, by omega⟩ j) else 0 := by
  pointwise [MSK7, k0_pay2]
  split
  · exact (if_pos (by omega)).symm
  · refine (sel_lt _ _ (by omega) (by omega) _ _).trans ?_
    by_cases h : (j : ℕ) < 256 * c + a - 1536
    · refine (if_pos h).trans (Eq.trans ?_ (if_pos (by omega)).symm)
      exact congrArg X (congrArg (ix2 · j) (Fin.ext (by simp only []; omega)))
    · exact (if_neg h).trans (if_neg (by omega)).symm

theorem tot7 (X : FVec Ideal S1792x256 .f32) (i : Fin 1792) : TOT7 X (ix2 i 0) = ∑ k : Fin 256, X (ix2 i k) := by
  pointwise [TOT7]

set_option maxHeartbeats 6400000 in
theorem carry7 (T : FVec Ideal S1792x1 .f32) (f : ℕ → EReal) (hT : ∀ (c : ℕ) (h : c < 7), T (ix2 ⟨256 * c + a, by omega⟩ 0) = f c) (c : ℕ) (hc : c < 7) :
    CARRY7 T (ix2 ⟨256 * c + a, by omega⟩ 0) = CAR f 7 (7 - 1 - c) := by
  have e : ∀ (x : ℕ) (p : x < 1792) (d : ℕ) (h : d < 7), x = 256 * d + a → T (ix2 ⟨x, p⟩ 0) = f d := fun x p d h hx => by
    subst hx; exact hT d h
  interval_cases c
  · pointwise [CARRY7]
    try simp (disch := omega) only [dif_neg, dif_pos]
    rw [e _ _ 6 (by omega) (by omega), e _ _ 5 (by omega) (by omega), e _ _ 4 (by omega) (by omega), e _ _ 3 (by omega) (by omega), e _ _ 2 (by omega) (by omega), e _ _ 1 (by omega) (by omega)]
    exact (congrArg (fun x => x + f 5 + f 4 + f 3 + f 2 + f 1) (zero_add (f 6))).symm
  · pointwise [CARRY7]
    try simp (disch := omega) only [dif_neg, dif_pos]
    rw [e _ _ 6 (by omega) (by omega), e _ _ 5 (by omega) (by omega), e _ _ 4 (by omega) (by omega), e _ _ 3 (by omega) (by omega), e _ _ 2 (by omega) (by omega)]
    exact (congrArg (fun x => x + f 5 + f 4 + f 3 + f 2) (zero_add (f 6))).symm
  · pointwise [CARRY7]
    try simp (disch := omega) only [dif_neg, dif_pos]
    rw [e _ _ 6 (by omega) (by omega), e _ _ 5 (by omega) (by omega), e _ _ 4 (by omega) (by omega), e _ _ 3 (by omega) (by omega)]
    exact (congrArg (fun x => x + f 5 + f 4 + f 3) (zero_add (f 6))).symm
  · pointwise [CARRY7]
    try simp (disch := omega) only [dif_neg, dif_pos]
    rw [e _ _ 6 (by omega) (by omega), e _ _ 5 (by omega) (by omega), e _ _ 4 (by omega) (by omega)]
    exact (congrArg (fun x => x + f 5 + f 4) (zero_add (f 6))).symm
  · pointwise [CARRY7]
    try simp (disch := omega) only [dif_neg, dif_pos]
    rw [e _ _ 6 (by omega) (by omega), e _ _ 5 (by omega) (by omega)]
    exact (congrArg (fun x => x + f 5) (zero_add (f 6))).symm
  · pointwise [CARRY7]
    try simp (disch := omega) only [dif_neg, dif_pos]
    rw [e _ _ 6 (by omega) (by omega)]
    exact (congrArg (fun x => x) (zero_add (f 6))).symm
  · pointwise [CARRY7]
    try simp (disch := omega) only [dif_neg, dif_pos]
    rfl

theorem wt7 (L M : FVec Ideal S1792x256 .f32) (C : FVec Ideal S1792x1 .f32) (i : Fin 1792) (j : Fin 256) :
    WT7 L M C (ix2 i j) = Ideal.exp2 (L (ix2 i j) + ∑ k : Fin 256, M (ix2 i k) * (if (j : ℕ) < k then 1 else 0) + C (ix2 i 0)) := by
  pointwise [WT7, k0_pay3]
  simp only [sel_gt _ _ (Fin.is_lt _) (Fin.is_lt _), ofBits_one, mul_ite, mul_one, mul_zero]
  rfl

set_option maxHeartbeats 3200000 in
theorem side7 (A : FVec Ideal S1792x256 .f32) (c : ℕ) (hc : c < 7) (j : Fin 256) :
    SIDE7 A (ix2 a ⟨256 * c + j, by omega⟩) = A (ix2 ⟨256 * c + a, by omega⟩ j) := by
  interval_cases c
  · pointwise [SIDE7]
    try simp (disch := omega) only [dif_neg, dif_pos]
    all_goals first | rfl | (congr 2; all_goals exact Fin.ext (by simp only []; omega))
  · pointwise [SIDE7]
    try simp (disch := omega) only [dif_neg, dif_pos]
    all_goals first | rfl | (congr 2; all_goals exact Fin.ext (by simp only []; omega))
  · pointwise [SIDE7]
    try simp (disch := omega) only [dif_neg, dif_pos]
    all_goals first | rfl | (congr 2; all_goals exact Fin.ext (by simp only []; omega))
  · pointwise [SIDE7]
    try simp (disch := omega) only [dif_neg, dif_pos]
    all_goals first | rfl | (congr 2; all_goals exact Fin.ext (by simp only []; omega))
  · pointwise [SIDE7]
    try simp (disch := omega) only [dif_neg, dif_pos]
    all_goals first | rfl | (congr 2; all_goals exact Fin.ext (by simp only []; omega))
  · pointwise [SIDE7]
    try simp (disch := omega) only [dif_neg, dif_pos]
    all_goals first | rfl | (congr 2; all_goals exact Fin.ext (by simp only []; omega))
  · pointwise [SIDE7]
    try simp (disch := omega) only [dif_neg, dif_pos]
    all_goals first | rfl | (congr 2; all_goals exact Fin.ext (by simp only []; omega))

theorem out7 (B : FVec Ideal S256x1792 .bf16) (V : Vec Ideal S1792x128 .bf16) : OUT7 B V (ix2 a b) = ∑ y : Fin 1792, B (ix2 a y) * V (ix2 y b) := by
  pointwise [OUT7]

set_option maxHeartbeats 3200000 in
theorem logits7 (Q : Vec Ideal S256x128 .bf16) (K0 K1 K2 K3 K4 K5 K6 : Vec Ideal S256x128 .bf16) (q : ℕ → EReal) (k : ℕ → ℕ → EReal)
    (hQ : ∀ d : Fin 128, Q (ix2 a d) = q d)
    (h0 : ∀ (y : Fin 256) (d : Fin 128), K0 (ix2 y d) = k y d) (h1 : ∀ (y : Fin 256) (d : Fin 128), K1 (ix2 y d) = k (256 + y) d) (h2 : ∀ (y : Fin 256) (d : Fin 128), K2 (ix2 y d) = k (512 + y) d) (h3 : ∀ (y : Fin 256) (d : Fin 128), K3 (ix2 y d) = k (768 + y) d) (h4 : ∀ (y : Fin 256) (d : Fin 128), K4 (ix2 y d) = k (1024 + y) d) (h5 : ∀ (y : Fin 256) (d : Fin 128), K5 (ix2 y d) = k (1280 + y) d) (h6 : ∀ (y : Fin 256) (d : Fin 128), K6 (ix2 y d) = k (1536 + y) d)
    (c : ℕ) (hc : c < 7) (j : Fin 256) : LOGITS7 Q K0 K1 K2 K3 K4 K5 K6 (ix2 ⟨256 * c + a, by omega⟩ j) = SC q k (256 * c + j) := by
  have e : ∀ (x : ℕ) (p : x < 256) (d : Fin 128), x = a → Q (ix2 ⟨x, p⟩ d) = q d := fun x p d hx => by
    subst hx; exact hQ d
  unfold SC
  interval_cases c
  · pointwise [LOGITS7]
    try simp (disch := omega) only [dif_neg, dif_pos]
    refine Finset.sum_congr rfl fun d _ => congrArg₂ (· * ·) (e _ _ d ?_) (h0 j d)
    all_goals first | rfl | omega
  · pointwise [LOGITS7]
    try simp (disch := omega) only [dif_neg, dif_pos]
    refine Finset.sum_congr rfl fun d _ => congrArg₂ (· * ·) (e _ _ d ?_) (h1 j d)
    all_goals first | rfl | omega
  · pointwise [LOGITS7]
    try simp (disch := omega) only [dif_neg, dif_pos]
    refine Finset.sum_congr rfl fun d _ => congrArg₂ (· * ·) (e _ _ d ?_) (h2 j d)
    all_goals first | rfl | omega
  · pointwise [LOGITS7]
    try simp (disch := omega) only [dif_neg, dif_pos]
    refine Finset.sum_congr rfl fun d _ => congrArg₂ (· * ·) (e _ _ d ?_) (h3 j d)
    all_goals first | rfl | omega
  · pointwise [LOGITS7]
    try simp (disch := omega) only [dif_neg, dif_pos]
    refine Finset.sum_congr rfl fun d _ => congrArg₂ (· * ·) (e _ _ d ?_) (h4 j d)
    all_goals first | rfl | omega
  · pointwise [LOGITS7]
    try simp (disch := omega) only [dif_neg, dif_pos]
    refine Finset.sum_congr rfl fun d _ => congrArg₂ (· * ·) (e _ _ d ?_) (h5 j d)
    all_goals first | rfl | omega
  · pointwise [LOGITS7]
    try simp (disch := omega) only [dif_neg, dif_pos]
    refine Finset.sum_congr rfl fun d _ => congrArg₂ (· * ·) (e _ _ d ?_) (h6 j d)
    all_goals first | rfl | omega

/-- A row of the tile. -/
theorem tile7 (Z : FVec Ideal S1792x256 .f32) (V : Vec Ideal S1792x128 .bf16) (z v : ℕ → EReal)
    (hZ : ∀ (c : ℕ) (hc : c < 7) (j : Fin 256), Z (ix2 ⟨256 * c + a, by omega⟩ j) = z (256 * c + j)) (hV : ∀ y : Fin 1792, V (ix2 y b) = v y) :
    TILE7 Z V (ix2 a b) = KER 7 (1536 + a) z v := by
  have hM : ∀ (c : ℕ) (hc : c < 7) (j : Fin 256), MSK7 (subf (LV7 Z) Z) (ix2 ⟨256 * c + a, by omega⟩ j) = KM (1536 + a) z (256 * c + j) := fun c hc j => by
    rw [msk7 _ c hc]
    show (if _ then LV7 Z _ - Z _ else 0) = _
    rw [lv7, hZ c hc]
    rfl
  have hT := carry7 (TOT7 (MSK7 (subf (LV7 Z) Z))) (fun c => ∑ k : Fin 256, KM (1536 + a) z (256 * c + k)) fun c hc => by
    rw [tot7]
    exact Finset.sum_congr rfl fun k _ => hM c hc k
  unfold TILE7 KER
  rw [out7]
  refine Finset.sum_congr rfl fun y _ => ?_
  obtain ⟨c, j, hc, rfl⟩ : ∃ (c : ℕ) (j : Fin 256) (hc : c < 7), y = ⟨256 * c + j, by omega⟩ :=
    ⟨y / 256, ⟨y % 256, by omega⟩, by omega, Fin.ext (by simp only []; omega)⟩
  rw [side7 _ c hc, msk7 _ c hc, wt7, hV, lv7, hZ c hc, hT c hc]
  simp only [hM c hc]
  rw [add_assoc, suffix 7 c j hc]

end Cert.Kernel8Ideal.Sb

end
-- ==== Proof.Sb.Tile8.lean ====
/- The tile of 8 blocks of keys of the attention without positions, at an index. -/
module

public import proofs.«01_k».proof.Proof.Sb.Base

@[expose] public section

set_option maxRecDepth 16384

noncomputable section

open Idealize.ShloMosaic Idealize.ShloMosaic.TcCoe Idealize.SL.Sem

namespace Cert.Kernel8Ideal.Sb

open Cert.Front Cert.Sb Cert.Reals
open Cert.Kernel8Ideal Cert.Kernel8Ideal.Gen

/-- The first part of the logarithms. -/
def LV8 (Z : FVec Ideal S2048x256 .f32) : FVec Ideal S2048x256 .f32 :=
  subf (minimumf Z (broadcast S2048x256 (Scalar.ofBits .f32 0x00000000#32))) (mulf (log (addf (broadcast S2048x256 (Scalar.ofBits .f32 0x3F800000#32)) (exp2 (subf (broadcast S2048x256 (Scalar.ofBits .f32 0x00000000#32)) (absf Z)))))
    (broadcast S2048x256 (Named.named κ "log2_e" 0x3FB8AA3B#32)))

/-- The last block's entries at and past the row, at zero. -/
def MSK8 (X : FVec Ideal S2048x256 .f32) : FVec Ideal S2048x256 .f32 :=
  concatenate S2048x256 0 [⟨S1792x256, extractStridedSlice S1792x256 ![0, 0] X slices_S2048x256_o0_0_S1792x256⟩,
    ⟨S256x256, select k0_pay2 (extractStridedSlice S256x256 ![1792, 0] X slices_S2048x256_o1792_0_S256x256) (broadcast S256x256 (Scalar.ofBits .f32 0x00000000#32))⟩] concatenates_S1792x256_S256x256_S2048x256_d0

/-- The sums of the rows. -/
def TOT8 (X : FVec Ideal S2048x256 .f32) : FVec Ideal S2048x1 .f32 :=
  shapeCast S2048x1 (multiReduction .add [1] S2048 X 0x00000000#32 reduces_S2048x256_S2048 (.inl rfl) rfl) shapeCasts_S2048_S2048x1

/-- The sums of the later blocks. -/
def CARRY8 (T : FVec Ideal S2048x1 .f32) : FVec Ideal S2048x1 .f32 :=
  have c0 : FVec Ideal S256x1 .f32 := broadcast S256x1 (Scalar.ofBits .f32 0x00000000#32)
  have c1 : FVec Ideal S256x1 .f32 := addf c0 (extractStridedSlice S256x1 ![1792, 0] T slices_S2048x1_o1792_0_S256x1)
  have c2 : FVec Ideal S256x1 .f32 := addf c1 (extractStridedSlice S256x1 ![1536, 0] T slices_S2048x1_o1536_0_S256x1)
  have c3 : FVec Ideal S256x1 .f32 := addf c2 (extractStridedSlice S256x1 ![1280, 0] T slices_S2048x1_o1280_0_S256x1)
  have c4 : FVec Ideal S256x1 .f32 := addf c3 (extractStridedSlice S256x1 ![1024, 0] T slices_S2048x1_o1024_0_S256x1)
  have c5 : FVec Ideal S256x1 .f32 := addf c4 (extractStridedSlice S256x1 ![768, 0] T slices_S2048x1_o768_0_S256x1)
  have c6 : FVec Ideal S256x1 .f32 := addf c5 (extractStridedSlice S256x1 ![512, 0] T slices_S2048x1_o512_0_S256x1)
  have c7 : FVec Ideal S256x1 .f32 := addf c6 (extractStridedSlice S256x1 ![256, 0] T slices_S2048x1_o256_0_S256x1)
  concatenate S2048x1 0 [⟨S256x1, c7⟩, ⟨S256x1, c6⟩, ⟨S256x1, c5⟩, ⟨S256x1, c4⟩, ⟨S256x1, c3⟩, ⟨S256x1, c2⟩, ⟨S256x1, c1⟩, ⟨S256x1, c0⟩] concatenates_S256x1_S256x1_S256x1_S256x1_S256x1_S256x1_S256x1_S256x1_S2048x1_d0

/-- The weights before the mask. -/
def WT8 (L M : FVec Ideal S2048x256 .f32) (C : FVec Ideal S2048x1 .f32) : FVec Ideal S2048x256 .f32 :=
  exp2 (addf (addf L (matmul dot_S2048x256_S256x256_S2048x256_1_0_0_1_n_n none (truncf .bf16 M bitsLt_bf16_f32) (k0_pay3 (F := Ideal)) (constant S2048x256 .f32 0x00000000#32)))
    (broadcastTo S2048x256 C broadcasts_S2048x1_S2048x256))

/-- The blocks side by side. -/
def SIDE8 (A : FVec Ideal S2048x256 .f32) : FVec Ideal S256x2048 .bf16 :=
  concatenate S256x2048 1 [⟨S256x256, extractStridedSlice S256x256 ![0, 0] (truncf .bf16 A bitsLt_bf16_f32) slices_S2048x256_o0_0_S256x256⟩, ⟨S256x256, extractStridedSlice S256x256 ![256, 0] (truncf .bf16 A bitsLt_bf16_f32) slices_S2048x256_o256_0_S256x256⟩, ⟨S256x256, extractStridedSlice S256x256 ![512, 0] (truncf .bf16 A bitsLt_bf16_f32) slices_S2048x256_o512_0_S256x256⟩, ⟨S256x256, extractStridedSlice S256x256 ![768, 0] (truncf .bf16 A bitsLt_bf16_f32) slices_S2048x256_o768_0_S256x256⟩, ⟨S256x256, extractStridedSlice S256x256 ![1024, 0] (truncf .bf16 A bitsLt_bf16_f32) slices_S2048x256_o1024_0_S256x256⟩, ⟨S256x256, extractStridedSlice S256x256 ![1280, 0] (truncf .bf16 A bitsLt_bf16_f32) slices_S2048x256_o1280_0_S256x256⟩, ⟨S256x256, extractStridedSlice S256x256 ![1536, 0] (truncf .bf16 A bitsLt_bf16_f32) slices_S2048x256_o1536_0_S256x256⟩, ⟨S256x256, extractStridedSlice S256x256 ![1792, 0] (truncf .bf16 A bitsLt_bf16_f32) slices_S2048x256_o1792_0_S256x256⟩] concatenates_S256x256_S256x256_S256x256_S256x256_S256x256_S256x256_S256x256_S256x256_S256x2048_d1

/-- The values, weighed. -/
def OUT8 (B : FVec Ideal S256x2048 .bf16) (V : Vec Ideal S2048x128 .bf16) : FVec Ideal S256x128 .f32 :=
  matmul (φ₁ := .bf16) (φ₂ := .bf16) dot_S256x2048_S2048x128_S256x128_1_0_0_1_n_n none B V (constant S256x128 .f32 0x00000000#32)

/-- The logits. -/
def LOGITS8 (Q : Vec Ideal S256x128 .bf16) (K0 K1 K2 K3 K4 K5 K6 K7 : Vec Ideal S256x128 .bf16) : FVec Ideal S2048x256 .f32 :=
  concatenate S2048x256 0 [⟨S256x256, matmul (φ₁ := .bf16) (φ₂ := .bf16) dot_S256x128_S256x128_S256x256_1_1_0_0_n_n none Q K0 (constant S256x256 .f32 0x00000000#32)⟩, ⟨S256x256, matmul (φ₁ := .bf16) (φ₂ := .bf16) dot_S256x128_S256x128_S256x256_1_1_0_0_n_n none Q K1 (constant S256x256 .f32 0x00000000#32)⟩, ⟨S256x256, matmul (φ₁ := .bf16) (φ₂ := .bf16) dot_S256x128_S256x128_S256x256_1_1_0_0_n_n none Q K2 (constant S256x256 .f32 0x00000000#32)⟩, ⟨S256x256, matmul (φ₁ := .bf16) (φ₂ := .bf16) dot_S256x128_S256x128_S256x256_1_1_0_0_n_n none Q K3 (constant S256x256 .f32 0x00000000#32)⟩, ⟨S256x256, matmul (φ₁ := .bf16) (φ₂ := .bf16) dot_S256x128_S256x128_S256x256_1_1_0_0_n_n none Q K4 (constant S256x256 .f32 0x00000000#32)⟩, ⟨S256x256, matmul (φ₁ := .bf16) (φ₂ := .bf16) dot_S256x128_S256x128_S256x256_1_1_0_0_n_n none Q K5 (constant S256x256 .f32 0x00000000#32)⟩, ⟨S256x256, matmul (φ₁ := .bf16) (φ₂ := .bf16) dot_S256x128_S256x128_S256x256_1_1_0_0_n_n none Q K6 (constant S256x256 .f32 0x00000000#32)⟩, ⟨S256x256, matmul (φ₁ := .bf16) (φ₂ := .bf16) dot_S256x128_S256x128_S256x256_1_1_0_0_n_n none Q K7 (constant S256x256 .f32 0x00000000#32)⟩] concatenates_S256x256_S256x256_S256x256_S256x256_S256x256_S256x256_S256x256_S256x256_S2048x256_d0

/-- The tile. -/
def TILE8 (Z : FVec Ideal S2048x256 .f32) (V : Vec Ideal S2048x128 .bf16) : FVec Ideal S256x128 .f32 :=
  OUT8 (SIDE8 (MSK8 (WT8 (LV8 Z) (MSK8 (subf (LV8 Z) Z)) (CARRY8 (TOT8 (MSK8 (subf (LV8 Z) Z))))))) V

variable {a : Fin 256} {b : Fin 128}

theorem lv8 (Z : FVec Ideal S2048x256 .f32) (i : Fin 2048) (j : Fin 256) : LV8 Z (ix2 i j) = L2 (Z (ix2 i j)) := by
  pointwise [LV8]
  simp only [l2e]
  rfl

theorem msk8 (X : FVec Ideal S2048x256 .f32) (c : ℕ) (hc : c < 8) (j : Fin 256) :
    MSK8 X (ix2 ⟨256 * c + a, by omega⟩ j) = if 256 * c + j < 1792 + a then X (ix2 ⟨256 * c + a, by omega⟩ j) else 0 := by
  pointwise [MSK8, k0_pay2]
  split
  · exact (if_pos (by omega)).symm
  · refine (sel_lt _ _ (by omega) (by omega) _ _).trans ?_
    by_cases h : (j : ℕ) < 256 * c + a - 1792
    · refine (if_pos h).trans (Eq.trans ?_ (if_pos (by omega)).symm)
      exact congrArg X (congrArg (ix2 · j) (Fin.ext (by simp only []; omega)))
    · exact (if_neg h).trans (if_neg (by omega)).symm

theorem tot8 (X : FVec Ideal S2048x256 .f32) (i : Fin 2048) : TOT8 X (ix2 i 0) = ∑ k : Fin 256, X (ix2 i k) := by
  pointwise [TOT8]

set_option maxHeartbeats 6400000 in
theorem carry8 (T : FVec Ideal S2048x1 .f32) (f : ℕ → EReal) (hT : ∀ (c : ℕ) (h : c < 8), T (ix2 ⟨256 * c + a, by omega⟩ 0) = f c) (c : ℕ) (hc : c < 8) :
    CARRY8 T (ix2 ⟨256 * c + a, by omega⟩ 0) = CAR f 8 (8 - 1 - c) := by
  have e : ∀ (x : ℕ) (p : x < 2048) (d : ℕ) (h : d < 8), x = 256 * d + a → T (ix2 ⟨x, p⟩ 0) = f d := fun x p d h hx => by
    subst hx; exact hT d h
  interval_cases c
  · pointwise [CARRY8]
    try simp (disch := omega) only [dif_neg, dif_pos]
    rw [e _ _ 7 (by omega) (by omega), e _ _ 6 (by omega) (by omega), e _ _ 5 (by omega) (by omega), e _ _ 4 (by omega) (by omega), e _ _ 3 (by omega) (by omega), e _ _ 2 (by omega) (by omega), e _ _ 1 (by omega) (by omega)]
    exact (congrArg (fun x => x + f 6 + f 5 + f 4 + f 3 + f 2 + f 1) (zero_add (f 7))).symm
  · pointwise [CARRY8]
    try simp (disch := omega) only [dif_neg, dif_pos]
    rw [e _ _ 7 (by omega) (by omega), e _ _ 6 (by omega) (by omega), e _ _ 5 (by omega) (by omega), e _ _ 4 (by omega) (by omega), e _ _ 3 (by omega) (by omega), e _ _ 2 (by omega) (by omega)]
    exact (congrArg (fun x => x + f 6 + f 5 + f 4 + f 3 + f 2) (zero_add (f 7))).symm
  · pointwise [CARRY8]
    try simp (disch := omega) only [dif_neg, dif_pos]
    rw [e _ _ 7 (by omega) (by omega), e _ _ 6 (by omega) (by omega), e _ _ 5 (by omega) (by omega), e _ _ 4 (by omega) (by omega), e _ _ 3 (by omega) (by omega)]
    exact (congrArg (fun x => x + f 6 + f 5 + f 4 + f 3) (zero_add (f 7))).symm
  · pointwise [CARRY8]
    try simp (disch := omega) only [dif_neg, dif_pos]
    rw [e _ _ 7 (by omega) (by omega), e _ _ 6 (by omega) (by omega), e _ _ 5 (by omega) (by omega), e _ _ 4 (by omega) (by omega)]
    exact (congrArg (fun x => x + f 6 + f 5 + f 4) (zero_add (f 7))).symm
  · pointwise [CARRY8]
    try simp (disch := omega) only [dif_neg, dif_pos]
    rw [e _ _ 7 (by omega) (by omega), e _ _ 6 (by omega) (by omega), e _ _ 5 (by omega) (by omega)]
    exact (congrArg (fun x => x + f 6 + f 5) (zero_add (f 7))).symm
  · pointwise [CARRY8]
    try simp (disch := omega) only [dif_neg, dif_pos]
    rw [e _ _ 7 (by omega) (by omega), e _ _ 6 (by omega) (by omega)]
    exact (congrArg (fun x => x + f 6) (zero_add (f 7))).symm
  · pointwise [CARRY8]
    try simp (disch := omega) only [dif_neg, dif_pos]
    rw [e _ _ 7 (by omega) (by omega)]
    exact (congrArg (fun x => x) (zero_add (f 7))).symm
  · pointwise [CARRY8]
    try simp (disch := omega) only [dif_neg, dif_pos]
    rfl

theorem wt8 (L M : FVec Ideal S2048x256 .f32) (C : FVec Ideal S2048x1 .f32) (i : Fin 2048) (j : Fin 256) :
    WT8 L M C (ix2 i j) = Ideal.exp2 (L (ix2 i j) + ∑ k : Fin 256, M (ix2 i k) * (if (j : ℕ) < k then 1 else 0) + C (ix2 i 0)) := by
  pointwise [WT8, k0_pay3]
  simp only [sel_gt _ _ (Fin.is_lt _) (Fin.is_lt _), ofBits_one, mul_ite, mul_one, mul_zero]
  rfl

set_option maxHeartbeats 3200000 in
theorem side8 (A : FVec Ideal S2048x256 .f32) (c : ℕ) (hc : c < 8) (j : Fin 256) :
    SIDE8 A (ix2 a ⟨256 * c + j, by omega⟩) = A (ix2 ⟨256 * c + a, by omega⟩ j) := by
  interval_cases c
  · pointwise [SIDE8]
    try simp (disch := omega) only [dif_neg, dif_pos]
    all_goals first | rfl | (congr 2; all_goals exact Fin.ext (by simp only []; omega))
  · pointwise [SIDE8]
    try simp (disch := omega) only [dif_neg, dif_pos]
    all_goals first | rfl | (congr 2; all_goals exact Fin.ext (by simp only []; omega))
  · pointwise [SIDE8]
    try simp (disch := omega) only [dif_neg, dif_pos]
    all_goals first | rfl | (congr 2; all_goals exact Fin.ext (by simp only []; omega))
  · pointwise [SIDE8]
    try simp (disch := omega) only [dif_neg, dif_pos]
    all_goals first | rfl | (congr 2; all_goals exact Fin.ext (by simp only []; omega))
  · pointwise [SIDE8]
    try simp (disch := omega) only [dif_neg, dif_pos]
    all_goals first | rfl | (congr 2; all_goals exact Fin.ext (by simp only []; omega))
  · pointwise [SIDE8]
    try simp (disch := omega) only [dif_neg, dif_pos]
    all_goals first | rfl | (congr 2; all_goals exact Fin.ext (by simp only []; omega))
  · pointwise [SIDE8]
    try simp (disch := omega) only [dif_neg, dif_pos]
    all_goals first | rfl | (congr 2; all_goals exact Fin.ext (by simp only []; omega))
  · pointwise [SIDE8]
    try simp (disch := omega) only [dif_neg, dif_pos]
    all_goals first | rfl | (congr 2; all_goals exact Fin.ext (by simp only []; omega))

theorem out8 (B : FVec Ideal S256x2048 .bf16) (V : Vec Ideal S2048x128 .bf16) : OUT8 B V (ix2 a b) = ∑ y : Fin 2048, B (ix2 a y) * V (ix2 y b) := by
  pointwise [OUT8]

set_option maxHeartbeats 3200000 in
theorem logits8 (Q : Vec Ideal S256x128 .bf16) (K0 K1 K2 K3 K4 K5 K6 K7 : Vec Ideal S256x128 .bf16) (q : ℕ → EReal) (k : ℕ → ℕ → EReal)
    (hQ : ∀ d : Fin 128, Q (ix2 a d) = q d)
    (h0 : ∀ (y : Fin 256) (d : Fin 128), K0 (ix2 y d) = k y d) (h1 : ∀ (y : Fin 256) (d : Fin 128), K1 (ix2 y d) = k (256 + y) d) (h2 : ∀ (y : Fin 256) (d : Fin 128), K2 (ix2 y d) = k (512 + y) d) (h3 : ∀ (y : Fin 256) (d : Fin 128), K3 (ix2 y d) = k (768 + y) d) (h4 : ∀ (y : Fin 256) (d : Fin 128), K4 (ix2 y d) = k (1024 + y) d) (h5 : ∀ (y : Fin 256) (d : Fin 128), K5 (ix2 y d) = k (1280 + y) d) (h6 : ∀ (y : Fin 256) (d : Fin 128), K6 (ix2 y d) = k (1536 + y) d) (h7 : ∀ (y : Fin 256) (d : Fin 128), K7 (ix2 y d) = k (1792 + y) d)
    (c : ℕ) (hc : c < 8) (j : Fin 256) : LOGITS8 Q K0 K1 K2 K3 K4 K5 K6 K7 (ix2 ⟨256 * c + a, by omega⟩ j) = SC q k (256 * c + j) := by
  have e : ∀ (x : ℕ) (p : x < 256) (d : Fin 128), x = a → Q (ix2 ⟨x, p⟩ d) = q d := fun x p d hx => by
    subst hx; exact hQ d
  unfold SC
  interval_cases c
  · pointwise [LOGITS8]
    try simp (disch := omega) only [dif_neg, dif_pos]
    refine Finset.sum_congr rfl fun d _ => congrArg₂ (· * ·) (e _ _ d ?_) (h0 j d)
    all_goals first | rfl | omega
  · pointwise [LOGITS8]
    try simp (disch := omega) only [dif_neg, dif_pos]
    refine Finset.sum_congr rfl fun d _ => congrArg₂ (· * ·) (e _ _ d ?_) (h1 j d)
    all_goals first | rfl | omega
  · pointwise [LOGITS8]
    try simp (disch := omega) only [dif_neg, dif_pos]
    refine Finset.sum_congr rfl fun d _ => congrArg₂ (· * ·) (e _ _ d ?_) (h2 j d)
    all_goals first | rfl | omega
  · pointwise [LOGITS8]
    try simp (disch := omega) only [dif_neg, dif_pos]
    refine Finset.sum_congr rfl fun d _ => congrArg₂ (· * ·) (e _ _ d ?_) (h3 j d)
    all_goals first | rfl | omega
  · pointwise [LOGITS8]
    try simp (disch := omega) only [dif_neg, dif_pos]
    refine Finset.sum_congr rfl fun d _ => congrArg₂ (· * ·) (e _ _ d ?_) (h4 j d)
    all_goals first | rfl | omega
  · pointwise [LOGITS8]
    try simp (disch := omega) only [dif_neg, dif_pos]
    refine Finset.sum_congr rfl fun d _ => congrArg₂ (· * ·) (e _ _ d ?_) (h5 j d)
    all_goals first | rfl | omega
  · pointwise [LOGITS8]
    try simp (disch := omega) only [dif_neg, dif_pos]
    refine Finset.sum_congr rfl fun d _ => congrArg₂ (· * ·) (e _ _ d ?_) (h6 j d)
    all_goals first | rfl | omega
  · pointwise [LOGITS8]
    try simp (disch := omega) only [dif_neg, dif_pos]
    refine Finset.sum_congr rfl fun d _ => congrArg₂ (· * ·) (e _ _ d ?_) (h7 j d)
    all_goals first | rfl | omega

/-- A row of the tile. -/
theorem tile8 (Z : FVec Ideal S2048x256 .f32) (V : Vec Ideal S2048x128 .bf16) (z v : ℕ → EReal)
    (hZ : ∀ (c : ℕ) (hc : c < 8) (j : Fin 256), Z (ix2 ⟨256 * c + a, by omega⟩ j) = z (256 * c + j)) (hV : ∀ y : Fin 2048, V (ix2 y b) = v y) :
    TILE8 Z V (ix2 a b) = KER 8 (1792 + a) z v := by
  have hM : ∀ (c : ℕ) (hc : c < 8) (j : Fin 256), MSK8 (subf (LV8 Z) Z) (ix2 ⟨256 * c + a, by omega⟩ j) = KM (1792 + a) z (256 * c + j) := fun c hc j => by
    rw [msk8 _ c hc]
    show (if _ then LV8 Z _ - Z _ else 0) = _
    rw [lv8, hZ c hc]
    rfl
  have hT := carry8 (TOT8 (MSK8 (subf (LV8 Z) Z))) (fun c => ∑ k : Fin 256, KM (1792 + a) z (256 * c + k)) fun c hc => by
    rw [tot8]
    exact Finset.sum_congr rfl fun k _ => hM c hc k
  unfold TILE8 KER
  rw [out8]
  refine Finset.sum_congr rfl fun y _ => ?_
  obtain ⟨c, j, hc, rfl⟩ : ∃ (c : ℕ) (j : Fin 256) (hc : c < 8), y = ⟨256 * c + j, by omega⟩ :=
    ⟨y / 256, ⟨y % 256, by omega⟩, by omega, Fin.ext (by simp only []; omega)⟩
  rw [side8 _ c hc, msk8 _ c hc, wt8, hV, lv8, hZ c hc, hT c hc]
  simp only [hM c hc]
  rw [add_assoc, suffix 8 c j hc]

end Cert.Kernel8Ideal.Sb

end
-- ==== Proof.Sb.Tiles.lean ====
/- The first tile of the attention without positions, and the tiles of the kernel. -/
module

public import proofs.«01_k».proof.Proof.Sb.Base
public import proofs.«01_k».proof.Proof.Sb.Tile2
public import proofs.«01_k».proof.Proof.Sb.Tile3
public import proofs.«01_k».proof.Proof.Sb.Tile4
public import proofs.«01_k».proof.Proof.Sb.Tile5
public import proofs.«01_k».proof.Proof.Sb.Tile6
public import proofs.«01_k».proof.Proof.Sb.Tile7
public import proofs.«01_k».proof.Proof.Sb.Tile8

@[expose] public section

set_option maxRecDepth 16384

noncomputable section

open Idealize.ShloMosaic Idealize.ShloMosaic.TcCoe Idealize.SL.Sem

namespace Cert.Kernel8Ideal.Sb

open Cert.Front Cert.Sb Cert.Reals
open Cert.Kernel8Ideal Cert.Kernel8Ideal.Gen

/-- The first part of the logarithms. -/
def LV1 (Z : FVec Ideal S256x256 .f32) : FVec Ideal S256x256 .f32 :=
  subf (minimumf Z (broadcast S256x256 (Scalar.ofBits .f32 0x00000000#32))) (mulf (log (addf (broadcast S256x256 (Scalar.ofBits .f32 0x3F800000#32)) (exp2 (subf (broadcast S256x256 (Scalar.ofBits .f32 0x00000000#32)) (absf Z)))))
    (broadcast S256x256 (Named.named κ "log2_e" 0x3FB8AA3B#32)))

/-- The entries at and past the row, at zero. -/
def MSK1 (X : FVec Ideal S256x256 .f32) : FVec Ideal S256x256 .f32 := select k0_pay2 X (broadcast S256x256 (Scalar.ofBits .f32 0x00000000#32))

/-- The weights before the mask. -/
def WT1 (L M : FVec Ideal S256x256 .f32) : FVec Ideal S256x256 .f32 :=
  exp2 (addf (addf L (matmul dot_S256x256_S256x256_S256x256_1_0_0_1_n_n none (truncf .bf16 M bitsLt_bf16_f32) (k0_pay3 (F := Ideal)) (constant S256x256 .f32 0x00000000#32)))
    (broadcastTo S256x256 (k0_pay5 (F := Ideal)) broadcasts_S256x1_S256x256))

/-- The values, weighed. -/
def OUT1 (B : FVec Ideal S256x256 .f32) (V : Vec Ideal S256x128 .bf16) : FVec Ideal S256x128 .f32 :=
  matmul (φ₁ := .bf16) (φ₂ := .bf16) dot_S256x256_S256x128_S256x128_1_0_0_1_n_n none (truncf .bf16 B bitsLt_bf16_f32) V (constant S256x128 .f32 0x00000000#32)

/-- The logits. -/
def LOGITS1 (Q K : Vec Ideal S256x128 .bf16) : FVec Ideal S256x256 .f32 :=
  matmul (φ₁ := .bf16) (φ₂ := .bf16) dot_S256x128_S256x128_S256x256_1_1_0_0_n_n none Q K (constant S256x256 .f32 0x00000000#32)

/-- The tile. -/
def TILE1 (Z : FVec Ideal S256x256 .f32) (V : Vec Ideal S256x128 .bf16) : FVec Ideal S256x128 .f32 :=
  OUT1 (MSK1 (WT1 (LV1 Z) (MSK1 (subf (LV1 Z) Z)))) V

variable {a : Fin 256} {b : Fin 128}

theorem lv1 (Z : FVec Ideal S256x256 .f32) (i j : Fin 256) : LV1 Z (ix2 i j) = L2 (Z (ix2 i j)) := by
  pointwise [LV1]
  simp only [l2e]
  rfl

theorem msk1 (X : FVec Ideal S256x256 .f32) (i j : Fin 256) : MSK1 X (ix2 i j) = if (j : ℕ) < i then X (ix2 i j) else 0 := by
  pointwise [MSK1, k0_pay2]
  exact sel_lt _ _ (by omega) (by omega) _ _

theorem wt1 (L M : FVec Ideal S256x256 .f32) (i j : Fin 256) :
    WT1 L M (ix2 i j) = Ideal.exp2 (L (ix2 i j) + ∑ k : Fin 256, M (ix2 i k) * (if (j : ℕ) < k then 1 else 0)) := by
  pointwise [WT1, k0_pay3, k0_pay5]
  simp only [sel_gt _ _ (Fin.is_lt _) (Fin.is_lt _), ofBits_one, mul_ite, mul_one, mul_zero]
  rfl

theorem out1 (B : FVec Ideal S256x256 .f32) (V : Vec Ideal S256x128 .bf16) : OUT1 B V (ix2 a b) = ∑ y : Fin 256, B (ix2 a y) * V (ix2 y b) := by
  pointwise [OUT1]

theorem logits1 (Q K0 : Vec Ideal S256x128 .bf16) (q : ℕ → EReal) (k : ℕ → ℕ → EReal)
    (hQ : ∀ d : Fin 128, Q (ix2 a d) = q d) (h0 : ∀ (y : Fin 256) (d : Fin 128), K0 (ix2 y d) = k y d)
    (j : Fin 256) : LOGITS1 Q K0 (ix2 a j) = SC q k j := by
  unfold SC
  pointwise [LOGITS1]
  exact Finset.sum_congr rfl fun d _ => congrArg₂ (· * ·) (hQ d) (h0 j d)

/-- A row of the tile. -/
theorem tile1 (Z : FVec Ideal S256x256 .f32) (V : Vec Ideal S256x128 .bf16) (z v : ℕ → EReal)
    (hZ : ∀ (j : Fin 256), Z (ix2 a j) = z j) (hV : ∀ y : Fin 256, V (ix2 y b) = v y) :
    TILE1 Z V (ix2 a b) = KER 1 (0 + a) z v := by
  have hM : ∀ (j : Fin 256), MSK1 (subf (LV1 Z) Z) (ix2 a j) = KM (0 + a) z (256 * 0 + j) := fun j => by
    rw [msk1]
    show (if _ then LV1 Z _ - Z _ else 0) = _
    rw [lv1, hZ, zero_add, mul_zero, zero_add]
    rfl
  unfold TILE1 KER
  rw [out1]
  show _ = ∑ y : Fin 256, _
  refine Finset.sum_congr rfl fun y _ => ?_
  rw [msk1, wt1, hV, lv1, hZ]
  simp only [hM]
  have := suffix (f := KM (0 + a) z) 1 0 y (by norm_num)
  rw [show CAR (fun c => ∑ k : Fin 256, KM (0 + a) z (256 * c + k)) 1 (1 - 1 - 0) = 0 from rfl, add_zero] at this
  rw [this, mul_zero, zero_add, zero_add]

variable (x0 x1 x2 : Vec Ideal S2048x128 .bf16)

/-- The kernel's tile. -/
theorem form1 : k0_pay7 (F := Ideal) (k0_pay47 x0 x1 x2) (k0_pay5 (F := Ideal)) (k0_pay6 (View.ld x0 r0_0) (View.ld x1 r0_0)) (View.ld x2 r0_0)
    = TILE1 (LOGITS1 (View.ld x0 r0_0) (View.ld x1 r0_0)) (View.ld x2 r0_0) := rfl

/-- The kernel's tile. -/
theorem form2 : k0_pay12 (F := Ideal) (k0_pay47 x0 x1 x2) (k0_pay48 x0 x1 x2) (k0_pay9 (k0_pay49 x0 x1 x2)) (k0_pay10 (k0_pay47 x0 x1 x2) (k0_pay49 x0 x1 x2)) (k0_pay11 (k0_pay47 x0 x1 x2) (k0_pay49 x0 x1 x2)) (View.ld x2 r0_3)
    = TILE2 (LOGITS2 (View.ld x0 r0_1) (View.ld x1 r0_0) (View.ld x1 r0_1)) (View.ld x2 r0_3) := rfl

/-- The kernel's tile. -/
theorem form3 : k0_pay15 (F := Ideal) (k0_pay47 x0 x1 x2) (k0_pay48 x0 x1 x2) (k0_pay50 x0 x1 x2) (k0_pay14 (k0_pay50 x0 x1 x2)) (View.ld x2 r0_5)
    = TILE3 (LOGITS3 (View.ld x0 r0_2) (View.ld x1 r0_0) (View.ld x1 r0_1) (View.ld x1 r0_2)) (View.ld x2 r0_5) := rfl

/-- The kernel's tile. -/
theorem form4 : k0_pay25 (F := Ideal) (k0_pay47 x0 x1 x2) (k0_pay48 x0 x1 x2) (k0_pay17 (k0_pay51 x0 x1 x2)) (k0_pay20 (F := Ideal)) (k0_pay21 (k0_pay47 x0 x1 x2) (k0_pay51 x0 x1 x2)) (k0_pay22 (k0_pay47 x0 x1 x2) (k0_pay51 x0 x1 x2)) (k0_pay23 (k0_pay47 x0 x1 x2) (k0_pay51 x0 x1 x2)) (k0_pay24 (k0_pay47 x0 x1 x2) (k0_pay51 x0 x1 x2)) (View.ld x2 r0_7)
    = TILE4 (LOGITS4 (View.ld x0 r0_4) (View.ld x1 r0_0) (View.ld x1 r0_1) (View.ld x1 r0_2) (View.ld x1 r0_4)) (View.ld x2 r0_7) := rfl

/-- The kernel's tile. -/
theorem form5 : k0_pay33 (F := Ideal) (k0_pay32 (k0_pay47 x0 x1 x2) (k0_pay48 x0 x1 x2) (k0_pay16 (View.ld x0 r0_6) (View.ld x1 r0_0) (View.ld x1 r0_1) (View.ld x1 r0_2) (View.ld x1 r0_4) (View.ld x1 r0_6))) (View.ld x2 r0_9)
    = TILE5 (LOGITS5 (View.ld x0 r0_6) (View.ld x1 r0_0) (View.ld x1 r0_1) (View.ld x1 r0_2) (View.ld x1 r0_4) (View.ld x1 r0_6)) (View.ld x2 r0_9) := rfl

/-- The kernel's tile. -/
theorem form6 : k0_pay37 (F := Ideal) (k0_pay47 x0 x1 x2) (k0_pay48 x0 x1 x2) (k0_pay52 x0 x1 x2) (k0_pay35 (k0_pay52 x0 x1 x2)) (k0_pay36 (k0_pay52 x0 x1 x2)) (Named.named (F := Ideal) κ "log2_e" 0x3FB8AA3B#32) (View.ld x2 r0_11)
    = TILE6 (LOGITS6 (View.ld x0 r0_8) (View.ld x1 r0_0) (View.ld x1 r0_1) (View.ld x1 r0_2) (View.ld x1 r0_4) (View.ld x1 r0_6) (View.ld x1 r0_8)) (View.ld x2 r0_11) := rfl

/-- The kernel's tile. -/
theorem form7 : k0_pay43 (F := Ideal) (k0_pay47 x0 x1 x2) (k0_pay48 x0 x1 x2) (k0_pay39 (k0_pay53 x0 x1 x2)) (k0_pay40 (k0_pay53 x0 x1 x2)) (k0_pay41 (k0_pay53 x0 x1 x2)) (k0_pay42 (F := Ideal)) (View.ld x2 r0_13)
    = TILE7 (LOGITS7 (View.ld x0 r0_10) (View.ld x1 r0_0) (View.ld x1 r0_1) (View.ld x1 r0_2) (View.ld x1 r0_4) (View.ld x1 r0_6) (View.ld x1 r0_8) (View.ld x1 r0_10)) (View.ld x2 r0_13) := rfl

/-- The kernel's tile. -/
theorem form8 : k0_pay1 (F := Ideal) (k0_pay46 (k0_pay47 x0 x1 x2) (k0_pay48 x0 x1 x2) (k0_pay54 x0 x1 x2) (k0_pay44 (k0_pay54 x0 x1 x2)) (k0_pay45 (k0_pay54 x0 x1 x2))) (View.ld x2 r0_14)
    = TILE8 (LOGITS8 (View.ld x0 r0_12) (View.ld x1 r0_0) (View.ld x1 r0_1) (View.ld x1 r0_2) (View.ld x1 r0_4) (View.ld x1 r0_6) (View.ld x1 r0_8) (View.ld x1 r0_10) (View.ld x1 r0_12)) (View.ld x2 r0_14) := rfl

end Cert.Kernel8Ideal.Sb

end
-- ==== Proof.Sb.Real.lean ====
/- The two spellings of a row of the attention without positions agree on real logits. -/
module

public import proofs.«01_k».proof.Proof.Sb.Maths

@[expose] public section

noncomputable section

open Idealize.ShloMosaic Idealize.ShloMosaic.TcCoe Idealize.SL.Sem

namespace Cert.Sb

open Cert.Reals

/-- The logarithm of the sigmoid, as the reference spells it. -/
def LS (x : EReal) : EReal := -(max (-x) 0 + Ideal.log1p (Ideal.exp (-(max (-x) (- -x)))))

/-- The logarithm of what a key leaves, to base e. -/
def LK (r : ℕ) (z : ℕ → EReal) (y : ℕ) : EReal := if y < r then LS (-(z y * ((Real.log 2 : ℝ) : EReal))) else 0

/-- A row of the reference. -/
def REF (r : ℕ) (z v : ℕ → EReal) : EReal :=
  ∑ y : Fin 2048, v y * (if (y : ℕ) < r then Ideal.exp (LS (z y * ((Real.log 2 : ℝ) : EReal)) + ((∑ x ∈ Finset.Ico (y : ℕ) 2048, LK r z x) - LK r z y)) else 0)

/-- The logarithm to base two of a real logit's weight. -/
def l2 (w : ℝ) : ℝ := min w 0 - Real.log (1 + (2 : ℝ) ^ (-|w|)) * (Real.log 2)⁻¹

theorem log_two_pos : 0 < Real.log 2 := Real.log_pos (by norm_num)

theorem two_pow (x : ℝ) : (2 : ℝ) ^ x = Real.exp (x * Real.log 2) := by
  rw [Real.rpow_def_of_pos (by norm_num), mul_comm]

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

theorem L2_coe (w : ℝ) : L2 (w : EReal) = (l2 w : EReal) := by
  have hp : (0 : ℝ) < 1 + (2 : ℝ) ^ (-|w|) := by positivity
  have e1 : FloatOps.absf (F := Ideal) (φ := .f32) (w : EReal) = ((|w| : ℝ) : EReal) := by
    show max (w : EReal) (-(w : EReal)) = _
    rw [← EReal.coe_neg, coe_max]; rfl
  have e2 : Ideal.exp2 (0 - ((|w| : ℝ) : EReal)) = (((2 : ℝ) ^ (-|w|) : ℝ) : EReal) := by
    rw [← EReal.coe_zero, ← EReal.coe_sub, zero_sub, Ideal.exp2_coe]; rfl
  unfold L2 l2
  rw [e1, e2, ← EReal.coe_one, ← EReal.coe_add, Ideal.log_coe, if_neg (not_le.2 hp), ← EReal.coe_zero, coe_min, ← EReal.coe_mul, ← EReal.coe_sub]

theorem LS_coe (x : ℝ) : LS (x : EReal) = ((min x 0 - Real.log (1 + Real.exp (-|x|)) : ℝ) : EReal) := by
  have hp : (0 : ℝ) < 1 + Real.exp (-|x|) := by positivity
  have e1 : max (-(x : EReal)) (- -(x : EReal)) = ((|x| : ℝ) : EReal) := by
    rw [neg_neg, ← EReal.coe_neg, coe_max, max_comm]; rfl
  unfold LS Ideal.log1p
  rw [e1, ← EReal.coe_neg, ← EReal.coe_neg, Ideal.exp_coe, ← EReal.coe_one, ← EReal.coe_add, Ideal.log_coe, if_neg (not_le.2 hp), ← EReal.coe_zero, coe_max,
    ← EReal.coe_add, ← EReal.coe_neg]
  congr 1
  rcases le_total x 0 with h | h
  · rw [max_eq_left (by linarith), min_eq_left h]; ring
  · rw [max_eq_right (by linarith), min_eq_right h]; ring

theorem l2_mul (w : ℝ) : l2 w * Real.log 2 = min (w * Real.log 2) 0 - Real.log (1 + Real.exp (-|w * Real.log 2|)) := by
  unfold l2
  rw [sub_mul, mul_assoc, inv_mul_cancel₀ log_two_pos.ne', mul_one, two_pow, abs_mul, abs_of_pos log_two_pos, neg_mul]
  congr 1
  rw [min_mul_of_nonneg _ _ log_two_pos.le, zero_mul]

theorem LS_pos (w : ℝ) : LS ((w : EReal) * ((Real.log 2 : ℝ) : EReal)) = ((l2 w * Real.log 2 : ℝ) : EReal) := by
  rw [← EReal.coe_mul, LS_coe, l2_mul]

theorem LS_neg (w : ℝ) : LS (-((w : EReal) * ((Real.log 2 : ℝ) : EReal))) = (((l2 w - w) * Real.log 2 : ℝ) : EReal) := by
  rw [← EReal.coe_mul, ← EReal.coe_neg, LS_coe, sub_mul, l2_mul, abs_neg]
  congr 1
  have : min (-(w * Real.log 2)) 0 = min (w * Real.log 2) 0 - w * Real.log 2 := by
    rcases le_total (w * Real.log 2) 0 with h | h
    · rw [min_eq_left h, min_eq_right (by linarith)]; ring
    · rw [min_eq_right h, min_eq_left (by linarith)]; ring
  rw [this]; ring

/-- More blocks of keys past the row change nothing. -/
theorem ker_more (n r : ℕ) (z v : ℕ → EReal) (hn : n ≤ 8) (hr : r < 256 * n) : KER n r z v = KER 8 r z v := by
  have hk : ∀ x, r ≤ x → KM r z x = 0 := fun x hx => if_neg (by omega)
  have e : ∀ y, y < r → ∑ x ∈ Finset.Ico (y + 1) (256 * n), KM r z x = ∑ x ∈ Finset.Ico (y + 1) (256 * 8), KM r z x := fun y hy => by
    refine Finset.sum_subset (Finset.Ico_subset_Ico_right (by omega)) fun x _ h => hk x ?_
    simp only [Finset.mem_Ico] at *
    omega
  unfold KER
  rw [Fin.sum_univ_eq_sum_range (fun y => (if y < r then Ideal.exp2 (L2 (z y) + ∑ x ∈ Finset.Ico (y + 1) (256 * n), KM r z x) else 0) * v y),
    Fin.sum_univ_eq_sum_range (fun y => (if y < r then Ideal.exp2 (L2 (z y) + ∑ x ∈ Finset.Ico (y + 1) (256 * 8), KM r z x) else 0) * v y)]
  refine Eq.trans (Finset.sum_congr rfl fun y _ => ?_) (Finset.sum_subset (Finset.range_subset_range.2 (show 256 * n ≤ 256 * 8 by omega)) fun y _ h => ?_)
  · by_cases hy : y < r
    · rw [if_pos hy, if_pos hy, e y hy]
    · rw [if_neg hy, if_neg hy]
  · rw [Finset.mem_range] at h
    rw [if_neg (by omega), zero_mul]

theorem coe_sum (s : Finset ℕ) (f : ℕ → ℝ) : ∑ x ∈ s, (f x : EReal) = ((∑ x ∈ s, f x : ℝ) : EReal) :=
  (map_sum (⟨⟨(fun r : ℝ => (r : EReal)), EReal.coe_zero⟩, EReal.coe_add⟩ : ℝ →+ EReal) _ _).symm

/-- The reference's row is the kernel's. -/
theorem ref_eq_ker (r : ℕ) (z v : ℕ → EReal) (hz : ∀ y, IsReal (z y)) : REF r z v = KER 8 r z v := by
  choose g hg using hz
  have hk : ∀ y, KM r z y = (((if y < r then l2 (g y) - g y else 0 : ℝ)) : EReal) := fun y => by
    unfold KM
    split
    · rw [hg, L2_coe, ← EReal.coe_sub]
    · rfl
  have hl : ∀ y, LK r z y = (((if y < r then l2 (g y) - g y else 0 : ℝ) * Real.log 2 : ℝ) : EReal) := fun y => by
    unfold LK
    split
    · rw [hg, LS_neg]
    · rw [zero_mul]; rfl
  unfold REF KER
  refine Finset.sum_congr rfl fun y _ => ?_
  rw [mul_comm (v y)]
  congr 1
  by_cases hy : (y : ℕ) < r
  · rw [if_pos hy, if_pos hy, hg, LS_pos, L2_coe]
    simp only [hk, hl]
    rw [coe_sum, coe_sum, ← EReal.coe_sub, ← EReal.coe_add, ← EReal.coe_add, Ideal.exp_coe, Ideal.exp2_coe]
    congr 1
    change _ = (2 : ℝ) ^ (l2 (g y) + ∑ x ∈ Finset.Ico ((y : ℕ) + 1) 2048, if x < r then l2 (g x) - g x else 0)
    rw [two_pow, Finset.sum_eq_sum_Ico_succ_bot y.isLt, add_sub_cancel_left, ← Finset.sum_mul, add_mul]
  · rw [if_neg hy, if_neg hy]

end Cert.Sb

end
-- ==== Proof.Sb.Value.lean ====
/- What the kernel of the attention without positions computes. -/
module

public import proofs.«01_k».proof.Proof.Sb.Tiles
public import proofs.«01_k».proof.Proof.Sb.Real

@[expose] public section

set_option maxRecDepth 16384

noncomputable section

open Idealize.ShloMosaic Idealize.ShloMosaic.TcCoe Idealize.SL.Sem
open Idealize.ShloMosaic.Pipeline (Dat)

namespace Cert.Sb

open Cert.Front Cert.Reals

/-- A query's score with a key of its batch, in the head of column `b`. -/
def SCORE (A : ℕ → ℕ → EReal) (R b y : ℕ) : EReal :=
  ∑ d : Fin 128, A R (b / 128 * 128 + d) * A (R / 2048 * 2048 + y) (2048 + b / 128 * 128 + d)

/-- The attention without positions: row `R`, column `b`. -/
def ROW (A : ℕ → ℕ → EReal) (R b : ℕ) : EReal :=
  KER 8 (R % 2048) (SCORE A R b) (fun y => A (R / 2048 * 2048 + y) (4096 + b))

end Cert.Sb

namespace Cert.Kernel8Ideal.Sb

open Cert.Front Cert.Sb Cert.Reals
open Cert.Kernel8Ideal Cert.Kernel8Ideal.Gen

/-- A tile's row is the row of the attention. -/
theorem ker_eq_row (A : ℕ → ℕ → EReal) (t n o a b : ℕ) (hn : n ≤ 8) (h : o + a < 256 * n) (hb : b < 128) :
    KER n (o + a) (SC (fun d => A (t / 16 * 2048 + (o + a)) (t % 16 * 128 + d)) (fun y d => A (t / 16 * 2048 + y) (2048 + t % 16 * 128 + d)))
      (fun y => A (t / 16 * 2048 + y) (4096 + (t % 16 * 128 + b))) = ROW A (t / 16 * 2048 + (o + a)) (t % 16 * 128 + b) := by
  rw [ker_more n _ _ _ hn h]
  unfold ROW
  have e : SCORE A (t / 16 * 2048 + (o + a)) (t % 16 * 128 + b) = SC (fun d => A (t / 16 * 2048 + (o + a)) (t % 16 * 128 + d)) (fun y d => A (t / 16 * 2048 + y) (2048 + t % 16 * 128 + d)) := by
    funext y
    unfold SCORE SC
    rw [show (t / 16 * 2048 + (o + a)) / 2048 = t / 16 by omega, show (t % 16 * 128 + b) / 128 = t % 16 by omega]
  rw [e, show (t / 16 * 2048 + (o + a)) % 2048 = o + a by omega, show (t / 16 * 2048 + (o + a)) / 2048 = t / 16 by omega]

/-- A block's tiles, from the queries, keys and values it holds. -/
structure Holds (A : ℕ → ℕ → EReal) (t : ℕ) (x0 x1 x2 : Vec Ideal S2048x128 .bf16) : Prop where
  q : ∀ (a : Fin 2048) (x : Fin 128), x0 (ix2 a x) = A (t / 16 * 2048 + a) (t % 16 * 128 + x)
  k : ∀ (a : Fin 2048) (x : Fin 128), x1 (ix2 a x) = A (t / 16 * 2048 + a) (2048 + t % 16 * 128 + x)
  v : ∀ (a : Fin 2048) (x : Fin 128), x2 (ix2 a x) = A (t / 16 * 2048 + a) (4096 + (t % 16 * 128 + x))

variable {A : ℕ → ℕ → EReal} {t : ℕ} {x0 x1 x2 : Vec Ideal S2048x128 .bf16}

theorem row1 (h : Holds A t x0 x1 x2) (a : Fin 256) (b : Fin 128) :
    TILE1 (LOGITS1 (View.ld x0 r0_0) (View.ld x1 r0_0)) (View.ld x2 r0_0) (ix2 a b)
      = ROW A (t / 16 * 2048 + (0 + a)) (t % 16 * 128 + b) := by
  have hq : ∀ x : Fin 128, View.ld x0 r0_0 (ix2 a x) = A (t / 16 * 2048 + (0 + a)) (t % 16 * 128 + x) := fun x => by
    refine Eq.trans ?_ (h.q ⟨0 + a, by omega⟩ x); pointwise
  have h1 : ∀ (y : Fin 256) (x : Fin 128), View.ld x1 r0_0 (ix2 y x) = A (t / 16 * 2048 + y) (2048 + t % 16 * 128 + x) := fun y x => by
    refine Eq.trans ?_ (h.k ⟨0 + y, by omega⟩ x |>.trans ?_) <;> pointwise
  have hv : ∀ y : Fin 256, View.ld x2 r0_0 (ix2 y b) = A (t / 16 * 2048 + y) (4096 + (t % 16 * 128 + b)) := fun y => by
    refine Eq.trans ?_ (h.v ⟨y, by omega⟩ b); pointwise
  refine Eq.trans ?_ (ker_eq_row A t 1 0 a b (by omega) (by omega) b.isLt)
  generalize View.ld x0 r0_0 = y0 at hq ⊢
  generalize View.ld x1 r0_0 = z1 at h1 ⊢
  generalize View.ld x2 r0_0 = y2 at hv ⊢
  refine tile1 _ y2 _ _ (fun j => ?_) hv
  exact logits1 y0 z1 (fun d => A (t / 16 * 2048 + (0 + a)) (t % 16 * 128 + d)) (fun y d => A (t / 16 * 2048 + y) (2048 + t % 16 * 128 + d)) hq h1 j

theorem row2 (h : Holds A t x0 x1 x2) (a : Fin 256) (b : Fin 128) :
    TILE2 (LOGITS2 (View.ld x0 r0_1) (View.ld x1 r0_0) (View.ld x1 r0_1)) (View.ld x2 r0_3) (ix2 a b)
      = ROW A (t / 16 * 2048 + (256 + a)) (t % 16 * 128 + b) := by
  have hq : ∀ x : Fin 128, View.ld x0 r0_1 (ix2 a x) = A (t / 16 * 2048 + (256 + a)) (t % 16 * 128 + x) := fun x => by
    refine Eq.trans ?_ (h.q ⟨256 + a, by omega⟩ x); pointwise
  have h1 : ∀ (y : Fin 256) (x : Fin 128), View.ld x1 r0_0 (ix2 y x) = A (t / 16 * 2048 + y) (2048 + t % 16 * 128 + x) := fun y x => by
    refine Eq.trans ?_ (h.k ⟨0 + y, by omega⟩ x |>.trans ?_) <;> pointwise
  have h2 : ∀ (y : Fin 256) (x : Fin 128), View.ld x1 r0_1 (ix2 y x) = A (t / 16 * 2048 + (256 + y)) (2048 + t % 16 * 128 + x) := fun y x => by
    refine Eq.trans ?_ (h.k ⟨256 + y, by omega⟩ x |>.trans ?_) <;> pointwise
  have hv : ∀ y : Fin 512, View.ld x2 r0_3 (ix2 y b) = A (t / 16 * 2048 + y) (4096 + (t % 16 * 128 + b)) := fun y => by
    refine Eq.trans ?_ (h.v ⟨y, by omega⟩ b); pointwise
  refine Eq.trans ?_ (ker_eq_row A t 2 256 a b (by omega) (by omega) b.isLt)
  generalize View.ld x0 r0_1 = y0 at hq ⊢
  generalize View.ld x1 r0_0 = z1 at h1 ⊢
  generalize View.ld x1 r0_1 = z2 at h2 ⊢
  generalize View.ld x2 r0_3 = y2 at hv ⊢
  refine tile2 _ y2 _ _ (fun c hc j => ?_) hv
  exact logits2 y0 z1 z2 (fun d => A (t / 16 * 2048 + (256 + a)) (t % 16 * 128 + d)) (fun y d => A (t / 16 * 2048 + y) (2048 + t % 16 * 128 + d)) hq h1 h2 c hc j

theorem row3 (h : Holds A t x0 x1 x2) (a : Fin 256) (b : Fin 128) :
    TILE3 (LOGITS3 (View.ld x0 r0_2) (View.ld x1 r0_0) (View.ld x1 r0_1) (View.ld x1 r0_2)) (View.ld x2 r0_5) (ix2 a b)
      = ROW A (t / 16 * 2048 + (512 + a)) (t % 16 * 128 + b) := by
  have hq : ∀ x : Fin 128, View.ld x0 r0_2 (ix2 a x) = A (t / 16 * 2048 + (512 + a)) (t % 16 * 128 + x) := fun x => by
    refine Eq.trans ?_ (h.q ⟨512 + a, by omega⟩ x); pointwise
  have h1 : ∀ (y : Fin 256) (x : Fin 128), View.ld x1 r0_0 (ix2 y x) = A (t / 16 * 2048 + y) (2048 + t % 16 * 128 + x) := fun y x => by
    refine Eq.trans ?_ (h.k ⟨0 + y, by omega⟩ x |>.trans ?_) <;> pointwise
  have h2 : ∀ (y : Fin 256) (x : Fin 128), View.ld x1 r0_1 (ix2 y x) = A (t / 16 * 2048 + (256 + y)) (2048 + t % 16 * 128 + x) := fun y x => by
    refine Eq.trans ?_ (h.k ⟨256 + y, by omega⟩ x |>.trans ?_) <;> pointwise
  have h3 : ∀ (y : Fin 256) (x : Fin 128), View.ld x1 r0_2 (ix2 y x) = A (t / 16 * 2048 + (512 + y)) (2048 + t % 16 * 128 + x) := fun y x => by
    refine Eq.trans ?_ (h.k ⟨512 + y, by omega⟩ x |>.trans ?_) <;> pointwise
  have hv : ∀ y : Fin 768, View.ld x2 r0_5 (ix2 y b) = A (t / 16 * 2048 + y) (4096 + (t % 16 * 128 + b)) := fun y => by
    refine Eq.trans ?_ (h.v ⟨y, by omega⟩ b); pointwise
  refine Eq.trans ?_ (ker_eq_row A t 3 512 a b (by omega) (by omega) b.isLt)
  generalize View.ld x0 r0_2 = y0 at hq ⊢
  generalize View.ld x1 r0_0 = z1 at h1 ⊢
  generalize View.ld x1 r0_1 = z2 at h2 ⊢
  generalize View.ld x1 r0_2 = z3 at h3 ⊢
  generalize View.ld x2 r0_5 = y2 at hv ⊢
  refine tile3 _ y2 _ _ (fun c hc j => ?_) hv
  exact logits3 y0 z1 z2 z3 (fun d => A (t / 16 * 2048 + (512 + a)) (t % 16 * 128 + d)) (fun y d => A (t / 16 * 2048 + y) (2048 + t % 16 * 128 + d)) hq h1 h2 h3 c hc j

theorem row4 (h : Holds A t x0 x1 x2) (a : Fin 256) (b : Fin 128) :
    TILE4 (LOGITS4 (View.ld x0 r0_4) (View.ld x1 r0_0) (View.ld x1 r0_1) (View.ld x1 r0_2) (View.ld x1 r0_4)) (View.ld x2 r0_7) (ix2 a b)
      = ROW A (t / 16 * 2048 + (768 + a)) (t % 16 * 128 + b) := by
  have hq : ∀ x : Fin 128, View.ld x0 r0_4 (ix2 a x) = A (t / 16 * 2048 + (768 + a)) (t % 16 * 128 + x) := fun x => by
    refine Eq.trans ?_ (h.q ⟨768 + a, by omega⟩ x); pointwise
  have h1 : ∀ (y : Fin 256) (x : Fin 128), View.ld x1 r0_0 (ix2 y x) = A (t / 16 * 2048 + y) (2048 + t % 16 * 128 + x) := fun y x => by
    refine Eq.trans ?_ (h.k ⟨0 + y, by omega⟩ x |>.trans ?_) <;> pointwise
  have h2 : ∀ (y : Fin 256) (x : Fin 128), View.ld x1 r0_1 (ix2 y x) = A (t / 16 * 2048 + (256 + y)) (2048 + t % 16 * 128 + x) := fun y x => by
    refine Eq.trans ?_ (h.k ⟨256 + y, by omega⟩ x |>.trans ?_) <;> pointwise
  have h3 : ∀ (y : Fin 256) (x : Fin 128), View.ld x1 r0_2 (ix2 y x) = A (t / 16 * 2048 + (512 + y)) (2048 + t % 16 * 128 + x) := fun y x => by
    refine Eq.trans ?_ (h.k ⟨512 + y, by omega⟩ x |>.trans ?_) <;> pointwise
  have h4 : ∀ (y : Fin 256) (x : Fin 128), View.ld x1 r0_4 (ix2 y x) = A (t / 16 * 2048 + (768 + y)) (2048 + t % 16 * 128 + x) := fun y x => by
    refine Eq.trans ?_ (h.k ⟨768 + y, by omega⟩ x |>.trans ?_) <;> pointwise
  have hv : ∀ y : Fin 1024, View.ld x2 r0_7 (ix2 y b) = A (t / 16 * 2048 + y) (4096 + (t % 16 * 128 + b)) := fun y => by
    refine Eq.trans ?_ (h.v ⟨y, by omega⟩ b); pointwise
  refine Eq.trans ?_ (ker_eq_row A t 4 768 a b (by omega) (by omega) b.isLt)
  generalize View.ld x0 r0_4 = y0 at hq ⊢
  generalize View.ld x1 r0_0 = z1 at h1 ⊢
  generalize View.ld x1 r0_1 = z2 at h2 ⊢
  generalize View.ld x1 r0_2 = z3 at h3 ⊢
  generalize View.ld x1 r0_4 = z4 at h4 ⊢
  generalize View.ld x2 r0_7 = y2 at hv ⊢
  refine tile4 _ y2 _ _ (fun c hc j => ?_) hv
  exact logits4 y0 z1 z2 z3 z4 (fun d => A (t / 16 * 2048 + (768 + a)) (t % 16 * 128 + d)) (fun y d => A (t / 16 * 2048 + y) (2048 + t % 16 * 128 + d)) hq h1 h2 h3 h4 c hc j

theorem row5 (h : Holds A t x0 x1 x2) (a : Fin 256) (b : Fin 128) :
    TILE5 (LOGITS5 (View.ld x0 r0_6) (View.ld x1 r0_0) (View.ld x1 r0_1) (View.ld x1 r0_2) (View.ld x1 r0_4) (View.ld x1 r0_6)) (View.ld x2 r0_9) (ix2 a b)
      = ROW A (t / 16 * 2048 + (1024 + a)) (t % 16 * 128 + b) := by
  have hq : ∀ x : Fin 128, View.ld x0 r0_6 (ix2 a x) = A (t / 16 * 2048 + (1024 + a)) (t % 16 * 128 + x) := fun x => by
    refine Eq.trans ?_ (h.q ⟨1024 + a, by omega⟩ x); pointwise
  have h1 : ∀ (y : Fin 256) (x : Fin 128), View.ld x1 r0_0 (ix2 y x) = A (t / 16 * 2048 + y) (2048 + t % 16 * 128 + x) := fun y x => by
    refine Eq.trans ?_ (h.k ⟨0 + y, by omega⟩ x |>.trans ?_) <;> pointwise
  have h2 : ∀ (y : Fin 256) (x : Fin 128), View.ld x1 r0_1 (ix2 y x) = A (t / 16 * 2048 + (256 + y)) (2048 + t % 16 * 128 + x) := fun y x => by
    refine Eq.trans ?_ (h.k ⟨256 + y, by omega⟩ x |>.trans ?_) <;> pointwise
  have h3 : ∀ (y : Fin 256) (x : Fin 128), View.ld x1 r0_2 (ix2 y x) = A (t / 16 * 2048 + (512 + y)) (2048 + t % 16 * 128 + x) := fun y x => by
    refine Eq.trans ?_ (h.k ⟨512 + y, by omega⟩ x |>.trans ?_) <;> pointwise
  have h4 : ∀ (y : Fin 256) (x : Fin 128), View.ld x1 r0_4 (ix2 y x) = A (t / 16 * 2048 + (768 + y)) (2048 + t % 16 * 128 + x) := fun y x => by
    refine Eq.trans ?_ (h.k ⟨768 + y, by omega⟩ x |>.trans ?_) <;> pointwise
  have h5 : ∀ (y : Fin 256) (x : Fin 128), View.ld x1 r0_6 (ix2 y x) = A (t / 16 * 2048 + (1024 + y)) (2048 + t % 16 * 128 + x) := fun y x => by
    refine Eq.trans ?_ (h.k ⟨1024 + y, by omega⟩ x |>.trans ?_) <;> pointwise
  have hv : ∀ y : Fin 1280, View.ld x2 r0_9 (ix2 y b) = A (t / 16 * 2048 + y) (4096 + (t % 16 * 128 + b)) := fun y => by
    refine Eq.trans ?_ (h.v ⟨y, by omega⟩ b); pointwise
  refine Eq.trans ?_ (ker_eq_row A t 5 1024 a b (by omega) (by omega) b.isLt)
  generalize View.ld x0 r0_6 = y0 at hq ⊢
  generalize View.ld x1 r0_0 = z1 at h1 ⊢
  generalize View.ld x1 r0_1 = z2 at h2 ⊢
  generalize View.ld x1 r0_2 = z3 at h3 ⊢
  generalize View.ld x1 r0_4 = z4 at h4 ⊢
  generalize View.ld x1 r0_6 = z5 at h5 ⊢
  generalize View.ld x2 r0_9 = y2 at hv ⊢
  refine tile5 _ y2 _ _ (fun c hc j => ?_) hv
  exact logits5 y0 z1 z2 z3 z4 z5 (fun d => A (t / 16 * 2048 + (1024 + a)) (t % 16 * 128 + d)) (fun y d => A (t / 16 * 2048 + y) (2048 + t % 16 * 128 + d)) hq h1 h2 h3 h4 h5 c hc j

theorem row6 (h : Holds A t x0 x1 x2) (a : Fin 256) (b : Fin 128) :
    TILE6 (LOGITS6 (View.ld x0 r0_8) (View.ld x1 r0_0) (View.ld x1 r0_1) (View.ld x1 r0_2) (View.ld x1 r0_4) (View.ld x1 r0_6) (View.ld x1 r0_8)) (View.ld x2 r0_11) (ix2 a b)
      = ROW A (t / 16 * 2048 + (1280 + a)) (t % 16 * 128 + b) := by
  have hq : ∀ x : Fin 128, View.ld x0 r0_8 (ix2 a x) = A (t / 16 * 2048 + (1280 + a)) (t % 16 * 128 + x) := fun x => by
    refine Eq.trans ?_ (h.q ⟨1280 + a, by omega⟩ x); pointwise
  have h1 : ∀ (y : Fin 256) (x : Fin 128), View.ld x1 r0_0 (ix2 y x) = A (t / 16 * 2048 + y) (2048 + t % 16 * 128 + x) := fun y x => by
    refine Eq.trans ?_ (h.k ⟨0 + y, by omega⟩ x |>.trans ?_) <;> pointwise
  have h2 : ∀ (y : Fin 256) (x : Fin 128), View.ld x1 r0_1 (ix2 y x) = A (t / 16 * 2048 + (256 + y)) (2048 + t % 16 * 128 + x) := fun y x => by
    refine Eq.trans ?_ (h.k ⟨256 + y, by omega⟩ x |>.trans ?_) <;> pointwise
  have h3 : ∀ (y : Fin 256) (x : Fin 128), View.ld x1 r0_2 (ix2 y x) = A (t / 16 * 2048 + (512 + y)) (2048 + t % 16 * 128 + x) := fun y x => by
    refine Eq.trans ?_ (h.k ⟨512 + y, by omega⟩ x |>.trans ?_) <;> pointwise
  have h4 : ∀ (y : Fin 256) (x : Fin 128), View.ld x1 r0_4 (ix2 y x) = A (t / 16 * 2048 + (768 + y)) (2048 + t % 16 * 128 + x) := fun y x => by
    refine Eq.trans ?_ (h.k ⟨768 + y, by omega⟩ x |>.trans ?_) <;> pointwise
  have h5 : ∀ (y : Fin 256) (x : Fin 128), View.ld x1 r0_6 (ix2 y x) = A (t / 16 * 2048 + (1024 + y)) (2048 + t % 16 * 128 + x) := fun y x => by
    refine Eq.trans ?_ (h.k ⟨1024 + y, by omega⟩ x |>.trans ?_) <;> pointwise
  have h6 : ∀ (y : Fin 256) (x : Fin 128), View.ld x1 r0_8 (ix2 y x) = A (t / 16 * 2048 + (1280 + y)) (2048 + t % 16 * 128 + x) := fun y x => by
    refine Eq.trans ?_ (h.k ⟨1280 + y, by omega⟩ x |>.trans ?_) <;> pointwise
  have hv : ∀ y : Fin 1536, View.ld x2 r0_11 (ix2 y b) = A (t / 16 * 2048 + y) (4096 + (t % 16 * 128 + b)) := fun y => by
    refine Eq.trans ?_ (h.v ⟨y, by omega⟩ b); pointwise
  refine Eq.trans ?_ (ker_eq_row A t 6 1280 a b (by omega) (by omega) b.isLt)
  generalize View.ld x0 r0_8 = y0 at hq ⊢
  generalize View.ld x1 r0_0 = z1 at h1 ⊢
  generalize View.ld x1 r0_1 = z2 at h2 ⊢
  generalize View.ld x1 r0_2 = z3 at h3 ⊢
  generalize View.ld x1 r0_4 = z4 at h4 ⊢
  generalize View.ld x1 r0_6 = z5 at h5 ⊢
  generalize View.ld x1 r0_8 = z6 at h6 ⊢
  generalize View.ld x2 r0_11 = y2 at hv ⊢
  refine tile6 _ y2 _ _ (fun c hc j => ?_) hv
  exact logits6 y0 z1 z2 z3 z4 z5 z6 (fun d => A (t / 16 * 2048 + (1280 + a)) (t % 16 * 128 + d)) (fun y d => A (t / 16 * 2048 + y) (2048 + t % 16 * 128 + d)) hq h1 h2 h3 h4 h5 h6 c hc j

theorem row7 (h : Holds A t x0 x1 x2) (a : Fin 256) (b : Fin 128) :
    TILE7 (LOGITS7 (View.ld x0 r0_10) (View.ld x1 r0_0) (View.ld x1 r0_1) (View.ld x1 r0_2) (View.ld x1 r0_4) (View.ld x1 r0_6) (View.ld x1 r0_8) (View.ld x1 r0_10)) (View.ld x2 r0_13) (ix2 a b)
      = ROW A (t / 16 * 2048 + (1536 + a)) (t % 16 * 128 + b) := by
  have hq : ∀ x : Fin 128, View.ld x0 r0_10 (ix2 a x) = A (t / 16 * 2048 + (1536 + a)) (t % 16 * 128 + x) := fun x => by
    refine Eq.trans ?_ (h.q ⟨1536 + a, by omega⟩ x); pointwise
  have h1 : ∀ (y : Fin 256) (x : Fin 128), View.ld x1 r0_0 (ix2 y x) = A (t / 16 * 2048 + y) (2048 + t % 16 * 128 + x) := fun y x => by
    refine Eq.trans ?_ (h.k ⟨0 + y, by omega⟩ x |>.trans ?_) <;> pointwise
  have h2 : ∀ (y : Fin 256) (x : Fin 128), View.ld x1 r0_1 (ix2 y x) = A (t / 16 * 2048 + (256 + y)) (2048 + t % 16 * 128 + x) := fun y x => by
    refine Eq.trans ?_ (h.k ⟨256 + y, by omega⟩ x |>.trans ?_) <;> pointwise
  have h3 : ∀ (y : Fin 256) (x : Fin 128), View.ld x1 r0_2 (ix2 y x) = A (t / 16 * 2048 + (512 + y)) (2048 + t % 16 * 128 + x) := fun y x => by
    refine Eq.trans ?_ (h.k ⟨512 + y, by omega⟩ x |>.trans ?_) <;> pointwise
  have h4 : ∀ (y : Fin 256) (x : Fin 128), View.ld x1 r0_4 (ix2 y x) = A (t / 16 * 2048 + (768 + y)) (2048 + t % 16 * 128 + x) := fun y x => by
    refine Eq.trans ?_ (h.k ⟨768 + y, by omega⟩ x |>.trans ?_) <;> pointwise
  have h5 : ∀ (y : Fin 256) (x : Fin 128), View.ld x1 r0_6 (ix2 y x) = A (t / 16 * 2048 + (1024 + y)) (2048 + t % 16 * 128 + x) := fun y x => by
    refine Eq.trans ?_ (h.k ⟨1024 + y, by omega⟩ x |>.trans ?_) <;> pointwise
  have h6 : ∀ (y : Fin 256) (x : Fin 128), View.ld x1 r0_8 (ix2 y x) = A (t / 16 * 2048 + (1280 + y)) (2048 + t % 16 * 128 + x) := fun y x => by
    refine Eq.trans ?_ (h.k ⟨1280 + y, by omega⟩ x |>.trans ?_) <;> pointwise
  have h7 : ∀ (y : Fin 256) (x : Fin 128), View.ld x1 r0_10 (ix2 y x) = A (t / 16 * 2048 + (1536 + y)) (2048 + t % 16 * 128 + x) := fun y x => by
    refine Eq.trans ?_ (h.k ⟨1536 + y, by omega⟩ x |>.trans ?_) <;> pointwise
  have hv : ∀ y : Fin 1792, View.ld x2 r0_13 (ix2 y b) = A (t / 16 * 2048 + y) (4096 + (t % 16 * 128 + b)) := fun y => by
    refine Eq.trans ?_ (h.v ⟨y, by omega⟩ b); pointwise
  refine Eq.trans ?_ (ker_eq_row A t 7 1536 a b (by omega) (by omega) b.isLt)
  generalize View.ld x0 r0_10 = y0 at hq ⊢
  generalize View.ld x1 r0_0 = z1 at h1 ⊢
  generalize View.ld x1 r0_1 = z2 at h2 ⊢
  generalize View.ld x1 r0_2 = z3 at h3 ⊢
  generalize View.ld x1 r0_4 = z4 at h4 ⊢
  generalize View.ld x1 r0_6 = z5 at h5 ⊢
  generalize View.ld x1 r0_8 = z6 at h6 ⊢
  generalize View.ld x1 r0_10 = z7 at h7 ⊢
  generalize View.ld x2 r0_13 = y2 at hv ⊢
  refine tile7 _ y2 _ _ (fun c hc j => ?_) hv
  exact logits7 y0 z1 z2 z3 z4 z5 z6 z7 (fun d => A (t / 16 * 2048 + (1536 + a)) (t % 16 * 128 + d)) (fun y d => A (t / 16 * 2048 + y) (2048 + t % 16 * 128 + d)) hq h1 h2 h3 h4 h5 h6 h7 c hc j

theorem row8 (h : Holds A t x0 x1 x2) (a : Fin 256) (b : Fin 128) :
    TILE8 (LOGITS8 (View.ld x0 r0_12) (View.ld x1 r0_0) (View.ld x1 r0_1) (View.ld x1 r0_2) (View.ld x1 r0_4) (View.ld x1 r0_6) (View.ld x1 r0_8) (View.ld x1 r0_10) (View.ld x1 r0_12)) (View.ld x2 r0_14) (ix2 a b)
      = ROW A (t / 16 * 2048 + (1792 + a)) (t % 16 * 128 + b) := by
  have hq : ∀ x : Fin 128, View.ld x0 r0_12 (ix2 a x) = A (t / 16 * 2048 + (1792 + a)) (t % 16 * 128 + x) := fun x => by
    refine Eq.trans ?_ (h.q ⟨1792 + a, by omega⟩ x); pointwise
  have h1 : ∀ (y : Fin 256) (x : Fin 128), View.ld x1 r0_0 (ix2 y x) = A (t / 16 * 2048 + y) (2048 + t % 16 * 128 + x) := fun y x => by
    refine Eq.trans ?_ (h.k ⟨0 + y, by omega⟩ x |>.trans ?_) <;> pointwise
  have h2 : ∀ (y : Fin 256) (x : Fin 128), View.ld x1 r0_1 (ix2 y x) = A (t / 16 * 2048 + (256 + y)) (2048 + t % 16 * 128 + x) := fun y x => by
    refine Eq.trans ?_ (h.k ⟨256 + y, by omega⟩ x |>.trans ?_) <;> pointwise
  have h3 : ∀ (y : Fin 256) (x : Fin 128), View.ld x1 r0_2 (ix2 y x) = A (t / 16 * 2048 + (512 + y)) (2048 + t % 16 * 128 + x) := fun y x => by
    refine Eq.trans ?_ (h.k ⟨512 + y, by omega⟩ x |>.trans ?_) <;> pointwise
  have h4 : ∀ (y : Fin 256) (x : Fin 128), View.ld x1 r0_4 (ix2 y x) = A (t / 16 * 2048 + (768 + y)) (2048 + t % 16 * 128 + x) := fun y x => by
    refine Eq.trans ?_ (h.k ⟨768 + y, by omega⟩ x |>.trans ?_) <;> pointwise
  have h5 : ∀ (y : Fin 256) (x : Fin 128), View.ld x1 r0_6 (ix2 y x) = A (t / 16 * 2048 + (1024 + y)) (2048 + t % 16 * 128 + x) := fun y x => by
    refine Eq.trans ?_ (h.k ⟨1024 + y, by omega⟩ x |>.trans ?_) <;> pointwise
  have h6 : ∀ (y : Fin 256) (x : Fin 128), View.ld x1 r0_8 (ix2 y x) = A (t / 16 * 2048 + (1280 + y)) (2048 + t % 16 * 128 + x) := fun y x => by
    refine Eq.trans ?_ (h.k ⟨1280 + y, by omega⟩ x |>.trans ?_) <;> pointwise
  have h7 : ∀ (y : Fin 256) (x : Fin 128), View.ld x1 r0_10 (ix2 y x) = A (t / 16 * 2048 + (1536 + y)) (2048 + t % 16 * 128 + x) := fun y x => by
    refine Eq.trans ?_ (h.k ⟨1536 + y, by omega⟩ x |>.trans ?_) <;> pointwise
  have h8 : ∀ (y : Fin 256) (x : Fin 128), View.ld x1 r0_12 (ix2 y x) = A (t / 16 * 2048 + (1792 + y)) (2048 + t % 16 * 128 + x) := fun y x => by
    refine Eq.trans ?_ (h.k ⟨1792 + y, by omega⟩ x |>.trans ?_) <;> pointwise
  have hv : ∀ y : Fin 2048, View.ld x2 r0_14 (ix2 y b) = A (t / 16 * 2048 + y) (4096 + (t % 16 * 128 + b)) := fun y => by
    refine Eq.trans ?_ (h.v ⟨y, by omega⟩ b); pointwise
  refine Eq.trans ?_ (ker_eq_row A t 8 1792 a b (by omega) (by omega) b.isLt)
  generalize View.ld x0 r0_12 = y0 at hq ⊢
  generalize View.ld x1 r0_0 = z1 at h1 ⊢
  generalize View.ld x1 r0_1 = z2 at h2 ⊢
  generalize View.ld x1 r0_2 = z3 at h3 ⊢
  generalize View.ld x1 r0_4 = z4 at h4 ⊢
  generalize View.ld x1 r0_6 = z5 at h5 ⊢
  generalize View.ld x1 r0_8 = z6 at h6 ⊢
  generalize View.ld x1 r0_10 = z7 at h7 ⊢
  generalize View.ld x1 r0_12 = z8 at h8 ⊢
  generalize View.ld x2 r0_14 = y2 at hv ⊢
  refine tile8 _ y2 _ _ (fun c hc j => ?_) hv
  exact logits8 y0 z1 z2 z3 z4 z5 z6 z7 z8 (fun d => A (t / 16 * 2048 + (1792 + a)) (t % 16 * 128 + d)) (fun y d => A (t / 16 * 2048 + y) (2048 + t % 16 * 128 + d)) hq h1 h2 h3 h4 h5 h6 h7 h8 c hc j

variable (m : (ℓ : Loc nD τ sig) → Buf (Elt Ideal) ℓ) (c : Dev nD)

/-- The queries, keys and values. -/
abbrev AQKV : ℕ → ℕ → EReal := at2 (m := 8192) (n := 6144) (m ((c : Thread nD τ).loc main_arg0))

/-- The blocks of the attention. -/
theorem idx0 : ∀ t : Fin cfg0.N, win0_0.index t = ![t.val / 16, t.val % 16] ∧ win0_1.index t = ![t.val / 16, 16 + t.val % 16]
    ∧ win0_2.index t = ![t.val / 16, 32 + t.val % 16] ∧ win0_3.index t = ![t.val / 16, t.val % 16] :=
  (by decide +kernel : ∀ t : Fin grid0.N, _)

theorem qb (t : Fin cfg0.N) (a : Fin 2048) (x : Fin 128) : iblk m c 0 t (ix2 a x) = AQKV m c (t.val / 16 * 2048 + a) (t.val % 16 * 128 + x) := by
  have ht : t.val < 64 := t.isLt
  refine Eq.trans ?_ (at2_of _ (by omega) (by omega)).symm
  blk_point [iblk, V, idx0 t]

theorem kb (t : Fin cfg0.N) (a : Fin 2048) (x : Fin 128) : iblk m c 1 t (ix2 a x) = AQKV m c (t.val / 16 * 2048 + a) (2048 + t.val % 16 * 128 + x) := by
  have ht : t.val < 64 := t.isLt
  rw [show 2048 + t.val % 16 * 128 + (x : ℕ) = (16 + t.val % 16) * 128 + x by omega]
  refine Eq.trans ?_ (at2_of _ (by omega) (by omega)).symm
  blk_point [iblk, V, idx0 t]

theorem vb (t : Fin cfg0.N) (a : Fin 2048) (x : Fin 128) : iblk m c 2 t (ix2 a x) = AQKV m c (t.val / 16 * 2048 + a) (4096 + (t.val % 16 * 128 + x)) := by
  have ht : t.val < 64 := t.isLt
  rw [show 4096 + (t.val % 16 * 128 + (x : ℕ)) = (32 + t.val % 16) * 128 + x by omega]
  refine Eq.trans ?_ (at2_of _ (by omega) (by omega)).symm
  blk_point [iblk, V, idx0 t]

set_option maxHeartbeats 1600000 in
/-- A block of the attention. -/
theorem point0_3 (t : Fin cfg0.N) (y) :
    out0_3 (iblk m c 0 t) (iblk m c 1 t) (iblk m c 2 t) y
    = ofNat2 (m := 8192) (n := 2048) (ROW (AQKV m c)) (((cfg0.win 3).blk t).view.emb y) := by
  have ht : t.val < 64 := t.isLt
  have H : Holds (AQKV m c) t.val (iblk m c 0 t) (iblk m c 1 t) (iblk m c 2 t) := ⟨qb m c t, kb m c t, vb m c t⟩
  generalize iblk m c 0 t = x0 at H
  generalize iblk m c 1 t = x1 at H
  generalize iblk m c 2 t = x2 at H
  unfold ofNat2 out0_3
  rw [form1, form2, form3, form4, form5, form6, form7, form8]
  canon_tiles x h
  all_goals blk_simp [idx0 t]
  all_goals rw [h0, h1]
  all_goals conv_lhs => rw [eq_ix2 x]
  · exact row8 H (x 0) (x 1)
  · exact row7 H (x 0) (x 1)
  · exact row6 H (x 0) (x 1)
  · exact row5 H (x 0) (x 1)
  · exact row4 H (x 0) (x 1)
  · exact row3 H (x 0) (x 1)
  · exact row2 H (x 0) (x 1)
  · simpa only [zero_add] using row1 H (x 0) (x 1)

/-- The array of the attention. -/
theorem final0_3 : (dats m 0 c).arrAt 3 cfg0.N = ofNat2 (m := 8192) (n := 2048) (ROW (AQKV m c)) := by
  refine (dats m 0 c).arrAt_eq_of_covers 3 _ (by decide +kernel) fun t _ y => ?_
  blk_simp
  rw [after0_3]
  exact point0_3 m c t y

end Cert.Kernel8Ideal.Sb

end
-- ==== Proof.Sb.Window.lean ====
/- A float sum from each place on, along the last of four axes. -/
module

public import proofs.«01_k».proof.Proof.Layer.Reals
public import proofs.«01_k».proof.Proof.Front.Base

@[expose] public section

set_option maxRecDepth 16384

noncomputable section

open Idealize.ShloMosaic Idealize.ShloMosaic.TcCoe Idealize.SL.Sem

namespace Cert.Sb

theorem foldl_add {α : Type} (f : α → EReal) (l : List α) (a : EReal) : l.foldl (fun r x => r + f x) a = a + (l.map f).sum := by
  induction l generalizing a with
  | nil => simp
  | cons x l ih => rw [List.foldl_cons, ih, List.map_cons, List.sum_cons, add_assoc]

/-- The window's indices are the numbers of its last axis. -/
theorem sum_window {n : ℕ} (G : (⟨4, ![1, 1, 1, n]⟩ : Shape).Idx → EReal) : ∑ w, G w = ∑ k : Fin n, G (ix4 0 0 0 k) := by
  have hb : Function.Bijective (fun k : Fin n => (ix4 0 0 0 k : (⟨4, ![1, 1, 1, n]⟩ : Shape).Idx)) := by
    constructor
    · intro a b h
      exact congrFun h 3
    · intro w
      refine ⟨w 3, ?_⟩
      funext a
      fin_cases a
      · exact Subsingleton.elim (α := Fin 1) _ _
      · exact Subsingleton.elim (α := Fin 1) _ _
      · exact Subsingleton.elim (α := Fin 1) _ _
      · rfl
  exact (hb.sum_comp G).symm

/-- A window's sum, over the window's indices. -/
theorem window_sum {s t u : Shape} (window strides lo hi : Fin s.rank → ℕ) (X : FVec Ideal s .f32) (V : u.Idx → Ideal .f32)
    (h : s.ReduceWindows window strides lo hi t) (hu : 0 < u.numel) (j : t.Idx) :
    (Host.reduceWindowAdd (F := Ideal) window strides lo hi X V h hu : FVec Ideal t .f32) j
      = (V (Shape.Idx.first hu) : EReal) + ∑ w : (⟨s.rank, window⟩ : Shape).Idx,
        if hin : ∀ a, lo a ≤ (j (a.cast h.1.symm)).val * strides a + (w a).val ∧ (j (a.cast h.1.symm)).val * strides a + (w a).val - lo a < s.size a
        then (X (fun a => ⟨(j (a.cast h.1.symm)).val * strides a + (w a).val - lo a, (hin a).2⟩) : EReal) else V (Shape.Idx.first hu) := by
  have e : (Host.reduceWindowAdd (F := Ideal) window strides lo hi X V h hu : FVec Ideal t .f32)
      = Host.reduceWindow (fun x y : EReal => x + y) window strides lo hi X (fun _ : (⟨0, ![]⟩ : Shape).Idx => (V (Shape.Idx.first hu) : EReal)) h (by decide) := rfl
  rw [e]
  unfold Host.reduceWindow
  dsimp only
  rw [foldl_add, ← Fin.sum_univ_def]
  congr 1
  refine Eq.trans (Finset.sum_congr rfl fun n _ => dite_congr rfl (fun _ => rfl) (fun _ => rfl)) (Equiv.sum_comp (⟨s.rank, window⟩ : Shape).rowMajor.symm (fun w => if hin : ∀ a, lo a ≤ (j (a.cast h.1.symm)).val * strides a + (w a).val ∧ (j (a.cast h.1.symm)).val * strides a + (w a).val - lo a < s.size a
        then (X (fun a => ⟨(j (a.cast h.1.symm)).val * strides a + (w a).val - lo a, (hin a).2⟩) : EReal) else V (Shape.Idx.first hu)))

theorem window_at {u : Shape} (X : FVec Ideal (⟨4, ![4, 16, 2048, 2048]⟩ : Shape) .f32) (V : u.Idx → Ideal .f32)
    (h : (⟨4, ![4, 16, 2048, 2048]⟩ : Shape).ReduceWindows ![1, 1, 1, 2048] ![1, 1, 1, 1] ![0, 0, 0, 0] ![0, 0, 0, 2047] ⟨4, ![4, 16, 2048, 2048]⟩) (hu : 0 < u.numel)
    (hV : V (Shape.Idx.first hu) = (0 : EReal)) (b : Fin 4) (c : Fin 16) (s y : Fin 2048) (f : ℕ → EReal) (hf : ∀ x : Fin 2048, X (ix4 b c s x) = f x) :
    (Host.reduceWindowAdd (F := Ideal) ![1, 1, 1, 2048] ![1, 1, 1, 1] ![0, 0, 0, 0] ![0, 0, 0, 2047] X V h hu : FVec Ideal ⟨4, ![4, 16, 2048, 2048]⟩ .f32) (ix4 b c s y)
      = ∑ x ∈ Finset.Ico (y : ℕ) 2048, f x := by
  rw [window_sum, hV, zero_add]
  let W : Shape := ⟨4, ![1, 1, 1, 2048]⟩
  let G : W.Idx → EReal := fun w => if hin : ∀ a : Fin 4, (![0, 0, 0, 0] : Fin 4 → ℕ) a ≤ ((ix4 b c s y : (⟨4, ![4, 16, 2048, 2048]⟩ : Shape).Idx) (a.cast h.1.symm)).val * (![1, 1, 1, 1] : Fin 4 → ℕ) a + (w a).val
      ∧ ((ix4 b c s y : (⟨4, ![4, 16, 2048, 2048]⟩ : Shape).Idx) (a.cast h.1.symm)).val * (![1, 1, 1, 1] : Fin 4 → ℕ) a + (w a).val - (![0, 0, 0, 0] : Fin 4 → ℕ) a < (![4, 16, 2048, 2048] : Fin 4 → ℕ) a
    then X (fun a => ⟨((ix4 b c s y : (⟨4, ![4, 16, 2048, 2048]⟩ : Shape).Idx) (a.cast h.1.symm)).val * (![1, 1, 1, 1] : Fin 4 → ℕ) a + (w a).val - (![0, 0, 0, 0] : Fin 4 → ℕ) a, (hin a).2⟩) else 0
  have hG : ∀ k : Fin 2048, G (ix4 0 0 0 k) = if (y : ℕ) + k < 2048 then f (y + k) else 0 := fun k => by
    by_cases hk : (y : ℕ) + k < 2048
    · rw [if_pos hk]
      refine (dif_pos ?_).trans ?_
      · intro a
        fin_cases a
        · exact ⟨Nat.zero_le _, by show (b : ℕ) * 1 + 0 - 0 < 4; omega⟩
        · exact ⟨Nat.zero_le _, by show (c : ℕ) * 1 + 0 - 0 < 16; omega⟩
        · exact ⟨Nat.zero_le _, by show (s : ℕ) * 1 + 0 - 0 < 2048; omega⟩
        · exact ⟨Nat.zero_le _, by show (y : ℕ) * 1 + k - 0 < 2048; omega⟩
      · refine Eq.trans (congrArg X ?_) (hf ⟨y + k, hk⟩)
        funext a
        fin_cases a
        · exact Fin.ext (by show (b : ℕ) * 1 + 0 - 0 = b; omega)
        · exact Fin.ext (by show (c : ℕ) * 1 + 0 - 0 = c; omega)
        · exact Fin.ext (by show (s : ℕ) * 1 + 0 - 0 = s; omega)
        · exact Fin.ext (by show (y : ℕ) * 1 + k - 0 = y + k; omega)
    · rw [if_neg hk]
      refine dif_neg fun hin => hk ?_
      have := (hin 3).2
      change (y : ℕ) * 1 + k - 0 < 2048 at this
      omega
  refine (sum_window G).trans ?_
  simp only [hG]
  rw [Fin.sum_univ_eq_sum_range (fun k => if (y : ℕ) + k < 2048 then f (y + k) else 0), Finset.sum_Ico_eq_sum_range, ← Finset.sum_filter]
  refine Finset.sum_congr ?_ fun _ _ => rfl
  ext k
  simp only [Finset.mem_filter, Finset.mem_range]
  omega

end Cert.Sb

end
-- ==== Proof.Sb.Ref.lean ====
/- What the reference of the attention without positions computes. -/
module

public import proofs.«01_k».proof.Proof.Gen.Reference8Ideal.Run
public import proofs.«01_k».proof.Proof.Sb.Value
public import proofs.«01_k».proof.Proof.Sb.Window

@[expose] public section

set_option maxRecDepth 16384

noncomputable section

open Idealize.ShloMosaic Idealize.ShloMosaic.TcCoe Idealize.SL.Sem

namespace Cert.Reference8Ideal.Value

open Cert.Front Cert.Sb Cert.Reals
open Cert.Reference8Ideal Cert.Reference8Ideal.Gen

/-- The array of zeros. -/
abbrev NIL : FVec Ideal S4x16x2048x2048 .f32 := broadcastInDim S4x16x2048x2048 ![] bcast_S_S4x16x2048x2048 (constant S_ .f32 0x00000000#32)

/-- The queries, keys and values by heads. -/
abbrev HEADS (A : FVec Ideal S8192x6144 .bf16) : FVec Ideal S4x2048x3x16x128 .f32 := shapeCast _ (extf .f32 A bitsLt_bf16_f32) shapeCasts_S8192x6144_S4x2048x3x16x128

/-- The logits, to base e. -/
abbrev LOGITS (A : FVec Ideal S8192x6144 .bf16) : FVec Ideal S4x16x2048x2048 .f32 :=
  mulf (Host.dotGeneral dot_S4x2048x16x128_S4x2048x16x128_S4x16x2048x2048_3_3_1_1_02_02 none
      (shapeCast _ (extractStridedSlice S4x2048x1x16x128 ![0, 0, 0, 0, 0] (HEADS A) slices_S4x2048x3x16x128_S4x2048x1x16x128_0_0_0_0_0) shapeCasts_S4x2048x1x16x128_S4x2048x16x128)
      (shapeCast _ (extractStridedSlice S4x2048x1x16x128 ![0, 0, 1, 0, 0] (HEADS A) slices_S4x2048x3x16x128_S4x2048x1x16x128_0_0_1_0_0) shapeCasts_S4x2048x1x16x128_S4x2048x16x128))
    (broadcastInDim S4x16x2048x2048 ![] bcast_S_S4x16x2048x2048 (Host.log (constant S_ .f32 0x40000000#32)))

/-- The keys before the row. -/
abbrev STRICT : IVec S4x16x2048x2048 1 :=
  broadcastInDim S4x16x2048x2048 ![2, 3] bcast_S2048x2048_S4x16x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The logarithm of the sigmoid. -/
abbrev LOGSIG (X : FVec Ideal S4x16x2048x2048 .f32) : FVec Ideal S4x16x2048x2048 .f32 :=
  Host.negf (select (cmpf .une (subf (Host.negf X) NIL) (subf (Host.negf X) NIL)) (addf (Host.negf X) NIL)
    (addf (maximumf (Host.negf X) NIL) (Host.log1p (Host.exp (Host.negf (Host.absf (subf (Host.negf X) NIL)))))))

/-- An array at the keys before the row, zero elsewhere. -/
abbrev WHERE (X : FVec Ideal S4x16x2048x2048 .f32) : FVec Ideal S4x16x2048x2048 .f32 :=
  select STRICT X (broadcastInDim S4x16x2048x2048 ![] bcast_S_S4x16x2048x2048 (id (constant S_ .f32 0x00000000#32)))

/-- The sums from each key on. -/
abbrev CUMSUM (X : FVec Ideal S4x16x2048x2048 .f32) : FVec Ideal S4x16x2048x2048 .f32 :=
  Host.reduceWindowAdd ![1, 1, 1, 2048] ![1, 1, 1, 1] ![0, 0, 0, 0] ![0, 0, 0, 2047] X (broadcastInDim S_ ![] bcast_S_S_ (constant S_ .f32 0x00000000#32))
    reduceWindows_S4x16x2048x2048_S4x16x2048x2048_w1s1p0_0_w1s1p0_0_w1s1p0_0_w2048s1p0_2047 h_S_

/-- The values weighed. -/
abbrev ATTN (A : FVec Ideal S8192x6144 .bf16) (E : FVec Ideal S4x16x2048x2048 .f32) : FVec Ideal S8192x2048 .f32 :=
  shapeCast _ (transpose S4x2048x16x128 [0, 3, 1, 2] (Host.dotGeneral dot_S4x2048x16x128_S4x16x2048x2048_S4x16x128x2048_1_3_3_2_02_01 none
    (shapeCast _ (extractStridedSlice S4x2048x1x16x128 ![0, 0, 2, 0, 0] (HEADS A) slices_S4x2048x3x16x128_S4x2048x1x16x128_0_0_2_0_0) shapeCasts_S4x2048x1x16x128_S4x2048x16x128)
    E) transposes_S4x16x128x2048_S4x2048x16x128_0_3_1_2) shapeCasts_S4x2048x16x128_S8192x2048

theorem log_two : Ideal.log (Ideal.ofBits .f32 0x40000000#32) = ((Real.log 2 : ℝ) : EReal) := by
  rw [show Ideal.ofBits .f32 0x40000000#32 = ((2 : ℝ) : EReal) by simp [Ideal.ofBits, Ideal.ieee, -EReal.coe_mul]; norm_num, Ideal.log_coe, if_neg (by norm_num)]

theorem heads_at (A : FVec Ideal S8192x6144 .bf16) (b : Fin 4) (s : Fin 2048) (p : Fin 3) (h : Fin 16) (d : Fin 128) :
    HEADS A (ix5 b s p h d) = at2 A (b * 2048 + s) (2048 * p + h * 128 + d) := by
  rw [at2_of A (by omega) (by omega)]
  pointwise
  congr 2 <;> exact Fin.ext (by simp only []; omega)

theorem logits_at (A : FVec Ideal S8192x6144 .bf16) (b : Fin 4) (h : Fin 16) (s x : Fin 2048) : LOGITS A (ix4 b h s x)
    = (∑ d : Fin 128, at2 A (b * 2048 + s) (h * 128 + d) * at2 A (b * 2048 + x) (2048 + h * 128 + d)) * ((Real.log 2 : ℝ) : EReal) := by
  have h0 := fun (s : Fin 2048) (d : Fin 128) => heads_at A b s 0 h d
  have h1 := fun (s : Fin 2048) (d : Fin 128) => heads_at A b s 1 h d
  simp only [Fin.val_zero, Fin.val_one, mul_zero, zero_add, mul_one] at h0 h1
  simp only [← h0, ← h1]
  unfold LOGITS
  generalize HEADS A = H
  pointwise
  rw [log_two]

theorem strict_at (X : FVec Ideal S4x16x2048x2048 .f32) (b : Fin 4) (h : Fin 16) (s x : Fin 2048) :
    WHERE X (ix4 b h s x) = if (x : ℕ) < s then X (ix4 b h s x) else 0 := by
  rw [← Cert.Kernel8Ideal.Sb.sel_lt x s x.isLt s.isLt]
  pointwise
  exact congrArg _ Ideal.ofBits_zero_f32

theorem logsig_at (X : FVec Ideal S4x16x2048x2048 .f32) (b : Fin 4) (h : Fin 16) (s x : Fin 2048) : LOGSIG X (ix4 b h s x) = LS (X (ix4 b h s x)) := by
  unfold LS
  pointwise
  rw [if_neg (fun h => h rfl)]
  rfl

theorem cumsum_at (X : FVec Ideal S4x16x2048x2048 .f32) (b : Fin 4) (h : Fin 16) (s y : Fin 2048) (f : ℕ → EReal) (hf : ∀ x : Fin 2048, X (ix4 b h s x) = f x) :
    CUMSUM X (ix4 b h s y) = ∑ x ∈ Finset.Ico (y : ℕ) 2048, f x :=
  window_at X _ _ _ Ideal.ofBits_zero_f32 b h s y f hf

theorem attn_at (A : FVec Ideal S8192x6144 .bf16) (E : FVec Ideal S4x16x2048x2048 .f32) (j : S8192x2048.Idx) (b : Fin 4) (h : Fin 16) (s : Fin 2048)
    (h0 : (j 0 : ℕ) / 2048 = b) (h1 : (j 0 : ℕ) % 2048 = s) (h2 : (j 1 : ℕ) / 128 = h) : ATTN A E j
      = ∑ x : Fin 2048, at2 A (b * 2048 + x) (4096 + (j 1 : ℕ)) * E (ix4 b h s x) := by
  have hv := fun (x : Fin 2048) => heads_at A b x 2 h ⟨(j 1 : ℕ) % 128, Nat.mod_lt _ (by norm_num)⟩
  have e : ∀ x : Fin 2048, at2 A (b * 2048 + x) (4096 + (j 1 : ℕ)) = HEADS A (ix5 b x 2 h ⟨(j 1 : ℕ) % 128, Nat.mod_lt _ (by norm_num)⟩) := fun x => by
    rw [hv]
    congr 1
    show 4096 + (j 1 : ℕ) = 2048 * 2 + h * 128 + (j 1 : ℕ) % 128
    omega
  simp only [e]
  unfold ATTN
  generalize HEADS A = H
  pointwise
  have e0 : ∀ p, (⟨(j 0 : ℕ) / 2048, p⟩ : Fin 4) = b := fun _ => Fin.ext h0
  have e1 : ∀ p, (⟨(j 0 : ℕ) % 2048, p⟩ : Fin 2048) = s := fun _ => Fin.ext h1
  have e2 : ∀ p, (⟨(j 1 : ℕ) / 128, p⟩ : Fin 16) = h := fun _ => Fin.ext h2
  simp only [e0, e1, e2]

/-- The weights of the reference. -/
abbrev WEIGHTS (Z : FVec Ideal S4x16x2048x2048 .f32) : FVec Ideal S4x16x2048x2048 .f32 :=
  WHERE (Host.exp (addf (LOGSIG Z) (subf (CUMSUM (WHERE (LOGSIG (Host.negf Z)))) (WHERE (LOGSIG (Host.negf Z))))))

theorem weights_at (Z : FVec Ideal S4x16x2048x2048 .f32) (b : Fin 4) (h : Fin 16) (s y : Fin 2048) (z : ℕ → EReal)
    (hz : ∀ x : Fin 2048, Z (ix4 b h s x) = z x * ((Real.log 2 : ℝ) : EReal)) : WEIGHTS Z (ix4 b h s y)
      = if (y : ℕ) < s then Ideal.exp (LS (z y * ((Real.log 2 : ℝ) : EReal)) + ((∑ x ∈ Finset.Ico (y : ℕ) 2048, LK s z x) - LK s z y)) else 0 := by
  have hk : ∀ x : Fin 2048, WHERE (LOGSIG (Host.negf Z)) (ix4 b h s x) = LK s z x := fun x => by
    rw [strict_at, logsig_at]
    show (if _ then LS (-(Z (ix4 b h s x))) else 0) = _
    rw [hz]
    rfl
  unfold WEIGHTS
  rw [strict_at]
  show (if _ then Ideal.exp (LOGSIG Z (ix4 b h s y) + (CUMSUM (WHERE (LOGSIG (Host.negf Z))) (ix4 b h s y) - WHERE (LOGSIG (Host.negf Z)) (ix4 b h s y))) else 0) = _
  rw [cumsum_at _ b h s y _ hk, hk, logsig_at, hz]

theorem out_o (m : (ℓ : Loc nD τ sig) → Buf (Elt Ideal) ℓ) (c : Dev nD)
    (hr : ∀ r b, b < 4096 → IsReal (at2 (m := 8192) (n := 6144) (m ((c.tc : Thread nD τ).loc main_arg0)) r b)) : res_main_v30 m c
    = ofNat2 (m := 8192) (n := 2048) (ROW (at2 (m := 8192) (n := 6144) (m ((c.tc : Thread nD τ).loc main_arg0)))) := by
  funext j
  show ATTN (m ((c.tc : Thread nD τ).loc main_arg0)) (WEIGHTS (LOGITS (m ((c.tc : Thread nD τ).loc main_arg0)))) j = _
  generalize m ((c.tc : Thread nD τ).loc main_arg0) = A at hr ⊢
  have hj : (j 0 : ℕ) < 8192 := (j 0).isLt
  have hj1 : (j 1 : ℕ) < 2048 := (j 1).isLt
  rw [attn_at A _ j ⟨(j 0 : ℕ) / 2048, by omega⟩ ⟨(j 1 : ℕ) / 128, by omega⟩ ⟨(j 0 : ℕ) % 2048, by omega⟩ rfl rfl rfl]
  have hz : ∀ x : Fin 2048, LOGITS A (ix4 ⟨(j 0 : ℕ) / 2048, by omega⟩ ⟨(j 1 : ℕ) / 128, by omega⟩ ⟨(j 0 : ℕ) % 2048, by omega⟩ x)
      = SCORE (at2 (m := 8192) (n := 6144) A) (j 0 : ℕ) (j 1 : ℕ) x * ((Real.log 2 : ℝ) : EReal) := fun x => by
    rw [logits_at]
    unfold SCORE
    simp only [Nat.div_add_mod' (j 0 : ℕ) 2048]
  have hs : ∀ y, IsReal (SCORE (at2 (m := 8192) (n := 6144) A) (j 0 : ℕ) (j 1 : ℕ) y) := fun y =>
    IsReal.sum _ fun (d : Fin 128) => (hr _ _ (by have := d.isLt; omega)).mul (hr _ _ (by have := d.isLt; omega))
  refine (Finset.sum_congr rfl fun x _ => congrArg _ (weights_at _ _ _ _ x _ hz)).trans ?_
  exact ref_eq_ker _ _ (fun y => at2 (m := 8192) (n := 6144) A ((j 0 : ℕ) / 2048 * 2048 + y) (4096 + (j 1 : ℕ))) hs

end Cert.Reference8Ideal.Value

end
-- ==== Proof.Sb.Agree.lean ====
/- The stick-breaking attention's result is the reference's. -/
module

public import proofs.«01_k».proof.Proof.Sb.Ref
public import proofs.«01_k».proof.Proof.Sb.Value
public import proofs.«01_k».proof.Proof.Layer.Finite
public import proofs.«01_k».proof.Proof.Gen.Pre_finite8
public import proofs.«01_k».proof.Defs

@[expose] public section

set_option maxRecDepth 16384

noncomputable section

open Idealize.ShloMosaic Idealize.ShloMosaic.TcCoe Idealize.SL.Sem

namespace Cert.Kernel8Ideal.Sb

open Cert.Front Cert.Sb Cert.Reals
open Cert.Kernel8Ideal Cert.Kernel8Ideal.Gen

/-- The queries and keys are real under the precondition. -/
theorem args_real (m : (ℓ : Loc nD τ sig) → Buf (Elt Ideal) ℓ) (c : Dev nD) (h : Cert.Pre_Kernel8Ideal_finite8 m) (r b : ℕ) (hb : b < 4096) :
    IsReal (AQKV m c r b) := by
  have hr := fun i => Cert.Kernel5Ideal.Value.real_of_finite _ _ (h c) i
  by_cases h0 : r < 8192
  · have e : AQKV m c r b = extractStridedSlice Cert.Pre_finite8.S8192x4096 ![0, 0] (m ((c : Thread nD τ).loc main_arg0))
        Cert.Pre_finite8.Gen.facts.slices_S8192x6144_S8192x4096_0_0 (ix2 (⟨r, h0⟩ : Fin 8192) (⟨b, hb⟩ : Fin 4096)) := by
      refine (at2_of (m := 8192) (n := 6144) (m ((c : Thread nD τ).loc main_arg0)) h0 (by omega)).trans ?_
      pointwise
    rw [e]
    exact hr _
  · have e : AQKV m c r b = ((0 : ℝ) : EReal) := by
      unfold AQKV at2
      rw [dif_neg fun h => h0 h.1]
      rfl
    rw [e]
    exact isReal_coe 0

theorem algebraic : Cert.algebraic_Kernel8Ideal_Reference8Ideal_pre_finite8 := by
  intro m g m' g' hp h
  refine ⟨fun c => ofNat2 (m := 8192) (n := 2048) (ROW (AQKV m c)), ?_, ?_⟩
  · exact (θ_run _ _ _).mono (fun r hr c => ⟨((hr c).1 3).trans (final0_3 m c),
      ((hr c).1 0).trans (((dats m 0 c).arrAt_in 0 rfl _).trans ((A_eq m c 0).trans (V_main_arg0 m c)))⟩) (run_main m g)
  · refine (θ_run _ _ _).mono (fun r hr c => ⟨?_, (hr c).2⟩) (Cert.Reference8Ideal.Value.run m' g')
    refine (hr c).1.trans ((Cert.Reference8Ideal.Value.out_o _ _ ?_).trans ?_)
    · rw [h c]
      exact args_real m c hp
    · rw [h c]

end Cert.Kernel8Ideal.Sb

end
-- ==== Proof.lean ====
/- The claims, put together. -/
module

public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Pre_finite8
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Pre_finite7
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Pre_finite5
public import proofs.«01_k».proof.Proof.Gen.Pre_finite6
public import proofs.«01_k».proof.Proof.SbProj
public import proofs.«01_k».proof.Proof.SwiGlu
public import proofs.«01_k».proof.Proof.FfnDown
public import proofs.«01_k».proof.Proof.OutProj
public import proofs.«01_k».proof.Proof.Layer.Agree
public import proofs.«01_k».proof.Proof.Front.Agree
public import proofs.«01_k».proof.Proof.Mla.Same
public import proofs.«01_k».proof.Proof.Mla.Agree
public import proofs.«01_k».proof.Proof.Sb.Agree
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_finite5.Gen.facts, Cert.Pre_finite6.Gen.facts, Cert.Pre_finite7.Gen.facts, Cert.Pre_finite8.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m g _ => Cert.Kernel.Gen.frame m g
  · exact fun m g _ => Cert.KernelIdeal.Gen.frame m g
  · exact fun m g _ => (θ_run _ _ _).mono (fun r h => ⟨fun c => (h c).2, sem_eq_zero_of_no_sems rfl _⟩) (Cert.ReferenceIdeal.Value.run m g)
  · exact fun m g _ => Cert.Kernel2.Gen.frame m g
  · exact fun m g _ => Cert.Kernel2Ideal.Gen.frame m g
  · exact fun m g _ => (θ_run _ _ _).mono (fun r h => ⟨fun c => (h c).2, sem_eq_zero_of_no_sems rfl _⟩) (Cert.Reference2Ideal.Value.run m g)
  · exact fun m g _ => Cert.Kernel3.Gen.frame m g
  · exact fun m g _ => Cert.Kernel3Ideal.Gen.frame m g
  · exact fun m g _ => (θ_run _ _ _).mono (fun r h => ⟨fun c => (h c).2, sem_eq_zero_of_no_sems rfl _⟩) (Cert.Reference3Ideal.Value.run m g)
  · exact fun m g _ => Cert.Kernel4.Gen.frame m g
  · exact fun m g _ => Cert.Kernel4Ideal.Gen.frame m g
  · exact fun m g _ => (θ_run _ _ _).mono (fun r h => ⟨fun c => (h c).2, sem_eq_zero_of_no_sems rfl _⟩) (Cert.Reference4Ideal.Value.run m g)
  · exact fun m g _ => Cert.Kernel5.Gen.frame m g
  · exact fun m g _ => Cert.Kernel5Ideal.Gen.frame m g
  · exact fun m g _ => Cert.Kernel5Ideal.Gen.frame m g
  · exact fun m g _ => (θ_run _ _ _).mono (fun r h => ⟨fun c => (h c).2, sem_eq_zero_of_no_sems rfl _⟩) (Cert.Reference5Ideal.Value.run m g)
  · exact fun m g _ => (θ_run _ _ _).mono (fun r h => ⟨fun c => (h c).2, sem_eq_zero_of_no_sems rfl _⟩) (Cert.Reference5Ideal.Value.run m g)
  · exact fun m g _ => Cert.Kernel6.Gen.frame m g
  · exact fun m g _ => Cert.Kernel6Ideal.Gen.frame m g
  · exact fun m g _ => Cert.Kernel6Ideal.Gen.frame m g
  · exact fun m g _ => (θ_run _ _ _).mono (fun r h => ⟨fun c => (h c).2.2.2.2, sem_eq_zero_of_no_sems rfl _⟩) (Cert.Reference6Ideal.Value.run m g)
  · exact fun m g _ => (θ_run _ _ _).mono (fun r h => ⟨fun c => (h c).2.2.2.2, sem_eq_zero_of_no_sems rfl _⟩) (Cert.Reference6Ideal.Value.run m g)
  · exact fun m g _ => Cert.Kernel7.Mla.frame m g
  · exact fun m g _ => Cert.Kernel7Ideal.Mla.frame m g
  · exact fun m g _ => Cert.Kernel7Ideal.Mla.frame m g
  · exact fun m g _ => (θ_run _ _ _).mono (fun r h => ⟨fun c => (h c).2.2, sem_eq_zero_of_no_sems rfl _⟩) (Cert.Reference7Ideal.Value.run m g)
  · exact fun m g _ => (θ_run _ _ _).mono (fun r h => ⟨fun c => (h c).2.2, sem_eq_zero_of_no_sems rfl _⟩) (Cert.Reference7Ideal.Value.run m g)
  · exact fun m g _ => Cert.Kernel8.Gen.frame m g
  · exact fun m g _ => Cert.Kernel8Ideal.Gen.frame m g
  · exact fun m g _ => Cert.Kernel8Ideal.Gen.frame m g
  · exact fun m g _ => (θ_run _ _ _).mono (fun r h => ⟨fun c => (h c).2, sem_eq_zero_of_no_sems rfl _⟩) (Cert.Reference8Ideal.Value.run m g)
  · exact fun m g _ => (θ_run _ _ _).mono (fun r h => ⟨fun c => (h c).2, sem_eq_zero_of_no_sems rfl _⟩) (Cert.Reference8Ideal.Value.run m g)
  · exact IdealRules.named_const.statement _ _ _ _ _ rfl
  · pair_intro
    · run_from Cert.KernelIdeal.Gen.run_main m g
    · run_from Cert.ReferenceIdeal.Value.run m' g'; exact (Cert.KernelIdeal.Value.final m c).symm
  · trivial
  · pair_intro
    · run_from Cert.Kernel2Ideal.Gen.run_main m g
    · hlo_run; exact (Cert.Kernel2Ideal.Value.final m c).symm
  · trivial
  · pair_intro
    · run_from Cert.Kernel3Ideal.Gen.run_main m g
    · hlo_run; exact (Cert.Kernel3Ideal.Value.final m c).symm
  · trivial
  · pair_intro
    · run_from Cert.Kernel4Ideal.Gen.run_main m g
    · hlo_run; exact (Cert.Kernel4Ideal.Value.final m c).symm
  · exact IdealRules.named_const.statement _ _ _ _ _ rfl
  · exact Cert.Kernel5Ideal.Value.algebraic
  · exact IdealRules.named_const.statement _ _ _ _ _ rfl
  · exact Cert.Kernel6Ideal.Value.algebraic
  · trivial
  · exact Cert.Kernel7Ideal.Mla.algebraic
  · exact IdealRules.named_const.statement _ _ _ _ _ rfl
  · exact Cert.Kernel8Ideal.Sb.algebraic⟩

end Cert.Proof

end
